-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))).2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))).2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))).2.2.2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))).2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))).2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v166) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v12)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_v11) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_v37) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)) (v3 : (c : Dev Cert.Kernel28Ideal.nD) → Buf (Elt Ideal) ((c.tc : Thread Cert.Kernel28Ideal.nD Cert.Kernel28Ideal.τ).loc Cert.Kernel28Ideal.main_v4_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_v4_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v27) = v0 c
          ∧ r.2.mem ((c.tc : Thread Cert.Reference28Ideal.nD Cert.Reference28Ideal.τ).loc Cert.Reference28Ideal.main_v28) = v1 c
          ∧ r.2.mem ((c.tc : Thread Cert.Reference28Ideal.nD Cert.Reference28Ideal.τ).loc Cert.Reference28Ideal.main_v23) = v2 c
          ∧ r.2.mem ((c.tc : Thread Cert.Reference28Ideal.nD Cert.Reference28Ideal.τ).loc Cert.Reference28Ideal.main_v21) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v19_0)) (v1 : (c : Dev Cert.Kernel29Ideal.nD) → Buf (Elt Ideal) ((c.tc : Thread Cert.Kernel29Ideal.nD Cert.Kernel29Ideal.τ).loc Cert.Kernel29Ideal.main_v19_1)) (v2 : (c : Dev Cert.Kernel29Ideal.nD) → Buf (Elt Ideal) ((c.tc : Thread Cert.Kernel29Ideal.nD Cert.Kernel29Ideal.τ).loc Cert.Kernel29Ideal.main_v19_2)) (v3 : (c : Dev Cert.Kernel29Ideal.nD) → Buf (Elt Ideal) ((c.tc : Thread Cert.Kernel29Ideal.nD Cert.Kernel29Ideal.τ).loc Cert.Kernel29Ideal.main_v19_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v19_0) = v0 c
          ∧ r.2.mem ((c.tc : Thread Cert.Kernel29Ideal.nD Cert.Kernel29Ideal.τ).loc Cert.Kernel29Ideal.main_v19_1) = v1 c
          ∧ r.2.mem ((c.tc : Thread Cert.Kernel29Ideal.nD Cert.Kernel29Ideal.τ).loc Cert.Kernel29Ideal.main_v19_2) = v2 c
          ∧ r.2.mem ((c.tc : Thread Cert.Kernel29Ideal.nD Cert.Kernel29Ideal.τ).loc Cert.Kernel29Ideal.main_v19_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v55) = v0 c
          ∧ r.2.mem ((c.tc : Thread Cert.Reference29Ideal.nD Cert.Reference29Ideal.τ).loc Cert.Reference29Ideal.main_v58) = v1 c
          ∧ r.2.mem ((c.tc : Thread Cert.Reference29Ideal.nD Cert.Reference29Ideal.τ).loc Cert.Reference29Ideal.main_v31) = v2 c
          ∧ r.2.mem ((c.tc : Thread Cert.Reference29Ideal.nD Cert.Reference29Ideal.τ).loc Cert.Reference29Ideal.main_v28) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite2 : Cert.Pre_finite2.Facts) (hPre_finite29 : Cert.Pre_finite29.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
-- ==== Pre_finite.lean ====
abbrev S8192x32x64 : Shape := ⟨3, ![8192, 32, 64]⟩
abbrev S8192x4x64 : Shape := ⟨3, ![8192, 4, 64]⟩
abbrev S8192x17024 : Shape := ⟨2, ![8192, 17024]⟩
abbrev S32 : Shape := ⟨1, ![32]⟩
abbrev S8192x2048 : Shape := ⟨2, ![8192, 2048]⟩
abbrev S8192x256 : Shape := ⟨2, ![8192, 256]⟩
abbrev S_ : Shape := ⟨0, ![]⟩

class Facts : Prop where
  slices_S8192x17024_S8192x256_0_16640 : S8192x17024.Slices ![0, 16640] S8192x256
  bcast_S_S8192x32x64 : S_.BroadcastsInDim S8192x32x64 (![] : Fin 0 → Fin S8192x32x64.rank)
  bcast_S_S8192x4x64 : S_.BroadcastsInDim S8192x4x64 (![] : Fin 0 → Fin S8192x4x64.rank)
  bcast_S_S8192x256 : S_.BroadcastsInDim S8192x256 (![] : Fin 0 → Fin S8192x256.rank)
  bcast_S_S32 : S_.BroadcastsInDim S32 (![] : Fin 0 → Fin S32.rank)
  bcast_S_S8192x2048 : S_.BroadcastsInDim S8192x2048 (![] : Fin 0 → Fin S8192x2048.rank)

variable [Facts]

def fn {F : FTy → Type} [FloatOps F] (main_arg0 : FVec F S8192x32x64 .f32) (main_arg1 : FVec F S8192x4x64 .f32) (main_arg2 : FVec F S8192x17024 .f32) (main_arg3 : FVec F S32 .f32) (main_arg4 : FVec F S8192x2048 .f32) (main_arg5 : FVec F S8192x17024 .bf16) : IVec S8192x32x64 1 × IVec S8192x4x64 1 × IVec S8192x256 1 × IVec S32 1 × IVec S8192x2048 1 :=
  let main_v0 : FVec F S8192x256 .f32 := (extractStridedSlice S8192x256 ![0, 16640] · slices_S8192x17024_S8192x256_0_16640) main_arg2
  let main_v1 : FVec F S8192x32x64 .f32 := Host.absf main_arg0
  let main_cst : FVec F S_ .f32 := constant S_ .f32 0x7F800000#32
  let main_v2 : FVec F S8192x32x64 .f32 := broadcastInDim S8192x32x64 ![] bcast_S_S8192x32x64 main_cst
  let main_v3 : IVec S8192x32x64 1 := cmpf .olt main_v1 main_v2
  let main_v4 : FVec F S8192x4x64 .f32 := Host.absf main_arg1
  let main_cst_0 : FVec F S_ .f32 := constant S_ .f32 0x7F800000#32
  let main_v5 : FVec F S8192x4x64 .f32 := broadcastInDim S8192x4x64 ![] bcast_S_S8192x4x64 main_cst_0
  let main_v6 : IVec S8192x4x64 1 := cmpf .olt main_v4 main_v5
  let main_v7 : FVec F S8192x256 .f32 := Host.absf main_v0
  let main_cst_1 : FVec F S_ .f32 := constant S_ .f32 0x7F800000#32
  let main_v8 : FVec F S8192x256 .f32 := broadcastInDim S8192x256 ![] bcast_S_S8192x256 main_cst_1
  let main_v9 : IVec S8192x256 1 := cmpf .olt main_v7 main_v8
  let main_v10 : FVec F S32 .f32 := Host.absf main_arg3
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_v13 : FVec F S8192x2048 .f32 := Host.absf main_arg4
  let main_cst_3 : FVec F S_ .f32 := constant S_ .f32 0x7F800000#32
  let main_v14 : FVec F S8192x2048 .f32 := broadcastInDim S8192x2048 ![] bcast_S_S8192x2048 main_cst_3
  let main_v15 : IVec S8192x2048 1 := cmpf .olt main_v13 main_v14
  (main_v3, main_v6, main_v9, main_v12, main_v15)
-- ==== Pre_finite2.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .f32) (main_arg3 : FVec F S8192x2048 .f32) : IVec S8192x5632 1 × IVec S5632x2048 1 × IVec S8192x2048 1 :=
  let main_v0 : FVec F S8192x5632 .f32 := Host.absf main_arg1
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S5632x2048 .f32 := Host.absf main_arg2
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_finite29.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S8192x2048 .f32) : IVec S8192x2048 1 × IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Kernel.lean ====
abbrev S8192x32x64 : Shape := ⟨3, ![8192, 32, 64]⟩
abbrev S8192x4x64 : Shape := ⟨3, ![8192, 4, 64]⟩
abbrev S8192x17024 : Shape := ⟨2, ![8192, 17024]⟩
abbrev S32 : Shape := ⟨1, ![32]⟩
abbrev S8192x2048 : Shape := ⟨2, ![8192, 2048]⟩
abbrev S2048x8192 : Shape := ⟨2, ![2048, 8192]⟩
abbrev S8192x256 : Shape := ⟨2, ![8192, 256]⟩
abbrev S1x32 : Shape := ⟨2, ![1, 32]⟩
abbrev S_ : Shape := ⟨0, ![]⟩
abbrev S1x128 : Shape := ⟨2, ![1, 128]⟩
abbrev S2048x128 : Shape := ⟨2, ![2048, 128]⟩
abbrev S128x256 : Shape := ⟨2, ![128, 256]⟩
abbrev S256x1024 : Shape := ⟨2, ![256, 1024]⟩
abbrev S128x64 : Shape := ⟨2, ![128, 64]⟩
abbrev S256x64 : Shape := ⟨2, ![256, 64]⟩
abbrev S64x128 : Shape := ⟨2, ![64, 128]⟩
abbrev S64x1024 : Shape := ⟨2, ![64, 1024]⟩
abbrev S1x1 : Shape := ⟨2, ![1, 1]⟩
abbrev S1x1024 : Shape := ⟨2, ![1, 1024]⟩
abbrev S1024 : Shape := ⟨1, ![1024]⟩
abbrev S1 : Shape := ⟨1, ![1]⟩

abbrev nBuf : Space → Nat
  | .hbm => 21
  | .vmem => 22
  | .smem => 0
  | _ => 0

abbrev bufTy : (tb : Table) → Fin (tcTables nBuf tb) → BufTy
  | .hbm, ⟨0, _⟩ => ⟨S8192x32x64, .f32⟩
  | .hbm, ⟨1, _⟩ => ⟨S8192x4x64, .f32⟩
  | .hbm, ⟨2, _⟩ => ⟨S8192x17024, .f32⟩
  | .hbm, ⟨3, _⟩ => ⟨S32, .f32⟩
  | .hbm, ⟨4, _⟩ => ⟨S8192x2048, .f32⟩
  | .hbm, ⟨5, _⟩ => ⟨S8192x17024, .bf16⟩
  | .hbm, ⟨6, _⟩ => ⟨S8192x2048, .f32⟩
  | .hbm, ⟨7, _⟩ => ⟨S2048x8192, .f32⟩
  | .hbm, ⟨8, _⟩ => ⟨S2048x8192, .bf16⟩
  | .hbm, ⟨9, _⟩ => ⟨S8192x256, .f32⟩
  | .hbm, ⟨10, _⟩ => ⟨S8192x256, .bf16⟩
  | .hbm, ⟨11, _⟩ => ⟨S2048x8192, .f32⟩
  | .hbm, ⟨12, _⟩ => ⟨S2048x8192, .bf16⟩
  | .hbm, ⟨13, _⟩ => ⟨S1x32, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S2048x8192, .f32⟩
  | .hbm, ⟨18, _⟩ => ⟨S8192x256, .f32⟩
  | .hbm, ⟨19, _⟩ => ⟨S8192x17024, .bf16⟩
  | .hbm, ⟨20, _⟩ => ⟨S1x128, .f32⟩
  | .local _ .vmem, ⟨0, _⟩ => ⟨S2048x128, .bf16⟩
  | .local _ .vmem, ⟨1, _⟩ => ⟨S2048x128, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .f32⟩
  | .local _ .vmem, ⟨14, _⟩ => ⟨S2048x128, .f32⟩
  | .local _ .vmem, ⟨15, _⟩ => ⟨S128x256, .f32⟩
  | .local _ .vmem, ⟨16, _⟩ => ⟨S128x256, .f32⟩
  | .local _ .vmem, ⟨17, _⟩ => ⟨S128x256, .bf16⟩
  | .local _ .vmem, ⟨18, _⟩ => ⟨S128x256, .bf16⟩
  | .local _ .vmem, ⟨19, _⟩ => ⟨S1x128, .f32⟩
  | .local _ .vmem, ⟨20, _⟩ => ⟨S128x256, .f32⟩
  | .local _ .vmem, ⟨21, _⟩ => ⟨S128x256, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c65_i32 : BitVec 32 := 65#32
  let c0_i32 : BitVec 32 := 0#32
  ![v0.toNat, c65_i32.toNat]

def cc0_transform_4 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c65_i32 : BitVec 32 := 65#32
  let c0_i32_0 : BitVec 32 := 0#32
  ![v1.toNat, c65_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c65_i32 : BitVec 32 := 65#32
  let c0_i32 : BitVec 32 := 0#32
  ![v0.toNat, c65_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x32x64 : Shape := ⟨3, ![8192, 32, 64]⟩
abbrev S8192x4x64 : Shape := ⟨3, ![8192, 4, 64]⟩
abbrev S8192x17024 : Shape := ⟨2, ![8192, 17024]⟩
abbrev S32 : Shape := ⟨1, ![32]⟩
abbrev S8192x2048 : Shape := ⟨2, ![8192, 2048]⟩
abbrev S8192x256 : Shape := ⟨2, ![8192, 256]⟩
abbrev S64x128x4x8x64 : Shape := ⟨5, ![64, 128, 4, 8, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S64x4x256x128x8 : Shape := ⟨5, ![64, 4, 256, 128, 8]⟩
abbrev S64x4x8x128x256 : Shape := ⟨5, ![64, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S4x8 : Shape := ⟨2, ![4, 8]⟩
abbrev S1x4x8x1x1 : Shape := ⟨5, ![1, 4, 8, 1, 1]⟩
abbrev S64x4x8x128 : Shape := ⟨4, ![64, 4, 8, 128]⟩
abbrev S64x4x8x128x1 : Shape := ⟨5, ![64, 4, 8, 128, 1]⟩
abbrev S64x4x64x8x128 : Shape := ⟨5, ![64, 4, 64, 8, 128]⟩
abbrev S64x4x64x256 : Shape := ⟨4, ![64, 4, 64, 256]⟩
abbrev S4x8x1 : Shape := ⟨3, ![4, 8, 1]⟩
abbrev S64x4x128x8x64 : Shape := ⟨5, ![64, 4, 128, 8, 64]⟩
abbrev S64x4x256x64 : Shape := ⟨4, ![64, 4, 256, 64]⟩
abbrev S8192x16640 : Shape := ⟨2, ![8192, 16640]⟩
abbrev S8192x128 : Shape := ⟨2, ![8192, 128]⟩
abbrev S2048x8192 : Shape := ⟨2, ![2048, 8192]⟩
abbrev S1x32 : Shape := ⟨2, ![1, 32]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S8192x32x64, .f32⟩
  | 1 => ⟨S8192x4x64, .f32⟩
  | 2 => ⟨S8192x17024, .f32⟩
  | 3 => ⟨S32, .f32⟩
  | 4 => ⟨S8192x2048, .f32⟩
  | 5 => ⟨S8192x17024, .bf16⟩
  | 6 => ⟨S8192x256, .f32⟩
  | 7 => ⟨S8192x4x64, .f32⟩
  | 8 => ⟨S64x128x4x8x64, .f32⟩
  | 9 => ⟨S64x128x4x64, .f32⟩
  | 10 => ⟨S64x128x4x64, .f32⟩
  | 11 => ⟨S1x128x4x64, .f32⟩
  | 12 => ⟨S_, .f32⟩
  | 13 => ⟨S1x128x4x64, .f32⟩
  | 14 => ⟨S63x128x4x64, .f32⟩
  | 15 => ⟨S64x128x4x64, .f32⟩
  | 16 => ⟨S_, .f32⟩
  | 17 => ⟨S1x128x4x64, .f32⟩
  | 18 => ⟨S64x256x4x64, .f32⟩
  | 19 => ⟨S1x128x4x64, .f32⟩
  | 20 => ⟨S_, .f32⟩
  | 21 => ⟨S1x128x4x64, .f32⟩
  | 22 => ⟨S63x128x4x64, .f32⟩
  | 23 => ⟨S64x128x4x64, .f32⟩
  | 24 => ⟨S_, .f32⟩
  | 25 => ⟨S1x128x4x64, .f32⟩
  | 26 => ⟨S64x256x4x64, .f32⟩
  | 27 => ⟨S64x4x256x128x8, .f32⟩
  | 28 => ⟨S64x4x8x128x256, .f32⟩
  | 29 => ⟨S_, .f32⟩
  | 30 => ⟨S64x4x8x128x256, .f32⟩
  | 31 => ⟨S64x4x8x128x256, .f32⟩
  | 32 => ⟨S128, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i1⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i1⟩
  | 45 => ⟨S128x256, .i1⟩
  | 46 => ⟨S64, .i32⟩
  | 47 => ⟨S64x1x1, .i32⟩
  | 48 => ⟨S_, .i32⟩
  | 49 => ⟨S64x1x1, .i32⟩
  | 50 => ⟨S64x1x1, .i1⟩
  | 51 => ⟨S_, .i32⟩
  | 52 => ⟨S1x256, .i32⟩
  | 53 => ⟨S1x256, .i1⟩
  | 54 => ⟨S1x1x256, .i1⟩
  | 55 => ⟨S64x1x256, .i1⟩
  | 56 => ⟨S64x1x256, .i1⟩
  | 57 => ⟨S64x1x256, .i1⟩
  | 58 => ⟨S1x128x256, .i1⟩
  | 59 => ⟨S64x128x256, .i1⟩
  | 60 => ⟨S64x128x256, .i1⟩
  | 61 => ⟨S64x128x256, .i1⟩
  | 62 => ⟨S64x1x1x128x256, .i1⟩
  | 63 => ⟨S_, .f32⟩
  | 64 => ⟨S_, .f32⟩
  | 65 => ⟨S64x4x8x128x256, .i1⟩
  | 66 => ⟨S64x4x8x128x256, .f32⟩
  | 67 => ⟨S64x4x8x128x256, .f32⟩
  | 68 => ⟨S_, .f32⟩
  | 69 => ⟨S64x4x8x128x256, .f32⟩
  | 70 => ⟨S4x8, .f32⟩
  | 71 => ⟨S1x4x8x1x1, .f32⟩
  | 72 => ⟨S_, .f32⟩
  | 73 => ⟨S64x4x8x128, .f32⟩
  | 74 => ⟨S64x4x8x128x1, .f32⟩
  | 75 => ⟨S64x4x8x128x256, .f32⟩
  | 76 => ⟨S64x4x8x128x256, .i1⟩
  | 77 => ⟨S64x4x8x128x256, .f32⟩
  | 78 => ⟨S_, .f32⟩
  | 79 => ⟨S64x4x8x128, .f32⟩
  | 80 => ⟨S64x4x8x128x1, .f32⟩
  | 81 => ⟨S64x4x8x128x1, .f32⟩
  | 82 => ⟨S64x4x8x128x1, .f32⟩
  | 83 => ⟨S64x4x8x128x1, .f32⟩
  | 84 => ⟨S64x4x8x128x1, .i1⟩
  | 85 => ⟨S64x4x8x128x1, .f32⟩
  | 86 => ⟨S64x4x8x128x1, .i1⟩
  | 87 => ⟨S_, .f32⟩
  | 88 => ⟨S64x4x8x128x1, .f32⟩
  | 89 => ⟨S_, .f32⟩
  | 90 => ⟨S64x4x8x128x1, .f32⟩
  | 91 => ⟨S_, .f32⟩
  | 92 => ⟨S64x4x8x128x1, .f32⟩
  | 93 => ⟨S64x4x8x128x1, .f32⟩
  | 94 => ⟨S64x4x8x128x1, .f32⟩
  | 95 => ⟨S64x4x8x128x1, .f32⟩
  | 96 => ⟨S64x4x8x128x1, .i1⟩
  | 97 => ⟨S64x4x8x128x1, .f32⟩
  | 98 => ⟨S64x4x8x128x1, .i1⟩
  | 99 => ⟨S_, .f32⟩
  | 100 => ⟨S64x4x8x128x1, .f32⟩
  | 101 => ⟨S_, .f32⟩
  | 102 => ⟨S64x4x8x128x1, .f32⟩
  | 103 => ⟨S_, .f32⟩
  | 104 => ⟨S64x4x8x128x1, .f32⟩
  | 105 => ⟨S64x4x8x128x1, .f32⟩
  | 106 => ⟨S64x4x8x128x1, .f32⟩
  | 107 => ⟨S64x4x8x128x256, .f32⟩
  | 108 => ⟨S64x4x8x128x256, .f32⟩
  | 109 => ⟨S64x4x8x128x256, .f32⟩
  | 110 => ⟨S_, .f32⟩
  | 111 => ⟨S64x4x8x128, .f32⟩
  | 112 => ⟨S64x4x8x128x1, .f32⟩
  | 113 => ⟨S64x4x8x128x1, .f32⟩
  | 114 => ⟨S64x4x8x128x1, .f32⟩
  | 115 => ⟨S64x4x8x128x1, .f32⟩
  | 116 => ⟨S64x4x8x128x1, .f32⟩
  | 117 => ⟨S64x4x8x128x256, .f32⟩
  | 118 => ⟨S64x4x8x128x256, .f32⟩
  | 119 => ⟨S64x4x8x128x1, .f32⟩
  | 120 => ⟨S_, .f32⟩
  | 121 => ⟨S64x4x8x128x1, .f32⟩
  | 122 => ⟨S64x4x8x128x1, .f32⟩
  | 123 => ⟨S64x4x64x8x128, .f32⟩
  | 124 => ⟨S64x128x4x8x64, .f32⟩
  | 125 => ⟨S8192x2048, .f32⟩
  | 126 => ⟨S64x128x4x8x64, .f32⟩
  | 127 => ⟨S64x4x64x8x128, .f32⟩
  | _ => ⟨S8192x32x64, .f32⟩

abbrev hbmTy0_1 (i : Nat) : BufTy := match i % 128 with
  | 0 => ⟨S64x4x8x128x256, .f32⟩
  | 1 => ⟨S64x4x64x256, .f32⟩
  | 2 => ⟨S64x256x4x64, .f32⟩
  | 3 => ⟨S64x4x8x128x256, .f32⟩
  | 4 => ⟨S64x4x8x128x256, .f32⟩
  | 5 => ⟨S64x4x8x128x256, .f32⟩
  | 6 => ⟨S_, .f32⟩
  | 7 => ⟨S64x4x8x128, .f32⟩
  | 8 => ⟨S64x4x8x128x1, .f32⟩
  | 9 => ⟨S64x4x8x128x1, .f32⟩
  | 10 => ⟨S64x4x8x128x256, .f32⟩
  | 11 => ⟨S64x4x8x128x256, .f32⟩
  | 12 => ⟨S64x4x8x128x1, .f32⟩
  | 13 => ⟨S_, .f32⟩
  | 14 => ⟨S4x8x1, .f32⟩
  | 15 => ⟨S1x4x8x1x1, .f32⟩
  | 16 => ⟨S64x4x8x128x1, .f32⟩
  | 17 => ⟨S_, .f32⟩
  | 18 => ⟨S64x4x8x128, .f32⟩
  | 19 => ⟨S64x4x8x128x256, .f32⟩
  | 20 => ⟨S64x4x8x128x256, .f32⟩
  | 21 => ⟨S64x4x8x128x256, .f32⟩
  | 22 => ⟨S64x4x8x128x256, .f32⟩
  | 23 => ⟨S_, .f32⟩
  | 24 => ⟨S64x4x8x128, .f32⟩
  | 25 => ⟨S64x4x8x128x1, .f32⟩
  | 26 => ⟨S64x4x8x128x1, .f32⟩
  | 27 => ⟨S64x4x8x128x1, .f32⟩
  | 28 => ⟨S_, .f32⟩
  | 29 => ⟨S4x8x1, .f32⟩
  | 30 => ⟨S1x4x8x1x1, .f32⟩
  | 31 => ⟨S1x4x8x1x1, .f32⟩
  | 32 => ⟨S64x4x8x128x1, .f32⟩
  | 33 => ⟨S_, .f32⟩
  | 34 => ⟨S64x4x8x128, .f32⟩
  | 35 => ⟨S64x4x8x128, .f32⟩
  | 36 => ⟨S64x4x8x128x256, .f32⟩
  | 37 => ⟨S64x4x8x128x256, .f32⟩
  | 38 => ⟨S64x4x8x128x256, .f32⟩
  | 39 => ⟨S_, .f32⟩
  | 40 => ⟨S4x8, .f32⟩
  | 41 => ⟨S32, .f32⟩
  | 42 => ⟨S_, .f32⟩
  | 43 => ⟨S64x4x8x128x256, .f32⟩
  | 44 => ⟨S64x4x8x128x256, .f32⟩
  | 45 => ⟨S_, .f32⟩
  | 46 => ⟨S64x4x8x128x256, .f32⟩
  | 47 => ⟨S64x4x8x128x256, .f32⟩
  | 48 => ⟨S64x4x256x128x8, .f32⟩
  | 49 => ⟨S64x4x128x8x64, .f32⟩
  | 50 => ⟨S64x128x4x8x64, .f32⟩
  | 51 => ⟨S64x4x256x64, .f32⟩
  | 52 => ⟨S64x256x4x64, .f32⟩
  | 53 => ⟨S64x128x4x64, .f32⟩
  | 54 => ⟨S64x128x4x64, .f32⟩
  | 55 => ⟨S1x128x4x64, .f32⟩
  | 56 => ⟨S63x128x4x64, .f32⟩
  | 57 => ⟨S_, .f32⟩
  | 58 => ⟨S64x128x4x64, .f32⟩
  | 59 => ⟨S64x128x4x64, .f32⟩
  | 60 => ⟨S64x128x4x64, .f32⟩
  | 61 => ⟨S64x128x4x64, .f32⟩
  | 62 => ⟨S1x128x4x64, .f32⟩
  | 63 => ⟨S63x128x4x64, .f32⟩
  | 64 => ⟨S_, .f32⟩
  | 65 => ⟨S64x128x4x64, .f32⟩
  | 66 => ⟨S64x128x4x64, .f32⟩
  | 67 => ⟨S8192x4x64, .f32⟩
  | 68 => ⟨S8192x4x64, .f32⟩
  | 69 => ⟨S8192x32x64, .f32⟩
  | 70 => ⟨S8192x17024, .f32⟩
  | 71 => ⟨S8192x16640, .f32⟩
  | 72 => ⟨S8192x256, .f32⟩
  | 73 => ⟨S8192x128, .f32⟩
  | 74 => ⟨S8192x17024, .f32⟩
  | 75 => ⟨S8192x17024, .bf16⟩
  | 76 => ⟨S8192x2048, .f32⟩
  | 77 => ⟨S2048x8192, .f32⟩
  | 78 => ⟨S8192x256, .f32⟩
  | 79 => ⟨S1x32, .f32⟩
  | 80 => ⟨S_, .i32⟩
  | 81 => ⟨S_, .f32⟩
  | 82 => ⟨S1x128, .f32⟩
  | _ => ⟨S8192x32x64, .f32⟩

abbrev hbmTy (i : Nat) : BufTy := match i / 128 with
  | 0 => hbmTy0_0 i
  | 1 => hbmTy0_1 i
  | _ => ⟨S8192x32x64, .f32⟩

abbrev bufTy : (tb : Table) → Fin (tcTables nBuf tb) → BufTy
  | .hbm, ⟨i, _⟩ => hbmTy i
  | _, _ => ⟨S8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_call0_v0 : Ref sig .tc := ⟨.hbm, 64, rfl⟩
abbrev main_v49_1 : Ref sig .tc := ⟨.hbm, 65, rfl⟩
abbrev main_call0_v2 : Ref sig .tc := ⟨.hbm, 66, rfl⟩
abbrev main_v49_0 : Ref sig .tc := ⟨.hbm, 67, rfl⟩
abbrev main_call0_cst : Ref sig .tc := ⟨.hbm, 68, rfl⟩
abbrev main_v49_2 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_17 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_19 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_20 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_21 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_23 : Ref sig .tc := ⟨.hbm, 167, rfl⟩
abbrev main_v131 : Ref sig .tc := ⟨.hbm, 168, rfl⟩
abbrev main_v132 : Ref sig .tc := ⟨.hbm, 169, rfl⟩
abbrev main_call1_cst : Ref sig .tc := ⟨.hbm, 170, rfl⟩
abbrev main_call1_v0 : Ref sig .tc := ⟨.hbm, 171, rfl⟩
abbrev main_v133 : Ref sig .tc := ⟨.hbm, 172, rfl⟩
abbrev main_cst_24 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_25 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_26 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_c_27 : Ref sig .tc := ⟨.hbm, 208, rfl⟩
abbrev main_call2_v0 : Ref sig .tc := ⟨.hbm, 209, rfl⟩
abbrev main_v166 : Ref sig .tc := ⟨.hbm, 210, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S8192x4x1408 : Shape := ⟨3, ![8192, 4, 1408]⟩
abbrev S8192x4x1x1408 : Shape := ⟨4, ![8192, 4, 1, 1408]⟩
abbrev S8192x4x2x1408 : Shape := ⟨4, ![8192, 4, 2, 1408]⟩
abbrev S8192x11264 : Shape := ⟨2, ![8192, 11264]⟩
abbrev S512x2048 : Shape := ⟨2, ![512, 2048]⟩
abbrev S1408x2048 : Shape := ⟨2, ![1408, 2048]⟩
abbrev S512x2816 : Shape := ⟨2, ![512, 2816]⟩
abbrev S512x1408 : Shape := ⟨2, ![512, 1408]⟩

abbrev nBuf : Space → Nat
  | .hbm => 14
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x4x1408, .f32⟩
  | .hbm, ⟨5, _⟩ => ⟨S8192x4x1408, .f32⟩
  | .hbm, ⟨6, _⟩ => ⟨S8192x4x1x1408, .f32⟩
  | .hbm, ⟨7, _⟩ => ⟨S8192x4x1x1408, .f32⟩
  | .hbm, ⟨8, _⟩ => ⟨S8192x4x2x1408, .f32⟩
  | .hbm, ⟨9, _⟩ => ⟨S8192x11264, .f32⟩
  | .hbm, ⟨10, _⟩ => ⟨S8192x11264, .bf16⟩
  | .hbm, ⟨11, _⟩ => ⟨S8192x2048, .bf16⟩
  | .hbm, ⟨12, _⟩ => ⟨S5632x2048, .bf16⟩
  | .hbm, ⟨13, _⟩ => ⟨S8192x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x5632 : Shape := ⟨2, ![2048, 5632]⟩
abbrev S8192x4x1408 : Shape := ⟨3, ![8192, 4, 1408]⟩
abbrev S8192x4x1x1408 : Shape := ⟨4, ![8192, 4, 1, 1408]⟩
abbrev S8192x4x2x1408 : Shape := ⟨4, ![8192, 4, 2, 1408]⟩
abbrev S8192x11264 : Shape := ⟨2, ![8192, 11264]⟩

abbrev nBuf : Space → Nat
  | .hbm => 35
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S2048x5632, .f32⟩
  | .hbm, ⟨20, _⟩ => ⟨S5632x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x4x1408, .f32⟩
  | .hbm, ⟨29, _⟩ => ⟨S8192x4x1408, .f32⟩
  | .hbm, ⟨30, _⟩ => ⟨S8192x4x1x1408, .f32⟩
  | .hbm, ⟨31, _⟩ => ⟨S8192x4x1x1408, .f32⟩
  | .hbm, ⟨32, _⟩ => ⟨S8192x4x2x1408, .f32⟩
  | .hbm, ⟨33, _⟩ => ⟨S8192x11264, .f32⟩
  | .hbm, ⟨34, _⟩ => ⟨S8192x11264, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .bf16⟩
  | .hbm, ⟨14, _⟩ => ⟨S8192x2048, .bf16⟩
  | .hbm, ⟨15, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 18
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S_, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x2048, .f32⟩
  | .hbm, ⟨16, _⟩ => ⟨S2048x5632, .f32⟩
  | .hbm, ⟨17, _⟩ => ⟨S5632x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S8192x5632 : Shape := ⟨2, ![8192, 5632]⟩
abbrev S2048x5632 : Shape := ⟨2, ![2048, 5632]⟩
abbrev S8192x4x1408 : Shape := ⟨3, ![8192, 4, 1408]⟩
abbrev S8192x4x1x1408 : Shape := ⟨4, ![8192, 4, 1, 1408]⟩
abbrev S8192x4x2x1408 : Shape := ⟨4, ![8192, 4, 2, 1408]⟩
abbrev S8192x11264 : Shape := ⟨2, ![8192, 11264]⟩
abbrev S2048x4x1408 : Shape := ⟨3, ![2048, 4, 1408]⟩
abbrev S2048x4x1x1408 : Shape := ⟨4, ![2048, 4, 1, 1408]⟩
abbrev S2048x4x2x1408 : Shape := ⟨4, ![2048, 4, 2, 1408]⟩
abbrev S2048x11264 : Shape := ⟨2, ![2048, 11264]⟩
abbrev S1024x2816 : Shape := ⟨2, ![1024, 2816]⟩
abbrev S1024x1024 : Shape := ⟨2, ![1024, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S2048x5632, .f32⟩
  | .hbm, ⟨4, _⟩ => ⟨S2048x5632, .f32⟩
  | .hbm, ⟨5, _⟩ => ⟨S8192x4x1408, .f32⟩
  | .hbm, ⟨6, _⟩ => ⟨S8192x4x1408, .f32⟩
  | .hbm, ⟨7, _⟩ => ⟨S8192x4x1x1408, .f32⟩
  | .hbm, ⟨8, _⟩ => ⟨S8192x4x1x1408, .f32⟩
  | .hbm, ⟨9, _⟩ => ⟨S8192x4x2x1408, .f32⟩
  | .hbm, ⟨10, _⟩ => ⟨S8192x11264, .f32⟩
  | .hbm, ⟨11, _⟩ => ⟨S8192x11264, .bf16⟩
  | .hbm, ⟨12, _⟩ => ⟨S2048x4x1408, .f32⟩
  | .hbm, ⟨13, _⟩ => ⟨S2048x4x1408, .f32⟩
  | .hbm, ⟨14, _⟩ => ⟨S2048x4x1x1408, .f32⟩
  | .hbm, ⟨15, _⟩ => ⟨S2048x4x1x1408, .f32⟩
  | .hbm, ⟨16, _⟩ => ⟨S2048x4x2x1408, .f32⟩
  | .hbm, ⟨17, _⟩ => ⟨S2048x11264, .f32⟩
  | .hbm, ⟨18, _⟩ => ⟨S2048x11264, .bf16⟩
  | .hbm, ⟨19, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x2048 : Shape := ⟨2, ![8192, 2048]⟩
abbrev S8192x5632 : Shape := ⟨2, ![8192, 5632]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel5.lean ====
abbrev S8192x2048 : Shape := ⟨2, ![8192, 2048]⟩
abbrev S8192x5632 : Shape := ⟨2, ![8192, 5632]⟩
abbrev S8192x4x1408 : Shape := ⟨3, ![8192, 4, 1408]⟩
abbrev S8192x4x1x1408 : Shape := ⟨4, ![8192, 4, 1, 1408]⟩
abbrev S8192x4x2x1408 : Shape := ⟨4, ![8192, 4, 2, 1408]⟩
abbrev S8192x11264 : Shape := ⟨2, ![8192, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x2048, .bf16⟩
  | .hbm, ⟨4, _⟩ => ⟨S8192x4x1408, .f32⟩
  | .hbm, ⟨5, _⟩ => ⟨S8192x4x1408, .f32⟩
  | .hbm, ⟨6, _⟩ => ⟨S8192x4x1x1408, .f32⟩
  | .hbm, ⟨7, _⟩ => ⟨S8192x4x1x1408, .f32⟩
  | .hbm, ⟨8, _⟩ => ⟨S8192x4x2x1408, .f32⟩
  | .hbm, ⟨9, _⟩ => ⟨S8192x11264, .f32⟩
  | .hbm, ⟨10, _⟩ => ⟨S8192x11264, .bf16⟩
  | .hbm, ⟨11, _⟩ => ⟨S4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S2048x4x1x1408 : Shape := ⟨4, ![2048, 4, 1, 1408]⟩
abbrev S2048x4x2x1408 : Shape := ⟨4, ![2048, 4, 2, 1408]⟩
abbrev S2048x4x2816 : Shape := ⟨3, ![2048, 4, 2816]⟩
abbrev S4x2048x2816 : Shape := ⟨3, ![4, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S2048x4x1408, .f32⟩
  | .hbm, ⟨13, _⟩ => ⟨S2048x4x1x1408, .f32⟩
  | .hbm, ⟨14, _⟩ => ⟨S2048x4x1x1408, .f32⟩
  | .hbm, ⟨15, _⟩ => ⟨S2048x4x2x1408, .f32⟩
  | .hbm, ⟨16, _⟩ => ⟨S2048x4x2816, .f32⟩
  | .hbm, ⟨17, _⟩ => ⟨S4x2048x2816, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S8192x2048 : Shape := ⟨2, ![8192, 2048]⟩
abbrev S8192x16960 : Shape := ⟨2, ![8192, 16960]⟩
abbrev S2048x16960 : Shape := ⟨2, ![2048, 16960]⟩
abbrev S8192x4096 : Shape := ⟨2, ![8192, 4096]⟩
abbrev S8192x6144 : Shape := ⟨2, ![8192, 6144]⟩
abbrev S8192x256 : Shape := ⟨2, ![8192, 256]⟩
abbrev S8192x64 : Shape := ⟨2, ![8192, 64]⟩
abbrev S_ : Shape := ⟨0, ![]⟩
abbrev S8192x17024 : Shape := ⟨2, ![8192, 17024]⟩
abbrev S2048x4096 : Shape := ⟨2, ![2048, 4096]⟩
abbrev S2048x2048 : Shape := ⟨2, ![2048, 2048]⟩
abbrev S2048x6144 : Shape := ⟨2, ![2048, 6144]⟩
abbrev S2048x256 : Shape := ⟨2, ![2048, 256]⟩
abbrev S2048x64 : Shape := ⟨2, ![2048, 64]⟩
abbrev S2048x17024 : Shape := ⟨2, ![2048, 17024]⟩
abbrev S1024x2432 : Shape := ⟨2, ![1024, 2432]⟩
abbrev S1024x1024 : Shape := ⟨2, ![1024, 1024]⟩

abbrev nBuf : Space → Nat
  | .hbm => 28
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x16960, .f32⟩
  | .hbm, ⟨2, _⟩ => ⟨S2048x16960, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x6144, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x17024, .f32⟩
  | .hbm, ⟨14, _⟩ => ⟨S8192x17024, .bf16⟩
  | .hbm, ⟨15, _⟩ => ⟨S2048x4096, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x6144, .f32⟩
  | .hbm, ⟨20, _⟩ => ⟨S2048x256, .f32⟩
  | .hbm, ⟨21, _⟩ => ⟨S2048x256, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x17024, .f32⟩
  | .hbm, ⟨26, _⟩ => ⟨S2048x17024, .bf16⟩
  | .hbm, ⟨27, _⟩ => ⟨S8192x2048, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S8192x16960 : Shape := ⟨2, ![8192, 16960]⟩
abbrev S2048x16960 : Shape := ⟨2, ![2048, 16960]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x16960, .f32⟩
  | .hbm, ⟨2, _⟩ => ⟨S2048x16960, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x16960, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel7.lean ====
abbrev S8192x2048 : Shape := ⟨2, ![8192, 2048]⟩
abbrev S8192x16960 : Shape := ⟨2, ![8192, 16960]⟩
abbrev S8192x4096 : Shape := ⟨2, ![8192, 4096]⟩
abbrev S8192x6144 : Shape := ⟨2, ![8192, 6144]⟩
abbrev S8192x256 : Shape := ⟨2, ![8192, 256]⟩
abbrev S8192x64 : Shape := ⟨2, ![8192, 64]⟩
abbrev S_ : Shape := ⟨0, ![]⟩
abbrev S8192x17024 : Shape := ⟨2, ![8192, 17024]⟩
abbrev S2048x17024 : Shape := ⟨2, ![2048, 17024]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 16
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x16960, .f32⟩
  | .hbm, ⟨2, _⟩ => ⟨S8192x2048, .bf16⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x6144, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x17024, .f32⟩
  | .hbm, ⟨14, _⟩ => ⟨S8192x17024, .bf16⟩
  | .hbm, ⟨15, _⟩ => ⟨S2048x17024, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x16960 : Shape := ⟨2, ![8192, 16960]⟩
abbrev S_ : Shape := ⟨0, ![]⟩
abbrev S2048x16960 : Shape := ⟨2, ![2048, 16960]⟩
abbrev S16960x2048 : Shape := ⟨2, ![16960, 2048]⟩
abbrev S2048x4096 : Shape := ⟨2, ![2048, 4096]⟩
abbrev S2048x2048 : Shape := ⟨2, ![2048, 2048]⟩
abbrev S2048x6144 : Shape := ⟨2, ![2048, 6144]⟩
abbrev S2048x256 : Shape := ⟨2, ![2048, 256]⟩
abbrev S2048x64 : Shape := ⟨2, ![2048, 64]⟩
abbrev S2048x17024 : Shape := ⟨2, ![2048, 17024]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x16960, .f32⟩
  | .hbm, ⟨2, _⟩ => ⟨S_, .f32⟩
  | .hbm, ⟨3, _⟩ => ⟨S2048x16960, .f32⟩
  | .hbm, ⟨4, _⟩ => ⟨S8192x16960, .f32⟩
  | .hbm, ⟨5, _⟩ => ⟨S16960x2048, .f32⟩
  | .hbm, ⟨6, _⟩ => ⟨S2048x16960, .f32⟩
  | .hbm, ⟨7, _⟩ => ⟨S2048x4096, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x6144, .f32⟩
  | .hbm, ⟨12, _⟩ => ⟨S2048x256, .f32⟩
  | .hbm, ⟨13, _⟩ => ⟨S2048x256, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x17024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel8.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S2048x4096, .f32⟩
  | .hbm, ⟨6, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x8192 : Shape := ⟨2, ![2048, 8192]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S2048x8192, .bf16⟩
  | .hbm, ⟨4, _⟩ => ⟨S8192x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S_, .f32⟩
  | .hbm, ⟨3, _⟩ => ⟨S8192x4096, .f32⟩
  | .hbm, ⟨4, _⟩ => ⟨S8192x2048, .f32⟩
  | .hbm, ⟨5, _⟩ => ⟨S8192x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .bf16⟩
  | .hbm, ⟨3, _⟩ => ⟨S8192x2048, .bf16⟩
  | .hbm, ⟨4, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S8192x2048 : Shape := ⟨2, ![8192, 2048]⟩
abbrev S_ : Shape := ⟨0, ![]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x16960 : Shape := ⟨2, ![2048, 16960]⟩
abbrev S2048x4096 : Shape := ⟨2, ![2048, 4096]⟩
abbrev S2048x2048 : Shape := ⟨2, ![2048, 2048]⟩
abbrev S2048x6144 : Shape := ⟨2, ![2048, 6144]⟩
abbrev S2048x256 : Shape := ⟨2, ![2048, 256]⟩
abbrev S2048x64 : Shape := ⟨2, ![2048, 64]⟩
abbrev S_ : Shape := ⟨0, ![]⟩
abbrev S2048x17024 : Shape := ⟨2, ![2048, 17024]⟩
abbrev S8192x17024 : Shape := ⟨2, ![8192, 17024]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 16
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x16960, .f32⟩
  | .hbm, ⟨2, _⟩ => ⟨S8192x2048, .bf16⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x6144, .f32⟩
  | .hbm, ⟨8, _⟩ => ⟨S2048x256, .f32⟩
  | .hbm, ⟨9, _⟩ => ⟨S2048x256, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x17024, .f32⟩
  | .hbm, ⟨14, _⟩ => ⟨S2048x17024, .bf16⟩
  | .hbm, ⟨15, _⟩ => ⟨S8192x17024, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x16960 : Shape := ⟨2, ![2048, 16960]⟩
abbrev S8192x16960 : Shape := ⟨2, ![8192, 16960]⟩
abbrev S8192x4096 : Shape := ⟨2, ![8192, 4096]⟩
abbrev S8192x6144 : Shape := ⟨2, ![8192, 6144]⟩
abbrev S8192x256 : Shape := ⟨2, ![8192, 256]⟩
abbrev S8192x64 : Shape := ⟨2, ![8192, 64]⟩
abbrev S_ : Shape := ⟨0, ![]⟩
abbrev S8192x17024 : Shape := ⟨2, ![8192, 17024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16960, .f32⟩
  | .hbm, ⟨2, _⟩ => ⟨S8192x16960, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x6144, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x17024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel15.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x8192, .f32⟩
  | .hbm, ⟨3, _⟩ => ⟨S2048x8192, .bf16⟩
  | .hbm, ⟨4, _⟩ => ⟨S2048x2048, .bf16⟩
  | .hbm, ⟨5, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x5632 : Shape := ⟨2, ![8192, 5632]⟩
abbrev S5632x2048 : Shape := ⟨2, ![5632, 2048]⟩
abbrev S_ : Shape := ⟨0, ![]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 16
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .bf16⟩
  | .hbm, ⟨14, _⟩ => ⟨S5632x2048, .bf16⟩
  | .hbm, ⟨15, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x5632 : Shape := ⟨2, ![8192, 5632]⟩
abbrev S5632x2048 : Shape := ⟨2, ![5632, 2048]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== Kernel19.lean ====
abbrev S8192x2048 : Shape := ⟨2, ![8192, 2048]⟩
abbrev S2048x5632 : Shape := ⟨2, ![2048, 5632]⟩
abbrev S2048x4x1408 : Shape := ⟨3, ![2048, 4, 1408]⟩
abbrev S2048x4x1x1408 : Shape := ⟨4, ![2048, 4, 1, 1408]⟩
abbrev S2048x4x2x1408 : Shape := ⟨4, ![2048, 4, 2, 1408]⟩
abbrev S2048x11264 : Shape := ⟨2, ![2048, 11264]⟩
abbrev S8192x11264 : Shape := ⟨2, ![8192, 11264]⟩
abbrev S8192x5632 : Shape := ⟨2, ![8192, 5632]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x4x1408, .f32⟩
  | .hbm, ⟨5, _⟩ => ⟨S2048x4x1408, .f32⟩
  | .hbm, ⟨6, _⟩ => ⟨S2048x4x1x1408, .f32⟩
  | .hbm, ⟨7, _⟩ => ⟨S2048x4x1x1408, .f32⟩
  | .hbm, ⟨8, _⟩ => ⟨S2048x4x2x1408, .f32⟩
  | .hbm, ⟨9, _⟩ => ⟨S2048x11264, .f32⟩
  | .hbm, ⟨10, _⟩ => ⟨S2048x11264, .bf16⟩
  | .hbm, ⟨11, _⟩ => ⟨S8192x11264, .bf16⟩
  | .hbm, ⟨12, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference19Ideal.lean ====
abbrev S8192x2048 : Shape := ⟨2, ![8192, 2048]⟩
abbrev S2048x5632 : Shape := ⟨2, ![2048, 5632]⟩
abbrev S8192x5632 : Shape := ⟨2, ![8192, 5632]⟩
abbrev S8192x4x1408 : Shape := ⟨3, ![8192, 4, 1408]⟩
abbrev S8192x4x1x1408 : Shape := ⟨4, ![8192, 4, 1, 1408]⟩
abbrev S8192x4x2x1408 : Shape := ⟨4, ![8192, 4, 2, 1408]⟩
abbrev S8192x11264 : Shape := ⟨2, ![8192, 11264]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x4x1408, .f32⟩
  | .hbm, ⟨6, _⟩ => ⟨S8192x4x1408, .f32⟩
  | .hbm, ⟨7, _⟩ => ⟨S8192x4x1x1408, .f32⟩
  | .hbm, ⟨8, _⟩ => ⟨S8192x4x1x1408, .f32⟩
  | .hbm, ⟨9, _⟩ => ⟨S8192x4x2x1408, .f32⟩
  | .hbm, ⟨10, _⟩ => ⟨S8192x11264, .f32⟩
  | .hbm, ⟨11, _⟩ => ⟨S8192x11264, .bf16⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel20.lean ====
abbrev S8192x2048 : Shape := ⟨2, ![8192, 2048]⟩
abbrev S8192x17024 : Shape := ⟨2, ![8192, 17024]⟩
abbrev S256x2048 : Shape := ⟨2, ![256, 2048]⟩
abbrev S256x4096 : Shape := ⟨2, ![256, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x17024, .f32⟩
  | .hbm, ⟨3, _⟩ => ⟨S8192x2048, .f32⟩
  | .hbm, ⟨4, _⟩ => ⟨S8192x17024, .bf16⟩
  | .hbm, ⟨5, _⟩ => ⟨S8192x2048, .bf16⟩
  | .hbm, ⟨6, _⟩ => ⟨S8192x2048, .bf16⟩
  | .hbm, ⟨7, _⟩ => ⟨S8192x17024, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8192x2048 : Shape := ⟨2, ![8192, 2048]⟩
abbrev S8192x17024 : Shape := ⟨2, ![8192, 17024]⟩
abbrev S_ : Shape := ⟨0, ![]⟩
abbrev S8192x4096 : Shape := ⟨2, ![8192, 4096]⟩
abbrev S8192x8832 : Shape := ⟨2, ![8192, 8832]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x17024, .f32⟩
  | .hbm, ⟨3, _⟩ => ⟨S8192x2048, .f32⟩
  | .hbm, ⟨4, _⟩ => ⟨S8192x17024, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x17024, .f32⟩
  | .hbm, ⟨43, _⟩ => ⟨S8192x4096, .f32⟩
  | .hbm, ⟨44, _⟩ => ⟨S8192x8832, .f32⟩
  | .hbm, ⟨45, _⟩ => ⟨S8192x17024, .f32⟩
  | .hbm, ⟨46, _⟩ => ⟨S8192x2048, .bf16⟩
  | .hbm, ⟨47, _⟩ => ⟨S8192x2048, .bf16⟩
  | .hbm, ⟨48, _⟩ => ⟨S8192x17024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel21.lean ====
abbrev S2048x1408 : Shape := ⟨2, ![2048, 1408]⟩
abbrev S2048x2816 : Shape := ⟨2, ![2048, 2816]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x2816, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2048x1408 : Shape := ⟨2, ![2048, 1408]⟩
abbrev S2048x2816 : Shape := ⟨2, ![2048, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x2816, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S_, .f32⟩
  | .hbm, ⟨6, _⟩ => ⟨S2048x1408, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel22.lean ====
abbrev S2048x1408 : Shape := ⟨2, ![2048, 1408]⟩
abbrev S2048x2816 : Shape := ⟨2, ![2048, 2816]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x2816, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x1408 : Shape := ⟨2, ![2048, 1408]⟩
abbrev S2048x2816 : Shape := ⟨2, ![2048, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x2816, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S_, .f32⟩
  | .hbm, ⟨6, _⟩ => ⟨S2048x1408, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel23.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x4240 : Shape := ⟨2, ![2048, 4240]⟩
abbrev S64x4240 : Shape := ⟨2, ![64, 4240]⟩

abbrev nBuf : Space → Nat
  | .hbm => 8
  | .vmem => 16
  | .smem => 0
  | _ => 0

abbrev bufTy : (tb : Table) → Fin (tcTables nBuf tb) → BufTy
  | .hbm, ⟨0, _⟩ => ⟨S2048x4240, .f32⟩
  | .hbm, ⟨1, _⟩ => ⟨S2048x4240, .f32⟩
  | .hbm, ⟨2, _⟩ => ⟨S2048x4240, .f32⟩
  | .hbm, ⟨3, _⟩ => ⟨S2048x4240, .f32⟩
  | .hbm, ⟨4, _⟩ => ⟨S2048x4240, .f32⟩
  | .hbm, ⟨5, _⟩ => ⟨S2048x4240, .f32⟩
  | .hbm, ⟨6, _⟩ => ⟨S2048x4240, .f32⟩
  | .hbm, ⟨7, _⟩ => ⟨S2048x4240, .f32⟩
  | .local _ .vmem, ⟨0, _⟩ => ⟨S64x4240, .f32⟩
  | .local _ .vmem, ⟨1, _⟩ => ⟨S64x4240, .f32⟩
  | .local _ .vmem, ⟨2, _⟩ => ⟨S64x4240, .f32⟩
  | .local _ .vmem, ⟨3, _⟩ => ⟨S64x4240, .f32⟩
  | .local _ .vmem, ⟨4, _⟩ => ⟨S64x4240, .f32⟩
  | .local _ .vmem, ⟨5, _⟩ => ⟨S64x4240, .f32⟩
  | .local _ .vmem, ⟨6, _⟩ => ⟨S64x4240, .f32⟩
  | .local _ .vmem, ⟨7, _⟩ => ⟨S64x4240, .f32⟩
  | .local _ .vmem, ⟨8, _⟩ => ⟨S64x4240, .f32⟩
  | .local _ .vmem, ⟨9, _⟩ => ⟨S64x4240, .f32⟩
  | .local _ .vmem, ⟨10, _⟩ => ⟨S64x4240, .f32⟩
  | .local _ .vmem, ⟨11, _⟩ => ⟨S64x4240, .f32⟩
  | .local _ .vmem, ⟨12, _⟩ => ⟨S64x4240, .f32⟩
  | .local _ .vmem, ⟨13, _⟩ => ⟨S64x4240, .f32⟩
  | .local _ .vmem, ⟨14, _⟩ => ⟨S64x4240, .f32⟩
  | .local _ .vmem, ⟨15, _⟩ => ⟨S64x4240, .f32⟩
  | _, _ => ⟨S2048x4240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4240 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4240 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4240 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4240 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4240 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S2048x4240 : Shape := ⟨2, ![2048, 4240]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4240, .f32⟩
  | .hbm, ⟨1, _⟩ => ⟨S2048x4240, .f32⟩
  | .hbm, ⟨2, _⟩ => ⟨S2048x4240, .f32⟩
  | .hbm, ⟨3, _⟩ => ⟨S2048x4240, .f32⟩
  | .hbm, ⟨4, _⟩ => ⟨S_, .f32⟩
  | .hbm, ⟨5, _⟩ => ⟨S2048x4240, .f32⟩
  | .hbm, ⟨6, _⟩ => ⟨S2048x4240, .f32⟩
  | .hbm, ⟨7, _⟩ => ⟨S_, .f32⟩
  | .hbm, ⟨8, _⟩ => ⟨S2048x4240, .f32⟩
  | .hbm, ⟨9, _⟩ => ⟨S2048x4240, .f32⟩
  | .hbm, ⟨10, _⟩ => ⟨S2048x4240, .f32⟩
  | .hbm, ⟨11, _⟩ => ⟨S_, .f32⟩
  | .hbm, ⟨12, _⟩ => ⟨S2048x4240, .f32⟩
  | .hbm, ⟨13, _⟩ => ⟨S2048x4240, .f32⟩
  | .hbm, ⟨14, _⟩ => ⟨S2048x4240, .f32⟩
  | .hbm, ⟨15, _⟩ => ⟨S_, .f32⟩
  | .hbm, ⟨16, _⟩ => ⟨S2048x4240, .f32⟩
  | .hbm, ⟨17, _⟩ => ⟨S2048x4240, .f32⟩
  | .hbm, ⟨18, _⟩ => ⟨S2048x4240, .f32⟩
  | .hbm, ⟨19, _⟩ => ⟨S_, .f32⟩
  | .hbm, ⟨20, _⟩ => ⟨S2048x4240, .f32⟩
  | .hbm, ⟨21, _⟩ => ⟨S2048x4240, .f32⟩
  | .hbm, ⟨22, _⟩ => ⟨S_, .f32⟩
  | .hbm, ⟨23, _⟩ => ⟨S2048x4240, .f32⟩
  | .hbm, ⟨24, _⟩ => ⟨S2048x4240, .f32⟩
  | .hbm, ⟨25, _⟩ => ⟨S2048x4240, .f32⟩
  | .hbm, ⟨26, _⟩ => ⟨S_, .f32⟩
  | .hbm, ⟨27, _⟩ => ⟨S2048x4240, .f32⟩
  | .hbm, ⟨28, _⟩ => ⟨S2048x4240, .f32⟩
  | .hbm, ⟨29, _⟩ => ⟨S2048x4240, .f32⟩
  | .hbm, ⟨30, _⟩ => ⟨S_, .f32⟩
  | .hbm, ⟨31, _⟩ => ⟨S2048x4240, .f32⟩
  | .hbm, ⟨32, _⟩ => ⟨S2048x4240, .f32⟩
  | .hbm, ⟨33, _⟩ => ⟨S2048x4240, .f32⟩
  | .hbm, ⟨34, _⟩ => ⟨S_, .f32⟩
  | .hbm, ⟨35, _⟩ => ⟨S2048x4240, .f32⟩
  | .hbm, ⟨36, _⟩ => ⟨S2048x4240, .f32⟩
  | _, _ => ⟨S2048x4240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1024x2048 : Shape := ⟨2, ![1024, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S232x128 : Shape := ⟨2, ![232, 128]⟩

abbrev nBuf : Space → Nat
  | .hbm => 8
  | .vmem => 8
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .hbm, ⟨7, _⟩ => ⟨S232x128, .f32⟩
  | .local _ .vmem, ⟨0, _⟩ => ⟨S232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | .local _ .vmem, ⟨7, _⟩ => ⟨S232x128, .f32⟩
  | _, _ => ⟨S232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S232x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S232x128 : Shape := ⟨2, ![232, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S232x128, .f32⟩
  | .hbm, ⟨7, _⟩ => ⟨S_, .f32⟩
  | .hbm, ⟨8, _⟩ => ⟨S232x128, .f32⟩
  | .hbm, ⟨9, _⟩ => ⟨S232x128, .f32⟩
  | .hbm, ⟨10, _⟩ => ⟨S232x128, .f32⟩
  | .hbm, ⟨11, _⟩ => ⟨S_, .f32⟩
  | .hbm, ⟨12, _⟩ => ⟨S232x128, .f32⟩
  | .hbm, ⟨13, _⟩ => ⟨S232x128, .f32⟩
  | .hbm, ⟨14, _⟩ => ⟨S232x128, .f32⟩
  | .hbm, ⟨15, _⟩ => ⟨S_, .f32⟩
  | .hbm, ⟨16, _⟩ => ⟨S232x128, .f32⟩
  | .hbm, ⟨17, _⟩ => ⟨S232x128, .f32⟩
  | .hbm, ⟨18, _⟩ => ⟨S232x128, .f32⟩
  | .hbm, ⟨19, _⟩ => ⟨S_, .f32⟩
  | .hbm, ⟨20, _⟩ => ⟨S232x128, .f32⟩
  | .hbm, ⟨21, _⟩ => ⟨S232x128, .f32⟩
  | .hbm, ⟨22, _⟩ => ⟨S_, .f32⟩
  | .hbm, ⟨23, _⟩ => ⟨S232x128, .f32⟩
  | .hbm, ⟨24, _⟩ => ⟨S232x128, .f32⟩
  | .hbm, ⟨25, _⟩ => ⟨S232x128, .f32⟩
  | .hbm, ⟨26, _⟩ => ⟨S_, .f32⟩
  | .hbm, ⟨27, _⟩ => ⟨S232x128, .f32⟩
  | .hbm, ⟨28, _⟩ => ⟨S232x128, .f32⟩
  | .hbm, ⟨29, _⟩ => ⟨S232x128, .f32⟩
  | .hbm, ⟨30, _⟩ => ⟨S_, .f32⟩
  | .hbm, ⟨31, _⟩ => ⟨S232x128, .f32⟩
  | .hbm, ⟨32, _⟩ => ⟨S232x128, .f32⟩
  | .hbm, ⟨33, _⟩ => ⟨S232x128, .f32⟩
  | .hbm, ⟨34, _⟩ => ⟨S_, .f32⟩
  | .hbm, ⟨35, _⟩ => ⟨S232x128, .f32⟩
  | .hbm, ⟨36, _⟩ => ⟨S232x128, .f32⟩
  | _, _ => ⟨S232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192x1 : Shape := ⟨2, ![8192, 1]⟩
abbrev S512x1408 : Shape := ⟨2, ![512, 1408]⟩
abbrev S1408x2048 : Shape := ⟨2, ![1408, 2048]⟩
abbrev S512x2048 : Shape := ⟨2, ![512, 2048]⟩
abbrev S512x1 : Shape := ⟨2, ![512, 1]⟩
abbrev S512 : Shape := ⟨1, ![512]⟩

abbrev nBuf : Space → Nat
  | .hbm => 22
  | .vmem => 17
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | .hbm, ⟨17, _⟩ => ⟨S5632x2048, .bf16⟩
  | .hbm, ⟨18, _⟩ => ⟨S8192x2048, .f32⟩
  | .hbm, ⟨19, _⟩ => ⟨S8192x2048, .bf16⟩
  | .hbm, ⟨20, _⟩ => ⟨S8192x2048, .f32⟩
  | .hbm, ⟨21, _⟩ => ⟨S8192x1, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x1, .f32⟩
  | .local _ .vmem, ⟨15, _⟩ => ⟨S512x1, .f32⟩
  | .local _ .vmem, ⟨16, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference28Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Kernel29.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 34
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S1x2048, .f32⟩
  | .hbm, ⟨33, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference29Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.AttnRun.lean ====
/- The run of the attention gradient's kernel over its grid, at any float interpretation.
   The kernel walks the 64 query blocks from the last to the first. At each grid point it stores one block of
   dq, dk and dv whole, adds to the sink gradients `ds`, and leaves the part of dk and dv that belongs to the
   block before in two scratch buffers. The generated modules give, per case (first point or later), the pieces
   the body stores (`Gen.kernelRun0_A`, `Gen.kernelRun0_B`); here they are put together along the grid:
   `left m c n` is what the six carried buffers hold after point `n`. -/
module

public import proofs.«01_k».proof.Proof.Gen.KernelIdeal.Frame.RunB
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves -/

/-- The body's run at the first point, on that point's staging buffers and input blocks. -/
abbrev runA (c : Dev nD) (t : Fin cfg0.N) (h : t.val % 64 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    ((hcond0_0 t).mpr h) (iblk m c 0 t) (iblk m c 1 t) (iblk m c 2 t) (X0_3 m c t) (X0_4 m c t) (iblk m c 5 t) (iblk m c 6 t)

/-- The body's run at a later point, over the sink gradients and the two carried buffers as the point before left them. -/
abbrev runB (c : Dev nD) (t : Fin cfg0.N) (h : ¬t.val % 64 = 0) (ds : Vec F S1x128 .f32) (kc vc : Vec F S128x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (fun hc => h ((hcond0_0 t).mp hc)) (iblk m c 0 t) (iblk m c 1 t) (iblk m c 2 t) (X0_3 m c t) (X0_4 m c t) (iblk m c 5 t) (iblk m c 6 t) ds kc vc

theorem coverA_dq (c : Dev nD) (t : Fin cfg0.N) (h : t.val % 64 = 0) (y : S2048x128.Idx) :
    ∃ pc ∈ (runA m c t h).1, y ∈ pc.1.set :=
  View.cover_of_tiledL (runA m c t h).1 S64x128.size (by sl_kernel_rfl) y

theorem coverA_dk (c : Dev nD) (t : Fin cfg0.N) (h : t.val % 64 = 0) (y : S128x256.Idx) :
    ∃ pc ∈ (runA m c t h).2.1, y ∈ pc.1.set :=
  View.cover_of_tiledL (runA m c t h).2.1 S128x64.size (by sl_kernel_rfl) y

theorem coverA_dv (c : Dev nD) (t : Fin cfg0.N) (h : t.val % 64 = 0) (y : S128x256.Idx) :
    ∃ pc ∈ (runA m c t h).2.2.1, y ∈ pc.1.set :=
  View.cover_of_tiledL (runA m c t h).2.2.1 S128x64.size (by sl_kernel_rfl) y

/-- The pieces stored into `ds` at a point of case A cover it. -/
theorem coverA_ds (c : Dev nD) (t : Fin cfg0.N) (h : t.val % 64 = 0) (y : S1x128.Idx) :
    ∃ pc ∈ (runA m c t h).2.2.2.1, y ∈ pc.1.set :=
  View.cover_of_tiledL (runA m c t h).2.2.2.1 S1x128.size (by sl_kernel_rfl) y

theorem coverA_kc (c : Dev nD) (t : Fin cfg0.N) (h : t.val % 64 = 0) (y : S128x256.Idx) :
    ∃ pc ∈ (runA m c t h).2.2.2.2.1, y ∈ pc.1.set :=
  View.cover_of_tiledL (runA m c t h).2.2.2.2.1 S128x64.size (by sl_kernel_rfl) y

theorem coverA_vc (c : Dev nD) (t : Fin cfg0.N) (h : t.val % 64 = 0) (y : S128x256.Idx) :
    ∃ pc ∈ (runA m c t h).2.2.2.2.2.1, y ∈ pc.1.set :=
  View.cover_of_tiledL (runA m c t h).2.2.2.2.2.1 S128x64.size (by sl_kernel_rfl) y

theorem coverB_dq (c : Dev nD) (t : Fin cfg0.N) (h : ¬t.val % 64 = 0) (ds : Vec F S1x128 .f32) (kc vc : Vec F S128x256 .f32) (y : S2048x128.Idx) :
    ∃ pc ∈ (runB m c t h ds kc vc).1, y ∈ pc.1.set :=
  View.cover_of_tiledL (runB m c t h ds kc vc).1 S64x128.size (by sl_kernel_rfl) y

theorem coverB_dk (c : Dev nD) (t : Fin cfg0.N) (h : ¬t.val % 64 = 0) (ds : Vec F S1x128 .f32) (kc vc : Vec F S128x256 .f32) (y : S128x256.Idx) :
    ∃ pc ∈ (runB m c t h ds kc vc).2.1, y ∈ pc.1.set :=
  View.cover_of_tiledL (runB m c t h ds kc vc).2.1 S128x64.size (by sl_kernel_rfl) y

theorem coverB_dv (c : Dev nD) (t : Fin cfg0.N) (h : ¬t.val % 64 = 0) (ds : Vec F S1x128 .f32) (kc vc : Vec F S128x256 .f32) (y : S128x256.Idx) :
    ∃ pc ∈ (runB m c t h ds kc vc).2.2.1, y ∈ pc.1.set :=
  View.cover_of_tiledL (runB m c t h ds kc vc).2.2.1 S128x64.size (by sl_kernel_rfl) y

/-- The pieces stored into `ds` at a point of case B cover it. -/
theorem coverB_ds (c : Dev nD) (t : Fin cfg0.N) (h : ¬t.val % 64 = 0) (ds : Vec F S1x128 .f32) (kc vc : Vec F S128x256 .f32) (y : S1x128.Idx) :
    ∃ pc ∈ (runB m c t h ds kc vc).2.2.2.1, y ∈ pc.1.set :=
  View.cover_of_tiledL (runB m c t h ds kc vc).2.2.2.1 S1x128.size (by sl_kernel_rfl) y

theorem coverB_kc (c : Dev nD) (t : Fin cfg0.N) (h : ¬t.val % 64 = 0) (ds : Vec F S1x128 .f32) (kc vc : Vec F S128x256 .f32) (y : S128x256.Idx) :
    ∃ pc ∈ (runB m c t h ds kc vc).2.2.2.2.1, y ∈ pc.1.set :=
  View.cover_of_tiledL (runB m c t h ds kc vc).2.2.2.2.1 S128x64.size (by sl_kernel_rfl) y

theorem coverB_vc (c : Dev nD) (t : Fin cfg0.N) (h : ¬t.val % 64 = 0) (ds : Vec F S1x128 .f32) (kc vc : Vec F S128x256 .f32) (y : S128x256.Idx) :
    ∃ pc ∈ (runB m c t h ds kc vc).2.2.2.2.2.1, y ∈ pc.1.set :=
  View.cover_of_tiledL (runB m c t h ds kc vc).2.2.2.2.2.1 S128x64.size (by sl_kernel_rfl) y

/-- The contents of the four results' staging buffers and of the two carried buffers after a point. -/
structure Left (F : FTy → Type) where
  dq : Vec F S2048x128 .f32
  dk : Vec F S128x256 .f32
  dv : Vec F S128x256 .bf16
  ds : Vec F S1x128 .f32
  kc : Vec F S128x256 .f32
  vc : Vec F S128x256 .f32

/-- What a point of case A leaves. -/
def leftA (c : Dev nD) (t : Fin cfg0.N) (h : t.val % 64 = 0) : Left F where
  dq := VO0_7.read (Elt F) (VO0_7.writes (Elt F) VO0_7.junk (runA m c t h).1)
  dk := VO0_8.read (Elt F) (VO0_8.writes (Elt F) VO0_8.junk (runA m c t h).2.1)
  dv := VO0_9.read (Elt F) (VO0_9.writes (Elt F) VO0_9.junk (runA m c t h).2.2.1)
  ds := VO0_10.read (Elt F) (VO0_10.writes (Elt F) VO0_10.junk (runA m c t h).2.2.2.1)
  kc := VS0_0.read (Elt F) (VS0_0.writes (Elt F) VS0_0.junk (runA m c t h).2.2.2.2.1)
  vc := VS0_1.read (Elt F) (VS0_1.writes (Elt F) VS0_1.junk (runA m c t h).2.2.2.2.2.1)

/-- What a point of case B leaves. -/
def leftB (c : Dev nD) (t : Fin cfg0.N) (h : ¬t.val % 64 = 0) (ds : Vec F S1x128 .f32) (kc vc : Vec F S128x256 .f32) : Left F where
  dq := VO0_7.read (Elt F) (VO0_7.writes (Elt F) VO0_7.junk (runB m c t h ds kc vc).1)
  dk := VO0_8.read (Elt F) (VO0_8.writes (Elt F) VO0_8.junk (runB m c t h ds kc vc).2.1)
  dv := VO0_9.read (Elt F) (VO0_9.writes (Elt F) VO0_9.junk (runB m c t h ds kc vc).2.2.1)
  ds := VO0_10.read (Elt F) (VO0_10.writes (Elt F) VO0_10.junk (runB m c t h ds kc vc).2.2.2.1)
  kc := VS0_0.read (Elt F) (VS0_0.writes (Elt F) VS0_0.junk (runB m c t h ds kc vc).2.2.2.2.1)
  vc := VS0_1.read (Elt F) (VS0_1.writes (Elt F) VS0_1.junk (runB m c t h ds kc vc).2.2.2.2.2.1)

/-- What is left after point `n`: the first point starts, every later one continues from the point before. -/
def left (c : Dev nD) : (n : ℕ) → n < cfg0.N → Left F
  | 0, hn => leftA m c ⟨0, hn⟩ (Nat.zero_mod _)
  | n + 1, hn =>
    if h : (n + 1) % 64 = 0 then leftA m c ⟨n + 1, hn⟩ h
    else leftB m c ⟨n + 1, hn⟩ h (left c n (Nat.lt_of_succ_lt hn)).ds (left c n (Nat.lt_of_succ_lt hn)).kc
      (left c n (Nat.lt_of_succ_lt hn)).vc

theorem left_A (c : Dev nD) (t : Fin cfg0.N) (h : t.val % 64 = 0) : left m c t.val t.isLt = leftA m c t h := by
  obtain ⟨n, hn⟩ := t
  cases n with
  | zero => rw [left]
  | succ n => rw [left]; exact dif_pos h

/-- The point before `t`. -/
abbrev prev (c : Dev nD) (t : Fin cfg0.N) : Left F := left m c (t.val - 1) (Nat.lt_of_le_of_lt (Nat.sub_le _ _) t.isLt)

theorem left_B (c : Dev nD) (t : Fin cfg0.N) (h : ¬t.val % 64 = 0) :
    left m c t.val t.isLt = leftB m c t h (prev m c t).ds (prev m c t).kc (prev m c t).vc := by
  obtain ⟨n, hn⟩ := t
  cases n with
  | zero => exact absurd (Nat.zero_mod _) h
  | succ n => rw [left]; exact dif_neg h

/-! ## The proof data of the pipeline -/

/-- Before the first point the carried buffers hold anything; afterwards what the point before left. -/
def Carried (c : Dev nD) : (n : ℕ) → n ≤ cfg0.N → sProp 𝕄
  | 0, _ => Pipeline.ΦA spec0 c
  | n + 1, hn => iprop(iprop(owns (c : Thread nD τ) scM0_0 fullShare ((left m c n hn).kc)
      ∗ owns (c : Thread nD τ) scM0_1 fullShare ((left m c n hn).vc)) ∗ (∃ r, prngReg c r))

theorem carried_zero (c : Dev nD) (n : ℕ) (h : n ≤ cfg0.N) (hz : n = 0) : Carried m c n h = Pipeline.ΦA spec0 c := by
  subst hz; rfl

theorem carried_succ (c : Dev nD) (n : ℕ) (hn : n < cfg0.N) :
    Carried m c (n + 1) hn = iprop(iprop(owns (c : Thread nD τ) scM0_0 fullShare ((left m c n hn).kc)
      ∗ owns (c : Thread nD τ) scM0_1 fullShare ((left m c n hn).vc)) ∗ (∃ r, prngReg c r)) := rfl

theorem carried_pos (c : Dev nD) (n : ℕ) (h : n ≤ cfg0.N) (hz : n ≠ 0) :
    Carried m c n h = iprop(iprop(owns (c : Thread nD τ) scM0_0 fullShare ((left m c (n - 1) (by omega)).kc)
      ∗ owns (c : Thread nD τ) scM0_1 fullShare ((left m c (n - 1) (by omega)).vc)) ∗ (∃ r, prngReg c r)) := by
  cases n with
  | zero => exact absurd rfl hz
  | succ n => rfl

/-- The arrays as the region finds them; each input's buffer at its block after a point, each output's at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => (left m c t.val t.isLt).dq
    | ⟨8, _⟩ => (left m c t.val t.isLt).dk
    | ⟨9, _⟩ => (left m c t.val t.isLt).dv
    | ⟨10, _⟩ => (left m c t.val t.isLt).ds
  Φ t := Carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = Carried m c t.val (Nat.le_of_lt t.isLt) := by
  dsimp only [dats]; exact Pipeline.Dat.Φ_castSucc (Carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t.val t.isLt).dq := by dsimp only [dats]
theorem after_8 (c : Dev nD) (t : Fin cfg0.N) : (dats m 0 c).after 8 t = (left m c t.val t.isLt).dk := by dsimp only [dats]
theorem after_9 (c : Dev nD) (t : Fin cfg0.N) : (dats m 0 c).after 9 t = (left m c t.val t.isLt).dv := by dsimp only [dats]
theorem after_10 (c : Dev nD) (t : Fin cfg0.N) : (dats m 0 c).after 10 t = (left m c t.val t.isLt).ds := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later point the sink gradients' buffer holds what the point before left: it is written back only at the end. -/
theorem before_ds (c : Dev nD) (t : Fin cfg0.N) (h : ¬t.val % 64 = 0) (d) :
    (dats m 0 c).before 10 t d = (prev m c t).ds := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body at a point -/

/-- What the body is given at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it gives back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The first point: the carried buffers hold anything, and every buffer ends at `leftA`. -/
theorem body_A (c : Dev nD) (t : Fin cfg0.N) (h : t.val % 64 = 0) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9, after_10]
  rw [show (dats m 0 c).Φ t.succ = Carried m c (t.val + 1) t.isLt from rfl, carried_succ]
  have hN : t.val < 64 := lt_of_lt_of_eq t.isLt (show cfg0.N = 64 from N_0)
  have hz : t.val = 0 := by omega
  rw [carried_castSucc m c t, carried_zero m c _ _ hz, PhiA0_eq, left_A m c t h]
  unfold leftA; dsimp only

  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA m c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%es0, HS0⟩, ⟨%es1, HS1⟩⟩
  isplitl [HS0 HS1 Hg]
  · isplitl [HS0 HS1]
    · isplitl [HS0]
      · unfold owns; iexists _; isplitr; swap; · iexact HS0
        ipureintro; exact View.read_writes_of_cover _ _ _ _ _ (coverA_kc m c t h)
      unfold owns; iexists _; isplitr; swap; · iexact HS1
      ipureintro; exact View.read_writes_of_cover _ _ _ _ _ (coverA_vc m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact View.read_writes_of_cover _ _ _ _ _ (coverA_dq m c t h)
  isplitl [H8]
  · unfold owns; iexists _; isplitr; swap; · iexact H8
    ipureintro; exact View.read_writes_of_cover _ _ _ _ _ (coverA_dk m c t h)
  isplitl [H9]
  · unfold owns; iexists _; isplitr; swap; · iexact H9
    ipureintro; exact View.read_writes_of_cover _ _ _ _ _ (coverA_dv m c t h)
  unfold owns; iexists _; isplitr; swap; · iexact H10
  ipureintro; exact View.read_writes_of_cover _ _ _ _ _ (coverA_ds m c t h)

set_option maxHeartbeats 2000000 in
/-- A later point: the carried buffers and the sink gradients hold what the point before left, and every buffer ends
    at `leftB`. -/
theorem body_B (c : Dev nD) (t : Fin cfg0.N) (h : ¬t.val % 64 = 0) :
    pre m c t ⊢ wp frame (wpE (defs₀ (F := F)) Variants.none c none) Set.univ (bodyAt0 t) (fun _ => post m c t) := by
  unfold pre post bodyAt0
  simp only [before_0, before_1, before_2, before_3, before_4, before_5, before_6, before_ds m c t h]
  rw [show (dats m 0 c).owesAt () t.succ = (dats m 0 c).owesAt () t.castSucc from rfl,
    after_0, after_1, after_2, after_3, after_4, after_5, after_6, after_7, after_8, after_9, after_10]
  rw [show (dats m 0 c).Φ t.succ = Carried m c (t.val + 1) t.isLt from rfl, carried_succ]
  have hz : t.val ≠ 0 := fun e => h (by rw [e])
  rw [carried_castSucc m c t, carried_pos m c _ _ hz, left_B m c t h]
  unfold leftB; dsimp only

  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB m c t h _ _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%es0, HS0⟩, ⟨%es1, HS1⟩⟩
  isplitl [HS0 HS1 Hg]
  · isplitl [HS0 HS1]
    · isplitl [HS0]
      · unfold owns; iexists _; isplitr; swap; · iexact HS0
        ipureintro; exact View.read_writes_of_cover _ _ _ _ _ (coverB_kc m c t h _ _ _)
      unfold owns; iexists _; isplitr; swap; · iexact HS1
      ipureintro; exact View.read_writes_of_cover _ _ _ _ _ (coverB_vc m c t h _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact View.read_writes_of_cover _ _ _ _ _ (coverB_dq m c t h _ _ _)
  isplitl [H8]
  · unfold owns; iexists _; isplitr; swap; · iexact H8
    ipureintro; exact View.read_writes_of_cover _ _ _ _ _ (coverB_dk m c t h _ _ _)
  isplitl [H9]
  · unfold owns; iexists _; isplitr; swap; · iexact H9
    ipureintro; exact View.read_writes_of_cover _ _ _ _ _ (coverB_dv m c t h _ _ _)
  unfold owns; iexists _; isplitr; swap; · iexact H10
  ipureintro; exact View.read_writes_of_cover _ _ _ _ _ (coverB_ds m c t h _ _ _)

/-- The body at any point. -/
theorem body_point (c : Dev nD) (t : Fin cfg0.N) :
    pre m c t ⊢ wp frame (wpE (defs₀ (F := F)) Variants.none c none) Set.univ (bodyAt0 t) (fun _ => post m c t) := by
  by_cases h : t.val % 64 = 0
  · exact body_A m c t h
  · exact body_B m c t h

theorem defs₀_row (t : Fin cfg0.N) :
    defs₀ (F := F) .tc cfg0.body (cfg0.bodyArgs t (cfg0.slots t)) = bodyAt0 t := by
  unfold defs₀; rw [Defs.onTc_tc]

theorem body_at (c : Dev nD) : BodyObligation (dats (F := F) m 0 c) (defs₀ (F := F)) Variants.none () Set.univ := fun t => by
  rw [bigSep_W0, bigSep_W0, defs₀_row]
  exact triple_restated (body_point m c t) rfl .rfl fun _ => .rfl

/-! ## The run -/

theorem enter (c : Dev nD) : Pipeline.ΦA spec0 c ⊢ (dats m 0 c).Φ 0 := by
  rw [show (dats m 0 c).Φ 0 = Carried m c 0 (Nat.zero_le _) from rfl, carried_zero m c 0 _ rfl]
  try exact Idealize.SL.BI.Entails.refl _

theorem leave (c : Dev nD) : (dats m 0 c).Φ (Fin.last cfg0.N) ⊢ Pipeline.ΦA spec0 c := by
  have hN : cfg0.N = 64 := N_0
  rw [show (dats m 0 c).Φ (Fin.last cfg0.N) = Carried m c (Fin.last cfg0.N).val (Nat.le_of_lt_succ (Fin.last cfg0.N).isLt) from rfl,
    carried_pos m c _ _ (by rw [Fin.val_last]; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- Every execution ends with each array at what the proof data computes and every semaphore at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_at m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The frame: the arguments are unchanged and every semaphore ends at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.KernelIdeal.Attn

end
-- ==== Proof.GateMath.lean ====
/-
  The scalar equations behind the SwiGLU gate's gradient, over the extended reals.
-/
module

public import Idealize.ShloMosaic.Lib.Pipeline.ValueKit

@[expose] public section

namespace Cert.Gate

open Idealize.ShloMosaic

/-- The logistic function as the reference spells it. -/
noncomputable def sig (g : EReal) : EReal := Ideal.div 1 (1 + Ideal.exp (-g))

theorem sig_top : sig ⊤ = 1 := Ideal.logistic_top
theorem sig_bot : sig ⊥ = 0 := Ideal.logistic_bot
theorem sig_coe (r : ℝ) : sig (r : EReal) = (((1 + Real.exp (-r))⁻¹ : ℝ) : EReal) := Ideal.logistic_coe r

/-- Half of the hyperbolic tangent of half the argument, plus a half, is the logistic function. -/
theorem half_tanh (g : EReal) :
    ((1 / 2 : ℝ) : EReal) * Ideal.tanh (((1 / 2 : ℝ) : EReal) * g) + ((1 / 2 : ℝ) : EReal) = sig g := by
  induction g with
  | bot =>
    rw [EReal.coe_mul_bot_of_pos (by norm_num), Ideal.tanh_bot, sig_bot,
      show (-1 : EReal) = ((-1 : ℝ) : EReal) from rfl, ← EReal.coe_mul, ← EReal.coe_add]
    norm_num
  | top =>
    rw [EReal.coe_mul_top_of_pos (by norm_num), Ideal.tanh_top, sig_top, mul_one, ← EReal.coe_add]
    norm_num
  | coe r =>
    rw [← EReal.coe_mul, Ideal.tanh_coe, ← EReal.coe_mul, ← EReal.coe_add, sig_coe]
    congr 1
    rw [Real.tanh_eq_sinh_div_cosh, Real.sinh_eq, Real.cosh_eq]
    have e : Real.exp (-r) = Real.exp (-(1 / 2 * r)) * Real.exp (-(1 / 2 * r)) := by
      rw [← Real.exp_add]; congr 1; ring
    have e1 : Real.exp (1 / 2 * r) * Real.exp (-(1 / 2 * r)) = 1 := by
      rw [← Real.exp_add]; simp
    have p := Real.exp_pos (1 / 2 * r)
    have n := Real.exp_pos (-(1 / 2 * r))
    rw [e]
    generalize Real.exp (1 / 2 * r) = a at *
    generalize Real.exp (-(1 / 2 * r)) = b at *
    have h1 : a + b ≠ 0 := by positivity
    have h2 : 1 + b * b ≠ 0 := by positivity
    field_simp
    linear_combination (2 * b) * e1

/-- The gradient through `g · sig g`, factored (left) and term by term (right), at a real cotangent. -/
theorem grad (x : ℝ) (g : EReal) :
    (x : EReal) * (sig g * (1 + g * (1 - sig g))) = x * sig g + g * x * (sig g * (1 - sig g)) := by
  induction g with
  | bot => rw [sig_bot]; simp
  | top =>
    have h : (1 : EReal) - 1 = 0 := by rw [show (1 : EReal) = ((1 : ℝ) : EReal) from rfl, ← EReal.coe_sub]; simp
    rw [sig_top, h]; simp
  | coe r =>
    rw [sig_coe, show (1 : EReal) = ((1 : ℝ) : EReal) from rfl]
    norm_cast
    ring

end Cert.Gate

end
-- ==== Proof.Words.lean ====
/-
  The literals of the programs as real numbers, and what "every element is a real number" says of an element.
-/
module

public import Idealize.ShloMosaic.Lib.Pipeline.ValueKit

@[expose] public section

namespace Cert.Words

open Idealize.ShloMosaic

/-- The f32 word of one half. -/
theorem half : Ideal.ofBits .f32 0x3F000000#32 = ((1 / 2 : ℝ) : EReal) := by
  simp [Ideal.ofBits, Ideal.ieee, -EReal.coe_mul]; norm_num

/-- The f32 word of one eighth. -/
theorem eighth : Ideal.ofBits .f32 0x3E000000#32 = ((1 / 8 : ℝ) : EReal) := by
  simp [Ideal.ofBits, Ideal.ieee, -EReal.coe_mul]; norm_num

/-- The f32 word of plus infinity. -/
theorem inf : Ideal.ofBits .f32 0x7F800000#32 = ⊤ := by
  simp [Ideal.ofBits, Ideal.ieee]

/-- The f32 word of minus infinity. -/
theorem negInf : Ideal.ofBits .f32 0xFF800000#32 = ⊥ := by
  simp [Ideal.ofBits, Ideal.ieee]

/-- An extended real whose absolute value lies strictly below plus infinity is a real number. -/
theorem real_of_abs_lt {x : EReal} (h : Ideal.cmp .olt (max x (-x)) ⊤ = 1#1) : ∃ r : ℝ, x = r := by
  have h' : max x (-x) < ⊤ := by
    by_contra hc
    simp [Ideal.cmp, hc] at h
  induction x with
  | bot => simp at h'
  | top => simp at h'
  | coe r => exact ⟨r, rfl⟩

/-- The same, as the preconditions spell the comparison. -/
theorem real_of_cmp {x : Ideal .f32} (h : FloatOps.cmpf (F := Ideal) .olt (FloatOps.hostAbsf x) (FloatOps.ofBits .f32 0x7F800000#32) = 1#1) :
    ∃ r : ℝ, x = r := by
  refine real_of_abs_lt ?_
  rw [← inf]
  exact h

/-- Every element of an array is a real number. -/
def AllReal {s : Shape} (x : FVec Ideal s .f32) : Prop := ∀ i, ∃ r : ℝ, x i = r

/-- The cast of a finite sum of reals is the sum of the casts. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- A sum of products of real numbers is a real number. -/
theorem sum_mul_real {ι : Type} (s : Finset ι) (f g : ι → EReal) (hf : ∀ i, ∃ r : ℝ, f i = r) (hg : ∀ i, ∃ r : ℝ, g i = r) :
    ∃ r : ℝ, (∑ i ∈ s, f i * g i) = r := by
  choose a ha using hf
  choose b hb using hg
  refine ⟨∑ i ∈ s, a i * b i, ?_⟩
  simp only [ha, hb, ← EReal.coe_mul]
  exact (coe_sum s fun i => a i * b i).symm

end Cert.Words

end
-- ==== Proof.GateValue.lean ====
/-
  What the SwiGLU backward call writes: one block of the gradient of the interleaved gate-and-value array, and the
  whole array from the blocks.
-/
module

public import proofs.«01_k».proof.Defs
public import proofs.«01_k».proof.Proof.GateMath
public import proofs.«01_k».proof.Proof.Words
public import proofs.«01_k».proof.Proof.Gen.Kernel2Ideal.Frame
public import Idealize.ShloMosaic.Lib.Pipeline.ValueKit
public import Idealize.ShloMosaic.Lib.Claim

@[expose] public section

set_option maxRecDepth 16384

noncomputable section

namespace Cert.Kernel2Ideal.Grad

open Cert.Kernel2Ideal Cert.Kernel2Ideal.Gen
open Idealize.ShloMosaic Idealize.ShloMosaic.TcCoe Idealize.SL.Sem
open Idealize.ShloMosaic.Pipeline (Dat)

/-! ## One block -/

/-- The gradient of the gated product, one row of it against one row of the weights. -/
theorem pay1_at (v0 : Vec Ideal S512x2048 .bf16) (v2 : Vec Ideal S1408x2048 .bf16) (r : Fin 512) (n : Fin 1408) :
    k0_pay1 v0 v2 (ix2 r n) = ∑ k : Fin 2048, v0 (ix2 r k) * v2 (ix2 n k) := by
  pointwise [k0_pay1]

/-- The gate's logistic, which the body computes from the hyperbolic tangent of half the argument. -/
theorem pay3_at (v : Vec Ideal S512x1408 .bf16) (i) : k0_pay3 v i = Gate.sig (v i) := by
  pointwise [k0_pay3, k0_pay2]
  rw [Words.half]
  exact Gate.half_tanh (v i)

/-- The gradient with respect to the gate's argument. -/
theorem pay4_at (v0 : Vec Ideal S512x2048 .bf16) (v2 : Vec Ideal S1408x2048 .bf16) (v5 v8 : Vec Ideal S512x1408 .bf16)
    (r : Fin 512) (n : Fin 1408) :
    k0_pay4 v0 v2 v5 v8 (ix2 r n) = (∑ k : Fin 2048, v0 (ix2 r k) * v2 (ix2 n k)) * v8 (ix2 r n)
      * (Gate.sig (v5 (ix2 r n)) * (1 + v5 (ix2 r n) * (1 - Gate.sig (v5 (ix2 r n))))) := by
  rw [← pay1_at, ← pay3_at]
  pointwise [k0_pay4, k0_pay2, Ideal.ofBits_one_f32]

/-- The gradient with respect to the gated value. -/
theorem pay5_at (v0 : Vec Ideal S512x2048 .bf16) (v2 : Vec Ideal S1408x2048 .bf16) (v5 : Vec Ideal S512x1408 .bf16)
    (r : Fin 512) (n : Fin 1408) :
    k0_pay5 v0 v2 v5 (ix2 r n) = (∑ k : Fin 2048, v0 (ix2 r k) * v2 (ix2 n k))
      * (v5 (ix2 r n) * Gate.sig (v5 (ix2 r n))) := by
  rw [← pay1_at, ← pay3_at]
  pointwise [k0_pay5, k0_pay2]

theorem idx : ∀ t : Fin cfg0.N, win0_0.index t = ![t.val % 16, 0] ∧ win0_1.index t = ![t.val / 16, 0]
    ∧ win0_2.index t = ![t.val % 16, t.val / 16] ∧ win0_3.index t = ![t.val % 16, t.val / 16] :=
  (by decide +kernel : ∀ t : Fin grid0.N, _)

/-! ## The whole array -/

/-- The gradient of a gated down projection in the interleaved layout, from the gate's argument `g`, the value `u`, the
    weights `w` and the cotangent `d`: groups of 1408 columns, alternately of the gate's argument and of the value. -/
def grad (g u : FVec Ideal S8192x5632 .f32) (w : FVec Ideal S5632x2048 .f32) (d : FVec Ideal S8192x2048 .f32) :
    FVec Ideal S8192x11264 .bf16 := fun i =>
  let n : Fin 5632 := ⟨(i 1).val / 2816 * 1408 + (i 1).val % 1408, by have : (i 1).val < 11264 := (i 1).isLt; omega⟩
  let s := Gate.sig (g (ix2 (i 0) n))
  let p : EReal := ∑ k : Fin 2048, d (ix2 (i 0) k) * w (ix2 n k)
  if (i 1).val % 2816 < 1408 then p * u (ix2 (i 0) n) * (s * (1 + g (ix2 (i 0) n) * (1 - s)))
  else p * (g (ix2 (i 0) n) * s)

variable (m : (ℓ : Loc nD τ sig) → Buf (Elt Ideal) ℓ)

/-- The gradient the call writes, of the program's arguments. -/
abbrev gradOf (c : Dev nD) : FVec Ideal S8192x11264 .bf16 :=
  grad (m ((c.tc : Thread nD τ).loc main_arg0)) (m ((c.tc : Thread nD τ).loc main_arg1))
    (m ((c.tc : Thread nD τ).loc main_arg2)) (m ((c.tc : Thread nD τ).loc main_arg3))

/-- The interleaved array the call reads: columns alternate in groups of 1408. -/
theorem gu_at (c : Dev nD) (r : Fin 8192) (n : Fin 11264) (k : Fin 5632) (hk : k.val = n.val / 2816 * 1408 + n.val % 1408) :
    (V m c main_v6 : FVec Ideal S8192x11264 .bf16) (ix2 r n) = if n.val / 1408 % 2 < 1
      then (m ((c.tc : Thread nD τ).loc main_arg0) : FVec Ideal S8192x5632 .f32) (ix2 r k)
      else (m ((c.tc : Thread nD τ).loc main_arg1) : FVec Ideal S8192x5632 .f32) (ix2 r k) := by
  have hb : n.val / 2816 * 1408 + n.val % 1408 < 5632 := by omega
  rw [show k = ⟨_, hb⟩ from Fin.ext hk]
  entry_read
  pointwise
  rfl

theorem ct_at (c : Dev nD) (i) : (V m c main_v7 : FVec Ideal S8192x2048 .bf16) i
    = (m ((c.tc : Thread nD τ).loc main_arg3) : FVec Ideal S8192x2048 .f32) i := by
  entry_read
  pointwise

theorem wd_at (c : Dev nD) (i) : (V m c main_v8 : FVec Ideal S5632x2048 .bf16) i
    = (m ((c.tc : Thread nD τ).loc main_arg2) : FVec Ideal S5632x2048 .f32) i := by
  entry_read
  pointwise

/-- A cotangent block holds the cotangent's rows. -/
theorem ctBlk (c : Dev nD) (t : Fin cfg0.N) (r : Fin 512) (k : Fin 2048) (R : Fin 8192) (hR : R.val = t.val % 16 * 512 + r.val) :
    View.ld (iblk m c 0 t) r0_0 (ix2 r k) = (m ((c.tc : Thread nD τ).loc main_arg3) : FVec Ideal S8192x2048 .f32) (ix2 R k) := by
  rw [← ct_at m]
  blk_point [iblk, idx t]

/-- A weight block holds the weights' rows. -/
theorem wdBlk (c : Dev nD) (t : Fin cfg0.N) (n : Fin 1408) (k : Fin 2048) (N : Fin 5632) (hN : N.val = t.val / 16 * 1408 + n.val) :
    View.ld (iblk m c 1 t) r0_1 (ix2 n k) = (m ((c.tc : Thread nD τ).loc main_arg2) : FVec Ideal S5632x2048 .f32) (ix2 N k) := by
  rw [← wd_at m]
  blk_point [iblk, idx t]

/-- A block of the interleaved array holds that array's elements: its first 1408 columns, -/
theorem loBlk (c : Dev nD) (t : Fin cfg0.N) (r : Fin 512) (n : Fin 1408) (R : Fin 8192) (N : Fin 11264)
    (hR : R.val = t.val % 16 * 512 + r.val) (hN : N.val = t.val / 16 * 2816 + n.val) :
    View.ld (iblk m c 2 t) r0_2 (ix2 r n) = (V m c (Pipeline.arrRef spec0 2) : FVec Ideal S8192x11264 .bf16) (ix2 R N) := by
  unfold iblk
  generalize V m c (Pipeline.arrRef spec0 2) = W
  have a0 : (r0_2.idx (ix2 r n) 0).val = r.val := (Rect.idx_unit_val _ _ _ _ _).trans (Nat.zero_add _)
  have a1 : (r0_2.idx (ix2 r n) 1).val = n.val := (Rect.idx_unit_val _ _ _ _ _).trans (Nat.zero_add _)
  have e0 : (((cfg0.win 2).blk t).view.emb (r0_2.idx (ix2 r n)) 0).val = R.val := by blk_simp [idx t] <;> omega
  have e1 : (((cfg0.win 2).blk t).view.emb (r0_2.idx (ix2 r n)) 1).val = N.val := by blk_simp [idx t] <;> omega
  refine congrArg W (funext fun a => Fin.ext ?_)
  match a with
  | ⟨0, _⟩ => exact e0
  | ⟨1, _⟩ => exact e1

/-- and its last 1408 columns. -/
theorem hiBlk (c : Dev nD) (t : Fin cfg0.N) (r : Fin 512) (n : Fin 1408) (R : Fin 8192) (N : Fin 11264)
    (hR : R.val = t.val % 16 * 512 + r.val) (hN : N.val = t.val / 16 * 2816 + 1408 + n.val) :
    View.ld (iblk m c 2 t) r0_3 (ix2 r n) = (V m c (Pipeline.arrRef spec0 2) : FVec Ideal S8192x11264 .bf16) (ix2 R N) := by
  unfold iblk
  generalize V m c (Pipeline.arrRef spec0 2) = W
  have a0 : (r0_3.idx (ix2 r n) 0).val = r.val := (Rect.idx_unit_val _ _ _ _ _).trans (Nat.zero_add _)
  have a1 : (r0_3.idx (ix2 r n) 1).val = 1408 + n.val := Rect.idx_unit_val _ _ _ _ _
  have e0 : (((cfg0.win 2).blk t).view.emb (r0_3.idx (ix2 r n)) 0).val = R.val := by blk_simp [idx t] <;> omega
  have e1 : (((cfg0.win 2).blk t).view.emb (r0_3.idx (ix2 r n)) 1).val = N.val := by blk_simp [idx t] <;> omega
  refine congrArg W (funext fun a => Fin.ext ?_)
  match a with
  | ⟨0, _⟩ => exact e0
  | ⟨1, _⟩ => exact e1

/-- The first 1408 columns of an interleaved block are the gate's arguments. -/
theorem gateBlk (c : Dev nD) (t : Fin cfg0.N) (r : Fin 512) (n : Fin 1408) (R : Fin 8192) (N : Fin 5632)
    (hR : R.val = t.val % 16 * 512 + r.val) (hN : N.val = t.val / 16 * 1408 + n.val) :
    View.ld (iblk m c 2 t) r0_2 (ix2 r n) = (m ((c.tc : Thread nD τ).loc main_arg0) : FVec Ideal S8192x5632 .f32) (ix2 R N) := by
  refine (loBlk m c t r n R ⟨t.val / 16 * 2816 + n.val, by omega⟩ hR rfl).trans ((gu_at m c R _ N (by dsimp only; omega)).trans ?_)
  rw [if_pos (by dsimp only; omega)]

/-- The last 1408 columns of an interleaved block are the values. -/
theorem valueBlk (c : Dev nD) (t : Fin cfg0.N) (r : Fin 512) (n : Fin 1408) (R : Fin 8192) (N : Fin 5632)
    (hR : R.val = t.val % 16 * 512 + r.val) (hN : N.val = t.val / 16 * 1408 + n.val) :
    View.ld (iblk m c 2 t) r0_3 (ix2 r n) = (m ((c.tc : Thread nD τ).loc main_arg1) : FVec Ideal S8192x5632 .f32) (ix2 R N) := by
  refine (hiBlk m c t r n R ⟨t.val / 16 * 2816 + 1408 + n.val, by omega⟩ hR rfl).trans ((gu_at m c R _ N (by dsimp only; omega)).trans ?_)
  rw [if_neg (by dsimp only; omega)]

/-- The gradient at an index given by its row and by which group and column it is. -/
theorem grad_at (g u : FVec Ideal S8192x5632 .f32) (w : FVec Ideal S5632x2048 .f32) (d : FVec Ideal S8192x2048 .f32)
    (j : S8192x11264.Idx) (R : Fin 8192) (N : Fin 5632) (h0 : j 0 = R) (hN : N.val = (j 1).val / 2816 * 1408 + (j 1).val % 1408) :
    grad g u w d j = if (j 1).val % 2816 < 1408
      then (∑ k : Fin 2048, d (ix2 R k) * w (ix2 N k)) * u (ix2 R N)
        * (Gate.sig (g (ix2 R N)) * (1 + g (ix2 R N) * (1 - Gate.sig (g (ix2 R N)))))
      else (∑ k : Fin 2048, d (ix2 R k) * w (ix2 N k)) * (g (ix2 R N) * Gate.sig (g (ix2 R N))) := by
  have hb : (j 1).val / 2816 * 1408 + (j 1).val % 1408 < 5632 := hN ▸ N.isLt
  rw [show N = ⟨_, hb⟩ from Fin.ext hN, ← h0]
  rfl

/-- One element of the block a grid point writes is that element of the gradient. -/
theorem point (c : Dev nD) (t : Fin cfg0.N) (y) :
    out0_3 (iblk m c 0 t) (iblk m c 1 t) (iblk m c 2 t) y = gradOf m c (((cfg0.win 3).blk t).view.emb y) := by
  have ht : t.val < 64 := lt_of_lt_of_eq t.isLt N_0
  unfold out0_3
  canon_tiles x h
  all_goals idx_vars x
  all_goals simp only [pay4_at, pay5_at]
  all_goals
    obtain ⟨R, hR⟩ : ∃ R : Fin 8192, R.val = t.val % 16 * 512 + x0.val := ⟨⟨_, by omega⟩, rfl⟩
    obtain ⟨N, hN⟩ : ∃ N : Fin 5632, N.val = t.val / 16 * 1408 + x1.val := ⟨⟨_, by omega⟩, rfl⟩
    rw [gateBlk m c t x0 x1 R N hR hN]
    try rw [valueBlk m c t x0 x1 R N hR hN]
    simp only [ctBlk m c t x0 _ R hR, wdBlk m c t x1 _ N hN]
    unfold gradOf
    rw [grad_at _ _ _ _ _ R N (Fin.ext (by blk_simp [idx t] <;> try omega)) (by blk_simp [idx t] <;> try omega)]
  · rw [if_neg (by blk_simp [idx t] <;> try omega)]
  · rw [if_pos (by blk_simp [idx t] <;> try omega)]

/-- The whole array the call writes. -/
theorem final (c : Dev nD) : (dats m 0 c).arrAt 3 (cfgs 0).N = gradOf m c := by
  refine (dats m 0 c).arrAt_eq_of_covers 3 _ (by decide +kernel) fun t _ y => ?_
  blk_simp
  rw [after0_3]
  exact point m c t y

end Cert.Kernel2Ideal.Grad
end
-- ==== Proof.GateClaim.lean ====
/-
  The reference's gradient of the gated down projection, element by element, and the equation of the two programs:
  at a real cotangent, real weights and real values the factored gradient of the gate is the sum of its two terms.
-/
module

public import proofs.«01_k».proof.Proof.GateValue
public import proofs.«01_k».proof.Proof.Gen.Pre_finite2
public import proofs.«01_k».proof.Proof.Gen.Reference2Ideal.Run
public import proofs.«01_k».proof.Proof.Gen.Reference2Ideal.Read

@[expose] public section

set_option maxRecDepth 16384

noncomputable section

namespace Cert.Reference2Ideal.Grad

open Cert.Reference2Ideal Cert.Reference2Ideal.Gen Cert.Reference2Ideal.Read
open Idealize.ShloMosaic Idealize.ShloMosaic.TcCoe Idealize.SL.Sem

variable (g u : FVec Ideal S8192x5632 .f32) (w : FVec Ideal S5632x2048 .f32) (d : FVec Ideal S8192x2048 .f32)

/-- The reference's gradient of the product, read at an index. -/
theorem prod_at (r : Fin 8192) (n : Fin 5632) :
    val_main_v5 (F := Ideal) w d (ix2 r n) = ∑ k : Fin 2048, d (ix2 r k) * w (ix2 n k) := by
  rw [val_main_v5_apply]
  refine Finset.sum_congr rfl fun k _ => ?_
  congr 2 <;> (funext a; match a with | ⟨0, _⟩ => rfl | ⟨1, _⟩ => rfl)

/-- The reference's logistic function. -/
theorem sig_at (i : S8192x5632.Idx) : val_main_v0_2 (F := Ideal) g i = Gate.sig (g i) := by
  pointwise [val_main_v0_2, val_main_call0_v4, val_main_call0_cst_0, val_main_call0_v3, val_main_call0_v2, val_main_call0_cst,
    val_main_call0_v1, val_main_call0_v0, Ideal.ofBits_one_f32, Gate.sig]

/-- The reference's gradient with respect to the gate's argument. -/
theorem gate_at (r : Fin 8192) (n : Fin 5632) :
    val_main_v8 (F := Ideal) g u w d (ix2 r n)
      = (val_main_v5 (F := Ideal) w d (ix2 r n) * u (ix2 r n)) * Gate.sig (g (ix2 r n))
        + g (ix2 r n) * (val_main_v5 (F := Ideal) w d (ix2 r n) * u (ix2 r n))
          * (Gate.sig (g (ix2 r n)) * (1 - Gate.sig (g (ix2 r n)))) := by
  rw [← sig_at]
  pointwise [val_main_v8, val_main_call1_v2, val_main_call1_v1, val_main_call1_v0, val_main_v7, val_main_v0_1,
    val_main_call0_v7, val_main_call0_v6, val_main_call0_cst_1, Ideal.ofBits_one_f32]

/-- The reference's gradient with respect to the gated value. -/
theorem value_at (r : Fin 8192) (n : Fin 5632) :
    val_main_v6 (F := Ideal) g w d (ix2 r n)
      = val_main_v5 (F := Ideal) w d (ix2 r n) * (g (ix2 r n) * Gate.sig (g (ix2 r n))) := by
  rw [← sig_at]
  pointwise [val_main_v6, val_main_v0_0]
  rw [mul_comm]

/-- The reference's result: the two gradients, in alternate groups of 1408 columns. -/
theorem result_at (r : Fin 8192) (n : Fin 11264) (k : Fin 5632) (hk : k.val = n.val / 2816 * 1408 + n.val % 1408) :
    val_main_v15 (F := Ideal) g u w d (ix2 r n) = if n.val / 1408 % 2 < 1 then val_main_v8 (F := Ideal) g u w d (ix2 r k)
      else val_main_v6 (F := Ideal) g w d (ix2 r k) := by
  have hb : n.val / 2816 * 1408 + n.val % 1408 < 5632 := by omega
  rw [show k = ⟨_, hb⟩ from Fin.ext hk]
  unfold val_main_v15 val_main_v14 val_main_v13 val_main_v12 val_main_v11 val_main_v10 val_main_v9
  generalize val_main_v8 (F := Ideal) g u w d = a
  generalize val_main_v6 (F := Ideal) g w d = b
  pointwise
  rfl

open Cert.Kernel2Ideal.Grad in
/-- Under real values, weights and cotangent the reference's result is the gradient the kernel writes. -/
theorem result_eq (hu : ∀ i, ∃ r : ℝ, u i = r) (hw : ∀ i, ∃ r : ℝ, w i = r) (hd : ∀ i, ∃ r : ℝ, d i = r) :
    val_main_v15 (F := Ideal) g u w d = grad g u w d := by
  funext j
  obtain ⟨r, n, rfl⟩ : ∃ r n, j = ix2 r n := ⟨j 0, j 1, by idx_vars j⟩
  obtain ⟨N, hN⟩ : ∃ N : Fin 5632, N.val = n.val / 2816 * 1408 + n.val % 1408 := ⟨⟨_, by omega⟩, rfl⟩
  rw [result_at g u w d r n N hN, grad_at g u w d (ix2 r n) r N rfl hN, gate_at, value_at, prod_at]
  obtain ⟨p, hp⟩ := Words.sum_mul_real Finset.univ (fun k : Fin 2048 => d (ix2 r k)) (fun k => w (ix2 N k))
    (fun k => hd _) (fun k => hw _)
  obtain ⟨v, hv⟩ := hu (ix2 r N)
  rw [hp, hv, ← EReal.coe_mul, ← Gate.grad]
  show (if n.val / 1408 % 2 < 1 then _ else _) = if n.val % 2816 < 1408 then _ else _
  by_cases h : n.val / 1408 % 2 < 1
  · rw [if_pos h, if_pos (by omega)]
  · rw [if_neg h, if_neg (by omega)]

end Cert.Reference2Ideal.Grad

namespace Cert.Proof

open Idealize.ShloMosaic Idealize.SL.Sem

/-- The precondition: values, weights and cotangent are real numbers. -/
theorem finite2 (m) (h : Cert.Pre_Kernel2Ideal_finite2 (hPre_finite2 := Cert.Pre_finite2.Gen.facts) m) (c : Dev Cert.Kernel2Ideal.nD) :
    Words.AllReal (s := Cert.Kernel2Ideal.S8192x5632) (m ((c.tc : Thread Cert.Kernel2Ideal.nD Cert.Kernel2Ideal.τ).loc Cert.Kernel2Ideal.main_arg1))
    ∧ Words.AllReal (s := Cert.Kernel2Ideal.S5632x2048) (m ((c.tc : Thread Cert.Kernel2Ideal.nD Cert.Kernel2Ideal.τ).loc Cert.Kernel2Ideal.main_arg2))
    ∧ Words.AllReal (s := Cert.Kernel2Ideal.S8192x2048) (m ((c.tc : Thread Cert.Kernel2Ideal.nD Cert.Kernel2Ideal.τ).loc Cert.Kernel2Ideal.main_arg3)) := by
  obtain ⟨h1, h2, h3⟩ := h c
  refine ⟨fun i => ?_, fun i => ?_, fun i => ?_⟩
  · exact Words.real_of_cmp (congrFun h1 i)
  · exact Words.real_of_cmp (congrFun h2 i)
  · exact Words.real_of_cmp (congrFun h3 i)

/-- The SwiGLU backward call and the reference compute the same gradient. -/
theorem gate_equal : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from Cert.Kernel2Ideal.Gen.run_main m g
  · run_from Cert.Reference2Ideal.Value.run m' g'
    obtain ⟨hu, hw, hd⟩ := finite2 m hpre c
    rw [Cert.Kernel2Ideal.Grad.final m c]
    refine Eq.trans ?_ (Cert.Reference2Ideal.Grad.result_eq _ _ _ _ hu hw hd)
    rw [← (hagree c).2.2.2]
    exact Cert.Reference2Ideal.Read.val_main_v15_eq _ _ _ _

end Cert.Proof
end
-- ==== Proof.AttnMath.lean ====
/-
  The softmax with a sink of one query, and its gradient, over the reals.
-/
module

public import Idealize.ShloMosaic.Lib.Pipeline.ValueKit
public import proofs.«01_k».proof.Proof.Words

@[expose] public section

noncomputable section

namespace Cert.Row

open Idealize.ShloMosaic

/-! A row has 256 keys. `M` says which of them the query sees, `x` are its scores, `σ` the score of the sink, `e` the
    gradient with respect to the probabilities. -/

variable (M : Fin 256 → Bool) (x : Fin 256 → ℝ) (σ : ℝ) (e : Fin 256 → ℝ)

/-- A masked score. -/
def score (κ : Fin 256) : EReal := if M κ then (x κ : EReal) else ⊥

/-- The largest of the sink's score and the scores of the keys in sight. -/
def top : ℝ := (max (Finset.univ.fold max ⊥ (score M x)) (σ : EReal)).toReal

theorem fold_ne_top (s : Finset (Fin 256)) : s.fold max ⊥ (score M x) ≠ ⊤ := by
  induction s using Finset.induction_on with
  | empty => simp
  | insert a s ha ih =>
    rw [Finset.fold_insert ha]
    have h1 : score M x a ≠ ⊤ := by unfold score; split <;> simp
    rcases max_choice (score M x a) (s.fold max ⊥ (score M x)) with h | h <;> rw [h] <;> assumption

theorem top_eq : max (Finset.univ.fold max ⊥ (score M x)) (σ : EReal) = (top M x σ : EReal) := by
  unfold top
  rw [EReal.coe_toReal]
  · rcases max_choice (Finset.univ.fold max ⊥ (score M x)) (σ : EReal) with h | h <;> rw [h]
    · exact fold_ne_top M x _
    · exact EReal.coe_ne_top _
  · intro h
    have := le_max_right (Finset.univ.fold max ⊥ (score M x)) (σ : EReal)
    rw [h, le_bot_iff] at this
    exact EReal.coe_ne_bot _ this

/-- The weight of a key. -/
def wt (κ : Fin 256) : ℝ := if M κ then Real.exp (x κ - top M x σ) else 0

/-- The weight of the sink. -/
def snk : ℝ := Real.exp (σ - top M x σ)

/-- The sum of the weights. -/
def den : ℝ := (∑ κ, wt M x σ κ) + snk M x σ

theorem wt_nonneg (κ : Fin 256) : 0 ≤ wt M x σ κ := by
  unfold wt; split
  · exact (Real.exp_pos _).le
  · exact le_refl _

theorem snk_pos : 0 < snk M x σ := Real.exp_pos _

theorem den_pos : 0 < den M x σ := add_pos_of_nonneg_of_pos (Finset.sum_nonneg fun κ _ => wt_nonneg M x σ κ) (snk_pos M x σ)

theorem den_ne : den M x σ ≠ 0 := (den_pos M x σ).ne'

/-- The probability of a key. -/
def prob (κ : Fin 256) : ℝ := wt M x σ κ * (1 / den M x σ)

/-- The probability of the sink. -/
def probS : ℝ := snk M x σ * (1 / den M x σ)

/-- The mean of the gradient over the probabilities. -/
def mean : ℝ := ∑ κ, e κ * prob M x σ κ

/-- The gradient with respect to the product of query and key. -/
def grad (κ : Fin 256) : ℝ := prob M x σ κ * (e κ - mean M x σ e) * (1 / 8)

/-- The gradient with respect to the sink's score. -/
def gradS : ℝ := (0 - probS M x σ) * mean M x σ e

theorem prob_of_not {κ : Fin 256} (h : M κ = false) : prob M x σ κ = 0 := by
  simp [prob, wt, h]

theorem grad_of_not {κ : Fin 256} (h : M κ = false) : grad M x σ e κ = 0 := by
  simp [grad, prob_of_not M x σ h]

/-! ## The same over the extended reals, as the programs compute it -/

theorem exp_score (κ : Fin 256) : Ideal.exp (score M x κ - (top M x σ : EReal)) = (wt M x σ κ : EReal) := by
  unfold score wt
  split
  · rw [← EReal.coe_sub, Ideal.exp_coe]
  · rw [EReal.bot_sub]; rfl

theorem exp_snk : Ideal.exp ((σ : EReal) - (top M x σ : EReal)) = (snk M x σ : EReal) := by
  rw [← EReal.coe_sub, Ideal.exp_coe]; rfl

theorem sum_wt : (∑ κ, (wt M x σ κ : EReal)) + (snk M x σ : EReal) = (den M x σ : EReal) := by
  rw [den, EReal.coe_add, Words.coe_sum]

theorem div_den (a : EReal) : Ideal.div a (den M x σ : EReal) = a * ((1 / den M x σ : ℝ) : EReal) :=
  Ideal.div_coe (den_ne M x σ) a

/-! ## The rows of a head: 1024 columns of queries against 256 keys -/

/-- The score of a column against a key. -/
def sc (K : Fin 256 → Fin 64 → ℝ) (Q : Fin 64 → Fin 1024 → ℝ) (x : Fin 1024) (κ : Fin 256) : ℝ := (∑ d, K κ d * Q d x) * (1 / 8)

/-- The gradient of a column with respect to a key's probability. -/
def gp (V : Fin 256 → Fin 64 → ℝ) (O : Fin 64 → Fin 1024 → ℝ) (x : Fin 1024) (κ : Fin 256) : ℝ := ∑ d, V κ d * O d x

end Cert.Row

namespace Cert.Band

/-- Whether query row `r` of block `n` sees key `κ` of the two blocks `n - 1` and `n`. -/
def sees (n : ℕ) (r : Fin 128) (κ : Fin 256) : Bool :=
  (decide (r.val < κ.val) && decide (κ.val ≤ r.val + 128)) && (decide (0 < n) || decide (128 ≤ κ.val))

end Cert.Band

end

end
-- ==== Proof.AttnData.lean ====
/-
  The gradient of sliding-window attention with sinks, written out over real data: 8192 tokens in 64 blocks of 128,
  32 heads of queries in 4 groups of 8, each group sharing one head of keys and values of width 64.
-/
module

public import proofs.«01_k».proof.Proof.AttnMath

@[expose] public section

noncomputable section

namespace Cert.Attn

/-- The inputs: queries, keys, values, the sinks' scores, and the cotangent of the result. -/
structure Data where
  q : Fin 8192 → Fin 32 → Fin 64 → ℝ
  k : Fin 8192 → Fin 4 → Fin 64 → ℝ
  v : Fin 8192 → Fin 4 → Fin 64 → ℝ
  s : Fin 32 → ℝ
  o : Fin 8192 → Fin 32 → Fin 64 → ℝ

/-- Token `r` of block `n`. -/
def tok (n : Fin 64) (r : Fin 128) : Fin 8192 := ⟨128 * n.val + r.val, by omega⟩

/-- Head `g` of group `j`. -/
def head (j : Fin 4) (g : Fin 8) : Fin 32 := ⟨8 * j.val + g.val, by omega⟩

/-- The head's number within its group, of a column of a group's 1024 columns. -/
def colHead (x : Fin 1024) : Fin 8 := ⟨x.val / 128, by omega⟩

/-- The row within the block, of a column. -/
def colRow (x : Fin 1024) : Fin 128 := ⟨x.val % 128, by omega⟩

/-- The block before block `n` (the first block for the first). -/
def before (n : Fin 64) : Fin 64 := ⟨n.val - 1, by omega⟩

/-- The rows of block `n` below the rows of the block before it. -/
def window (u : Fin 8192 → Fin 4 → Fin 64 → ℝ) (n : Fin 64) (j : Fin 4) (κ : Fin 256) (d : Fin 64) : ℝ :=
  if h : κ.val < 128 then u (tok (before n) ⟨κ.val, h⟩) j d else u (tok n ⟨κ.val - 128, by omega⟩) j d

namespace Data

variable (D : Data) (n : Fin 64) (j : Fin 4)

/-- The keys a block's queries are held against. -/
abbrev K (κ : Fin 256) (d : Fin 64) : ℝ := window D.k n j κ d

/-- The values of those keys. -/
abbrev V (κ : Fin 256) (d : Fin 64) : ℝ := window D.v n j κ d

/-- A group's queries. -/
abbrev Q (d : Fin 64) (x : Fin 1024) : ℝ := D.q (tok n (colRow x)) (head j (colHead x)) d

/-- A group's cotangents. -/
abbrev O (d : Fin 64) (x : Fin 1024) : ℝ := D.o (tok n (colRow x)) (head j (colHead x)) d

/-- The sinks' scores. -/
abbrev σ (x : Fin 1024) : ℝ := D.s (head j (colHead x))

/-- What a query sees. -/
abbrev M (x : Fin 1024) : Fin 256 → Bool := Band.sees n.val (colRow x)

/-- The probabilities. -/
def P (x : Fin 1024) (κ : Fin 256) : ℝ := Row.prob (M n x) (Row.sc (D.K n j) (D.Q n j) x) (D.σ j x) κ

/-- The gradient with respect to the products of query and key. -/
def G (x : Fin 1024) (κ : Fin 256) : ℝ :=
  Row.grad (M n x) (Row.sc (D.K n j) (D.Q n j) x) (D.σ j x) (Row.gp (D.V n j) (D.O n j) x) κ

/-- The gradient with respect to the sinks' scores, a column's part. -/
def S (x : Fin 1024) : ℝ :=
  Row.gradS (M n x) (Row.sc (D.K n j) (D.Q n j) x) (D.σ j x) (Row.gp (D.V n j) (D.O n j) x)

/-- The gradient with respect to the queries. -/
def dq (d : Fin 64) (x : Fin 1024) : ℝ := ∑ κ, D.K n j κ d * D.G n j x κ

/-- A block's part of the gradient with respect to the keys it is held against. -/
def dkw (κ : Fin 256) (d : Fin 64) : ℝ := ∑ x, D.G n j x κ * D.Q n j d x

/-- The same for the values. -/
def dvw (κ : Fin 256) (d : Fin 64) : ℝ := ∑ x, D.P n j x κ * D.O n j d x

end Data

/-- The half of the window that is the block itself. -/
def lower (i : Fin 128) : Fin 256 := ⟨128 + i.val, by omega⟩

/-- The half of the window that is the block before. -/
def upper (i : Fin 128) : Fin 256 := ⟨i.val, by omega⟩

/-- A block's own half of its window's gradient plus the other half of the next block's. -/
def both (w : Fin 64 → Fin 256 → ℝ) (n : Fin 64) (i : Fin 128) : ℝ :=
  w n (lower i) + if h : n.val + 1 < 64 then w ⟨n.val + 1, h⟩ (upper i) else 0

namespace Data

variable (D : Data)

/-- The gradient with respect to the keys. -/
def dk (n : Fin 64) (i : Fin 128) (j : Fin 4) (d : Fin 64) : ℝ := both (fun n κ => D.dkw n j κ d) n i

/-- The gradient with respect to the values. -/
def dv (n : Fin 64) (i : Fin 128) (j : Fin 4) (d : Fin 64) : ℝ := both (fun n κ => D.dvw n j κ d) n i

/-- A block's part of the gradient with respect to a sink's score. -/
def dsb (n : Fin 64) (j : Fin 4) (g : Fin 8) : ℝ := ∑ r : Fin 128, D.S n j ⟨128 * g.val + r.val, by omega⟩

/-- The gradient with respect to the sinks' scores. -/
def ds (j : Fin 4) (g : Fin 8) : ℝ := ∑ n : Fin 64, D.dsb n j g

end Data

end Cert.Attn

end

end
-- ==== Proof.AttnHolds.lean ====
/-
  The arguments of the attention gradient, as real data.
-/
module

public import proofs.«01_k».proof.Proof.AttnData
public import Idealize.ShloMosaic.Lib.Pipeline.ValueKit

@[expose] public section

noncomputable section

namespace Cert.Attn

open Idealize.ShloMosaic

/-- The arrays hold the data: queries and keys by token, head and coordinate; the values in columns 16640 to 16895 of
    the projections; the sinks' scores; and the cotangent with head and coordinate in one axis. -/
structure Holds (D : Data) (q : FVec Ideal ⟨3, ![8192, 32, 64]⟩ .f32) (k : FVec Ideal ⟨3, ![8192, 4, 64]⟩ .f32)
    (p : FVec Ideal ⟨2, ![8192, 17024]⟩ .f32) (s : FVec Ideal ⟨1, ![32]⟩ .f32) (o : FVec Ideal ⟨2, ![8192, 2048]⟩ .f32) : Prop where
  q : ∀ t h d, q (ix3 t h d) = (D.q t h d : EReal)
  k : ∀ t j d, k (ix3 t j d) = (D.k t j d : EReal)
  v : ∀ (t : Fin 8192) (y : Fin 17024) (j : Fin 4) (d : Fin 64), y.val = 16640 + 64 * j.val + d.val → p (ix2 t y) = (D.v t j d : EReal)
  s : ∀ h, s (ix1 h) = (D.s h : EReal)
  o : ∀ (t : Fin 8192) (y : Fin 2048) (h : Fin 32) (d : Fin 64), y.val = 64 * h.val + d.val → o (ix2 t y) = (D.o t h d : EReal)

/-- The gradient with respect to the queries, transposed: head and coordinate, then token. -/
def resQ (D : Data) : FVec Ideal ⟨2, ![2048, 8192]⟩ .f32 := fun i =>
  have h0 : (i 0).val < 2048 := (i 0).isLt
  have h1 : (i 1).val < 8192 := (i 1).isLt
  (D.dq ⟨(i 1).val / 128, by omega⟩ ⟨(i 0).val / 512, by omega⟩ ⟨(i 0).val % 64, by omega⟩
    ⟨128 * ((i 0).val / 64 % 8) + (i 1).val % 128, by omega⟩ : EReal)

/-- The gradient with respect to the keys: token, then head and coordinate. -/
def resK (D : Data) : FVec Ideal ⟨2, ![8192, 256]⟩ .f32 := fun i =>
  have h0 : (i 0).val < 8192 := (i 0).isLt
  have h1 : (i 1).val < 256 := (i 1).isLt
  (D.dk ⟨(i 0).val / 128, by omega⟩ ⟨(i 0).val % 128, by omega⟩ ⟨(i 1).val / 64, by omega⟩ ⟨(i 1).val % 64, by omega⟩ : EReal)

/-- The gradient with respect to the values, in its columns of the gradient of the projections. -/
def resV (D : Data) (W : FVec Ideal ⟨2, ![8192, 17024]⟩ .bf16) : FVec Ideal ⟨2, ![8192, 17024]⟩ .bf16 := fun i =>
  have h0 : (i 0).val < 8192 := (i 0).isLt
  if h : 16640 ≤ (i 1).val ∧ (i 1).val < 16896 then
    (D.dv ⟨(i 0).val / 128, by omega⟩ ⟨(i 0).val % 128, by omega⟩ ⟨((i 1).val - 16640) / 64, by omega⟩
      ⟨((i 1).val - 16640) % 64, by omega⟩ : EReal)
  else W i

theorem dv_congr (D : Data) {n n' : Fin 64} {r r' : Fin 128} {j j' : Fin 4} {d d' : Fin 64} (hn : n.val = n'.val)
    (hr : r.val = r'.val) (hj : j.val = j'.val) (hd : d.val = d'.val) : (D.dv n r j d : EReal) = (D.dv n' r' j' d' : EReal) := by
  obtain rfl := Fin.ext hn
  obtain rfl := Fin.ext hr
  obtain rfl := Fin.ext hj
  obtain rfl := Fin.ext hd
  rfl

/-- In the values' columns, by head and coordinate. -/
theorem resV_at (D : Data) (W : FVec Ideal ⟨2, ![8192, 17024]⟩ .bf16) (i : (⟨2, ![8192, 17024]⟩ : Shape).Idx) (n : Fin 64) (r : Fin 128)
    (j : Fin 4) (d : Fin 64) (h0 : (i 0).val = n.val * 128 + r.val) (h1 : (i 1).val = 16640 + (64 * j.val + d.val)) :
    resV D W i = (D.dv n r j d : EReal) := by
  unfold resV
  refine (dif_pos ⟨by omega, by omega⟩).trans ?_
  exact dv_congr D (by dsimp only; omega) (by dsimp only; omega) (by dsimp only; omega) (by dsimp only; omega)

/-- The gradient with respect to the sinks' scores, in the first 32 lanes. -/
def resS (D : Data) : FVec Ideal ⟨2, ![1, 128]⟩ .f32 := fun i =>
  if h : (i 1).val < 32 then (D.ds ⟨(i 1).val / 8, by omega⟩ ⟨(i 1).val % 8, by omega⟩ : EReal) else 0

/-- One lane of the sums over heads is one head. -/
theorem lane_sum (y : Fin 128) (f : Fin 4 → Fin 8 → EReal) :
    (∑ j : Fin 4, ∑ g : Fin 8, if y.val = 8 * j.val + g.val then f j g else 0)
      = if h : y.val < 32 then f ⟨y.val / 8, by omega⟩ ⟨y.val % 8, by omega⟩ else 0 := by
  by_cases h : y.val < 32
  · rw [dif_pos h, Finset.sum_eq_single ⟨y.val / 8, by omega⟩, Finset.sum_eq_single ⟨y.val % 8, by omega⟩]
    · rw [if_pos (by dsimp only; omega)]
    · intro g _ hg
      exact if_neg fun e => hg (Fin.ext (by dsimp only at e ⊢; omega))
    · exact fun e => absurd (Finset.mem_univ _) e
    · intro j _ hj
      exact Finset.sum_eq_zero fun g _ => if_neg fun e => hj (Fin.ext (by dsimp only at e ⊢; omega))
    · exact fun e => absurd (Finset.mem_univ _) e
  · rw [dif_neg h]
    exact Finset.sum_eq_zero fun j _ => Finset.sum_eq_zero fun g _ => if_neg (by omega)

end Cert.Attn

end

end
-- ==== Proof.AttnMask.lean ====
/-
  The mask the attention's backward body computes, at an element.
-/
module

public import proofs.«01_k».proof.Defs
public import proofs.«01_k».proof.Proof.AttnMath
public import proofs.«01_k».proof.Proof.Gen.KernelIdeal.Skeleton
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem

/-- A column's query row: the column modulo 128, as the program computes a remainder. -/
theorem rem_eq : ∀ x : Fin 1024, Scalar.select
            (IntOp.andi
              (IntOp.xori
                (IntOp.cmpi CmpIPredicate.slt
                  (IntOp.remsi ArithUnit.vector (BitVec.ofNat 32 ↑x)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑x)
                  (Scalar.select (Scalar.cmpi CmpIPredicate.eq 128#32 0#32) 1#32 128#32))
                0#32))
            (IntOp.addi
              (IntOp.remsi ArithUnit.vector (BitVec.ofNat 32 ↑x)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑x)
              (Scalar.select (Scalar.cmpi CmpIPredicate.eq 128#32 0#32) 1#32 128#32)) = BitVec.ofNat 32 (x.val % 128) := by
  decide +kernel

/-- A key beyond the query row. -/
theorem gt_eq : ∀ (κ : Fin 256) (r : Fin 128), IntOp.cmpi CmpIPredicate.sgt (BitVec.ofNat 32 ↑κ) (BitVec.ofNat 32 ↑r) = BitVec.ofBool (decide (r.val < κ.val)) := by
  decide +kernel

/-- A key at most 128 rows beyond the query row. -/
theorem le_eq : ∀ (κ : Fin 256) (r : Fin 128), IntOp.cmpi CmpIPredicate.sle (BitVec.ofNat 32 ↑κ) (IntOp.addi (BitVec.ofNat 32 ↑r) 128#32) = BitVec.ofBool (decide (κ.val ≤ r.val + 128)) := by
  decide +kernel

/-- A key of the current block. -/
theorem ge_eq : ∀ (κ : Fin 256), IntOp.cmpi CmpIPredicate.sge (BitVec.ofNat 32 ↑κ) 128#32 = BitVec.ofBool (decide (128 ≤ κ.val)) := by
  decide +kernel

/-- The blocks after the first. -/
theorem pos_eq : ∀ i : Fin 64, Scalar.cmpi CmpIPredicate.sgt (Scalar.subi (63#32) (BitVec.ofNat 32 ↑i)) 0#32 = BitVec.ofBool (decide (0 < 63 - i.val)) := by
  decide +kernel

/-- The mask's three conditions together. -/
theorem and_or (a b c d : Bool) : IntOp.andi (IntOp.andi (BitVec.ofBool a) (BitVec.ofBool b)) (IntOp.ori (BitVec.ofBool c) (BitVec.ofBool d))
    = BitVec.ofBool ((a && b) && (c || d)) := by
  revert a b c d
  decide

/-- The mask of block `63 - i`: query row `r` sees key `κ` of the two blocks when it lies within the 128 last ones, and,
    in the first block, in that block. -/
theorem pay4_at (i : grid0.Coords) (n : ℕ) (hn : n = 63 - (i 0).val) (κ : Fin 256) (x : Fin 1024) :
    k0_pay4 i (ix2 κ x) = BitVec.ofBool (Band.sees n ⟨x.val % 128, by omega⟩ κ) := by
  pointwise [k0_pay4]
  rw [rem_eq x, gt_eq κ ⟨x.val % 128, by omega⟩, le_eq κ ⟨x.val % 128, by omega⟩, ge_eq κ, pos_eq (i 0)]
  unfold Band.sees
  subst hn
  exact and_or _ _ _ _

end Cert.KernelIdeal.Attn

end

end
-- ==== Proof.AttnHead.lean ====
/-
  What the body of the attention's backward call computes for one head of keys and values, over real inputs.
-/
module

public import proofs.«01_k».proof.Defs
public import proofs.«01_k».proof.Proof.AttnMath
public import proofs.«01_k».proof.Proof.Gen.KernelIdeal.Skeleton
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem

/-! ## The layout of a head's inputs -/

/-- Keys: the previous block above the current one. -/
theorem pay9_at (a b : Vec Ideal S128x64 .bf16) (κ : Fin 256) (d : Fin 64) :
    k0_pay9 a b (ix2 κ d) = if h : κ.val < 128 then a (ix2 ⟨κ.val, h⟩ d) else b (ix2 ⟨κ.val - 128, by omega⟩ d) := by
  pointwise [k0_pay9]

/-- Values: the same. -/
theorem pay10_at (a b : Vec Ideal S128x64 .f32) (κ : Fin 256) (d : Fin 64) :
    k0_pay10 a b (ix2 κ d) = if h : κ.val < 128 then a (ix2 ⟨κ.val, h⟩ d) else b (ix2 ⟨κ.val - 128, by omega⟩ d) := by
  pointwise [k0_pay10]

/-- Queries: the eight heads of the group side by side. -/
theorem pay11_at (a0 a1 a2 a3 a4 a5 a6 a7 : Vec Ideal S64x128 .bf16) (f : Fin 8 → Fin 64 → Fin 128 → EReal)
    (h0 : ∀ d r, a0 (ix2 d r) = f 0 d r) (h1 : ∀ d r, a1 (ix2 d r) = f 1 d r) (h2 : ∀ d r, a2 (ix2 d r) = f 2 d r)
    (h3 : ∀ d r, a3 (ix2 d r) = f 3 d r) (h4 : ∀ d r, a4 (ix2 d r) = f 4 d r) (h5 : ∀ d r, a5 (ix2 d r) = f 5 d r)
    (h6 : ∀ d r, a6 (ix2 d r) = f 6 d r) (h7 : ∀ d r, a7 (ix2 d r) = f 7 d r) (d : Fin 64) (x : Fin 1024) :
    k0_pay11 a0 a1 a2 a3 a4 a5 a6 a7 (ix2 d x) = f ⟨x.val / 128, by omega⟩ d ⟨x.val % 128, by omega⟩ := by
  pointwise [k0_pay11]
  simp only [h0, h1, h2, h3, h4, h5, h6, h7]
  split_ifs <;> (congr 1 <;> first | (congr 1; apply Fin.ext; simp; omega) | (apply Fin.ext; simp; omega))

/-- The sink's scores, one per head of the group. -/
theorem pay15_at (s0 s1 s2 s3 s4 s5 s6 s7 : Vec Ideal S1x1 .f32) (f : Fin 8 → EReal) (h0 : s0 (ix2 0 0) = f 0) (h1 : s1 (ix2 0 0) = f 1)
    (h2 : s2 (ix2 0 0) = f 2) (h3 : s3 (ix2 0 0) = f 3) (h4 : s4 (ix2 0 0) = f 4) (h5 : s5 (ix2 0 0) = f 5)
    (h6 : s6 (ix2 0 0) = f 6) (h7 : s7 (ix2 0 0) = f 7) (x : Fin 1024) :
    k0_pay15 (k0_pay12 s0) (k0_pay13 s1) (k0_pay14 s2) s3 s4 s5 s6 s7 (ix2 0 x) = f ⟨x.val / 128, by omega⟩ := by
  pointwise [k0_pay15, k0_pay12, k0_pay13, k0_pay14]
  rw [h0, h1, h2, h3, h4, h5, h6, h7]
  split_ifs <;> (congr 1; apply Fin.ext; simp; omega)

/-- The cotangents: the eight heads of the group side by side. -/
theorem pay24_at (a0 a1 a2 a3 a4 a5 a6 a7 : Vec Ideal S64x128 .bf16) (f : Fin 8 → Fin 64 → Fin 128 → EReal)
    (h0 : ∀ d r, a0 (ix2 d r) = f 0 d r) (h1 : ∀ d r, a1 (ix2 d r) = f 1 d r) (h2 : ∀ d r, a2 (ix2 d r) = f 2 d r)
    (h3 : ∀ d r, a3 (ix2 d r) = f 3 d r) (h4 : ∀ d r, a4 (ix2 d r) = f 4 d r) (h5 : ∀ d r, a5 (ix2 d r) = f 5 d r)
    (h6 : ∀ d r, a6 (ix2 d r) = f 6 d r) (h7 : ∀ d r, a7 (ix2 d r) = f 7 d r) (d : Fin 64) (x : Fin 1024) :
    k0_pay24 (k0_pay23 a0) a1 a2 a3 a4 a5 a6 a7 (ix2 d x) = f ⟨x.val / 128, by omega⟩ d ⟨x.val % 128, by omega⟩ :=
  pay11_at a0 a1 a2 a3 a4 a5 a6 a7 f h0 h1 h2 h3 h4 h5 h6 h7 d x

/-! ## The head over real inputs -/

/-- A selection by a truth value. -/
theorem select_ofBool (b : Bool) (x y : EReal) : Scalar.select (BitVec.ofBool b) x y = if b then x else y := by
  cases b <;> rfl

section

variable {M : Fin 1024 → Fin 256 → Bool} {K V : Fin 256 → Fin 64 → ℝ} {Q O : Fin 64 → Fin 1024 → ℝ} {σ : Fin 1024 → ℝ}
  {mk : IVec S256x1024 1} {kk vv : FVec Ideal S256x64 .bf16} {qg : FVec Ideal S64x1024 .bf16}

theorem pay16_at (hm : ∀ κ x, mk (ix2 κ x) = BitVec.ofBool (M x κ)) (hk : ∀ κ d, kk (ix2 κ d) = (K κ d : EReal))
    (hq : ∀ d x, qg (ix2 d x) = (Q d x : EReal)) (κ : Fin 256) (x : Fin 1024) :
    k0_pay16 mk kk qg (ix2 κ x) = Row.score (M x) (Row.sc K Q x) κ := by
  pointwise [k0_pay16]
  rw [hm, select_ofBool, Words.eighth, Words.negInf]
  simp only [hk, hq, ← EReal.coe_mul, ← Words.coe_sum]
  rfl

variable {v64 v68 v72 : FVec Ideal S1x128 .f32} {s3 s4 s5 s6 s7 : Vec Ideal S1x1 .f32}

theorem pay17_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (x : Fin 1024) :
    k0_pay17 mk kk qg v64 v68 v72 s3 s4 s5 s6 s7 (ix2 0 x) = (Row.top (M x) (Row.sc K Q x) (σ x) : EReal) := by
  pointwise [k0_pay17]
  simp only [pay16_at hm hk hq, hs, Words.negInf]
  exact Row.top_eq _ _ _

theorem pay18_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (κ : Fin 256)
    (x : Fin 1024) :
    k0_pay18 mk kk qg v64 v68 v72 s3 s4 s5 s6 s7 (ix2 κ x) = (Row.wt (M x) (Row.sc K Q x) (σ x) κ : EReal) := by
  pointwise [k0_pay18]
  rw [pay16_at hm hk hq, pay17_at hm hk hq hs]
  exact Row.exp_score _ _ _ _

theorem pay19_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (x : Fin 1024) :
    k0_pay19 mk kk qg v64 v68 v72 s3 s4 s5 s6 s7 (ix2 0 x) = (Row.snk (M x) (Row.sc K Q x) (σ x) : EReal) := by
  pointwise [k0_pay19]
  rw [hs, pay17_at hm hk hq hs]
  exact Row.exp_snk _ _ _

theorem pay20_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (x : Fin 1024) :
    k0_pay20 mk kk qg v64 v68 v72 s3 s4 s5 s6 s7 (ix2 0 x) = ((1 / Row.den (M x) (Row.sc K Q x) (σ x) : ℝ) : EReal) := by
  pointwise [k0_pay20, Ideal.ofBits_one_f32]
  simp only [pay18_at hm hk hq hs, pay19_at hm hk hq hs, Row.sum_wt, Row.div_den, one_mul]

theorem pay21_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (κ : Fin 256)
    (x : Fin 1024) :
    k0_pay21 mk kk qg v64 v68 v72 s3 s4 s5 s6 s7 (ix2 κ x) = (Row.prob (M x) (Row.sc K Q x) (σ x) κ : EReal) := by
  pointwise [k0_pay21]
  rw [pay18_at hm hk hq hs, pay20_at hm hk hq hs, ← EReal.coe_mul]
  rfl

theorem pay22_at (hm : ∀ κ x, mk (ix2 κ x) = BitVec.ofBool (M x κ)) (hk : ∀ κ d, kk (ix2 κ d) = (K κ d : EReal))
    (hq : ∀ d x, qg (ix2 d x) = (Q d x : EReal)) (hs : ∀ x, k0_pay15 v64 v68 v72 s3 s4 s5 s6 s7 (ix2 0 x) = (σ x : EReal)) (x : Fin 1024) :
    k0_pay22 mk kk qg v64 v68 v72 s3 s4 s5 s6 s7 (ix2 0 x) = (Row.probS (M x) (Row.sc K Q x) (σ x) : EReal) := by
  pointwise [k0_pay22]
  rw [pay19_at hm hk hq hs, pay20_at hm hk hq hs, ← EReal.coe_mul]
  rfl

variable {xs : Fin 1024 → Fin 256 → ℝ} {v113 : FVec Ideal S256x1024 .f32} {v114 : FVec Ideal S1x1024 .f32} {v116 : FVec Ideal S64x128 .bf16}
  {v117 v119 v121 v123 v125 v127 v129 : Vec Ideal S64x128 .bf16} {og : FVec Ideal S64x1024 .bf16}

theorem pay25_at (hv : ∀ κ d, vv (ix2 κ d) = (V κ d : EReal))
    (ho : ∀ d x, k0_pay24 v116 v117 v119 v121 v123 v125 v127 v129 (ix2 d x) = (O d x : EReal)) (κ : Fin 256) (x : Fin 1024) :
    k0_pay25 vv v116 v117 v119 v121 v123 v125 v127 v129 (ix2 κ x) = (Row.gp V O x κ : EReal) := by
  pointwise [k0_pay25]
  simp only [hv, ho, ← EReal.coe_mul, ← Words.coe_sum]
  rfl

theorem pay26_at (hv : ∀ κ d, vv (ix2 κ d) = (V κ d : EReal))
    (ho : ∀ d x, k0_pay24 v116 v117 v119 v121 v123 v125 v127 v129 (ix2 d x) = (O d x : EReal))
    (hp : ∀ κ x, v113 (ix2 κ x) = (Row.prob (M x) (xs x) (σ x) κ : EReal)) (x : Fin 1024) :
    k0_pay26 vv v113 v116 v117 v119 v121 v123 v125 v127 v129 (ix2 0 x) = (Row.mean (M x) (xs x) (σ x) (Row.gp V O x) : EReal) := by
  pointwise [k0_pay26]
  simp only [pay25_at hv ho, hp, ← EReal.coe_mul, ← Words.coe_sum]
  rfl

theorem pay27_at (hv : ∀ κ d, vv (ix2 κ d) = (V κ d : EReal))
    (ho : ∀ d x, k0_pay24 v116 v117 v119 v121 v123 v125 v127 v129 (ix2 d x) = (O d x : EReal))
    (hp : ∀ κ x, v113 (ix2 κ x) = (Row.prob (M x) (xs x) (σ x) κ : EReal)) (κ : Fin 256) (x : Fin 1024) :
    k0_pay27 vv v113 v116 v117 v119 v121 v123 v125 v127 v129 (ix2 κ x) = (Row.grad (M x) (xs x) (σ x) (Row.gp V O x) κ : EReal) := by
  pointwise [k0_pay27]
  rw [hp, pay25_at hv ho, pay26_at hv ho hp, Words.eighth, ← EReal.coe_sub, ← EReal.coe_mul, ← EReal.coe_mul]
  rfl

theorem pay28_at (hv : ∀ κ d, vv (ix2 κ d) = (V κ d : EReal))
    (ho : ∀ d x, k0_pay24 v116 v117 v119 v121 v123 v125 v127 v129 (ix2 d x) = (O d x : EReal))
    (hp : ∀ κ x, v113 (ix2 κ x) = (Row.prob (M x) (xs x) (σ x) κ : EReal)) (hps : ∀ x, v114 (ix2 0 x) = (Row.probS (M x) (xs x) (σ x) : EReal))
    (x : Fin 1024) :
    k0_pay28 vv v113 v114 v116 v117 v119 v121 v123 v125 v127 v129 (ix2 0 x) = (Row.gradS (M x) (xs x) (σ x) (Row.gp V O x) : EReal) := by
  pointwise [k0_pay28]
  rw [hps, pay26_at hv ho hp]
  simp only [← EReal.coe_zero, ← EReal.coe_sub, ← EReal.coe_mul]
  rfl

variable {G : Fin 1024 → Fin 256 → ℝ} {ds : FVec Ideal S256x1024 .bf16} {pr : FVec Ideal S256x1024 .f32}

theorem pay29_at (hk : ∀ κ d, kk (ix2 κ d) = (K κ d : EReal))
    (hg : ∀ κ x, k0_pay27 vv v113 v116 v117 v119 v121 v123 v125 v127 v129 (ix2 κ x) = (G x κ : EReal)) (d : Fin 64) (x : Fin 1024) :
    k0_pay29 kk vv v113 v116 v117 v119 v121 v123 v125 v127 v129 (ix2 d x) = ((∑ κ, K κ d * G x κ : ℝ) : EReal) := by
  pointwise [k0_pay29]
  simp only [hk, hg, ← EReal.coe_mul, ← Words.coe_sum]

theorem pay43_at (hq : ∀ d x, qg (ix2 d x) = (Q d x : EReal)) (hg : ∀ κ x, ds (ix2 κ x) = (G x κ : EReal)) (κ : Fin 256) (d : Fin 64) :
    k0_pay43 qg ds (ix2 κ d) = ((∑ x, G x κ * Q d x : ℝ) : EReal) := by
  pointwise [k0_pay43]
  simp only [hq, hg, ← EReal.coe_mul, ← Words.coe_sum]

theorem pay44_at (ho : ∀ d x, og (ix2 d x) = (O d x : EReal)) (hg : ∀ κ x, pr (ix2 κ x) = (G x κ : EReal)) (κ : Fin 256) (d : Fin 64) :
    k0_pay44 pr og (ix2 κ d) = ((∑ x, G x κ * O d x : ℝ) : EReal) := by
  pointwise [k0_pay44]
  simp only [ho, hg, ← EReal.coe_mul, ← Words.coe_sum]

end

end Cert.KernelIdeal.Attn

end

end
-- ==== Proof.AttnIns.lean ====
/-
  The attention's backward body at a grid point, group by group: what it loads, and what it computes of it.
-/
module

public import proofs.«01_k».proof.Proof.AttnData
public import proofs.«01_k».proof.Proof.AttnMask
public import proofs.«01_k».proof.Proof.AttnHead
public import proofs.«01_k».proof.Proof.AttnRun

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem

/-- The blocks a point reads hold block `n` of real data. -/
structure Ins (D : Data) (n : Fin 64) (i : grid0.Coords) (x0 : Vec Ideal S2048x128 .bf16) (x1 x2 : Vec Ideal S128x256 .bf16)
    (x3 x4 : Vec Ideal S128x256 .f32) (x5 : Vec Ideal S1x128 .f32) (x6 : Vec Ideal S2048x128 .bf16) : Prop where
  n_eq : n.val = 63 - (i 0).val
  q : ∀ (y : Fin 2048) (h : Fin 32) (d : Fin 64) (r : Fin 128), y.val = 64 * h.val + d.val → x0 (ix2 y r) = (D.q (tok n r) h d : EReal)
  kc : ∀ (r : Fin 128) (y : Fin 256) (j : Fin 4) (d : Fin 64), y.val = 64 * j.val + d.val → x1 (ix2 r y) = (D.k (tok n r) j d : EReal)
  kp : ∀ (r : Fin 128) (y : Fin 256) (j : Fin 4) (d : Fin 64), y.val = 64 * j.val + d.val → x2 (ix2 r y) = (D.k (tok (before n) r) j d : EReal)
  vc : ∀ (r : Fin 128) (y : Fin 256) (j : Fin 4) (d : Fin 64), y.val = 64 * j.val + d.val → x3 (ix2 r y) = (D.v (tok n r) j d : EReal)
  vp : ∀ (r : Fin 128) (y : Fin 256) (j : Fin 4) (d : Fin 64), y.val = 64 * j.val + d.val → x4 (ix2 r y) = (D.v (tok (before n) r) j d : EReal)
  s : ∀ (y : Fin 128) (h : Fin 32), y.val = h.val → x5 (ix2 0 y) = (D.s h : EReal)
  o : ∀ (y : Fin 2048) (h : Fin 32) (d : Fin 64) (r : Fin 128), y.val = 64 * h.val + d.val → x6 (ix2 y r) = (D.o (tok n r) h d : EReal)

variable {D : Data} {n : Fin 64} {i : grid0.Coords} {x0 : Vec Ideal S2048x128 .bf16} {x1 x2 : Vec Ideal S128x256 .bf16}
    {x3 x4 : Vec Ideal S128x256 .f32} {x5 : Vec Ideal S1x128 .f32} {x6 : Vec Ideal S2048x128 .bf16}

/-- The mask at a point. -/
theorem mask_at (H : Ins D n i x0 x1 x2 x3 x4 x5 x6) (κ : Fin 256) (x : Fin 1024) : k0_pay4 i (ix2 κ x) = BitVec.ofBool (Data.M n x κ) :=
  pay4_at i n.val H.n_eq κ x

/-- A lane's number against a constant. -/
theorem lane_eq (y : Fin 128) (k : ℕ) (hk : k < 128) :
    IntOp.cmpi .eq (BitVec.ofNat 32 y.val) (BitVec.ofNat 32 k) = BitVec.ofBool (decide (y.val = k)) := by
  have h : ∀ y k : Fin 128, IntOp.cmpi .eq (BitVec.ofNat 32 y.val) (BitVec.ofNat 32 k.val) = BitVec.ofBool (decide (y.val = k.val)) := by
    decide +kernel
  exact h y ⟨k, hk⟩

/-- Eight terms, each in its own lane, added one after the other. -/
theorem lanes (a : EReal) (y : Fin 128) (j : Fin 4) (f : Fin 8 → EReal) :
    a + (if decide (y.val = 8 * j.val + 0) = true then f 0 else 0) + (if decide (y.val = 8 * j.val + 1) = true then f 1 else 0)
      + (if decide (y.val = 8 * j.val + 2) = true then f 2 else 0) + (if decide (y.val = 8 * j.val + 3) = true then f 3 else 0)
      + (if decide (y.val = 8 * j.val + 4) = true then f 4 else 0) + (if decide (y.val = 8 * j.val + 5) = true then f 5 else 0)
      + (if decide (y.val = 8 * j.val + 6) = true then f 6 else 0) + (if decide (y.val = 8 * j.val + 7) = true then f 7 else 0)
      = a + ∑ g : Fin 8, if y.val = 8 * j.val + g.val then f g else 0 := by
  rw [Fin.sum_univ_eight]
  simp only [decide_eq_true_eq, add_assoc]
  rfl

end Cert.KernelIdeal.Attn

end

end
-- ==== Proof.AttnBlocks.lean ====
/-
  The blocks a point of the attention kernel reads, as real data.
-/
module

public import proofs.«01_k».proof.Proof.AttnHolds
public import proofs.«01_k».proof.Proof.AttnIns

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem
open Idealize.ShloMosaic.Pipeline (Dat)

variable (m : (ℓ : Loc nD τ sig) → Buf (Elt Ideal) ℓ)

/-- Where each window's block lies at a point: block `n = 63 - t` of the tokens. -/
theorem idx : ∀ t : Fin cfg0.N, win0_0.index t = ![0, 63 - t.val] ∧ win0_1.index t = ![63 - t.val, 0]
    ∧ win0_2.index t = ![63 - t.val - 1, 0] ∧ win0_3.index t = ![63 - t.val, 65]
    ∧ win0_4.index t = ![63 - t.val - 1, 65] ∧ win0_5.index t = ![0, 0] ∧ win0_6.index t = ![0, 63 - t.val]
    ∧ win0_7.index t = ![0, 63 - t.val] ∧ win0_8.index t = ![63 - t.val, 0] ∧ win0_9.index t = ![63 - t.val, 65]
    ∧ win0_10.index t = ![0, 0] ∧ (grid0.coords t 0).val = t.val :=
  (by decide +kernel : ∀ t : Fin grid0.N, _)

/-- The queries, transposed. -/
theorem q_at (c : Dev nD) (y : Fin 2048) (t : Fin 8192) (h : Fin 32) (d : Fin 64) (hy : y.val = 64 * h.val + d.val) :
    (V m c main_v2 : FVec Ideal S2048x8192 .bf16) (ix2 y t)
      = (m ((c.tc : Thread nD τ).loc main_arg0) : FVec Ideal S8192x32x64 .f32) (ix3 t h d) := by
  simp only [V, hostOps0, hostOps0_1, hostOps0_2, List.flatten_cons, List.flatten_nil, List.cons_append, List.nil_append, List.append_nil]
  entry_read
  pointwise
  exact congrArg₂ (fun a b => (m ((c.tc : Thread nD τ).loc main_arg0) : FVec Ideal S8192x32x64 .f32) (ix3 t a b)) (Fin.ext (by dsimp only; omega)) (Fin.ext (by dsimp only; omega))

theorem k_at (c : Dev nD) (t : Fin 8192) (y : Fin 256) (j : Fin 4) (d : Fin 64) (hy : y.val = 64 * j.val + d.val) :
    (V m c main_v4 : FVec Ideal S8192x256 .bf16) (ix2 t y)
      = (m ((c.tc : Thread nD τ).loc main_arg1) : FVec Ideal S8192x4x64 .f32) (ix3 t j d) := by
  simp only [V, hostOps0, hostOps0_1, hostOps0_2, List.flatten_cons, List.flatten_nil, List.cons_append, List.nil_append, List.append_nil]
  entry_read
  pointwise
  exact congrArg₂ (fun a b => (m ((c.tc : Thread nD τ).loc main_arg1) : FVec Ideal S8192x4x64 .f32) (ix3 t a b)) (Fin.ext (by dsimp only; omega)) (Fin.ext (by dsimp only; omega))

theorem o_at (c : Dev nD) (y : Fin 2048) (t : Fin 8192) :
    (V m c main_v6 : FVec Ideal S2048x8192 .bf16) (ix2 y t)
      = (m ((c.tc : Thread nD τ).loc main_arg4) : FVec Ideal S8192x2048 .f32) (ix2 t y) := by
  simp only [V, hostOps0, hostOps0_1, hostOps0_2, List.flatten_cons, List.flatten_nil, List.cons_append, List.nil_append, List.append_nil]
  entry_read
  pointwise

theorem s_at (c : Dev nD) (y : Fin 128) (h : Fin 32) (hy : y.val = h.val) :
    (V m c main_v8 : FVec Ideal S1x128 .f32) (ix2 0 y)
      = (m ((c.tc : Thread nD τ).loc main_arg3) : FVec Ideal S32 .f32) (ix1 h) := by
  simp only [V, hostOps0, hostOps0_1, hostOps0_2, List.flatten_cons, List.flatten_nil, List.cons_append, List.nil_append, List.append_nil]
  entry_read
  show pad S1x128 ![0, 0] ![0, 96] ![0, 0] (broadcastInDim S1x32 ![1] bcast_S32_S1x32_1 (m ((c.tc : Thread nD τ).loc main_arg3) : FVec Ideal S32 .f32))
    (sitofp (F := Ideal) .f32 (constantI S_ 32 0#32)) pads_S1x32_S1x128_000_0960 h_S_ (ix2 0 y) = _
  pointwise
  rw [dif_pos (by omega)]
  exact congrArg (fun a => (m ((c.tc : Thread nD τ).loc main_arg3) : FVec Ideal S32 .f32) (ix1 a)) (Fin.ext hy)

theorem qBlk (c : Dev nD) (t : Fin cfg0.N) (y : Fin 2048) (r : Fin 128) (R : Fin 8192) (hR : R.val = (63 - t.val) * 128 + r.val) :
    iblk m c 0 t (ix2 y r) = (V m c main_v2 : FVec Ideal S2048x8192 .bf16) (ix2 y R) := by
  blk_point [iblk, idx t]

theorem kcBlk (c : Dev nD) (t : Fin cfg0.N) (y : Fin 256) (r : Fin 128) (R : Fin 8192) (hR : R.val = (63 - t.val) * 128 + r.val) :
    iblk m c 1 t (ix2 r y) = (V m c main_v4 : FVec Ideal S8192x256 .bf16) (ix2 R y) := by
  blk_point [iblk, idx t]

theorem kpBlk (c : Dev nD) (t : Fin cfg0.N) (y : Fin 256) (r : Fin 128) (R : Fin 8192) (hR : R.val = (63 - t.val - 1) * 128 + r.val) :
    iblk m c 2 t (ix2 r y) = (V m c main_v4 : FVec Ideal S8192x256 .bf16) (ix2 R y) := by
  blk_point [iblk, idx t]

theorem sBlk (c : Dev nD) (t : Fin cfg0.N) (y : Fin 128) :
    iblk m c 5 t (ix2 0 y) = (V m c main_v8 : FVec Ideal S1x128 .f32) (ix2 0 y) := by
  blk_point [iblk, idx t]

theorem oBlk (c : Dev nD) (t : Fin cfg0.N) (y : Fin 2048) (r : Fin 128) (R : Fin 8192) (hR : R.val = (63 - t.val) * 128 + r.val) :
    iblk m c 6 t (ix2 y r) = (V m c main_v6 : FVec Ideal S2048x8192 .bf16) (ix2 y R) := by
  blk_point [iblk, idx t]

theorem vcBlk (c : Dev nD) (t : Fin cfg0.N) (y : Fin 256) (r : Fin 128) (R : Fin 8192) (Y : Fin 17024)
    (hR : R.val = (63 - t.val) * 128 + r.val) (hY : Y.val = 16640 + y.val) :
    X0_3 m c t (ix2 r y) = (m ((c.tc : Thread nD τ).loc main_arg2) : FVec Ideal S8192x17024 .f32) (ix2 R Y) := by
  unfold X0_3 Pipeline.Window.fill
  rw [dif_pos (moved0_3 t _)]
  unfold iblk
  rw [View.read_apply]
  show (V m c main_arg2 : FVec Ideal S8192x17024 .f32) _ = _
  rw [show (V m c main_arg2 : FVec Ideal S8192x17024 .f32) = (m ((c.tc : Thread nD τ).loc main_arg2) : FVec Ideal S8192x17024 .f32) from V_main_arg2 m c]
  generalize (m ((c.tc : Thread nD τ).loc main_arg2) : FVec Ideal S8192x17024 .f32) = W
  refine congrArg W (funext fun a => Fin.ext ?_)
  match a with
  | ⟨0, _⟩ => show _ = R.val; blk_simp [idx t]; show (63 - t.val) * 128 + r.val = R.val; omega
  | ⟨1, _⟩ => show _ = Y.val; blk_simp [idx t]; show 65 * 256 + y.val = Y.val; omega

theorem vpBlk (c : Dev nD) (t : Fin cfg0.N) (y : Fin 256) (r : Fin 128) (R : Fin 8192) (Y : Fin 17024)
    (hR : R.val = (63 - t.val - 1) * 128 + r.val) (hY : Y.val = 16640 + y.val) :
    X0_4 m c t (ix2 r y) = (m ((c.tc : Thread nD τ).loc main_arg2) : FVec Ideal S8192x17024 .f32) (ix2 R Y) := by
  unfold X0_4 Pipeline.Window.fill
  rw [dif_pos (moved0_4 t _)]
  unfold iblk
  rw [View.read_apply]
  show (V m c main_arg2 : FVec Ideal S8192x17024 .f32) _ = _
  rw [show (V m c main_arg2 : FVec Ideal S8192x17024 .f32) = (m ((c.tc : Thread nD τ).loc main_arg2) : FVec Ideal S8192x17024 .f32) from V_main_arg2 m c]
  generalize (m ((c.tc : Thread nD τ).loc main_arg2) : FVec Ideal S8192x17024 .f32) = W
  refine congrArg W (funext fun a => Fin.ext ?_)
  match a with
  | ⟨0, _⟩ => show _ = R.val; blk_simp [idx t]; show (63 - t.val - 1) * 128 + r.val = R.val; omega
  | ⟨1, _⟩ => show _ = Y.val; blk_simp [idx t]; show 65 * 256 + y.val = Y.val; omega

/-- At point `t` the blocks are those of block `63 - t` of the data. -/
theorem ins {D : Data} (c : Dev nD)
    (H : Holds D (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)))
    (t : Fin cfg0.N) (n : Fin 64) (hn : n.val = 63 - t.val) :
    Ins D n (grid0.coords t) (iblk m c 0 t) (iblk m c 1 t) (iblk m c 2 t) (X0_3 m c t) (X0_4 m c t) (iblk m c 5 t) (iblk m c 6 t) where
  n_eq := by rw [(idx t).2.2.2.2.2.2.2.2.2.2.2]; exact hn
  q y h d r hy := by
    rw [qBlk m c t y r (tok n r) (by show 128 * n.val + r.val = _; omega), q_at m c y _ h d hy]
    exact H.q _ _ _
  kc r y j d hy := by
    rw [kcBlk m c t y r (tok n r) (by show 128 * n.val + r.val = _; omega), k_at m c _ y j d hy]
    exact H.k _ _ _
  kp r y j d hy := by
    rw [kpBlk m c t y r (tok (before n) r) (by show 128 * (n.val - 1) + r.val = _; omega), k_at m c _ y j d hy]
    exact H.k _ _ _
  vc r y j d hy := by
    rw [vcBlk m c t y r (tok n r) ⟨16640 + y.val, by omega⟩ (by show 128 * n.val + r.val = _; omega) rfl]
    exact H.v _ _ j d (by dsimp only; omega)
  vp r y j d hy := by
    rw [vpBlk m c t y r (tok (before n) r) ⟨16640 + y.val, by omega⟩ (by show 128 * (n.val - 1) + r.val = _; omega) rfl]
    exact H.v _ _ j d (by dsimp only; omega)
  s y h hy := by
    rw [sBlk m c t y, s_at m c y h hy]
    exact H.s _
  o y h d r hy := by
    rw [oBlk m c t y r (tok n r) (by show 128 * n.val + r.val = _; omega), o_at m c y]
    exact H.o _ _ h d hy

end Cert.KernelIdeal.Attn

end

end
-- ==== Proof.AttnPieces.lean ====
module

public import proofs.«01_k».proof.Proof.AttnHead
public import proofs.«01_k».proof.Proof.AttnData

/-! # What the attention kernel stores, piece by piece

The pieces each group of heads writes, from the matrices they are cut from: a head's 128 columns of the queries'
gradient, and the two halves of the keys' and of the values' gradients.  The words are those of the first group; the
other groups' words are the same. -/

@[expose] public section

set_option maxRecDepth 16384

noncomputable section

namespace Cert.KernelIdeal.Attn.Piece

open Cert.KernelIdeal Cert.KernelIdeal.Gen Cert.Attn
open Idealize.ShloMosaic Idealize.ShloMosaic.TcCoe Idealize.SL.Sem
open Idealize.ShloMosaic.Pipeline (Dat)

section Queries

variable (v : FVec Ideal S64x1024 .f32) (y : S64x128.Idx)

theorem head1 : k0_pay33 v y = v (ix2 (y 0) ⟨128 + (y 1).val, by have : (y 1).val < 128 := (y 1).isLt; omega⟩) := by
  idx_vars y
  pointwise [k0_pay33]

theorem head2 : k0_pay34 v y = v (ix2 (y 0) ⟨256 + (y 1).val, by have : (y 1).val < 128 := (y 1).isLt; omega⟩) := by
  idx_vars y
  pointwise [k0_pay34]

theorem head3 : k0_pay35 v y = v (ix2 (y 0) ⟨384 + (y 1).val, by have : (y 1).val < 128 := (y 1).isLt; omega⟩) := by
  idx_vars y
  pointwise [k0_pay35]

theorem head4 : k0_pay37 v y = v (ix2 (y 0) ⟨512 + (y 1).val, by have : (y 1).val < 128 := (y 1).isLt; omega⟩) := by
  idx_vars y
  pointwise [k0_pay37]

theorem head5 : k0_pay38 v y = v (ix2 (y 0) ⟨640 + (y 1).val, by have : (y 1).val < 128 := (y 1).isLt; omega⟩) := by
  idx_vars y
  pointwise [k0_pay38]

theorem head6 : k0_pay39 v y = v (ix2 (y 0) ⟨768 + (y 1).val, by have : (y 1).val < 128 := (y 1).isLt; omega⟩) := by
  idx_vars y
  pointwise [k0_pay39]

theorem head7 : k0_pay41 v y = v (ix2 (y 0) ⟨896 + (y 1).val, by have : (y 1).val < 128 := (y 1).isLt; omega⟩) := by
  idx_vars y
  pointwise [k0_pay41]

end Queries

/-- The first head's columns, with the matrix they are cut from written out. -/
theorem head0 (a b : FVec Ideal S256x64 .bf16) (e : FVec Ideal S256x1024 .f32) (f0 : FVec Ideal S64x128 .bf16)
    (f1 f2 f3 f4 f5 f6 f7 : Vec Ideal S64x128 .bf16) (y : S64x128.Idx) :
    k0_pay30 a b e f0 f1 f2 f3 f4 f5 f6 f7 y
      = k0_pay29 a b e f0 f1 f2 f3 f4 f5 f6 f7 (ix2 (y 0) ⟨(y 1).val, by have : (y 1).val < 128 := (y 1).isLt; omega⟩) := by
  unfold k0_pay30
  generalize k0_pay29 a b e f0 f1 f2 f3 f4 f5 f6 f7 = v
  idx_vars y
  pointwise

section Halves

variable {a : FVec Ideal S64x1024 .bf16} {b : FVec Ideal S256x1024 .bf16} {p : FVec Ideal S256x1024 .f32}
variable {w : Fin 256 → Fin 64 → ℝ}

/-- The block's own keys: the half of the window's gradient, and what the next block left. -/
theorem keys (h : ∀ κ d, k0_pay43 a b (ix2 κ d) = (w κ d : EReal)) (l : Vec Ideal S128x64 .f32) (y : S128x64.Idx) :
    k0_pay45 a b l y = (w (lower (y 0)) (y 1) : EReal) + l y := by
  revert h
  unfold k0_pay45
  generalize k0_pay43 a b = v
  intro h
  idx_vars y
  pointwise
  exact congrArg (· + l (ix2 y0 y1)) (h _ _)

/-- The previous block's keys: what is carried to it. -/
theorem keysCarried (h : ∀ κ d, k0_pay43 a b (ix2 κ d) = (w κ d : EReal)) (y : S128x64.Idx) :
    k0_pay47 a b y = (w (upper (y 0)) (y 1) : EReal) := by
  revert h
  unfold k0_pay47
  generalize k0_pay43 a b = v
  intro h
  idx_vars y
  pointwise
  exact h _ _

/-- The block's own values. -/
theorem values (h : ∀ κ d, k0_pay44 p a (ix2 κ d) = (w κ d : EReal)) (l : Vec Ideal S128x64 .f32) (y : S128x64.Idx) :
    k0_pay46 p a l y = (w (lower (y 0)) (y 1) : EReal) + l y := by
  revert h
  unfold k0_pay46
  generalize k0_pay44 p a = v
  intro h
  idx_vars y
  pointwise
  exact congrArg (· + l (ix2 y0 y1)) (h _ _)

/-- The previous block's values. -/
theorem valuesCarried (h : ∀ κ d, k0_pay44 p a (ix2 κ d) = (w κ d : EReal)) (y : S128x64.Idx) :
    k0_pay48 p a y = (w (upper (y 0)) (y 1) : EReal) := by
  revert h
  unfold k0_pay48
  generalize k0_pay44 p a = v
  intro h
  idx_vars y
  pointwise
  exact h _ _

end Halves

/-- A load of part of a buffer that holds a whole array. -/
theorem load {s : Shape} {e : EltTy} {M : Memref sig .tc .vmem s e} (h : M.IsWhole) (x : Vec Ideal s e) (R : Rect s) :
    View.readAt (Elt Ideal) M.view R.toLoadRect (h.unread x) = fun y => x (R.toLoadRect.idx y) := by
  funext y
  rw [View.readAt_eq_ld, h.read_unread]

/-- The sinks' gradients: what the blocks before left, and this block's lanes. -/
theorem sinks (v l : FVec Ideal S1x128 .f32) (y : S1x128.Idx) : k0_pay3 v l y = l y + v y := by
  idx_vars y
  pointwise [k0_pay3]

theorem sinks_zero (y : S1x128.Idx) : (k0_pay8 (F := Ideal)) y = 0 := by
  idx_vars y
  pointwise [k0_pay8]

end Cert.KernelIdeal.Attn.Piece

end

end
-- ==== Proof.AttnGroup0.lean ====
/-
  Group 0 of the attention's backward body at a grid point: its inputs, its probabilities and its gradients.
-/
module

public import proofs.«01_k».proof.Proof.AttnIns

@[expose] public section

set_option maxRecDepth 16384

noncomputable section

namespace Cert.KernelIdeal.Attn.Group0

open Cert.KernelIdeal Cert.KernelIdeal.Gen Cert.Attn
open Idealize.ShloMosaic Idealize.ShloMosaic.TcCoe Idealize.SL.Sem

variable {D : Data} {n : Fin 64} {i : grid0.Coords} {x0 : Vec Ideal S2048x128 .bf16} {x1 x2 : Vec Ideal S128x256 .bf16}
    {x3 x4 : Vec Ideal S128x256 .f32} {x5 : Vec Ideal S1x128 .f32} {x6 : Vec Ideal S2048x128 .bf16}

variable (c : Dev nD) (a1 : Memref sig .tc .vmem S2048x128 .bf16) (h1 : a1.IsWhole) (a2 : Memref sig .tc .vmem S128x256 .bf16) (h2 : a2.IsWhole)
  (a3 : Memref sig .tc .vmem S128x256 .bf16) (h3 : a3.IsWhole) (a4 : Memref sig .tc .vmem S128x256 .f32) (h4 : a4.IsWhole)
  (a5 : Memref sig .tc .vmem S128x256 .f32) (h5 : a5.IsWhole) (a6 : Memref sig .tc .vmem S1x128 .f32) (h6 : a6.IsWhole)
  (a7 : Memref sig .tc .vmem S2048x128 .bf16) (h7 : a7.IsWhole)

/-- The keys. -/
theorem kk (H : Ins D n i x0 x1 x2 x3 x4 x5 x6) (κ : Fin 256) (d : Fin 64) :
    kernelRun0_B.sl.r (F := Ideal) c a2 h2 a3 h3 x1 x2 (ix2 κ d) = (D.K n 0 κ d : EReal) := by
  sl_unfold_words
  simp only [View.readAt_eq_ld, h2.read_unread, h3.read_unread]
  refine (pay9_at _ _ κ d).trans ?_
  unfold Data.K window
  split
  · pointwise
    exact H.kp _ _ 0 d (by simp)
  · pointwise
    exact H.kc _ _ 0 d (by simp)

/-- The values. -/
theorem vv (H : Ins D n i x0 x1 x2 x3 x4 x5 x6) (κ : Fin 256) (d : Fin 64) :
    kernelRun0_B.sl.r_1 (F := Ideal) c a4 h4 a5 h5 x3 x4 (ix2 κ d) = (D.V n 0 κ d : EReal) := by
  sl_unfold_words
  simp only [View.readAt_eq_ld, h4.read_unread, h5.read_unread]
  refine (pay10_at _ _ κ d).trans ?_
  unfold Data.V window
  split
  · pointwise
    exact H.vp _ _ 0 d (by simp)
  · pointwise
    exact H.vc _ _ 0 d (by simp)

/-- The queries. -/
theorem qq (H : Ins D n i x0 x1 x2 x3 x4 x5 x6) (d : Fin 64) (x : Fin 1024) :
    kernelRun0_B.sl.r_2 (F := Ideal) c a1 h1 x0 (ix2 d x) = (D.Q n 0 d x : EReal) := by
  sl_unfold_words
  simp only [View.readAt_eq_ld, h1.read_unread]
  refine pay11_at _ _ _ _ _ _ _ _ (fun g d r => (D.q (tok n r) (head 0 g) d : EReal)) ?_ ?_ ?_ ?_ ?_ ?_ ?_ ?_ d x <;> intro d r <;> pointwise <;>
    exact H.q _ _ d r (by simp [head])

/-- The cotangents. -/
theorem oo (H : Ins D n i x0 x1 x2 x3 x4 x5 x6) (d : Fin 64) (x : Fin 1024) :
    kernelRun0_B.sl.r_9 (F := Ideal) c a7 h7 x6 (ix2 d x) = (D.O n 0 d x : EReal) := by
  sl_unfold_words
  simp only [View.readAt_eq_ld, h7.read_unread]
  refine pay24_at _ _ _ _ _ _ _ _ (fun g d r => (D.o (tok n r) (head 0 g) d : EReal)) ?_ ?_ ?_ ?_ ?_ ?_ ?_ ?_ d x <;> intro d r <;> pointwise <;>
    exact H.o _ _ d r (by simp [head])

/-- The probabilities. -/
theorem pp (H : Ins D n i x0 x1 x2 x3 x4 x5 x6) (κ : Fin 256) (x : Fin 1024) :
    kernelRun0_B.sl.r_6 (F := Ideal) c i a1 h1 a2 h2 a3 h3 a6 h6 x0 x1 x2 x5 (ix2 κ x) = (D.P n 0 x κ : EReal) := by
  unfold kernelRun0_B.sl.r_6
  rw [show @k0_pay21 Ideal _ = k0_pay21 from rfl]
  refine pay21_at (σ := D.σ 0) (mask_at H) (kk c a2 h2 a3 h3 H) (qq c a1 h1 H) (fun x => ?_) κ x
  sl_unfold_words
  simp only [View.readAt_eq_ld, h6.read_unread]
  refine pay15_at _ _ _ _ _ _ _ _ (fun g => (D.s (head 0 g) : EReal)) ?_ ?_ ?_ ?_ ?_ ?_ ?_ ?_ x <;> pointwise <;>
    exact H.s _ _ (by simp [head])

/-- The sinks' probabilities. -/
theorem ps (H : Ins D n i x0 x1 x2 x3 x4 x5 x6) (x : Fin 1024) :
    kernelRun0_B.sl.r_7 (F := Ideal) c i a1 h1 a2 h2 a3 h3 a6 h6 x0 x1 x2 x5 (ix2 0 x)
      = (Row.probS (Data.M n x) (Row.sc (D.K n 0) (D.Q n 0) x) (D.σ 0 x) : EReal) := by
  unfold kernelRun0_B.sl.r_7
  rw [show @k0_pay22 Ideal _ = k0_pay22 from rfl]
  refine pay22_at (σ := D.σ 0) (mask_at H) (kk c a2 h2 a3 h3 H) (qq c a1 h1 H) (fun x => ?_) x
  sl_unfold_words
  simp only [View.readAt_eq_ld, h6.read_unread]
  refine pay15_at _ _ _ _ _ _ _ _ (fun g => (D.s (head 0 g) : EReal)) ?_ ?_ ?_ ?_ ?_ ?_ ?_ ?_ x <;> pointwise <;>
    exact H.s _ _ (by simp [head])

/-- The gradient with respect to the products of query and key. -/
theorem gg (H : Ins D n i x0 x1 x2 x3 x4 x5 x6) (κ : Fin 256) (x : Fin 1024) :
    kernelRun0_B.sl.r_10 (F := Ideal) c i a1 h1 a2 h2 a3 h3 a4 h4 a5 h5 a6 h6 a7 h7 x0 x1 x2 x3 x4 x5 x6 (ix2 κ x) = (D.G n 0 x κ : EReal) := by
  unfold kernelRun0_B.sl.r_10
  rw [show @k0_pay27 Ideal _ = k0_pay27 from rfl]
  exact pay27_at (vv c a4 h4 a5 h5 H) (oo c a7 h7 H) (pp c a1 h1 a2 h2 a3 h3 a6 h6 H) κ x

/-- The gradient with respect to the sinks' scores. -/
theorem gs (H : Ins D n i x0 x1 x2 x3 x4 x5 x6) (x : Fin 1024) :
    kernelRun0_B.sl.r_11 (F := Ideal) c i a1 h1 a2 h2 a3 h3 a4 h4 a5 h5 a6 h6 a7 h7 x0 x1 x2 x3 x4 x5 x6 (ix2 0 x) = (D.S n 0 x : EReal) := by
  unfold kernelRun0_B.sl.r_11
  rw [show @k0_pay28 Ideal _ = k0_pay28 from rfl]
  exact pay28_at (vv c a4 h4 a5 h5 H) (oo c a7 h7 H) (pp c a1 h1 a2 h2 a3 h3 a6 h6 H) (ps c a1 h1 a2 h2 a3 h3 a6 h6 H) x

/-- The gradient with respect to the queries. -/
theorem dq (H : Ins D n i x0 x1 x2 x3 x4 x5 x6) (d : Fin 64) (x : Fin 1024) :
    kernelRun0_B.sl.r_12 (F := Ideal) c i a1 h1 a2 h2 a3 h3 a4 h4 a5 h5 a6 h6 a7 h7 x0 x1 x2 x3 x4 x5 x6 (ix2 d x) = (D.dq n 0 d x : EReal) := by
  unfold kernelRun0_B.sl.r_12
  rw [show @k0_pay29 Ideal _ = k0_pay29 from rfl]
  exact pay29_at (kk c a2 h2 a3 h3 H) (gg c a1 h1 a2 h2 a3 h3 a4 h4 a5 h5 a6 h6 a7 h7 H) d x

/-- The block's part of the gradient with respect to the keys. -/
theorem dk (H : Ins D n i x0 x1 x2 x3 x4 x5 x6) (κ : Fin 256) (d : Fin 64) :
    k0_pay43 (kernelRun0_B.sl.r_2 (F := Ideal) c a1 h1 x0) (kernelRun0_B.sl.r_10 (F := Ideal) c i a1 h1 a2 h2 a3 h3 a4 h4 a5 h5 a6 h6 a7 h7 x0 x1 x2 x3 x4 x5 x6) (ix2 κ d)
      = (D.dkw n 0 κ d : EReal) :=
  pay43_at (qq c a1 h1 H) (gg c a1 h1 a2 h2 a3 h3 a4 h4 a5 h5 a6 h6 a7 h7 H) κ d

/-- The block's part of the gradient with respect to the values. -/
theorem dv (H : Ins D n i x0 x1 x2 x3 x4 x5 x6) (κ : Fin 256) (d : Fin 64) :
    k0_pay44 (kernelRun0_B.sl.r_6 (F := Ideal) c i a1 h1 a2 h2 a3 h3 a6 h6 x0 x1 x2 x5) (kernelRun0_B.sl.r_9 (F := Ideal) c a7 h7 x6) (ix2 κ d)
      = (D.dvw n 0 κ d : EReal) :=
  pay44_at (oo c a7 h7 H) (pp c a1 h1 a2 h2 a3 h3 a6 h6 H) κ d

/-- The first head's column of the sinks' gradients, summed. -/
theorem gs_first :
    kernelRun0_B.sl.r_13 (F := Ideal) c i a1 h1 a2 h2 a3 h3 a4 h4 a5 h5 a6 h6 a7 h7 x0 x1 x2 x3 x4 x5 x6 (ix2 0 0)
      = ∑ r : Fin 128, kernelRun0_B.sl.r_11 (F := Ideal) c i a1 h1 a2 h2 a3 h3 a4 h4 a5 h5 a6 h6 a7 h7 x0 x1 x2 x3 x4 x5 x6 (ix2 0 ⟨r.val, by omega⟩) := by
  unfold kernelRun0_B.sl.r_13
  pointwise [k0_pay32]
  rfl

/-- The group's eight lanes of the sinks' gradients, added to those of the groups before. -/
theorem lane (H : Ins D n i x0 x1 x2 x3 x4 x5 x6) (y : Fin 128) :
    kernelRun0_B.sl.r_16 (F := Ideal) c i a1 h1 a2 h2 a3 h3 a4 h4 a5 h5 a6 h6 a7 h7 x0 x1 x2 x3 x4 x5 x6 (ix2 0 y)
      = k0_pay8 (F := Ideal) (ix2 0 y)
        + ∑ g : Fin 8, if y.val = 8 * ((0 : Fin 4) : ℕ) + g.val then (D.dsb n 0 g : EReal) else 0 := by
  have hf := gs_first (i := i) (x0 := x0) (x1 := x1) (x2 := x2) (x3 := x3) (x4 := x4) (x5 := x5) (x6 := x6) c a1 h1 a2 h2 a3 h3 a4 h4 a5 h5 a6 h6 a7 h7
  have hs := gs c a1 h1 a2 h2 a3 h3 a4 h4 a5 h5 a6 h6 a7 h7 H
  unfold kernelRun0_B.sl.r_16 kernelRun0_B.sl.r_15 kernelRun0_B.sl.r_14 kernelRun0_B.sl.v33
  revert hf hs
  generalize kernelRun0_B.sl.r_11 (F := Ideal) c i a1 h1 a2 h2 a3 h3 a4 h4 a5 h5 a6 h6 a7 h7 x0 x1 x2 x3 x4 x5 x6 = ds
  generalize kernelRun0_B.sl.r_13 (F := Ideal) c i a1 h1 a2 h2 a3 h3 a4 h4 a5 h5 a6 h6 a7 h7 x0 x1 x2 x3 x4 x5 x6 = dd
  intro hf hs
  pointwise [k0_pay42, k0_pay40, k0_pay36, k0_pay31]
  rw [hf, lane_eq y 0 (by omega), lane_eq y 1 (by omega), lane_eq y 2 (by omega), lane_eq y 3 (by omega), lane_eq y 4 (by omega), lane_eq y 5 (by omega), lane_eq y 6 (by omega), lane_eq y 7 (by omega)]
  simp only [hs, select_ofBool, ← Words.coe_sum]
  exact lanes _ y 0 (fun g => (D.dsb n 0 g : EReal))

end Cert.KernelIdeal.Attn.Group0

end

end
-- ==== Proof.AttnGroup1.lean ====
/-
  Group 1 of the attention's backward body at a grid point: its inputs, its probabilities and its gradients.
-/
module

public import proofs.«01_k».proof.Proof.AttnIns

@[expose] public section

set_option maxRecDepth 16384

noncomputable section

namespace Cert.KernelIdeal.Attn.Group1

open Cert.KernelIdeal Cert.KernelIdeal.Gen Cert.Attn
open Idealize.ShloMosaic Idealize.ShloMosaic.TcCoe Idealize.SL.Sem

variable {D : Data} {n : Fin 64} {i : grid0.Coords} {x0 : Vec Ideal S2048x128 .bf16} {x1 x2 : Vec Ideal S128x256 .bf16}
    {x3 x4 : Vec Ideal S128x256 .f32} {x5 : Vec Ideal S1x128 .f32} {x6 : Vec Ideal S2048x128 .bf16}

variable (c : Dev nD) (a1 : Memref sig .tc .vmem S2048x128 .bf16) (h1 : a1.IsWhole) (a2 : Memref sig .tc .vmem S128x256 .bf16) (h2 : a2.IsWhole)
  (a3 : Memref sig .tc .vmem S128x256 .bf16) (h3 : a3.IsWhole) (a4 : Memref sig .tc .vmem S128x256 .f32) (h4 : a4.IsWhole)
  (a5 : Memref sig .tc .vmem S128x256 .f32) (h5 : a5.IsWhole) (a6 : Memref sig .tc .vmem S1x128 .f32) (h6 : a6.IsWhole)
  (a7 : Memref sig .tc .vmem S2048x128 .bf16) (h7 : a7.IsWhole)

/-- The keys. -/
theorem kk (H : Ins D n i x0 x1 x2 x3 x4 x5 x6) (κ : Fin 256) (d : Fin 64) :
    kernelRun0_B.sl.r_17 (F := Ideal) c a2 h2 a3 h3 x1 x2 (ix2 κ d) = (D.K n 1 κ d : EReal) := by
  sl_unfold_words
  simp only [View.readAt_eq_ld, h2.read_unread, h3.read_unread]
  refine (pay9_at _ _ κ d).trans ?_
  unfold Data.K window
  split
  · pointwise
    exact H.kp _ _ 1 d (by simp)
  · pointwise
    exact H.kc _ _ 1 d (by simp)

/-- The values. -/
theorem vv (H : Ins D n i x0 x1 x2 x3 x4 x5 x6) (κ : Fin 256) (d : Fin 64) :
    kernelRun0_B.sl.r_18 (F := Ideal) c a4 h4 a5 h5 x3 x4 (ix2 κ d) = (D.V n 1 κ d : EReal) := by
  sl_unfold_words
  simp only [View.readAt_eq_ld, h4.read_unread, h5.read_unread]
  refine (pay10_at _ _ κ d).trans ?_
  unfold Data.V window
  split
  · pointwise
    exact H.vp _ _ 1 d (by simp)
  · pointwise
    exact H.vc _ _ 1 d (by simp)

/-- The queries. -/
theorem qq (H : Ins D n i x0 x1 x2 x3 x4 x5 x6) (d : Fin 64) (x : Fin 1024) :
    kernelRun0_B.sl.r_19 (F := Ideal) c a1 h1 x0 (ix2 d x) = (D.Q n 1 d x : EReal) := by
  sl_unfold_words
  simp only [View.readAt_eq_ld, h1.read_unread]
  refine pay11_at _ _ _ _ _ _ _ _ (fun g d r => (D.q (tok n r) (head 1 g) d : EReal)) ?_ ?_ ?_ ?_ ?_ ?_ ?_ ?_ d x <;> intro d r <;> pointwise <;>
    exact H.q _ _ d r (by simp [head])

/-- The cotangents. -/
theorem oo (H : Ins D n i x0 x1 x2 x3 x4 x5 x6) (d : Fin 64) (x : Fin 1024) :
    kernelRun0_B.sl.r_26 (F := Ideal) c a7 h7 x6 (ix2 d x) = (D.O n 1 d x : EReal) := by
  sl_unfold_words
  simp only [View.readAt_eq_ld, h7.read_unread]
  refine pay24_at _ _ _ _ _ _ _ _ (fun g d r => (D.o (tok n r) (head 1 g) d : EReal)) ?_ ?_ ?_ ?_ ?_ ?_ ?_ ?_ d x <;> intro d r <;> pointwise <;>
    exact H.o _ _ d r (by simp [head])

/-- The probabilities. -/
theorem pp (H : Ins D n i x0 x1 x2 x3 x4 x5 x6) (κ : Fin 256) (x : Fin 1024) :
    kernelRun0_B.sl.r_23 (F := Ideal) c i a1 h1 a2 h2 a3 h3 a6 h6 x0 x1 x2 x5 (ix2 κ x) = (D.P n 1 x κ : EReal) := by
  unfold kernelRun0_B.sl.r_23
  rw [show @k0_pay61 Ideal _ = k0_pay21 from rfl]
  refine pay21_at (σ := D.σ 1) (mask_at H) (kk c a2 h2 a3 h3 H) (qq c a1 h1 H) (fun x => ?_) κ x
  sl_unfold_words
  simp only [View.readAt_eq_ld, h6.read_unread]
  refine pay15_at _ _ _ _ _ _ _ _ (fun g => (D.s (head 1 g) : EReal)) ?_ ?_ ?_ ?_ ?_ ?_ ?_ ?_ x <;> pointwise <;>
    exact H.s _ _ (by simp [head])

/-- The sinks' probabilities. -/
theorem ps (H : Ins D n i x0 x1 x2 x3 x4 x5 x6) (x : Fin 1024) :
    kernelRun0_B.sl.r_24 (F := Ideal) c i a1 h1 a2 h2 a3 h3 a6 h6 x0 x1 x2 x5 (ix2 0 x)
      = (Row.probS (Data.M n x) (Row.sc (D.K n 1) (D.Q n 1) x) (D.σ 1 x) : EReal) := by
  unfold kernelRun0_B.sl.r_24
  rw [show @k0_pay62 Ideal _ = k0_pay22 from rfl]
  refine pay22_at (σ := D.σ 1) (mask_at H) (kk c a2 h2 a3 h3 H) (qq c a1 h1 H) (fun x => ?_) x
  sl_unfold_words
  simp only [View.readAt_eq_ld, h6.read_unread]
  refine pay15_at _ _ _ _ _ _ _ _ (fun g => (D.s (head 1 g) : EReal)) ?_ ?_ ?_ ?_ ?_ ?_ ?_ ?_ x <;> pointwise <;>
    exact H.s _ _ (by simp [head])

/-- The gradient with respect to the products of query and key. -/
theorem gg (H : Ins D n i x0 x1 x2 x3 x4 x5 x6) (κ : Fin 256) (x : Fin 1024) :
    kernelRun0_B.sl.r_27 (F := Ideal) c i a1 h1 a2 h2 a3 h3 a4 h4 a5 h5 a6 h6 a7 h7 x0 x1 x2 x3 x4 x5 x6 (ix2 κ x) = (D.G n 1 x κ : EReal) := by
  unfold kernelRun0_B.sl.r_27
  rw [show @k0_pay67 Ideal _ = k0_pay27 from rfl]
  exact pay27_at (vv c a4 h4 a5 h5 H) (oo c a7 h7 H) (pp c a1 h1 a2 h2 a3 h3 a6 h6 H) κ x

/-- The gradient with respect to the sinks' scores. -/
theorem gs (H : Ins D n i x0 x1 x2 x3 x4 x5 x6) (x : Fin 1024) :
    kernelRun0_B.sl.r_28 (F := Ideal) c i a1 h1 a2 h2 a3 h3 a4 h4 a5 h5 a6 h6 a7 h7 x0 x1 x2 x3 x4 x5 x6 (ix2 0 x) = (D.S n 1 x : EReal) := by
  unfold kernelRun0_B.sl.r_28
  rw [show @k0_pay68 Ideal _ = k0_pay28 from rfl]
  exact pay28_at (vv c a4 h4 a5 h5 H) (oo c a7 h7 H) (pp c a1 h1 a2 h2 a3 h3 a6 h6 H) (ps c a1 h1 a2 h2 a3 h3 a6 h6 H) x

/-- The gradient with respect to the queries. -/
theorem dq (H : Ins D n i x0 x1 x2 x3 x4 x5 x6) (d : Fin 64) (x : Fin 1024) :
    kernelRun0_B.sl.r_29 (F := Ideal) c i a1 h1 a2 h2 a3 h3 a4 h4 a5 h5 a6 h6 a7 h7 x0 x1 x2 x3 x4 x5 x6 (ix2 d x) = (D.dq n 1 d x : EReal) := by
  unfold kernelRun0_B.sl.r_29
  rw [show @k0_pay69 Ideal _ = k0_pay29 from rfl]
  exact pay29_at (kk c a2 h2 a3 h3 H) (gg c a1 h1 a2 h2 a3 h3 a4 h4 a5 h5 a6 h6 a7 h7 H) d x

/-- The block's part of the gradient with respect to the keys. -/
theorem dk (H : Ins D n i x0 x1 x2 x3 x4 x5 x6) (κ : Fin 256) (d : Fin 64) :
    k0_pay83 (kernelRun0_B.sl.r_19 (F := Ideal) c a1 h1 x0) (kernelRun0_B.sl.r_27 (F := Ideal) c i a1 h1 a2 h2 a3 h3 a4 h4 a5 h5 a6 h6 a7 h7 x0 x1 x2 x3 x4 x5 x6) (ix2 κ d)
      = (D.dkw n 1 κ d : EReal) :=
  pay43_at (qq c a1 h1 H) (gg c a1 h1 a2 h2 a3 h3 a4 h4 a5 h5 a6 h6 a7 h7 H) κ d

/-- The block's part of the gradient with respect to the values. -/
theorem dv (H : Ins D n i x0 x1 x2 x3 x4 x5 x6) (κ : Fin 256) (d : Fin 64) :
    k0_pay84 (kernelRun0_B.sl.r_23 (F := Ideal) c i a1 h1 a2 h2 a3 h3 a6 h6 x0 x1 x2 x5) (kernelRun0_B.sl.r_26 (F := Ideal) c a7 h7 x6) (ix2 κ d)
      = (D.dvw n 1 κ d : EReal) :=
  pay44_at (oo c a7 h7 H) (pp c a1 h1 a2 h2 a3 h3 a6 h6 H) κ d

/-- The first head's column of the sinks' gradients, summed. -/
theorem gs_first :
    kernelRun0_B.sl.r_30 (F := Ideal) c i a1 h1 a2 h2 a3 h3 a4 h4 a5 h5 a6 h6 a7 h7 x0 x1 x2 x3 x4 x5 x6 (ix2 0 0)
      = ∑ r : Fin 128, kernelRun0_B.sl.r_28 (F := Ideal) c i a1 h1 a2 h2 a3 h3 a4 h4 a5 h5 a6 h6 a7 h7 x0 x1 x2 x3 x4 x5 x6 (ix2 0 ⟨r.val, by omega⟩) := by
  unfold kernelRun0_B.sl.r_30
  pointwise [k0_pay72]
  rfl

/-- The group's eight lanes of the sinks' gradients, added to those of the groups before. -/
theorem lane (H : Ins D n i x0 x1 x2 x3 x4 x5 x6) (y : Fin 128) :
    kernelRun0_B.sl.r_33 (F := Ideal) c i a1 h1 a2 h2 a3 h3 a4 h4 a5 h5 a6 h6 a7 h7 x0 x1 x2 x3 x4 x5 x6 (ix2 0 y)
      = kernelRun0_B.sl.r_16 (F := Ideal) c i a1 h1 a2 h2 a3 h3 a4 h4 a5 h5 a6 h6 a7 h7 x0 x1 x2 x3 x4 x5 x6 (ix2 0 y)
        + ∑ g : Fin 8, if y.val = 8 * ((1 : Fin 4) : ℕ) + g.val then (D.dsb n 1 g : EReal) else 0 := by
  have hf := gs_first (i := i) (x0 := x0) (x1 := x1) (x2 := x2) (x3 := x3) (x4 := x4) (x5 := x5) (x6 := x6) c a1 h1 a2 h2 a3 h3 a4 h4 a5 h5 a6 h6 a7 h7
  have hs := gs c a1 h1 a2 h2 a3 h3 a4 h4 a5 h5 a6 h6 a7 h7 H
  unfold kernelRun0_B.sl.r_33 kernelRun0_B.sl.r_32 kernelRun0_B.sl.r_31 kernelRun0_B.sl.v33
  revert hf hs
  generalize kernelRun0_B.sl.r_16 (F := Ideal) c i a1 h1 a2 h2 a3 h3 a4 h4 a5 h5 a6 h6 a7 h7 x0 x1 x2 x3 x4 x5 x6 = acc
  generalize kernelRun0_B.sl.r_28 (F := Ideal) c i a1 h1 a2 h2 a3 h3 a4 h4 a5 h5 a6 h6 a7 h7 x0 x1 x2 x3 x4 x5 x6 = ds
  generalize kernelRun0_B.sl.r_30 (F := Ideal) c i a1 h1 a2 h2 a3 h3 a4 h4 a5 h5 a6 h6 a7 h7 x0 x1 x2 x3 x4 x5 x6 = dd
  intro hf hs
  pointwise [k0_pay82, k0_pay80, k0_pay76, k0_pay71]
  rw [hf, lane_eq y 8 (by omega), lane_eq y 9 (by omega), lane_eq y 10 (by omega), lane_eq y 11 (by omega), lane_eq y 12 (by omega), lane_eq y 13 (by omega), lane_eq y 14 (by omega), lane_eq y 15 (by omega)]
  simp only [hs, select_ofBool, ← Words.coe_sum]
  exact lanes _ y 1 (fun g => (D.dsb n 1 g : EReal))

end Cert.KernelIdeal.Attn.Group1

end

end
-- ==== Proof.AttnGroup2.lean ====
/-
  Group 2 of the attention's backward body at a grid point: its inputs, its probabilities and its gradients.
-/
module

public import proofs.«01_k».proof.Proof.AttnIns

@[expose] public section

set_option maxRecDepth 16384

noncomputable section

namespace Cert.KernelIdeal.Attn.Group2

open Cert.KernelIdeal Cert.KernelIdeal.Gen Cert.Attn
open Idealize.ShloMosaic Idealize.ShloMosaic.TcCoe Idealize.SL.Sem

variable {D : Data} {n : Fin 64} {i : grid0.Coords} {x0 : Vec Ideal S2048x128 .bf16} {x1 x2 : Vec Ideal S128x256 .bf16}
    {x3 x4 : Vec Ideal S128x256 .f32} {x5 : Vec Ideal S1x128 .f32} {x6 : Vec Ideal S2048x128 .bf16}

variable (c : Dev nD) (a1 : Memref sig .tc .vmem S2048x128 .bf16) (h1 : a1.IsWhole) (a2 : Memref sig .tc .vmem S128x256 .bf16) (h2 : a2.IsWhole)
  (a3 : Memref sig .tc .vmem S128x256 .bf16) (h3 : a3.IsWhole) (a4 : Memref sig .tc .vmem S128x256 .f32) (h4 : a4.IsWhole)
  (a5 : Memref sig .tc .vmem S128x256 .f32) (h5 : a5.IsWhole) (a6 : Memref sig .tc .vmem S1x128 .f32) (h6 : a6.IsWhole)
  (a7 : Memref sig .tc .vmem S2048x128 .bf16) (h7 : a7.IsWhole)

/-- The keys. -/
theorem kk (H : Ins D n i x0 x1 x2 x3 x4 x5 x6) (κ : Fin 256) (d : Fin 64) :
    kernelRun0_B.sl.r_34 (F := Ideal) c a2 h2 a3 h3 x1 x2 (ix2 κ d) = (D.K n 2 κ d : EReal) := by
  sl_unfold_words
  simp only [View.readAt_eq_ld, h2.read_unread, h3.read_unread]
  refine (pay9_at _ _ κ d).trans ?_
  unfold Data.K window
  split
  · pointwise
    exact H.kp _ _ 2 d (by simp)
  · pointwise
    exact H.kc _ _ 2 d (by simp)

/-- The values. -/
theorem vv (H : Ins D n i x0 x1 x2 x3 x4 x5 x6) (κ : Fin 256) (d : Fin 64) :
    kernelRun0_B.sl.r_35 (F := Ideal) c a4 h4 a5 h5 x3 x4 (ix2 κ d) = (D.V n 2 κ d : EReal) := by
  sl_unfold_words
  simp only [View.readAt_eq_ld, h4.read_unread, h5.read_unread]
  refine (pay10_at _ _ κ d).trans ?_
  unfold Data.V window
  split
  · pointwise
    exact H.vp _ _ 2 d (by simp)
  · pointwise
    exact H.vc _ _ 2 d (by simp)

/-- The queries. -/
theorem qq (H : Ins D n i x0 x1 x2 x3 x4 x5 x6) (d : Fin 64) (x : Fin 1024) :
    kernelRun0_B.sl.r_36 (F := Ideal) c a1 h1 x0 (ix2 d x) = (D.Q n 2 d x : EReal) := by
  sl_unfold_words
  simp only [View.readAt_eq_ld, h1.read_unread]
  refine pay11_at _ _ _ _ _ _ _ _ (fun g d r => (D.q (tok n r) (head 2 g) d : EReal)) ?_ ?_ ?_ ?_ ?_ ?_ ?_ ?_ d x <;> intro d r <;> pointwise <;>
    exact H.q _ _ d r (by simp [head])

/-- The cotangents. -/
theorem oo (H : Ins D n i x0 x1 x2 x3 x4 x5 x6) (d : Fin 64) (x : Fin 1024) :
    kernelRun0_B.sl.r_43 (F := Ideal) c a7 h7 x6 (ix2 d x) = (D.O n 2 d x : EReal) := by
  sl_unfold_words
  simp only [View.readAt_eq_ld, h7.read_unread]
  refine pay24_at _ _ _ _ _ _ _ _ (fun g d r => (D.o (tok n r) (head 2 g) d : EReal)) ?_ ?_ ?_ ?_ ?_ ?_ ?_ ?_ d x <;> intro d r <;> pointwise <;>
    exact H.o _ _ d r (by simp [head])

/-- The probabilities. -/
theorem pp (H : Ins D n i x0 x1 x2 x3 x4 x5 x6) (κ : Fin 256) (x : Fin 1024) :
    kernelRun0_B.sl.r_40 (F := Ideal) c i a1 h1 a2 h2 a3 h3 a6 h6 x0 x1 x2 x5 (ix2 κ x) = (D.P n 2 x κ : EReal) := by
  unfold kernelRun0_B.sl.r_40
  rw [show @k0_pay101 Ideal _ = k0_pay21 from rfl]
  refine pay21_at (σ := D.σ 2) (mask_at H) (kk c a2 h2 a3 h3 H) (qq c a1 h1 H) (fun x => ?_) κ x
  sl_unfold_words
  simp only [View.readAt_eq_ld, h6.read_unread]
  refine pay15_at _ _ _ _ _ _ _ _ (fun g => (D.s (head 2 g) : EReal)) ?_ ?_ ?_ ?_ ?_ ?_ ?_ ?_ x <;> pointwise <;>
    exact H.s _ _ (by simp [head])

/-- The sinks' probabilities. -/
theorem ps (H : Ins D n i x0 x1 x2 x3 x4 x5 x6) (x : Fin 1024) :
    kernelRun0_B.sl.r_41 (F := Ideal) c i a1 h1 a2 h2 a3 h3 a6 h6 x0 x1 x2 x5 (ix2 0 x)
      = (Row.probS (Data.M n x) (Row.sc (D.K n 2) (D.Q n 2) x) (D.σ 2 x) : EReal) := by
  unfold kernelRun0_B.sl.r_41
  rw [show @k0_pay102 Ideal _ = k0_pay22 from rfl]
  refine pay22_at (σ := D.σ 2) (mask_at H) (kk c a2 h2 a3 h3 H) (qq c a1 h1 H) (fun x => ?_) x
  sl_unfold_words
  simp only [View.readAt_eq_ld, h6.read_unread]
  refine pay15_at _ _ _ _ _ _ _ _ (fun g => (D.s (head 2 g) : EReal)) ?_ ?_ ?_ ?_ ?_ ?_ ?_ ?_ x <;> pointwise <;>
    exact H.s _ _ (by simp [head])

/-- The gradient with respect to the products of query and key. -/
theorem gg (H : Ins D n i x0 x1 x2 x3 x4 x5 x6) (κ : Fin 256) (x : Fin 1024) :
    kernelRun0_B.sl.r_44 (F := Ideal) c i a1 h1 a2 h2 a3 h3 a4 h4 a5 h5 a6 h6 a7 h7 x0 x1 x2 x3 x4 x5 x6 (ix2 κ x) = (D.G n 2 x κ : EReal) := by
  unfold kernelRun0_B.sl.r_44
  rw [show @k0_pay107 Ideal _ = k0_pay27 from rfl]
  exact pay27_at (vv c a4 h4 a5 h5 H) (oo c a7 h7 H) (pp c a1 h1 a2 h2 a3 h3 a6 h6 H) κ x

/-- The gradient with respect to the sinks' scores. -/
theorem gs (H : Ins D n i x0 x1 x2 x3 x4 x5 x6) (x : Fin 1024) :
    kernelRun0_B.sl.r_45 (F := Ideal) c i a1 h1 a2 h2 a3 h3 a4 h4 a5 h5 a6 h6 a7 h7 x0 x1 x2 x3 x4 x5 x6 (ix2 0 x) = (D.S n 2 x : EReal) := by
  unfold kernelRun0_B.sl.r_45
  rw [show @k0_pay108 Ideal _ = k0_pay28 from rfl]
  exact pay28_at (vv c a4 h4 a5 h5 H) (oo c a7 h7 H) (pp c a1 h1 a2 h2 a3 h3 a6 h6 H) (ps c a1 h1 a2 h2 a3 h3 a6 h6 H) x

/-- The gradient with respect to the queries. -/
theorem dq (H : Ins D n i x0 x1 x2 x3 x4 x5 x6) (d : Fin 64) (x : Fin 1024) :
    kernelRun0_B.sl.r_46 (F := Ideal) c i a1 h1 a2 h2 a3 h3 a4 h4 a5 h5 a6 h6 a7 h7 x0 x1 x2 x3 x4 x5 x6 (ix2 d x) = (D.dq n 2 d x : EReal) := by
  unfold kernelRun0_B.sl.r_46
  rw [show @k0_pay109 Ideal _ = k0_pay29 from rfl]
  exact pay29_at (kk c a2 h2 a3 h3 H) (gg c a1 h1 a2 h2 a3 h3 a4 h4 a5 h5 a6 h6 a7 h7 H) d x

/-- The block's part of the gradient with respect to the keys. -/
theorem dk (H : Ins D n i x0 x1 x2 x3 x4 x5 x6) (κ : Fin 256) (d : Fin 64) :
    k0_pay123 (kernelRun0_B.sl.r_36 (F := Ideal) c a1 h1 x0) (kernelRun0_B.sl.r_44 (F := Ideal) c i a1 h1 a2 h2 a3 h3 a4 h4 a5 h5 a6 h6 a7 h7 x0 x1 x2 x3 x4 x5 x6) (ix2 κ d)
      = (D.dkw n 2 κ d : EReal) :=
  pay43_at (qq c a1 h1 H) (gg c a1 h1 a2 h2 a3 h3 a4 h4 a5 h5 a6 h6 a7 h7 H) κ d

/-- The block's part of the gradient with respect to the values. -/
theorem dv (H : Ins D n i x0 x1 x2 x3 x4 x5 x6) (κ : Fin 256) (d : Fin 64) :
    k0_pay124 (kernelRun0_B.sl.r_40 (F := Ideal) c i a1 h1 a2 h2 a3 h3 a6 h6 x0 x1 x2 x5) (kernelRun0_B.sl.r_43 (F := Ideal) c a7 h7 x6) (ix2 κ d)
      = (D.dvw n 2 κ d : EReal) :=
  pay44_at (oo c a7 h7 H) (pp c a1 h1 a2 h2 a3 h3 a6 h6 H) κ d

/-- The first head's column of the sinks' gradients, summed. -/
theorem gs_first :
    kernelRun0_B.sl.r_47 (F := Ideal) c i a1 h1 a2 h2 a3 h3 a4 h4 a5 h5 a6 h6 a7 h7 x0 x1 x2 x3 x4 x5 x6 (ix2 0 0)
      = ∑ r : Fin 128, kernelRun0_B.sl.r_45 (F := Ideal) c i a1 h1 a2 h2 a3 h3 a4 h4 a5 h5 a6 h6 a7 h7 x0 x1 x2 x3 x4 x5 x6 (ix2 0 ⟨r.val, by omega⟩) := by
  unfold kernelRun0_B.sl.r_47
  pointwise [k0_pay112]
  rfl

/-- The group's eight lanes of the sinks' gradients, added to those of the groups before. -/
theorem lane (H : Ins D n i x0 x1 x2 x3 x4 x5 x6) (y : Fin 128) :
    kernelRun0_B.sl.r_50 (F := Ideal) c i a1 h1 a2 h2 a3 h3 a4 h4 a5 h5 a6 h6 a7 h7 x0 x1 x2 x3 x4 x5 x6 (ix2 0 y)
      = kernelRun0_B.sl.r_33 (F := Ideal) c i a1 h1 a2 h2 a3 h3 a4 h4 a5 h5 a6 h6 a7 h7 x0 x1 x2 x3 x4 x5 x6 (ix2 0 y)
        + ∑ g : Fin 8, if y.val = 8 * ((2 : Fin 4) : ℕ) + g.val then (D.dsb n 2 g : EReal) else 0 := by
  have hf := gs_first (i := i) (x0 := x0) (x1 := x1) (x2 := x2) (x3 := x3) (x4 := x4) (x5 := x5) (x6 := x6) c a1 h1 a2 h2 a3 h3 a4 h4 a5 h5 a6 h6 a7 h7
  have hs := gs c a1 h1 a2 h2 a3 h3 a4 h4 a5 h5 a6 h6 a7 h7 H
  unfold kernelRun0_B.sl.r_50 kernelRun0_B.sl.r_49 kernelRun0_B.sl.r_48 kernelRun0_B.sl.v33
  revert hf hs
  generalize kernelRun0_B.sl.r_33 (F := Ideal) c i a1 h1 a2 h2 a3 h3 a4 h4 a5 h5 a6 h6 a7 h7 x0 x1 x2 x3 x4 x5 x6 = acc
  generalize kernelRun0_B.sl.r_45 (F := Ideal) c i a1 h1 a2 h2 a3 h3 a4 h4 a5 h5 a6 h6 a7 h7 x0 x1 x2 x3 x4 x5 x6 = ds
  generalize kernelRun0_B.sl.r_47 (F := Ideal) c i a1 h1 a2 h2 a3 h3 a4 h4 a5 h5 a6 h6 a7 h7 x0 x1 x2 x3 x4 x5 x6 = dd
  intro hf hs
  pointwise [k0_pay122, k0_pay120, k0_pay116, k0_pay111]
  rw [hf, lane_eq y 16 (by omega), lane_eq y 17 (by omega), lane_eq y 18 (by omega), lane_eq y 19 (by omega), lane_eq y 20 (by omega), lane_eq y 21 (by omega), lane_eq y 22 (by omega), lane_eq y 23 (by omega)]
  simp only [hs, select_ofBool, ← Words.coe_sum]
  exact lanes _ y 2 (fun g => (D.dsb n 2 g : EReal))

end Cert.KernelIdeal.Attn.Group2

end

end
-- ==== Proof.AttnGroup3.lean ====
/-
  Group 3 of the attention's backward body at a grid point: its inputs, its probabilities and its gradients.
-/
module

public import proofs.«01_k».proof.Proof.AttnIns

@[expose] public section

set_option maxRecDepth 16384

noncomputable section

namespace Cert.KernelIdeal.Attn.Group3

open Cert.KernelIdeal Cert.KernelIdeal.Gen Cert.Attn
open Idealize.ShloMosaic Idealize.ShloMosaic.TcCoe Idealize.SL.Sem

variable {D : Data} {n : Fin 64} {i : grid0.Coords} {x0 : Vec Ideal S2048x128 .bf16} {x1 x2 : Vec Ideal S128x256 .bf16}
    {x3 x4 : Vec Ideal S128x256 .f32} {x5 : Vec Ideal S1x128 .f32} {x6 : Vec Ideal S2048x128 .bf16}

variable (c : Dev nD) (a1 : Memref sig .tc .vmem S2048x128 .bf16) (h1 : a1.IsWhole) (a2 : Memref sig .tc .vmem S128x256 .bf16) (h2 : a2.IsWhole)
  (a3 : Memref sig .tc .vmem S128x256 .bf16) (h3 : a3.IsWhole) (a4 : Memref sig .tc .vmem S128x256 .f32) (h4 : a4.IsWhole)
  (a5 : Memref sig .tc .vmem S128x256 .f32) (h5 : a5.IsWhole) (a6 : Memref sig .tc .vmem S1x128 .f32) (h6 : a6.IsWhole)
  (a7 : Memref sig .tc .vmem S2048x128 .bf16) (h7 : a7.IsWhole)

/-- The keys. -/
theorem kk (H : Ins D n i x0 x1 x2 x3 x4 x5 x6) (κ : Fin 256) (d : Fin 64) :
    kernelRun0_B.sl.r_51 (F := Ideal) c a2 h2 a3 h3 x1 x2 (ix2 κ d) = (D.K n 3 κ d : EReal) := by
  sl_unfold_words
  simp only [View.readAt_eq_ld, h2.read_unread, h3.read_unread]
  refine (pay9_at _ _ κ d).trans ?_
  unfold Data.K window
  split
  · pointwise
    exact H.kp _ _ 3 d (by simp)
  · pointwise
    exact H.kc _ _ 3 d (by simp)

/-- The values. -/
theorem vv (H : Ins D n i x0 x1 x2 x3 x4 x5 x6) (κ : Fin 256) (d : Fin 64) :
    kernelRun0_B.sl.r_52 (F := Ideal) c a4 h4 a5 h5 x3 x4 (ix2 κ d) = (D.V n 3 κ d : EReal) := by
  sl_unfold_words
  simp only [View.readAt_eq_ld, h4.read_unread, h5.read_unread]
  refine (pay10_at _ _ κ d).trans ?_
  unfold Data.V window
  split
  · pointwise
    exact H.vp _ _ 3 d (by simp)
  · pointwise
    exact H.vc _ _ 3 d (by simp)

/-- The queries. -/
theorem qq (H : Ins D n i x0 x1 x2 x3 x4 x5 x6) (d : Fin 64) (x : Fin 1024) :
    kernelRun0_B.sl.r_53 (F := Ideal) c a1 h1 x0 (ix2 d x) = (D.Q n 3 d x : EReal) := by
  sl_unfold_words
  simp only [View.readAt_eq_ld, h1.read_unread]
  refine pay11_at _ _ _ _ _ _ _ _ (fun g d r => (D.q (tok n r) (head 3 g) d : EReal)) ?_ ?_ ?_ ?_ ?_ ?_ ?_ ?_ d x <;> intro d r <;> pointwise <;>
    exact H.q _ _ d r (by simp [head])

/-- The cotangents. -/
theorem oo (H : Ins D n i x0 x1 x2 x3 x4 x5 x6) (d : Fin 64) (x : Fin 1024) :
    kernelRun0_B.sl.r_60 (F := Ideal) c a7 h7 x6 (ix2 d x) = (D.O n 3 d x : EReal) := by
  sl_unfold_words
  simp only [View.readAt_eq_ld, h7.read_unread]
  refine pay24_at _ _ _ _ _ _ _ _ (fun g d r => (D.o (tok n r) (head 3 g) d : EReal)) ?_ ?_ ?_ ?_ ?_ ?_ ?_ ?_ d x <;> intro d r <;> pointwise <;>
    exact H.o _ _ d r (by simp [head])

/-- The probabilities. -/
theorem pp (H : Ins D n i x0 x1 x2 x3 x4 x5 x6) (κ : Fin 256) (x : Fin 1024) :
    kernelRun0_B.sl.r_57 (F := Ideal) c i a1 h1 a2 h2 a3 h3 a6 h6 x0 x1 x2 x5 (ix2 κ x) = (D.P n 3 x κ : EReal) := by
  unfold kernelRun0_B.sl.r_57
  rw [show @k0_pay141 Ideal _ = k0_pay21 from rfl]
  refine pay21_at (σ := D.σ 3) (mask_at H) (kk c a2 h2 a3 h3 H) (qq c a1 h1 H) (fun x => ?_) κ x
  sl_unfold_words
  simp only [View.readAt_eq_ld, h6.read_unread]
  refine pay15_at _ _ _ _ _ _ _ _ (fun g => (D.s (head 3 g) : EReal)) ?_ ?_ ?_ ?_ ?_ ?_ ?_ ?_ x <;> pointwise <;>
    exact H.s _ _ (by simp [head])

/-- The sinks' probabilities. -/
theorem ps (H : Ins D n i x0 x1 x2 x3 x4 x5 x6) (x : Fin 1024) :
    kernelRun0_B.sl.r_58 (F := Ideal) c i a1 h1 a2 h2 a3 h3 a6 h6 x0 x1 x2 x5 (ix2 0 x)
      = (Row.probS (Data.M n x) (Row.sc (D.K n 3) (D.Q n 3) x) (D.σ 3 x) : EReal) := by
  unfold kernelRun0_B.sl.r_58
  rw [show @k0_pay142 Ideal _ = k0_pay22 from rfl]
  refine pay22_at (σ := D.σ 3) (mask_at H) (kk c a2 h2 a3 h3 H) (qq c a1 h1 H) (fun x => ?_) x
  sl_unfold_words
  simp only [View.readAt_eq_ld, h6.read_unread]
  refine pay15_at _ _ _ _ _ _ _ _ (fun g => (D.s (head 3 g) : EReal)) ?_ ?_ ?_ ?_ ?_ ?_ ?_ ?_ x <;> pointwise <;>
    exact H.s _ _ (by simp [head])

/-- The gradient with respect to the products of query and key. -/
theorem gg (H : Ins D n i x0 x1 x2 x3 x4 x5 x6) (κ : Fin 256) (x : Fin 1024) :
    kernelRun0_B.sl.r_61 (F := Ideal) c i a1 h1 a2 h2 a3 h3 a4 h4 a5 h5 a6 h6 a7 h7 x0 x1 x2 x3 x4 x5 x6 (ix2 κ x) = (D.G n 3 x κ : EReal) := by
  unfold kernelRun0_B.sl.r_61
  rw [show @k0_pay147 Ideal _ = k0_pay27 from rfl]
  exact pay27_at (vv c a4 h4 a5 h5 H) (oo c a7 h7 H) (pp c a1 h1 a2 h2 a3 h3 a6 h6 H) κ x

/-- The gradient with respect to the sinks' scores. -/
theorem gs (H : Ins D n i x0 x1 x2 x3 x4 x5 x6) (x : Fin 1024) :
    kernelRun0_B.sl.r_62 (F := Ideal) c i a1 h1 a2 h2 a3 h3 a4 h4 a5 h5 a6 h6 a7 h7 x0 x1 x2 x3 x4 x5 x6 (ix2 0 x) = (D.S n 3 x : EReal) := by
  unfold kernelRun0_B.sl.r_62
  rw [show @k0_pay148 Ideal _ = k0_pay28 from rfl]
  exact pay28_at (vv c a4 h4 a5 h5 H) (oo c a7 h7 H) (pp c a1 h1 a2 h2 a3 h3 a6 h6 H) (ps c a1 h1 a2 h2 a3 h3 a6 h6 H) x

/-- The gradient with respect to the queries. -/
theorem dq (H : Ins D n i x0 x1 x2 x3 x4 x5 x6) (d : Fin 64) (x : Fin 1024) :
    kernelRun0_B.sl.r_63 (F := Ideal) c i a1 h1 a2 h2 a3 h3 a4 h4 a5 h5 a6 h6 a7 h7 x0 x1 x2 x3 x4 x5 x6 (ix2 d x) = (D.dq n 3 d x : EReal) := by
  unfold kernelRun0_B.sl.r_63
  rw [show @k0_pay149 Ideal _ = k0_pay29 from rfl]
  exact pay29_at (kk c a2 h2 a3 h3 H) (gg c a1 h1 a2 h2 a3 h3 a4 h4 a5 h5 a6 h6 a7 h7 H) d x

/-- The block's part of the gradient with respect to the keys. -/
theorem dk (H : Ins D n i x0 x1 x2 x3 x4 x5 x6) (κ : Fin 256) (d : Fin 64) :
    k0_pay163 (kernelRun0_B.sl.r_53 (F := Ideal) c a1 h1 x0) (kernelRun0_B.sl.r_61 (F := Ideal) c i a1 h1 a2 h2 a3 h3 a4 h4 a5 h5 a6 h6 a7 h7 x0 x1 x2 x3 x4 x5 x6) (ix2 κ d)
      = (D.dkw n 3 κ d : EReal) :=
  pay43_at (qq c a1 h1 H) (gg c a1 h1 a2 h2 a3 h3 a4 h4 a5 h5 a6 h6 a7 h7 H) κ d

/-- The block's part of the gradient with respect to the values. -/
theorem dv (H : Ins D n i x0 x1 x2 x3 x4 x5 x6) (κ : Fin 256) (d : Fin 64) :
    k0_pay164 (kernelRun0_B.sl.r_57 (F := Ideal) c i a1 h1 a2 h2 a3 h3 a6 h6 x0 x1 x2 x5) (kernelRun0_B.sl.r_60 (F := Ideal) c a7 h7 x6) (ix2 κ d)
      = (D.dvw n 3 κ d : EReal) :=
  pay44_at (oo c a7 h7 H) (pp c a1 h1 a2 h2 a3 h3 a6 h6 H) κ d

/-- The first head's column of the sinks' gradients, summed. -/
theorem gs_first :
    kernelRun0_B.sl.r_64 (F := Ideal) c i a1 h1 a2 h2 a3 h3 a4 h4 a5 h5 a6 h6 a7 h7 x0 x1 x2 x3 x4 x5 x6 (ix2 0 0)
      = ∑ r : Fin 128, kernelRun0_B.sl.r_62 (F := Ideal) c i a1 h1 a2 h2 a3 h3 a4 h4 a5 h5 a6 h6 a7 h7 x0 x1 x2 x3 x4 x5 x6 (ix2 0 ⟨r.val, by omega⟩) := by
  unfold kernelRun0_B.sl.r_64
  pointwise [k0_pay152]
  rfl

/-- The group's eight lanes of the sinks' gradients, added to those of the groups before. -/
theorem lane (H : Ins D n i x0 x1 x2 x3 x4 x5 x6) (y : Fin 128) :
    kernelRun0_B.sl.r_67 (F := Ideal) c i a1 h1 a2 h2 a3 h3 a4 h4 a5 h5 a6 h6 a7 h7 x0 x1 x2 x3 x4 x5 x6 (ix2 0 y)
      = kernelRun0_B.sl.r_50 (F := Ideal) c i a1 h1 a2 h2 a3 h3 a4 h4 a5 h5 a6 h6 a7 h7 x0 x1 x2 x3 x4 x5 x6 (ix2 0 y)
        + ∑ g : Fin 8, if y.val = 8 * ((3 : Fin 4) : ℕ) + g.val then (D.dsb n 3 g : EReal) else 0 := by
  have hf := gs_first (i := i) (x0 := x0) (x1 := x1) (x2 := x2) (x3 := x3) (x4 := x4) (x5 := x5) (x6 := x6) c a1 h1 a2 h2 a3 h3 a4 h4 a5 h5 a6 h6 a7 h7
  have hs := gs c a1 h1 a2 h2 a3 h3 a4 h4 a5 h5 a6 h6 a7 h7 H
  unfold kernelRun0_B.sl.r_67 kernelRun0_B.sl.r_66 kernelRun0_B.sl.r_65 kernelRun0_B.sl.v33
  revert hf hs
  generalize kernelRun0_B.sl.r_50 (F := Ideal) c i a1 h1 a2 h2 a3 h3 a4 h4 a5 h5 a6 h6 a7 h7 x0 x1 x2 x3 x4 x5 x6 = acc
  generalize kernelRun0_B.sl.r_62 (F := Ideal) c i a1 h1 a2 h2 a3 h3 a4 h4 a5 h5 a6 h6 a7 h7 x0 x1 x2 x3 x4 x5 x6 = ds
  generalize kernelRun0_B.sl.r_64 (F := Ideal) c i a1 h1 a2 h2 a3 h3 a4 h4 a5 h5 a6 h6 a7 h7 x0 x1 x2 x3 x4 x5 x6 = dd
  intro hf hs
  pointwise [k0_pay162, k0_pay160, k0_pay156, k0_pay151]
  rw [hf, lane_eq y 24 (by omega), lane_eq y 25 (by omega), lane_eq y 26 (by omega), lane_eq y 27 (by omega), lane_eq y 28 (by omega), lane_eq y 29 (by omega), lane_eq y 30 (by omega), lane_eq y 31 (by omega)]
  simp only [hs, select_ofBool, ← Words.coe_sum]
  exact lanes _ y 3 (fun g => (D.dsb n 3 g : EReal))

end Cert.KernelIdeal.Attn.Group3

end

end
-- ==== Proof.AttnPointA.lean ====
module

public import proofs.«01_k».proof.Proof.AttnPieces
public import proofs.«01_k».proof.Proof.AttnGroup0
public import proofs.«01_k».proof.Proof.AttnGroup1
public import proofs.«01_k».proof.Proof.AttnGroup2
public import proofs.«01_k».proof.Proof.AttnGroup3

/-! # The first point of the attention kernel's grid

The first point clears what is carried and the sinks' gradients; what it leaves is its own part of each gradient. -/

@[expose] public section

set_option maxRecDepth 16384
set_option maxHeartbeats 2000000

noncomputable section

namespace Cert.KernelIdeal.Attn

open Cert.KernelIdeal Cert.KernelIdeal.Gen Cert.Attn
open Idealize.ShloMosaic Idealize.ShloMosaic.TcCoe Idealize.SL.Sem
open Idealize.ShloMosaic.Pipeline (Dat)

variable (m : (ℓ : Loc nD τ sig) → Buf (Elt Ideal) ℓ)

/-- A fill with zeros, read at an index. -/
theorem fill5 (w : S128x256.Idx) : (k0_pay5 (F := Ideal)) w = 0 := by
  idx_vars w
  pointwise [k0_pay5]

theorem fill6 (w : S128x256.Idx) : (k0_pay6 (F := Ideal)) w = 0 := by
  idx_vars w
  pointwise [k0_pay6]

theorem fill7 (w : S1x128.Idx) : (k0_pay7 (F := Ideal)) w = 0 := by
  idx_vars w
  pointwise [k0_pay7]

/-- Columns a write does not cover keep what was there. -/
theorem skip {off size : Fin 2 → ℕ} {inb : ∀ a, off a + size a ≤ S128x256.size a} (w : (Rect.unit (s := S128x256) off size inb).shape.Idx → Elt Ideal .f32)
    (L : List (View.Piece (Elt Ideal) S128x256 .f32)) {z : S128x256.Idx} (h : (z 1).val < off 1 ∨ off 1 + size 1 ≤ (z 1).val) :
    View.canon (⟨Rect.unit (s := S128x256) off size inb, w⟩ :: L) z = View.canon L z :=
  View.canon_cons_of_not_mem _ _ fun hm => by
    have hm' := (Rect.mem_set_unit (s := S128x256) (off := off) (size := size) (inb := inb) (i := z)).mp hm 1
    omega

/-- Columns a write covers hold what it wrote. -/
theorem hit {off size : Fin 2 → ℕ} {inb : ∀ a, off a + size a ≤ S128x256.size a} (w : (Rect.unit (s := S128x256) off size inb).shape.Idx → Elt Ideal .f32)
    (L : List (View.Piece (Elt Ideal) S128x256 .f32)) {z : S128x256.Idx} (y : (Rect.unit (s := S128x256) off size inb).shape.Idx)
    (h0 : (z 0).val = off 0 + (y 0).val) (h1 : (z 1).val = off 1 + (y 1).val) :
    View.canon (⟨Rect.unit (s := S128x256) off size inb, w⟩ :: L) z = w y := by
  have e : (Rect.unit (s := S128x256) off size inb).emb y = z := funext fun a => Fin.ext (by
    fin_cases a
    · exact (Rect.idx_unit_val (s := S128x256) off size inb y 0).trans h0.symm
    · exact (Rect.idx_unit_val (s := S128x256) off size inb y 1).trans h1.symm)
  rw [← e]
  exact View.canon_cons_emb _ w L y

theorem zero_246 (c a13) (y : S128x64.Idx) : kernelRun0_A.sl.v246 (F := Ideal) c a13 y = 0 := by
  unfold kernelRun0_A.sl.v246 kernelRun0_A.sl.HS0_1
  rw [View.readCov_eq_canon']
  dsimp only
  have e1 : (((Rect.unit (s := S128x256) ![0, 0] S128x64.size inb_S128x256_S128x64_0_0).toLoadRect.idx y) 1).val = 0 + (y 1).val := Rect.idx_unit_val (s := S128x256) ![0, 0] S128x64.size inb_S128x256_S128x64_0_0 y 1
  revert e1
  generalize (Rect.unit (s := S128x256) ![0, 0] S128x64.size inb_S128x256_S128x64_0_0).toLoadRect.idx y = w
  intro e1
  rw [View.canon_cons_unit_lit _ _ _ (by intro a; fin_cases a <;> rfl)]
  exact fill5 w

theorem zero_473 (c i a1 h1 a2 h2 a3 h3 a4 h4 a5 h5 a6 h6 a7 h7 a13 x0 x1 x2 x3 x4 x5 x6) (y : S128x64.Idx) : kernelRun0_A.sl.v473 (F := Ideal) c i a1 h1 a2 h2 a3 h3 a4 h4 a5 h5 a6 h6 a7 h7 a13 x0 x1 x2 x3 x4 x5 x6 y = 0 := by
  unfold kernelRun0_A.sl.v473 kernelRun0_A.sl.HS0_2 kernelRun0_A.sl.HS0_1
  rw [View.readCov_eq_canon']
  dsimp only
  have e1 : (((Rect.unit (s := S128x256) ![0, 64] S128x64.size inb_S128x256_S128x64_0_64).toLoadRect.idx y) 1).val = 64 + (y 1).val := Rect.idx_unit_val (s := S128x256) ![0, 64] S128x64.size inb_S128x256_S128x64_0_64 y 1
  revert e1
  generalize (Rect.unit (s := S128x256) ![0, 64] S128x64.size inb_S128x256_S128x64_0_64).toLoadRect.idx y = w
  intro e1
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill5 w

theorem zero_700 (c i a1 h1 a2 h2 a3 h3 a4 h4 a5 h5 a6 h6 a7 h7 a13 x0 x1 x2 x3 x4 x5 x6) (y : S128x64.Idx) : kernelRun0_A.sl.v700 (F := Ideal) c i a1 h1 a2 h2 a3 h3 a4 h4 a5 h5 a6 h6 a7 h7 a13 x0 x1 x2 x3 x4 x5 x6 y = 0 := by
  unfold kernelRun0_A.sl.v700 kernelRun0_A.sl.HS0_3 kernelRun0_A.sl.HS0_2 kernelRun0_A.sl.HS0_1
  rw [View.readCov_eq_canon']
  dsimp only
  have e1 : (((Rect.unit (s := S128x256) ![0, 128] S128x64.size inb_S128x256_S128x64_0_128).toLoadRect.idx y) 1).val = 128 + (y 1).val := Rect.idx_unit_val (s := S128x256) ![0, 128] S128x64.size inb_S128x256_S128x64_0_128 y 1
  revert e1
  generalize (Rect.unit (s := S128x256) ![0, 128] S128x64.size inb_S128x256_S128x64_0_128).toLoadRect.idx y = w
  intro e1
  refine (skip (off := ![0, 64]) (size := ![128, 64]) (inb := inb_S128x256_S128x64_0_64) _ _ (Or.inr (by show 64 + 64 ≤ (w 1).val; omega))).trans ?_
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill5 w

theorem zero_927 (c i a1 h1 a2 h2 a3 h3 a4 h4 a5 h5 a6 h6 a7 h7 a13 x0 x1 x2 x3 x4 x5 x6) (y : S128x64.Idx) : kernelRun0_A.sl.v927 (F := Ideal) c i a1 h1 a2 h2 a3 h3 a4 h4 a5 h5 a6 h6 a7 h7 a13 x0 x1 x2 x3 x4 x5 x6 y = 0 := by
  unfold kernelRun0_A.sl.v927 kernelRun0_A.sl.HS0_4 kernelRun0_A.sl.HS0_3 kernelRun0_A.sl.HS0_2 kernelRun0_A.sl.HS0_1
  rw [View.readCov_eq_canon']
  dsimp only
  have e1 : (((Rect.unit (s := S128x256) ![0, 192] S128x64.size inb_S128x256_S128x64_0_192).toLoadRect.idx y) 1).val = 192 + (y 1).val := Rect.idx_unit_val (s := S128x256) ![0, 192] S128x64.size inb_S128x256_S128x64_0_192 y 1
  revert e1
  generalize (Rect.unit (s := S128x256) ![0, 192] S128x64.size inb_S128x256_S128x64_0_192).toLoadRect.idx y = w
  intro e1
  refine (skip (off := ![0, 128]) (size := ![128, 64]) (inb := inb_S128x256_S128x64_0_128) _ _ (Or.inr (by show 128 + 64 ≤ (w 1).val; omega))).trans ?_
  refine (skip (off := ![0, 64]) (size := ![128, 64]) (inb := inb_S128x256_S128x64_0_64) _ _ (Or.inr (by show 64 + 64 ≤ (w 1).val; omega))).trans ?_
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill5 w

theorem zero_250 (c a13) (y : S128x64.Idx) : kernelRun0_A.sl.v250 (F := Ideal) c a13 y = 0 := by
  unfold kernelRun0_A.sl.v250 kernelRun0_A.sl.HS1_1
  rw [View.readCov_eq_canon']
  dsimp only
  have e1 : (((Rect.unit (s := S128x256) ![0, 0] S128x64.size inb_S128x256_S128x64_0_0).toLoadRect.idx y) 1).val = 0 + (y 1).val := Rect.idx_unit_val (s := S128x256) ![0, 0] S128x64.size inb_S128x256_S128x64_0_0 y 1
  revert e1
  generalize (Rect.unit (s := S128x256) ![0, 0] S128x64.size inb_S128x256_S128x64_0_0).toLoadRect.idx y = w
  intro e1
  rw [View.canon_cons_unit_lit _ _ _ (by intro a; fin_cases a <;> rfl)]
  exact fill6 w

theorem zero_477 (c i a1 h1 a2 h2 a3 h3 a6 h6 a7 h7 a13 x0 x1 x2 x5 x6) (y : S128x64.Idx) : kernelRun0_A.sl.v477 (F := Ideal) c i a1 h1 a2 h2 a3 h3 a6 h6 a7 h7 a13 x0 x1 x2 x5 x6 y = 0 := by
  unfold kernelRun0_A.sl.v477 kernelRun0_A.sl.HS1_2 kernelRun0_A.sl.HS1_1
  rw [View.readCov_eq_canon']
  dsimp only
  have e1 : (((Rect.unit (s := S128x256) ![0, 64] S128x64.size inb_S128x256_S128x64_0_64).toLoadRect.idx y) 1).val = 64 + (y 1).val := Rect.idx_unit_val (s := S128x256) ![0, 64] S128x64.size inb_S128x256_S128x64_0_64 y 1
  revert e1
  generalize (Rect.unit (s := S128x256) ![0, 64] S128x64.size inb_S128x256_S128x64_0_64).toLoadRect.idx y = w
  intro e1
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill6 w

theorem zero_704 (c i a1 h1 a2 h2 a3 h3 a6 h6 a7 h7 a13 x0 x1 x2 x5 x6) (y : S128x64.Idx) : kernelRun0_A.sl.v704 (F := Ideal) c i a1 h1 a2 h2 a3 h3 a6 h6 a7 h7 a13 x0 x1 x2 x5 x6 y = 0 := by
  unfold kernelRun0_A.sl.v704 kernelRun0_A.sl.HS1_3 kernelRun0_A.sl.HS1_2 kernelRun0_A.sl.HS1_1
  rw [View.readCov_eq_canon']
  dsimp only
  have e1 : (((Rect.unit (s := S128x256) ![0, 128] S128x64.size inb_S128x256_S128x64_0_128).toLoadRect.idx y) 1).val = 128 + (y 1).val := Rect.idx_unit_val (s := S128x256) ![0, 128] S128x64.size inb_S128x256_S128x64_0_128 y 1
  revert e1
  generalize (Rect.unit (s := S128x256) ![0, 128] S128x64.size inb_S128x256_S128x64_0_128).toLoadRect.idx y = w
  intro e1
  refine (skip (off := ![0, 64]) (size := ![128, 64]) (inb := inb_S128x256_S128x64_0_64) _ _ (Or.inr (by show 64 + 64 ≤ (w 1).val; omega))).trans ?_
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill6 w

theorem zero_931 (c i a1 h1 a2 h2 a3 h3 a6 h6 a7 h7 a13 x0 x1 x2 x5 x6) (y : S128x64.Idx) : kernelRun0_A.sl.v931 (F := Ideal) c i a1 h1 a2 h2 a3 h3 a6 h6 a7 h7 a13 x0 x1 x2 x5 x6 y = 0 := by
  unfold kernelRun0_A.sl.v931 kernelRun0_A.sl.HS1_4 kernelRun0_A.sl.HS1_3 kernelRun0_A.sl.HS1_2 kernelRun0_A.sl.HS1_1
  rw [View.readCov_eq_canon']
  dsimp only
  have e1 : (((Rect.unit (s := S128x256) ![0, 192] S128x64.size inb_S128x256_S128x64_0_192).toLoadRect.idx y) 1).val = 192 + (y 1).val := Rect.idx_unit_val (s := S128x256) ![0, 192] S128x64.size inb_S128x256_S128x64_0_192 y 1
  revert e1
  generalize (Rect.unit (s := S128x256) ![0, 192] S128x64.size inb_S128x256_S128x64_0_192).toLoadRect.idx y = w
  intro e1
  refine (skip (off := ![0, 128]) (size := ![128, 64]) (inb := inb_S128x256_S128x64_0_128) _ _ (Or.inr (by show 128 + 64 ≤ (w 1).val; omega))).trans ?_
  refine (skip (off := ![0, 64]) (size := ![128, 64]) (inb := inb_S128x256_S128x64_0_64) _ _ (Or.inr (by show 64 + 64 ≤ (w 1).val; omega))).trans ?_
  refine (skip (off := ![0, 0]) (size := ![128, 64]) (inb := inb_S128x256_S128x64_0_0) _ _ (Or.inr (by show 0 + 64 ≤ (w 1).val; omega))).trans ?_
  rw [View.canon_cons_unit_lit _ _ _ (by intro a; fin_cases a <;> rfl)]
  exact fill6 w

theorem zero_943 (c a12) (y : S1x128.Idx) : kernelRun0_A.sl.v943 (F := Ideal) c a12 y = 0 := by
  unfold kernelRun0_A.sl.v943 kernelRun0_A.sl.H10_1
  rw [View.readCov_eq_canon']
  dsimp only
  rw [View.canon_cons_unit_lit _ _ _ (by intro a; fin_cases a <;> rfl)]
  exact fill7 _

/-- The queries' gradient the point writes. -/
theorem leftA_dq {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (z : S2048x128.Idx) (j : Fin 4) (g : Fin 8) (d : Fin 64) (r : Fin 128) (hz : (z 0).val = 64 * (8 * j.val + g.val) + d.val)
    (hr : (z 1).val = r.val) :
    (leftA m c t h).dq z = (D.dq n j d ⟨128 * g.val + r.val, by omega⟩ : EReal) := by
  show VO0_7.read (Elt Ideal) (VO0_7.writes (Elt Ideal) VO0_7.junk (runA m c t h).1) z = _
  rw [View.read_writes_eq_canon _ _ _ (coverA_dq m c t h)]
  dsimp only [runA, kernelRun0_A]
  canon_tiles y hy
  case piece0 =>
    obtain rfl : j = 3 := Fin.ext (by have := j.isLt; have := g.isLt; have := d.isLt; show j.val = 3; omega)
    obtain rfl : g = 7 := Fin.ext (by have := g.isLt; have := d.isLt; show g.val = 7; have : (((3 : Fin 4)).val = 3) := rfl; omega)
    obtain rfl : d = y 0 := Fin.ext (by have : (((3 : Fin 4)).val = 3) := rfl; have : (((7 : Fin 8)).val = 7) := rfl; omega)
    obtain rfl : r = y 1 := Fin.ext (by omega)
    refine (Piece.head7 _ y).trans ?_
    rw [show @kernelRun0_A.sl.r_63 Ideal _ = @kernelRun0_B.sl.r_63 Ideal _ from rfl]
    exact Group3.dq c _ _ _ _ _ _ _ _ _ _ _ _ _ _ H (y 0) _
  case piece1 =>
    obtain rfl : j = 3 := Fin.ext (by have := j.isLt; have := g.isLt; have := d.isLt; show j.val = 3; omega)
    obtain rfl : g = 6 := Fin.ext (by have := g.isLt; have := d.isLt; show g.val = 6; have : (((3 : Fin 4)).val = 3) := rfl; omega)
    obtain rfl : d = y 0 := Fin.ext (by have : (((3 : Fin 4)).val = 3) := rfl; have : (((6 : Fin 8)).val = 6) := rfl; omega)
    obtain rfl : r = y 1 := Fin.ext (by omega)
    refine (Piece.head6 _ y).trans ?_
    rw [show @kernelRun0_A.sl.r_63 Ideal _ = @kernelRun0_B.sl.r_63 Ideal _ from rfl]
    exact Group3.dq c _ _ _ _ _ _ _ _ _ _ _ _ _ _ H (y 0) _
  case piece2 =>
    obtain rfl : j = 3 := Fin.ext (by have := j.isLt; have := g.isLt; have := d.isLt; show j.val = 3; omega)
    obtain rfl : g = 5 := Fin.ext (by have := g.isLt; have := d.isLt; show g.val = 5; have : (((3 : Fin 4)).val = 3) := rfl; omega)
    obtain rfl : d = y 0 := Fin.ext (by have : (((3 : Fin 4)).val = 3) := rfl; have : (((5 : Fin 8)).val = 5) := rfl; omega)
    obtain rfl : r = y 1 := Fin.ext (by omega)
    refine (Piece.head5 _ y).trans ?_
    rw [show @kernelRun0_A.sl.r_63 Ideal _ = @kernelRun0_B.sl.r_63 Ideal _ from rfl]
    exact Group3.dq c _ _ _ _ _ _ _ _ _ _ _ _ _ _ H (y 0) _
  case piece3 =>
    obtain rfl : j = 3 := Fin.ext (by have := j.isLt; have := g.isLt; have := d.isLt; show j.val = 3; omega)
    obtain rfl : g = 4 := Fin.ext (by have := g.isLt; have := d.isLt; show g.val = 4; have : (((3 : Fin 4)).val = 3) := rfl; omega)
    obtain rfl : d = y 0 := Fin.ext (by have : (((3 : Fin 4)).val = 3) := rfl; have : (((4 : Fin 8)).val = 4) := rfl; omega)
    obtain rfl : r = y 1 := Fin.ext (by omega)
    refine (Piece.head4 _ y).trans ?_
    rw [show @kernelRun0_A.sl.r_63 Ideal _ = @kernelRun0_B.sl.r_63 Ideal _ from rfl]
    exact Group3.dq c _ _ _ _ _ _ _ _ _ _ _ _ _ _ H (y 0) _
  case piece4 =>
    obtain rfl : j = 3 := Fin.ext (by have := j.isLt; have := g.isLt; have := d.isLt; show j.val = 3; omega)
    obtain rfl : g = 3 := Fin.ext (by have := g.isLt; have := d.isLt; show g.val = 3; have : (((3 : Fin 4)).val = 3) := rfl; omega)
    obtain rfl : d = y 0 := Fin.ext (by have : (((3 : Fin 4)).val = 3) := rfl; have : (((3 : Fin 8)).val = 3) := rfl; omega)
    obtain rfl : r = y 1 := Fin.ext (by omega)
    refine (Piece.head3 _ y).trans ?_
    rw [show @kernelRun0_A.sl.r_63 Ideal _ = @kernelRun0_B.sl.r_63 Ideal _ from rfl]
    exact Group3.dq c _ _ _ _ _ _ _ _ _ _ _ _ _ _ H (y 0) _
  case piece5 =>
    obtain rfl : j = 3 := Fin.ext (by have := j.isLt; have := g.isLt; have := d.isLt; show j.val = 3; omega)
    obtain rfl : g = 2 := Fin.ext (by have := g.isLt; have := d.isLt; show g.val = 2; have : (((3 : Fin 4)).val = 3) := rfl; omega)
    obtain rfl : d = y 0 := Fin.ext (by have : (((3 : Fin 4)).val = 3) := rfl; have : (((2 : Fin 8)).val = 2) := rfl; omega)
    obtain rfl : r = y 1 := Fin.ext (by omega)
    refine (Piece.head2 _ y).trans ?_
    rw [show @kernelRun0_A.sl.r_63 Ideal _ = @kernelRun0_B.sl.r_63 Ideal _ from rfl]
    exact Group3.dq c _ _ _ _ _ _ _ _ _ _ _ _ _ _ H (y 0) _
  case piece6 =>
    obtain rfl : j = 3 := Fin.ext (by have := j.isLt; have := g.isLt; have := d.isLt; show j.val = 3; omega)
    obtain rfl : g = 1 := Fin.ext (by have := g.isLt; have := d.isLt; show g.val = 1; have : (((3 : Fin 4)).val = 3) := rfl; omega)
    obtain rfl : d = y 0 := Fin.ext (by have : (((3 : Fin 4)).val = 3) := rfl; have : (((1 : Fin 8)).val = 1) := rfl; omega)
    obtain rfl : r = y 1 := Fin.ext (by omega)
    refine (Piece.head1 _ y).trans ?_
    rw [show @kernelRun0_A.sl.r_63 Ideal _ = @kernelRun0_B.sl.r_63 Ideal _ from rfl]
    exact Group3.dq c _ _ _ _ _ _ _ _ _ _ _ _ _ _ H (y 0) _
  case piece7 =>
    obtain rfl : j = 3 := Fin.ext (by have := j.isLt; have := g.isLt; have := d.isLt; show j.val = 3; omega)
    obtain rfl : g = 0 := Fin.ext (by have := g.isLt; have := d.isLt; show g.val = 0; have : (((3 : Fin 4)).val = 3) := rfl; omega)
    obtain rfl : d = y 0 := Fin.ext (by have : (((3 : Fin 4)).val = 3) := rfl; have : (((0 : Fin 8)).val = 0) := rfl; omega)
    obtain rfl : r = y 1 := Fin.ext (by omega)
    refine (Piece.head0 _ _ _ _ _ _ _ _ _ _ _ y).trans ?_
    rw [show @kernelRun0_A.sl.r_51 Ideal _ = @kernelRun0_B.sl.r_51 Ideal _ from rfl, show @kernelRun0_A.sl.r_52 Ideal _ = @kernelRun0_B.sl.r_52 Ideal _ from rfl, show @kernelRun0_A.sl.r_57 Ideal _ = @kernelRun0_B.sl.r_57 Ideal _ from rfl, show @kernelRun0_A.sl.r_59 Ideal _ = @kernelRun0_B.sl.r_59 Ideal _ from rfl]
    have e := Group3.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_63 at e
    rw [← e]
    refine congrArg _ (congrArg (ix2 (y 0)) (Fin.ext ?_))
    show (y 1).val = 128 * 0 + (y 1).val
    omega
  case piece8 =>
    obtain rfl : j = 2 := Fin.ext (by have := j.isLt; have := g.isLt; have := d.isLt; show j.val = 2; omega)
    obtain rfl : g = 7 := Fin.ext (by have := g.isLt; have := d.isLt; show g.val = 7; have : (((2 : Fin 4)).val = 2) := rfl; omega)
    obtain rfl : d = y 0 := Fin.ext (by have : (((2 : Fin 4)).val = 2) := rfl; have : (((7 : Fin 8)).val = 7) := rfl; omega)
    obtain rfl : r = y 1 := Fin.ext (by omega)
    refine (Piece.head7 _ y).trans ?_
    rw [show @kernelRun0_A.sl.r_46 Ideal _ = @kernelRun0_B.sl.r_46 Ideal _ from rfl]
    exact Group2.dq c _ _ _ _ _ _ _ _ _ _ _ _ _ _ H (y 0) _
  case piece9 =>
    obtain rfl : j = 2 := Fin.ext (by have := j.isLt; have := g.isLt; have := d.isLt; show j.val = 2; omega)
    obtain rfl : g = 6 := Fin.ext (by have := g.isLt; have := d.isLt; show g.val = 6; have : (((2 : Fin 4)).val = 2) := rfl; omega)
    obtain rfl : d = y 0 := Fin.ext (by have : (((2 : Fin 4)).val = 2) := rfl; have : (((6 : Fin 8)).val = 6) := rfl; omega)
    obtain rfl : r = y 1 := Fin.ext (by omega)
    refine (Piece.head6 _ y).trans ?_
    rw [show @kernelRun0_A.sl.r_46 Ideal _ = @kernelRun0_B.sl.r_46 Ideal _ from rfl]
    exact Group2.dq c _ _ _ _ _ _ _ _ _ _ _ _ _ _ H (y 0) _
  case piece10 =>
    obtain rfl : j = 2 := Fin.ext (by have := j.isLt; have := g.isLt; have := d.isLt; show j.val = 2; omega)
    obtain rfl : g = 5 := Fin.ext (by have := g.isLt; have := d.isLt; show g.val = 5; have : (((2 : Fin 4)).val = 2) := rfl; omega)
    obtain rfl : d = y 0 := Fin.ext (by have : (((2 : Fin 4)).val = 2) := rfl; have : (((5 : Fin 8)).val = 5) := rfl; omega)
    obtain rfl : r = y 1 := Fin.ext (by omega)
    refine (Piece.head5 _ y).trans ?_
    rw [show @kernelRun0_A.sl.r_46 Ideal _ = @kernelRun0_B.sl.r_46 Ideal _ from rfl]
    exact Group2.dq c _ _ _ _ _ _ _ _ _ _ _ _ _ _ H (y 0) _
  case piece11 =>
    obtain rfl : j = 2 := Fin.ext (by have := j.isLt; have := g.isLt; have := d.isLt; show j.val = 2; omega)
    obtain rfl : g = 4 := Fin.ext (by have := g.isLt; have := d.isLt; show g.val = 4; have : (((2 : Fin 4)).val = 2) := rfl; omega)
    obtain rfl : d = y 0 := Fin.ext (by have : (((2 : Fin 4)).val = 2) := rfl; have : (((4 : Fin 8)).val = 4) := rfl; omega)
    obtain rfl : r = y 1 := Fin.ext (by omega)
    refine (Piece.head4 _ y).trans ?_
    rw [show @kernelRun0_A.sl.r_46 Ideal _ = @kernelRun0_B.sl.r_46 Ideal _ from rfl]
    exact Group2.dq c _ _ _ _ _ _ _ _ _ _ _ _ _ _ H (y 0) _
  case piece12 =>
    obtain rfl : j = 2 := Fin.ext (by have := j.isLt; have := g.isLt; have := d.isLt; show j.val = 2; omega)
    obtain rfl : g = 3 := Fin.ext (by have := g.isLt; have := d.isLt; show g.val = 3; have : (((2 : Fin 4)).val = 2) := rfl; omega)
    obtain rfl : d = y 0 := Fin.ext (by have : (((2 : Fin 4)).val = 2) := rfl; have : (((3 : Fin 8)).val = 3) := rfl; omega)
    obtain rfl : r = y 1 := Fin.ext (by omega)
    refine (Piece.head3 _ y).trans ?_
    rw [show @kernelRun0_A.sl.r_46 Ideal _ = @kernelRun0_B.sl.r_46 Ideal _ from rfl]
    exact Group2.dq c _ _ _ _ _ _ _ _ _ _ _ _ _ _ H (y 0) _
  case piece13 =>
    obtain rfl : j = 2 := Fin.ext (by have := j.isLt; have := g.isLt; have := d.isLt; show j.val = 2; omega)
    obtain rfl : g = 2 := Fin.ext (by have := g.isLt; have := d.isLt; show g.val = 2; have : (((2 : Fin 4)).val = 2) := rfl; omega)
    obtain rfl : d = y 0 := Fin.ext (by have : (((2 : Fin 4)).val = 2) := rfl; have : (((2 : Fin 8)).val = 2) := rfl; omega)
    obtain rfl : r = y 1 := Fin.ext (by omega)
    refine (Piece.head2 _ y).trans ?_
    rw [show @kernelRun0_A.sl.r_46 Ideal _ = @kernelRun0_B.sl.r_46 Ideal _ from rfl]
    exact Group2.dq c _ _ _ _ _ _ _ _ _ _ _ _ _ _ H (y 0) _
  case piece14 =>
    obtain rfl : j = 2 := Fin.ext (by have := j.isLt; have := g.isLt; have := d.isLt; show j.val = 2; omega)
    obtain rfl : g = 1 := Fin.ext (by have := g.isLt; have := d.isLt; show g.val = 1; have : (((2 : Fin 4)).val = 2) := rfl; omega)
    obtain rfl : d = y 0 := Fin.ext (by have : (((2 : Fin 4)).val = 2) := rfl; have : (((1 : Fin 8)).val = 1) := rfl; omega)
    obtain rfl : r = y 1 := Fin.ext (by omega)
    refine (Piece.head1 _ y).trans ?_
    rw [show @kernelRun0_A.sl.r_46 Ideal _ = @kernelRun0_B.sl.r_46 Ideal _ from rfl]
    exact Group2.dq c _ _ _ _ _ _ _ _ _ _ _ _ _ _ H (y 0) _
  case piece15 =>
    obtain rfl : j = 2 := Fin.ext (by have := j.isLt; have := g.isLt; have := d.isLt; show j.val = 2; omega)
    obtain rfl : g = 0 := Fin.ext (by have := g.isLt; have := d.isLt; show g.val = 0; have : (((2 : Fin 4)).val = 2) := rfl; omega)
    obtain rfl : d = y 0 := Fin.ext (by have : (((2 : Fin 4)).val = 2) := rfl; have : (((0 : Fin 8)).val = 0) := rfl; omega)
    obtain rfl : r = y 1 := Fin.ext (by omega)
    refine (Piece.head0 _ _ _ _ _ _ _ _ _ _ _ y).trans ?_
    rw [show @kernelRun0_A.sl.r_34 Ideal _ = @kernelRun0_B.sl.r_34 Ideal _ from rfl, show @kernelRun0_A.sl.r_35 Ideal _ = @kernelRun0_B.sl.r_35 Ideal _ from rfl, show @kernelRun0_A.sl.r_40 Ideal _ = @kernelRun0_B.sl.r_40 Ideal _ from rfl, show @kernelRun0_A.sl.r_42 Ideal _ = @kernelRun0_B.sl.r_42 Ideal _ from rfl]
    have e := Group2.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_46 at e
    rw [← e]
    refine congrArg _ (congrArg (ix2 (y 0)) (Fin.ext ?_))
    show (y 1).val = 128 * 0 + (y 1).val
    omega
  case piece16 =>
    obtain rfl : j = 1 := Fin.ext (by have := j.isLt; have := g.isLt; have := d.isLt; show j.val = 1; omega)
    obtain rfl : g = 7 := Fin.ext (by have := g.isLt; have := d.isLt; show g.val = 7; have : (((1 : Fin 4)).val = 1) := rfl; omega)
    obtain rfl : d = y 0 := Fin.ext (by have : (((1 : Fin 4)).val = 1) := rfl; have : (((7 : Fin 8)).val = 7) := rfl; omega)
    obtain rfl : r = y 1 := Fin.ext (by omega)
    refine (Piece.head7 _ y).trans ?_
    rw [show @kernelRun0_A.sl.r_29 Ideal _ = @kernelRun0_B.sl.r_29 Ideal _ from rfl]
    exact Group1.dq c _ _ _ _ _ _ _ _ _ _ _ _ _ _ H (y 0) _
  case piece17 =>
    obtain rfl : j = 1 := Fin.ext (by have := j.isLt; have := g.isLt; have := d.isLt; show j.val = 1; omega)
    obtain rfl : g = 6 := Fin.ext (by have := g.isLt; have := d.isLt; show g.val = 6; have : (((1 : Fin 4)).val = 1) := rfl; omega)
    obtain rfl : d = y 0 := Fin.ext (by have : (((1 : Fin 4)).val = 1) := rfl; have : (((6 : Fin 8)).val = 6) := rfl; omega)
    obtain rfl : r = y 1 := Fin.ext (by omega)
    refine (Piece.head6 _ y).trans ?_
    rw [show @kernelRun0_A.sl.r_29 Ideal _ = @kernelRun0_B.sl.r_29 Ideal _ from rfl]
    exact Group1.dq c _ _ _ _ _ _ _ _ _ _ _ _ _ _ H (y 0) _
  case piece18 =>
    obtain rfl : j = 1 := Fin.ext (by have := j.isLt; have := g.isLt; have := d.isLt; show j.val = 1; omega)
    obtain rfl : g = 5 := Fin.ext (by have := g.isLt; have := d.isLt; show g.val = 5; have : (((1 : Fin 4)).val = 1) := rfl; omega)
    obtain rfl : d = y 0 := Fin.ext (by have : (((1 : Fin 4)).val = 1) := rfl; have : (((5 : Fin 8)).val = 5) := rfl; omega)
    obtain rfl : r = y 1 := Fin.ext (by omega)
    refine (Piece.head5 _ y).trans ?_
    rw [show @kernelRun0_A.sl.r_29 Ideal _ = @kernelRun0_B.sl.r_29 Ideal _ from rfl]
    exact Group1.dq c _ _ _ _ _ _ _ _ _ _ _ _ _ _ H (y 0) _
  case piece19 =>
    obtain rfl : j = 1 := Fin.ext (by have := j.isLt; have := g.isLt; have := d.isLt; show j.val = 1; omega)
    obtain rfl : g = 4 := Fin.ext (by have := g.isLt; have := d.isLt; show g.val = 4; have : (((1 : Fin 4)).val = 1) := rfl; omega)
    obtain rfl : d = y 0 := Fin.ext (by have : (((1 : Fin 4)).val = 1) := rfl; have : (((4 : Fin 8)).val = 4) := rfl; omega)
    obtain rfl : r = y 1 := Fin.ext (by omega)
    refine (Piece.head4 _ y).trans ?_
    rw [show @kernelRun0_A.sl.r_29 Ideal _ = @kernelRun0_B.sl.r_29 Ideal _ from rfl]
    exact Group1.dq c _ _ _ _ _ _ _ _ _ _ _ _ _ _ H (y 0) _
  case piece20 =>
    obtain rfl : j = 1 := Fin.ext (by have := j.isLt; have := g.isLt; have := d.isLt; show j.val = 1; omega)
    obtain rfl : g = 3 := Fin.ext (by have := g.isLt; have := d.isLt; show g.val = 3; have : (((1 : Fin 4)).val = 1) := rfl; omega)
    obtain rfl : d = y 0 := Fin.ext (by have : (((1 : Fin 4)).val = 1) := rfl; have : (((3 : Fin 8)).val = 3) := rfl; omega)
    obtain rfl : r = y 1 := Fin.ext (by omega)
    refine (Piece.head3 _ y).trans ?_
    rw [show @kernelRun0_A.sl.r_29 Ideal _ = @kernelRun0_B.sl.r_29 Ideal _ from rfl]
    exact Group1.dq c _ _ _ _ _ _ _ _ _ _ _ _ _ _ H (y 0) _
  case piece21 =>
    obtain rfl : j = 1 := Fin.ext (by have := j.isLt; have := g.isLt; have := d.isLt; show j.val = 1; omega)
    obtain rfl : g = 2 := Fin.ext (by have := g.isLt; have := d.isLt; show g.val = 2; have : (((1 : Fin 4)).val = 1) := rfl; omega)
    obtain rfl : d = y 0 := Fin.ext (by have : (((1 : Fin 4)).val = 1) := rfl; have : (((2 : Fin 8)).val = 2) := rfl; omega)
    obtain rfl : r = y 1 := Fin.ext (by omega)
    refine (Piece.head2 _ y).trans ?_
    rw [show @kernelRun0_A.sl.r_29 Ideal _ = @kernelRun0_B.sl.r_29 Ideal _ from rfl]
    exact Group1.dq c _ _ _ _ _ _ _ _ _ _ _ _ _ _ H (y 0) _
  case piece22 =>
    obtain rfl : j = 1 := Fin.ext (by have := j.isLt; have := g.isLt; have := d.isLt; show j.val = 1; omega)
    obtain rfl : g = 1 := Fin.ext (by have := g.isLt; have := d.isLt; show g.val = 1; have : (((1 : Fin 4)).val = 1) := rfl; omega)
    obtain rfl : d = y 0 := Fin.ext (by have : (((1 : Fin 4)).val = 1) := rfl; have : (((1 : Fin 8)).val = 1) := rfl; omega)
    obtain rfl : r = y 1 := Fin.ext (by omega)
    refine (Piece.head1 _ y).trans ?_
    rw [show @kernelRun0_A.sl.r_29 Ideal _ = @kernelRun0_B.sl.r_29 Ideal _ from rfl]
    exact Group1.dq c _ _ _ _ _ _ _ _ _ _ _ _ _ _ H (y 0) _
  case piece23 =>
    obtain rfl : j = 1 := Fin.ext (by have := j.isLt; have := g.isLt; have := d.isLt; show j.val = 1; omega)
    obtain rfl : g = 0 := Fin.ext (by have := g.isLt; have := d.isLt; show g.val = 0; have : (((1 : Fin 4)).val = 1) := rfl; omega)
    obtain rfl : d = y 0 := Fin.ext (by have : (((1 : Fin 4)).val = 1) := rfl; have : (((0 : Fin 8)).val = 0) := rfl; omega)
    obtain rfl : r = y 1 := Fin.ext (by omega)
    refine (Piece.head0 _ _ _ _ _ _ _ _ _ _ _ y).trans ?_
    rw [show @kernelRun0_A.sl.r_17 Ideal _ = @kernelRun0_B.sl.r_17 Ideal _ from rfl, show @kernelRun0_A.sl.r_18 Ideal _ = @kernelRun0_B.sl.r_18 Ideal _ from rfl, show @kernelRun0_A.sl.r_23 Ideal _ = @kernelRun0_B.sl.r_23 Ideal _ from rfl, show @kernelRun0_A.sl.r_25 Ideal _ = @kernelRun0_B.sl.r_25 Ideal _ from rfl]
    have e := Group1.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_29 at e
    rw [← e]
    refine congrArg _ (congrArg (ix2 (y 0)) (Fin.ext ?_))
    show (y 1).val = 128 * 0 + (y 1).val
    omega
  case piece24 =>
    obtain rfl : j = 0 := Fin.ext (by have := j.isLt; have := g.isLt; have := d.isLt; show j.val = 0; omega)
    obtain rfl : g = 7 := Fin.ext (by have := g.isLt; have := d.isLt; show g.val = 7; have : (((0 : Fin 4)).val = 0) := rfl; omega)
    obtain rfl : d = y 0 := Fin.ext (by have : (((0 : Fin 4)).val = 0) := rfl; have : (((7 : Fin 8)).val = 7) := rfl; omega)
    obtain rfl : r = y 1 := Fin.ext (by omega)
    refine (Piece.head7 _ y).trans ?_
    rw [show @kernelRun0_A.sl.r_12 Ideal _ = @kernelRun0_B.sl.r_12 Ideal _ from rfl]
    exact Group0.dq c _ _ _ _ _ _ _ _ _ _ _ _ _ _ H (y 0) _
  case piece25 =>
    obtain rfl : j = 0 := Fin.ext (by have := j.isLt; have := g.isLt; have := d.isLt; show j.val = 0; omega)
    obtain rfl : g = 6 := Fin.ext (by have := g.isLt; have := d.isLt; show g.val = 6; have : (((0 : Fin 4)).val = 0) := rfl; omega)
    obtain rfl : d = y 0 := Fin.ext (by have : (((0 : Fin 4)).val = 0) := rfl; have : (((6 : Fin 8)).val = 6) := rfl; omega)
    obtain rfl : r = y 1 := Fin.ext (by omega)
    refine (Piece.head6 _ y).trans ?_
    rw [show @kernelRun0_A.sl.r_12 Ideal _ = @kernelRun0_B.sl.r_12 Ideal _ from rfl]
    exact Group0.dq c _ _ _ _ _ _ _ _ _ _ _ _ _ _ H (y 0) _
  case piece26 =>
    obtain rfl : j = 0 := Fin.ext (by have := j.isLt; have := g.isLt; have := d.isLt; show j.val = 0; omega)
    obtain rfl : g = 5 := Fin.ext (by have := g.isLt; have := d.isLt; show g.val = 5; have : (((0 : Fin 4)).val = 0) := rfl; omega)
    obtain rfl : d = y 0 := Fin.ext (by have : (((0 : Fin 4)).val = 0) := rfl; have : (((5 : Fin 8)).val = 5) := rfl; omega)
    obtain rfl : r = y 1 := Fin.ext (by omega)
    refine (Piece.head5 _ y).trans ?_
    rw [show @kernelRun0_A.sl.r_12 Ideal _ = @kernelRun0_B.sl.r_12 Ideal _ from rfl]
    exact Group0.dq c _ _ _ _ _ _ _ _ _ _ _ _ _ _ H (y 0) _
  case piece27 =>
    obtain rfl : j = 0 := Fin.ext (by have := j.isLt; have := g.isLt; have := d.isLt; show j.val = 0; omega)
    obtain rfl : g = 4 := Fin.ext (by have := g.isLt; have := d.isLt; show g.val = 4; have : (((0 : Fin 4)).val = 0) := rfl; omega)
    obtain rfl : d = y 0 := Fin.ext (by have : (((0 : Fin 4)).val = 0) := rfl; have : (((4 : Fin 8)).val = 4) := rfl; omega)
    obtain rfl : r = y 1 := Fin.ext (by omega)
    refine (Piece.head4 _ y).trans ?_
    rw [show @kernelRun0_A.sl.r_12 Ideal _ = @kernelRun0_B.sl.r_12 Ideal _ from rfl]
    exact Group0.dq c _ _ _ _ _ _ _ _ _ _ _ _ _ _ H (y 0) _
  case piece28 =>
    obtain rfl : j = 0 := Fin.ext (by have := j.isLt; have := g.isLt; have := d.isLt; show j.val = 0; omega)
    obtain rfl : g = 3 := Fin.ext (by have := g.isLt; have := d.isLt; show g.val = 3; have : (((0 : Fin 4)).val = 0) := rfl; omega)
    obtain rfl : d = y 0 := Fin.ext (by have : (((0 : Fin 4)).val = 0) := rfl; have : (((3 : Fin 8)).val = 3) := rfl; omega)
    obtain rfl : r = y 1 := Fin.ext (by omega)
    refine (Piece.head3 _ y).trans ?_
    rw [show @kernelRun0_A.sl.r_12 Ideal _ = @kernelRun0_B.sl.r_12 Ideal _ from rfl]
    exact Group0.dq c _ _ _ _ _ _ _ _ _ _ _ _ _ _ H (y 0) _
  case piece29 =>
    obtain rfl : j = 0 := Fin.ext (by have := j.isLt; have := g.isLt; have := d.isLt; show j.val = 0; omega)
    obtain rfl : g = 2 := Fin.ext (by have := g.isLt; have := d.isLt; show g.val = 2; have : (((0 : Fin 4)).val = 0) := rfl; omega)
    obtain rfl : d = y 0 := Fin.ext (by have : (((0 : Fin 4)).val = 0) := rfl; have : (((2 : Fin 8)).val = 2) := rfl; omega)
    obtain rfl : r = y 1 := Fin.ext (by omega)
    refine (Piece.head2 _ y).trans ?_
    rw [show @kernelRun0_A.sl.r_12 Ideal _ = @kernelRun0_B.sl.r_12 Ideal _ from rfl]
    exact Group0.dq c _ _ _ _ _ _ _ _ _ _ _ _ _ _ H (y 0) _
  case piece30 =>
    obtain rfl : j = 0 := Fin.ext (by have := j.isLt; have := g.isLt; have := d.isLt; show j.val = 0; omega)
    obtain rfl : g = 1 := Fin.ext (by have := g.isLt; have := d.isLt; show g.val = 1; have : (((0 : Fin 4)).val = 0) := rfl; omega)
    obtain rfl : d = y 0 := Fin.ext (by have : (((0 : Fin 4)).val = 0) := rfl; have : (((1 : Fin 8)).val = 1) := rfl; omega)
    obtain rfl : r = y 1 := Fin.ext (by omega)
    refine (Piece.head1 _ y).trans ?_
    rw [show @kernelRun0_A.sl.r_12 Ideal _ = @kernelRun0_B.sl.r_12 Ideal _ from rfl]
    exact Group0.dq c _ _ _ _ _ _ _ _ _ _ _ _ _ _ H (y 0) _
  case piece31 =>
    obtain rfl : j = 0 := Fin.ext (by have := j.isLt; have := g.isLt; have := d.isLt; show j.val = 0; omega)
    obtain rfl : g = 0 := Fin.ext (by have := g.isLt; have := d.isLt; show g.val = 0; have : (((0 : Fin 4)).val = 0) := rfl; omega)
    obtain rfl : d = y 0 := Fin.ext (by have : (((0 : Fin 4)).val = 0) := rfl; have : (((0 : Fin 8)).val = 0) := rfl; omega)
    obtain rfl : r = y 1 := Fin.ext (by omega)
    refine (Piece.head0 _ _ _ _ _ _ _ _ _ _ _ y).trans ?_
    rw [show @kernelRun0_A.sl.r Ideal _ = @kernelRun0_B.sl.r Ideal _ from rfl, show @kernelRun0_A.sl.r_1 Ideal _ = @kernelRun0_B.sl.r_1 Ideal _ from rfl, show @kernelRun0_A.sl.r_6 Ideal _ = @kernelRun0_B.sl.r_6 Ideal _ from rfl, show @kernelRun0_A.sl.r_8 Ideal _ = @kernelRun0_B.sl.r_8 Ideal _ from rfl]
    have e := Group0.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_12 at e
    rw [← e]
    refine congrArg _ (congrArg (ix2 (y 0)) (Fin.ext ?_))
    show (y 1).val = 128 * 0 + (y 1).val
    omega

/-- The block's own keys' gradient. -/
theorem leftA_dk {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftA m c t h).dk z = (D.dkw n j (lower (z 0)) d : EReal) := by
  show VO0_8.read (Elt Ideal) (VO0_8.writes (Elt Ideal) VO0_8.junk (runA m c t h).2.1) z = _
  rw [View.read_writes_eq_canon _ _ _ (coverA_dk m c t h)]
  dsimp only [runA, kernelRun0_A]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    rw [show @kernelRun0_A.sl.r_53 Ideal _ = @kernelRun0_B.sl.r_53 Ideal _ from rfl, show @kernelRun0_A.sl.r_61 Ideal _ = @kernelRun0_B.sl.r_61 Ideal _ from rfl]
    refine (Piece.keys (fun κ d => Group3.dk c _ _ _ _ _ _ _ _ _ _ _ _ _ _ H κ d) _ y).trans ?_
    exact (congrArg (((D.dkw n 3 (lower (y 0)) (y 1) : ℝ) : EReal) + ·) (zero_927 _ _ _ _ _ _ _ _ _ _ _ _ _ _ _ _ _ _ _ _ _ _ _ _ y)).trans (add_zero _)
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    rw [show @kernelRun0_A.sl.r_36 Ideal _ = @kernelRun0_B.sl.r_36 Ideal _ from rfl, show @kernelRun0_A.sl.r_44 Ideal _ = @kernelRun0_B.sl.r_44 Ideal _ from rfl]
    refine (Piece.keys (fun κ d => Group2.dk c _ _ _ _ _ _ _ _ _ _ _ _ _ _ H κ d) _ y).trans ?_
    exact (congrArg (((D.dkw n 2 (lower (y 0)) (y 1) : ℝ) : EReal) + ·) (zero_700 _ _ _ _ _ _ _ _ _ _ _ _ _ _ _ _ _ _ _ _ _ _ _ _ y)).trans (add_zero _)
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    rw [show @kernelRun0_A.sl.r_19 Ideal _ = @kernelRun0_B.sl.r_19 Ideal _ from rfl, show @kernelRun0_A.sl.r_27 Ideal _ = @kernelRun0_B.sl.r_27 Ideal _ from rfl]
    refine (Piece.keys (fun κ d => Group1.dk c _ _ _ _ _ _ _ _ _ _ _ _ _ _ H κ d) _ y).trans ?_
    exact (congrArg (((D.dkw n 1 (lower (y 0)) (y 1) : ℝ) : EReal) + ·) (zero_473 _ _ _ _ _ _ _ _ _ _ _ _ _ _ _ _ _ _ _ _ _ _ _ _ y)).trans (add_zero _)
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    rw [show @kernelRun0_A.sl.r_2 Ideal _ = @kernelRun0_B.sl.r_2 Ideal _ from rfl, show @kernelRun0_A.sl.r_10 Ideal _ = @kernelRun0_B.sl.r_10 Ideal _ from rfl]
    refine (Piece.keys (fun κ d => Group0.dk c _ _ _ _ _ _ _ _ _ _ _ _ _ _ H κ d) _ y).trans ?_
    exact (congrArg (((D.dkw n 0 (lower (y 0)) (y 1) : ℝ) : EReal) + ·) (zero_246 _ _ y)).trans (add_zero _)

/-- The block's own values' gradient. -/
theorem leftA_dv {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftA m c t h).dv z = (D.dvw n j (lower (z 0)) d : EReal) := by
  show VO0_9.read (Elt Ideal) (VO0_9.writes (Elt Ideal) VO0_9.junk (runA m c t h).2.2.1) z = _
  rw [View.read_writes_eq_canon _ _ _ (coverA_dv m c t h)]
  dsimp only [runA, kernelRun0_A]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    rw [show @kernelRun0_A.sl.r_57 Ideal _ = @kernelRun0_B.sl.r_57 Ideal _ from rfl, show @kernelRun0_A.sl.r_60 Ideal _ = @kernelRun0_B.sl.r_60 Ideal _ from rfl]
    refine (Piece.values (fun κ d => Group3.dv c _ _ _ _ _ _ _ _ _ _ H κ d) _ y).trans ?_
    exact (congrArg (((D.dvw n 3 (lower (y 0)) (y 1) : ℝ) : EReal) + ·) (zero_931 _ _ _ _ _ _ _ _ _ _ _ _ _ _ _ _ _ _ y)).trans (add_zero _)
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    rw [show @kernelRun0_A.sl.r_40 Ideal _ = @kernelRun0_B.sl.r_40 Ideal _ from rfl, show @kernelRun0_A.sl.r_43 Ideal _ = @kernelRun0_B.sl.r_43 Ideal _ from rfl]
    refine (Piece.values (fun κ d => Group2.dv c _ _ _ _ _ _ _ _ _ _ H κ d) _ y).trans ?_
    exact (congrArg (((D.dvw n 2 (lower (y 0)) (y 1) : ℝ) : EReal) + ·) (zero_704 _ _ _ _ _ _ _ _ _ _ _ _ _ _ _ _ _ _ y)).trans (add_zero _)
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    rw [show @kernelRun0_A.sl.r_23 Ideal _ = @kernelRun0_B.sl.r_23 Ideal _ from rfl, show @kernelRun0_A.sl.r_26 Ideal _ = @kernelRun0_B.sl.r_26 Ideal _ from rfl]
    refine (Piece.values (fun κ d => Group1.dv c _ _ _ _ _ _ _ _ _ _ H κ d) _ y).trans ?_
    exact (congrArg (((D.dvw n 1 (lower (y 0)) (y 1) : ℝ) : EReal) + ·) (zero_477 _ _ _ _ _ _ _ _ _ _ _ _ _ _ _ _ _ _ y)).trans (add_zero _)
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    rw [show @kernelRun0_A.sl.r_6 Ideal _ = @kernelRun0_B.sl.r_6 Ideal _ from rfl, show @kernelRun0_A.sl.r_9 Ideal _ = @kernelRun0_B.sl.r_9 Ideal _ from rfl]
    refine (Piece.values (fun κ d => Group0.dv c _ _ _ _ _ _ _ _ _ _ H κ d) _ y).trans ?_
    exact (congrArg (((D.dvw n 0 (lower (y 0)) (y 1) : ℝ) : EReal) + ·) (zero_250 _ _ y)).trans (add_zero _)

/-- The keys' gradient carried to the previous block. -/
theorem leftA_kc {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftA m c t h).kc z = (D.dkw n j (upper (z 0)) d : EReal) := by
  show VS0_0.read (Elt Ideal) (VS0_0.writes (Elt Ideal) VS0_0.junk (runA m c t h).2.2.2.2.1) z = _
  rw [View.read_writes_eq_canon _ _ _ (coverA_kc m c t h)]
  dsimp only [runA, kernelRun0_A]
  unfold kernelRun0_A.sl.HS0_4 kernelRun0_A.sl.HS0_3 kernelRun0_A.sl.HS0_2
  by_cases e3 : j.val = 3
  · obtain rfl : j = 3 := Fin.ext e3
    refine (hit (off := ![0, 192]) (size := ![128, 64]) (inb := inb_S128x256_S128x64_0_192) _ _ (ix2 (z 0) d) (by show (z 0).val = 0 + (z 0).val; omega) (by show (z 1).val = 192 + d.val; have : (((3 : Fin 4)).val = 3) := rfl; omega)).trans ?_
    rw [show @kernelRun0_A.sl.r_68 Ideal _ = @kernelRun0_B.sl.r_68 Ideal _ from rfl]
    exact Piece.keysCarried (fun κ d => Group3.dk c _ _ _ _ _ _ _ _ _ _ _ _ _ _ H κ d) (ix2 (z 0) d)
  by_cases e2 : j.val = 2
  · obtain rfl : j = 2 := Fin.ext e2
    refine (skip (off := ![0, 192]) (size := ![128, 64]) (inb := inb_S128x256_S128x64_0_192) _ _ (Or.inl (by show (z 1).val < 192; have := d.isLt; have : (((2 : Fin 4)).val = 2) := rfl; omega))).trans ?_
    refine (hit (off := ![0, 128]) (size := ![128, 64]) (inb := inb_S128x256_S128x64_0_128) _ _ (ix2 (z 0) d) (by show (z 0).val = 0 + (z 0).val; omega) (by show (z 1).val = 128 + d.val; have : (((2 : Fin 4)).val = 2) := rfl; omega)).trans ?_
    rw [show @kernelRun0_A.sl.r_36 Ideal _ = @kernelRun0_B.sl.r_36 Ideal _ from rfl, show @kernelRun0_A.sl.r_44 Ideal _ = @kernelRun0_B.sl.r_44 Ideal _ from rfl]
    exact Piece.keysCarried (fun κ d => Group2.dk c _ _ _ _ _ _ _ _ _ _ _ _ _ _ H κ d) (ix2 (z 0) d)
  by_cases e1 : j.val = 1
  · obtain rfl : j = 1 := Fin.ext e1
    refine (skip (off := ![0, 192]) (size := ![128, 64]) (inb := inb_S128x256_S128x64_0_192) _ _ (Or.inl (by show (z 1).val < 192; have := d.isLt; have : (((1 : Fin 4)).val = 1) := rfl; omega))).trans ?_
    refine (skip (off := ![0, 128]) (size := ![128, 64]) (inb := inb_S128x256_S128x64_0_128) _ _ (Or.inl (by show (z 1).val < 128; have := d.isLt; have : (((1 : Fin 4)).val = 1) := rfl; omega))).trans ?_
    refine (hit (off := ![0, 64]) (size := ![128, 64]) (inb := inb_S128x256_S128x64_0_64) _ _ (ix2 (z 0) d) (by show (z 0).val = 0 + (z 0).val; omega) (by show (z 1).val = 64 + d.val; have : (((1 : Fin 4)).val = 1) := rfl; omega)).trans ?_
    rw [show @kernelRun0_A.sl.r_19 Ideal _ = @kernelRun0_B.sl.r_19 Ideal _ from rfl, show @kernelRun0_A.sl.r_27 Ideal _ = @kernelRun0_B.sl.r_27 Ideal _ from rfl]
    exact Piece.keysCarried (fun κ d => Group1.dk c _ _ _ _ _ _ _ _ _ _ _ _ _ _ H κ d) (ix2 (z 0) d)
  by_cases e0 : j.val = 0
  · obtain rfl : j = 0 := Fin.ext e0
    refine (skip (off := ![0, 192]) (size := ![128, 64]) (inb := inb_S128x256_S128x64_0_192) _ _ (Or.inl (by show (z 1).val < 192; have := d.isLt; have : (((0 : Fin 4)).val = 0) := rfl; omega))).trans ?_
    refine (skip (off := ![0, 128]) (size := ![128, 64]) (inb := inb_S128x256_S128x64_0_128) _ _ (Or.inl (by show (z 1).val < 128; have := d.isLt; have : (((0 : Fin 4)).val = 0) := rfl; omega))).trans ?_
    refine (skip (off := ![0, 64]) (size := ![128, 64]) (inb := inb_S128x256_S128x64_0_64) _ _ (Or.inl (by show (z 1).val < 64; have := d.isLt; have : (((0 : Fin 4)).val = 0) := rfl; omega))).trans ?_
    refine (hit (off := ![0, 0]) (size := ![128, 64]) (inb := inb_S128x256_S128x64_0_0) _ _ (ix2 (z 0) d) (by show (z 0).val = 0 + (z 0).val; omega) (by show (z 1).val = 0 + d.val; have : (((0 : Fin 4)).val = 0) := rfl; omega)).trans ?_
    rw [show @kernelRun0_A.sl.r_2 Ideal _ = @kernelRun0_B.sl.r_2 Ideal _ from rfl, show @kernelRun0_A.sl.r_10 Ideal _ = @kernelRun0_B.sl.r_10 Ideal _ from rfl]
    exact Piece.keysCarried (fun κ d => Group0.dk c _ _ _ _ _ _ _ _ _ _ _ _ _ _ H κ d) (ix2 (z 0) d)
  exact absurd j.isLt (by omega)

/-- The values' gradient carried to the previous block. -/
theorem leftA_vc {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftA m c t h).vc z = (D.dvw n j (upper (z 0)) d : EReal) := by
  show VS0_1.read (Elt Ideal) (VS0_1.writes (Elt Ideal) VS0_1.junk (runA m c t h).2.2.2.2.2.1) z = _
  rw [View.read_writes_eq_canon _ _ _ (coverA_vc m c t h)]
  dsimp only [runA, kernelRun0_A]
  unfold kernelRun0_A.sl.HS1_4 kernelRun0_A.sl.HS1_3 kernelRun0_A.sl.HS1_2
  by_cases e3 : j.val = 3
  · obtain rfl : j = 3 := Fin.ext e3
    refine (hit (off := ![0, 192]) (size := ![128, 64]) (inb := inb_S128x256_S128x64_0_192) _ _ (ix2 (z 0) d) (by show (z 0).val = 0 + (z 0).val; omega) (by show (z 1).val = 192 + d.val; have : (((3 : Fin 4)).val = 3) := rfl; omega)).trans ?_
    rw [show @kernelRun0_A.sl.r_69 Ideal _ = @kernelRun0_B.sl.r_69 Ideal _ from rfl]
    exact Piece.valuesCarried (fun κ d => Group3.dv c _ _ _ _ _ _ _ _ _ _ H κ d) (ix2 (z 0) d)
  by_cases e2 : j.val = 2
  · obtain rfl : j = 2 := Fin.ext e2
    refine (skip (off := ![0, 192]) (size := ![128, 64]) (inb := inb_S128x256_S128x64_0_192) _ _ (Or.inl (by show (z 1).val < 192; have := d.isLt; have : (((2 : Fin 4)).val = 2) := rfl; omega))).trans ?_
    refine (hit (off := ![0, 128]) (size := ![128, 64]) (inb := inb_S128x256_S128x64_0_128) _ _ (ix2 (z 0) d) (by show (z 0).val = 0 + (z 0).val; omega) (by show (z 1).val = 128 + d.val; have : (((2 : Fin 4)).val = 2) := rfl; omega)).trans ?_
    rw [show @kernelRun0_A.sl.r_40 Ideal _ = @kernelRun0_B.sl.r_40 Ideal _ from rfl, show @kernelRun0_A.sl.r_43 Ideal _ = @kernelRun0_B.sl.r_43 Ideal _ from rfl]
    exact Piece.valuesCarried (fun κ d => Group2.dv c _ _ _ _ _ _ _ _ _ _ H κ d) (ix2 (z 0) d)
  by_cases e1 : j.val = 1
  · obtain rfl : j = 1 := Fin.ext e1
    refine (skip (off := ![0, 192]) (size := ![128, 64]) (inb := inb_S128x256_S128x64_0_192) _ _ (Or.inl (by show (z 1).val < 192; have := d.isLt; have : (((1 : Fin 4)).val = 1) := rfl; omega))).trans ?_
    refine (skip (off := ![0, 128]) (size := ![128, 64]) (inb := inb_S128x256_S128x64_0_128) _ _ (Or.inl (by show (z 1).val < 128; have := d.isLt; have : (((1 : Fin 4)).val = 1) := rfl; omega))).trans ?_
    refine (hit (off := ![0, 64]) (size := ![128, 64]) (inb := inb_S128x256_S128x64_0_64) _ _ (ix2 (z 0) d) (by show (z 0).val = 0 + (z 0).val; omega) (by show (z 1).val = 64 + d.val; have : (((1 : Fin 4)).val = 1) := rfl; omega)).trans ?_
    rw [show @kernelRun0_A.sl.r_23 Ideal _ = @kernelRun0_B.sl.r_23 Ideal _ from rfl, show @kernelRun0_A.sl.r_26 Ideal _ = @kernelRun0_B.sl.r_26 Ideal _ from rfl]
    exact Piece.valuesCarried (fun κ d => Group1.dv c _ _ _ _ _ _ _ _ _ _ H κ d) (ix2 (z 0) d)
  by_cases e0 : j.val = 0
  · obtain rfl : j = 0 := Fin.ext e0
    refine (skip (off := ![0, 192]) (size := ![128, 64]) (inb := inb_S128x256_S128x64_0_192) _ _ (Or.inl (by show (z 1).val < 192; have := d.isLt; have : (((0 : Fin 4)).val = 0) := rfl; omega))).trans ?_
    refine (skip (off := ![0, 128]) (size := ![128, 64]) (inb := inb_S128x256_S128x64_0_128) _ _ (Or.inl (by show (z 1).val < 128; have := d.isLt; have : (((0 : Fin 4)).val = 0) := rfl; omega))).trans ?_
    refine (skip (off := ![0, 64]) (size := ![128, 64]) (inb := inb_S128x256_S128x64_0_64) _ _ (Or.inl (by show (z 1).val < 64; have := d.isLt; have : (((0 : Fin 4)).val = 0) := rfl; omega))).trans ?_
    refine (hit (off := ![0, 0]) (size := ![128, 64]) (inb := inb_S128x256_S128x64_0_0) _ _ (ix2 (z 0) d) (by show (z 0).val = 0 + (z 0).val; omega) (by show (z 1).val = 0 + d.val; have : (((0 : Fin 4)).val = 0) := rfl; omega)).trans ?_
    rw [show @kernelRun0_A.sl.r_6 Ideal _ = @kernelRun0_B.sl.r_6 Ideal _ from rfl, show @kernelRun0_A.sl.r_9 Ideal _ = @kernelRun0_B.sl.r_9 Ideal _ from rfl]
    exact Piece.valuesCarried (fun κ d => Group0.dv c _ _ _ _ _ _ _ _ _ _ H κ d) (ix2 (z 0) d)
  exact absurd j.isLt (by omega)

/-- The sinks' gradients: each head's lane gets the block's share. -/
theorem leftA_ds {D : Data} {n : Fin 64} (c : Dev nD) (t : Fin cfg0.N) (h : t.val % 64 = 0)
    (H : Ins D n (grid0.coords t) (iblk m c 0 t) (iblk m c 1 t) (iblk m c 2 t) (X0_3 m c t) (X0_4 m c t) (iblk m c 5 t) (iblk m c 6 t))
    (y : Fin 128) :
    (leftA m c t h).ds (ix2 0 y)
      = ∑ j : Fin 4, ∑ g : Fin 8, if y.val = 8 * j.val + g.val then (D.dsb n j g : EReal) else 0 := by
  show VO0_10.read (Elt Ideal) (VO0_10.writes (Elt Ideal) VO0_10.junk (runA m c t h).2.2.2.1) (ix2 0 y) = _
  rw [View.read_writes_eq_canon _ _ _ (coverA_ds m c t h)]
  dsimp only [runA, kernelRun0_A]
  rw [View.canon_cons_unit_lit _ _ _ (by intro a; fin_cases a <;> rfl)]
  refine (Piece.sinks _ _ _).trans ?_
  rw [show @kernelRun0_A.sl.r_67 Ideal _ = @kernelRun0_B.sl.r_67 Ideal _ from rfl]
  rw [Group3.lane c _ _ _ _ _ _ _ _ _ _ _ _ _ _ H, Group2.lane c _ _ _ _ _ _ _ _ _ _ _ _ _ _ H,
    Group1.lane c _ _ _ _ _ _ _ _ _ _ _ _ _ _ H, Group0.lane c _ _ _ _ _ _ _ _ _ _ _ _ _ _ H, Piece.sinks_zero]
  rw [zero_943, zero_add, zero_add, Fin.sum_univ_four]

end Cert.KernelIdeal.Attn

end

end
-- ==== Proof.AttnPointB.lean ====
module

public import proofs.«01_k».proof.Proof.AttnPieces
public import proofs.«01_k».proof.Proof.AttnGroup0
public import proofs.«01_k».proof.Proof.AttnGroup1
public import proofs.«01_k».proof.Proof.AttnGroup2
public import proofs.«01_k».proof.Proof.AttnGroup3

/-! # A later point of the attention kernel's grid

What a point other than the first leaves, read at an index: its part of each gradient, on top of what the points
before it left. -/

@[expose] public section

set_option maxRecDepth 16384
set_option maxHeartbeats 2000000

noncomputable section

namespace Cert.KernelIdeal.Attn

open Cert.KernelIdeal Cert.KernelIdeal.Gen Cert.Attn
open Idealize.ShloMosaic Idealize.ShloMosaic.TcCoe Idealize.SL.Sem
open Idealize.ShloMosaic.Pipeline (Dat)

variable (m : (ℓ : Loc nD τ sig) → Buf (Elt Ideal) ℓ)

/-- The queries' gradient the point writes. -/
theorem leftB_dq {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (z : S2048x128.Idx) (j : Fin 4) (g : Fin 8) (d : Fin 64) (r : Fin 128) (hz : (z 0).val = 64 * (8 * j.val + g.val) + d.val)
    (hr : (z 1).val = r.val) :
    (leftB m c t h ds kc vc).dq z = (D.dq n j d ⟨128 * g.val + r.val, by omega⟩ : EReal) := by
  show VO0_7.read (Elt Ideal) (VO0_7.writes (Elt Ideal) VO0_7.junk (runB m c t h ds kc vc).1) z = _
  rw [View.read_writes_eq_canon _ _ _ (coverB_dq m c t h ds kc vc)]
  dsimp only [runB, kernelRun0_B]
  canon_tiles y hy
  case piece0 =>
    obtain rfl : j = 3 := Fin.ext (by have := j.isLt; have := g.isLt; have := d.isLt; show j.val = 3; omega)
    obtain rfl : g = 7 := Fin.ext (by have := g.isLt; have := d.isLt; show g.val = 7; have : (((3 : Fin 4)).val = 3) := rfl; omega)
    obtain rfl : d = y 0 := Fin.ext (by have : (((3 : Fin 4)).val = 3) := rfl; have : (((7 : Fin 8)).val = 7) := rfl; omega)
    obtain rfl : r = y 1 := Fin.ext (by omega)
    refine (Piece.head7 _ y).trans ?_
    exact Group3.dq c _ _ _ _ _ _ _ _ _ _ _ _ _ _ H (y 0) _
  case piece1 =>
    obtain rfl : j = 3 := Fin.ext (by have := j.isLt; have := g.isLt; have := d.isLt; show j.val = 3; omega)
    obtain rfl : g = 6 := Fin.ext (by have := g.isLt; have := d.isLt; show g.val = 6; have : (((3 : Fin 4)).val = 3) := rfl; omega)
    obtain rfl : d = y 0 := Fin.ext (by have : (((3 : Fin 4)).val = 3) := rfl; have : (((6 : Fin 8)).val = 6) := rfl; omega)
    obtain rfl : r = y 1 := Fin.ext (by omega)
    refine (Piece.head6 _ y).trans ?_
    exact Group3.dq c _ _ _ _ _ _ _ _ _ _ _ _ _ _ H (y 0) _
  case piece2 =>
    obtain rfl : j = 3 := Fin.ext (by have := j.isLt; have := g.isLt; have := d.isLt; show j.val = 3; omega)
    obtain rfl : g = 5 := Fin.ext (by have := g.isLt; have := d.isLt; show g.val = 5; have : (((3 : Fin 4)).val = 3) := rfl; omega)
    obtain rfl : d = y 0 := Fin.ext (by have : (((3 : Fin 4)).val = 3) := rfl; have : (((5 : Fin 8)).val = 5) := rfl; omega)
    obtain rfl : r = y 1 := Fin.ext (by omega)
    refine (Piece.head5 _ y).trans ?_
    exact Group3.dq c _ _ _ _ _ _ _ _ _ _ _ _ _ _ H (y 0) _
  case piece3 =>
    obtain rfl : j = 3 := Fin.ext (by have := j.isLt; have := g.isLt; have := d.isLt; show j.val = 3; omega)
    obtain rfl : g = 4 := Fin.ext (by have := g.isLt; have := d.isLt; show g.val = 4; have : (((3 : Fin 4)).val = 3) := rfl; omega)
    obtain rfl : d = y 0 := Fin.ext (by have : (((3 : Fin 4)).val = 3) := rfl; have : (((4 : Fin 8)).val = 4) := rfl; omega)
    obtain rfl : r = y 1 := Fin.ext (by omega)
    refine (Piece.head4 _ y).trans ?_
    exact Group3.dq c _ _ _ _ _ _ _ _ _ _ _ _ _ _ H (y 0) _
  case piece4 =>
    obtain rfl : j = 3 := Fin.ext (by have := j.isLt; have := g.isLt; have := d.isLt; show j.val = 3; omega)
    obtain rfl : g = 3 := Fin.ext (by have := g.isLt; have := d.isLt; show g.val = 3; have : (((3 : Fin 4)).val = 3) := rfl; omega)
    obtain rfl : d = y 0 := Fin.ext (by have : (((3 : Fin 4)).val = 3) := rfl; have : (((3 : Fin 8)).val = 3) := rfl; omega)
    obtain rfl : r = y 1 := Fin.ext (by omega)
    refine (Piece.head3 _ y).trans ?_
    exact Group3.dq c _ _ _ _ _ _ _ _ _ _ _ _ _ _ H (y 0) _
  case piece5 =>
    obtain rfl : j = 3 := Fin.ext (by have := j.isLt; have := g.isLt; have := d.isLt; show j.val = 3; omega)
    obtain rfl : g = 2 := Fin.ext (by have := g.isLt; have := d.isLt; show g.val = 2; have : (((3 : Fin 4)).val = 3) := rfl; omega)
    obtain rfl : d = y 0 := Fin.ext (by have : (((3 : Fin 4)).val = 3) := rfl; have : (((2 : Fin 8)).val = 2) := rfl; omega)
    obtain rfl : r = y 1 := Fin.ext (by omega)
    refine (Piece.head2 _ y).trans ?_
    exact Group3.dq c _ _ _ _ _ _ _ _ _ _ _ _ _ _ H (y 0) _
  case piece6 =>
    obtain rfl : j = 3 := Fin.ext (by have := j.isLt; have := g.isLt; have := d.isLt; show j.val = 3; omega)
    obtain rfl : g = 1 := Fin.ext (by have := g.isLt; have := d.isLt; show g.val = 1; have : (((3 : Fin 4)).val = 3) := rfl; omega)
    obtain rfl : d = y 0 := Fin.ext (by have : (((3 : Fin 4)).val = 3) := rfl; have : (((1 : Fin 8)).val = 1) := rfl; omega)
    obtain rfl : r = y 1 := Fin.ext (by omega)
    refine (Piece.head1 _ y).trans ?_
    exact Group3.dq c _ _ _ _ _ _ _ _ _ _ _ _ _ _ H (y 0) _
  case piece7 =>
    obtain rfl : j = 3 := Fin.ext (by have := j.isLt; have := g.isLt; have := d.isLt; show j.val = 3; omega)
    obtain rfl : g = 0 := Fin.ext (by have := g.isLt; have := d.isLt; show g.val = 0; have : (((3 : Fin 4)).val = 3) := rfl; omega)
    obtain rfl : d = y 0 := Fin.ext (by have : (((3 : Fin 4)).val = 3) := rfl; have : (((0 : Fin 8)).val = 0) := rfl; omega)
    obtain rfl : r = y 1 := Fin.ext (by omega)
    refine (Piece.head0 _ _ _ _ _ _ _ _ _ _ _ y).trans ?_
    have e := Group3.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_63 at e
    rw [← e]
    refine congrArg _ (congrArg (ix2 (y 0)) (Fin.ext ?_))
    show (y 1).val = 128 * 0 + (y 1).val
    omega
  case piece8 =>
    obtain rfl : j = 2 := Fin.ext (by have := j.isLt; have := g.isLt; have := d.isLt; show j.val = 2; omega)
    obtain rfl : g = 7 := Fin.ext (by have := g.isLt; have := d.isLt; show g.val = 7; have : (((2 : Fin 4)).val = 2) := rfl; omega)
    obtain rfl : d = y 0 := Fin.ext (by have : (((2 : Fin 4)).val = 2) := rfl; have : (((7 : Fin 8)).val = 7) := rfl; omega)
    obtain rfl : r = y 1 := Fin.ext (by omega)
    refine (Piece.head7 _ y).trans ?_
    exact Group2.dq c _ _ _ _ _ _ _ _ _ _ _ _ _ _ H (y 0) _
  case piece9 =>
    obtain rfl : j = 2 := Fin.ext (by have := j.isLt; have := g.isLt; have := d.isLt; show j.val = 2; omega)
    obtain rfl : g = 6 := Fin.ext (by have := g.isLt; have := d.isLt; show g.val = 6; have : (((2 : Fin 4)).val = 2) := rfl; omega)
    obtain rfl : d = y 0 := Fin.ext (by have : (((2 : Fin 4)).val = 2) := rfl; have : (((6 : Fin 8)).val = 6) := rfl; omega)
    obtain rfl : r = y 1 := Fin.ext (by omega)
    refine (Piece.head6 _ y).trans ?_
    exact Group2.dq c _ _ _ _ _ _ _ _ _ _ _ _ _ _ H (y 0) _
  case piece10 =>
    obtain rfl : j = 2 := Fin.ext (by have := j.isLt; have := g.isLt; have := d.isLt; show j.val = 2; omega)
    obtain rfl : g = 5 := Fin.ext (by have := g.isLt; have := d.isLt; show g.val = 5; have : (((2 : Fin 4)).val = 2) := rfl; omega)
    obtain rfl : d = y 0 := Fin.ext (by have : (((2 : Fin 4)).val = 2) := rfl; have : (((5 : Fin 8)).val = 5) := rfl; omega)
    obtain rfl : r = y 1 := Fin.ext (by omega)
    refine (Piece.head5 _ y).trans ?_
    exact Group2.dq c _ _ _ _ _ _ _ _ _ _ _ _ _ _ H (y 0) _
  case piece11 =>
    obtain rfl : j = 2 := Fin.ext (by have := j.isLt; have := g.isLt; have := d.isLt; show j.val = 2; omega)
    obtain rfl : g = 4 := Fin.ext (by have := g.isLt; have := d.isLt; show g.val = 4; have : (((2 : Fin 4)).val = 2) := rfl; omega)
    obtain rfl : d = y 0 := Fin.ext (by have : (((2 : Fin 4)).val = 2) := rfl; have : (((4 : Fin 8)).val = 4) := rfl; omega)
    obtain rfl : r = y 1 := Fin.ext (by omega)
    refine (Piece.head4 _ y).trans ?_
    exact Group2.dq c _ _ _ _ _ _ _ _ _ _ _ _ _ _ H (y 0) _
  case piece12 =>
    obtain rfl : j = 2 := Fin.ext (by have := j.isLt; have := g.isLt; have := d.isLt; show j.val = 2; omega)
    obtain rfl : g = 3 := Fin.ext (by have := g.isLt; have := d.isLt; show g.val = 3; have : (((2 : Fin 4)).val = 2) := rfl; omega)
    obtain rfl : d = y 0 := Fin.ext (by have : (((2 : Fin 4)).val = 2) := rfl; have : (((3 : Fin 8)).val = 3) := rfl; omega)
    obtain rfl : r = y 1 := Fin.ext (by omega)
    refine (Piece.head3 _ y).trans ?_
    exact Group2.dq c _ _ _ _ _ _ _ _ _ _ _ _ _ _ H (y 0) _
  case piece13 =>
    obtain rfl : j = 2 := Fin.ext (by have := j.isLt; have := g.isLt; have := d.isLt; show j.val = 2; omega)
    obtain rfl : g = 2 := Fin.ext (by have := g.isLt; have := d.isLt; show g.val = 2; have : (((2 : Fin 4)).val = 2) := rfl; omega)
    obtain rfl : d = y 0 := Fin.ext (by have : (((2 : Fin 4)).val = 2) := rfl; have : (((2 : Fin 8)).val = 2) := rfl; omega)
    obtain rfl : r = y 1 := Fin.ext (by omega)
    refine (Piece.head2 _ y).trans ?_
    exact Group2.dq c _ _ _ _ _ _ _ _ _ _ _ _ _ _ H (y 0) _
  case piece14 =>
    obtain rfl : j = 2 := Fin.ext (by have := j.isLt; have := g.isLt; have := d.isLt; show j.val = 2; omega)
    obtain rfl : g = 1 := Fin.ext (by have := g.isLt; have := d.isLt; show g.val = 1; have : (((2 : Fin 4)).val = 2) := rfl; omega)
    obtain rfl : d = y 0 := Fin.ext (by have : (((2 : Fin 4)).val = 2) := rfl; have : (((1 : Fin 8)).val = 1) := rfl; omega)
    obtain rfl : r = y 1 := Fin.ext (by omega)
    refine (Piece.head1 _ y).trans ?_
    exact Group2.dq c _ _ _ _ _ _ _ _ _ _ _ _ _ _ H (y 0) _
  case piece15 =>
    obtain rfl : j = 2 := Fin.ext (by have := j.isLt; have := g.isLt; have := d.isLt; show j.val = 2; omega)
    obtain rfl : g = 0 := Fin.ext (by have := g.isLt; have := d.isLt; show g.val = 0; have : (((2 : Fin 4)).val = 2) := rfl; omega)
    obtain rfl : d = y 0 := Fin.ext (by have : (((2 : Fin 4)).val = 2) := rfl; have : (((0 : Fin 8)).val = 0) := rfl; omega)
    obtain rfl : r = y 1 := Fin.ext (by omega)
    refine (Piece.head0 _ _ _ _ _ _ _ _ _ _ _ y).trans ?_
    have e := Group2.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_46 at e
    rw [← e]
    refine congrArg _ (congrArg (ix2 (y 0)) (Fin.ext ?_))
    show (y 1).val = 128 * 0 + (y 1).val
    omega
  case piece16 =>
    obtain rfl : j = 1 := Fin.ext (by have := j.isLt; have := g.isLt; have := d.isLt; show j.val = 1; omega)
    obtain rfl : g = 7 := Fin.ext (by have := g.isLt; have := d.isLt; show g.val = 7; have : (((1 : Fin 4)).val = 1) := rfl; omega)
    obtain rfl : d = y 0 := Fin.ext (by have : (((1 : Fin 4)).val = 1) := rfl; have : (((7 : Fin 8)).val = 7) := rfl; omega)
    obtain rfl : r = y 1 := Fin.ext (by omega)
    refine (Piece.head7 _ y).trans ?_
    exact Group1.dq c _ _ _ _ _ _ _ _ _ _ _ _ _ _ H (y 0) _
  case piece17 =>
    obtain rfl : j = 1 := Fin.ext (by have := j.isLt; have := g.isLt; have := d.isLt; show j.val = 1; omega)
    obtain rfl : g = 6 := Fin.ext (by have := g.isLt; have := d.isLt; show g.val = 6; have : (((1 : Fin 4)).val = 1) := rfl; omega)
    obtain rfl : d = y 0 := Fin.ext (by have : (((1 : Fin 4)).val = 1) := rfl; have : (((6 : Fin 8)).val = 6) := rfl; omega)
    obtain rfl : r = y 1 := Fin.ext (by omega)
    refine (Piece.head6 _ y).trans ?_
    exact Group1.dq c _ _ _ _ _ _ _ _ _ _ _ _ _ _ H (y 0) _
  case piece18 =>
    obtain rfl : j = 1 := Fin.ext (by have := j.isLt; have := g.isLt; have := d.isLt; show j.val = 1; omega)
    obtain rfl : g = 5 := Fin.ext (by have := g.isLt; have := d.isLt; show g.val = 5; have : (((1 : Fin 4)).val = 1) := rfl; omega)
    obtain rfl : d = y 0 := Fin.ext (by have : (((1 : Fin 4)).val = 1) := rfl; have : (((5 : Fin 8)).val = 5) := rfl; omega)
    obtain rfl : r = y 1 := Fin.ext (by omega)
    refine (Piece.head5 _ y).trans ?_
    exact Group1.dq c _ _ _ _ _ _ _ _ _ _ _ _ _ _ H (y 0) _
  case piece19 =>
    obtain rfl : j = 1 := Fin.ext (by have := j.isLt; have := g.isLt; have := d.isLt; show j.val = 1; omega)
    obtain rfl : g = 4 := Fin.ext (by have := g.isLt; have := d.isLt; show g.val = 4; have : (((1 : Fin 4)).val = 1) := rfl; omega)
    obtain rfl : d = y 0 := Fin.ext (by have : (((1 : Fin 4)).val = 1) := rfl; have : (((4 : Fin 8)).val = 4) := rfl; omega)
    obtain rfl : r = y 1 := Fin.ext (by omega)
    refine (Piece.head4 _ y).trans ?_
    exact Group1.dq c _ _ _ _ _ _ _ _ _ _ _ _ _ _ H (y 0) _
  case piece20 =>
    obtain rfl : j = 1 := Fin.ext (by have := j.isLt; have := g.isLt; have := d.isLt; show j.val = 1; omega)
    obtain rfl : g = 3 := Fin.ext (by have := g.isLt; have := d.isLt; show g.val = 3; have : (((1 : Fin 4)).val = 1) := rfl; omega)
    obtain rfl : d = y 0 := Fin.ext (by have : (((1 : Fin 4)).val = 1) := rfl; have : (((3 : Fin 8)).val = 3) := rfl; omega)
    obtain rfl : r = y 1 := Fin.ext (by omega)
    refine (Piece.head3 _ y).trans ?_
    exact Group1.dq c _ _ _ _ _ _ _ _ _ _ _ _ _ _ H (y 0) _
  case piece21 =>
    obtain rfl : j = 1 := Fin.ext (by have := j.isLt; have := g.isLt; have := d.isLt; show j.val = 1; omega)
    obtain rfl : g = 2 := Fin.ext (by have := g.isLt; have := d.isLt; show g.val = 2; have : (((1 : Fin 4)).val = 1) := rfl; omega)
    obtain rfl : d = y 0 := Fin.ext (by have : (((1 : Fin 4)).val = 1) := rfl; have : (((2 : Fin 8)).val = 2) := rfl; omega)
    obtain rfl : r = y 1 := Fin.ext (by omega)
    refine (Piece.head2 _ y).trans ?_
    exact Group1.dq c _ _ _ _ _ _ _ _ _ _ _ _ _ _ H (y 0) _
  case piece22 =>
    obtain rfl : j = 1 := Fin.ext (by have := j.isLt; have := g.isLt; have := d.isLt; show j.val = 1; omega)
    obtain rfl : g = 1 := Fin.ext (by have := g.isLt; have := d.isLt; show g.val = 1; have : (((1 : Fin 4)).val = 1) := rfl; omega)
    obtain rfl : d = y 0 := Fin.ext (by have : (((1 : Fin 4)).val = 1) := rfl; have : (((1 : Fin 8)).val = 1) := rfl; omega)
    obtain rfl : r = y 1 := Fin.ext (by omega)
    refine (Piece.head1 _ y).trans ?_
    exact Group1.dq c _ _ _ _ _ _ _ _ _ _ _ _ _ _ H (y 0) _
  case piece23 =>
    obtain rfl : j = 1 := Fin.ext (by have := j.isLt; have := g.isLt; have := d.isLt; show j.val = 1; omega)
    obtain rfl : g = 0 := Fin.ext (by have := g.isLt; have := d.isLt; show g.val = 0; have : (((1 : Fin 4)).val = 1) := rfl; omega)
    obtain rfl : d = y 0 := Fin.ext (by have : (((1 : Fin 4)).val = 1) := rfl; have : (((0 : Fin 8)).val = 0) := rfl; omega)
    obtain rfl : r = y 1 := Fin.ext (by omega)
    refine (Piece.head0 _ _ _ _ _ _ _ _ _ _ _ y).trans ?_
    have e := Group1.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_29 at e
    rw [← e]
    refine congrArg _ (congrArg (ix2 (y 0)) (Fin.ext ?_))
    show (y 1).val = 128 * 0 + (y 1).val
    omega
  case piece24 =>
    obtain rfl : j = 0 := Fin.ext (by have := j.isLt; have := g.isLt; have := d.isLt; show j.val = 0; omega)
    obtain rfl : g = 7 := Fin.ext (by have := g.isLt; have := d.isLt; show g.val = 7; have : (((0 : Fin 4)).val = 0) := rfl; omega)
    obtain rfl : d = y 0 := Fin.ext (by have : (((0 : Fin 4)).val = 0) := rfl; have : (((7 : Fin 8)).val = 7) := rfl; omega)
    obtain rfl : r = y 1 := Fin.ext (by omega)
    refine (Piece.head7 _ y).trans ?_
    exact Group0.dq c _ _ _ _ _ _ _ _ _ _ _ _ _ _ H (y 0) _
  case piece25 =>
    obtain rfl : j = 0 := Fin.ext (by have := j.isLt; have := g.isLt; have := d.isLt; show j.val = 0; omega)
    obtain rfl : g = 6 := Fin.ext (by have := g.isLt; have := d.isLt; show g.val = 6; have : (((0 : Fin 4)).val = 0) := rfl; omega)
    obtain rfl : d = y 0 := Fin.ext (by have : (((0 : Fin 4)).val = 0) := rfl; have : (((6 : Fin 8)).val = 6) := rfl; omega)
    obtain rfl : r = y 1 := Fin.ext (by omega)
    refine (Piece.head6 _ y).trans ?_
    exact Group0.dq c _ _ _ _ _ _ _ _ _ _ _ _ _ _ H (y 0) _
  case piece26 =>
    obtain rfl : j = 0 := Fin.ext (by have := j.isLt; have := g.isLt; have := d.isLt; show j.val = 0; omega)
    obtain rfl : g = 5 := Fin.ext (by have := g.isLt; have := d.isLt; show g.val = 5; have : (((0 : Fin 4)).val = 0) := rfl; omega)
    obtain rfl : d = y 0 := Fin.ext (by have : (((0 : Fin 4)).val = 0) := rfl; have : (((5 : Fin 8)).val = 5) := rfl; omega)
    obtain rfl : r = y 1 := Fin.ext (by omega)
    refine (Piece.head5 _ y).trans ?_
    exact Group0.dq c _ _ _ _ _ _ _ _ _ _ _ _ _ _ H (y 0) _
  case piece27 =>
    obtain rfl : j = 0 := Fin.ext (by have := j.isLt; have := g.isLt; have := d.isLt; show j.val = 0; omega)
    obtain rfl : g = 4 := Fin.ext (by have := g.isLt; have := d.isLt; show g.val = 4; have : (((0 : Fin 4)).val = 0) := rfl; omega)
    obtain rfl : d = y 0 := Fin.ext (by have : (((0 : Fin 4)).val = 0) := rfl; have : (((4 : Fin 8)).val = 4) := rfl; omega)
    obtain rfl : r = y 1 := Fin.ext (by omega)
    refine (Piece.head4 _ y).trans ?_
    exact Group0.dq c _ _ _ _ _ _ _ _ _ _ _ _ _ _ H (y 0) _
  case piece28 =>
    obtain rfl : j = 0 := Fin.ext (by have := j.isLt; have := g.isLt; have := d.isLt; show j.val = 0; omega)
    obtain rfl : g = 3 := Fin.ext (by have := g.isLt; have := d.isLt; show g.val = 3; have : (((0 : Fin 4)).val = 0) := rfl; omega)
    obtain rfl : d = y 0 := Fin.ext (by have : (((0 : Fin 4)).val = 0) := rfl; have : (((3 : Fin 8)).val = 3) := rfl; omega)
    obtain rfl : r = y 1 := Fin.ext (by omega)
    refine (Piece.head3 _ y).trans ?_
    exact Group0.dq c _ _ _ _ _ _ _ _ _ _ _ _ _ _ H (y 0) _
  case piece29 =>
    obtain rfl : j = 0 := Fin.ext (by have := j.isLt; have := g.isLt; have := d.isLt; show j.val = 0; omega)
    obtain rfl : g = 2 := Fin.ext (by have := g.isLt; have := d.isLt; show g.val = 2; have : (((0 : Fin 4)).val = 0) := rfl; omega)
    obtain rfl : d = y 0 := Fin.ext (by have : (((0 : Fin 4)).val = 0) := rfl; have : (((2 : Fin 8)).val = 2) := rfl; omega)
    obtain rfl : r = y 1 := Fin.ext (by omega)
    refine (Piece.head2 _ y).trans ?_
    exact Group0.dq c _ _ _ _ _ _ _ _ _ _ _ _ _ _ H (y 0) _
  case piece30 =>
    obtain rfl : j = 0 := Fin.ext (by have := j.isLt; have := g.isLt; have := d.isLt; show j.val = 0; omega)
    obtain rfl : g = 1 := Fin.ext (by have := g.isLt; have := d.isLt; show g.val = 1; have : (((0 : Fin 4)).val = 0) := rfl; omega)
    obtain rfl : d = y 0 := Fin.ext (by have : (((0 : Fin 4)).val = 0) := rfl; have : (((1 : Fin 8)).val = 1) := rfl; omega)
    obtain rfl : r = y 1 := Fin.ext (by omega)
    refine (Piece.head1 _ y).trans ?_
    exact Group0.dq c _ _ _ _ _ _ _ _ _ _ _ _ _ _ H (y 0) _
  case piece31 =>
    obtain rfl : j = 0 := Fin.ext (by have := j.isLt; have := g.isLt; have := d.isLt; show j.val = 0; omega)
    obtain rfl : g = 0 := Fin.ext (by have := g.isLt; have := d.isLt; show g.val = 0; have : (((0 : Fin 4)).val = 0) := rfl; omega)
    obtain rfl : d = y 0 := Fin.ext (by have : (((0 : Fin 4)).val = 0) := rfl; have : (((0 : Fin 8)).val = 0) := rfl; omega)
    obtain rfl : r = y 1 := Fin.ext (by omega)
    refine (Piece.head0 _ _ _ _ _ _ _ _ _ _ _ y).trans ?_
    have e := Group0.dq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) H (y 0) ⟨128 * ((0 : Fin 8) : ℕ) + (y 1).val, by have := (y 1).isLt; show 128 * 0 + _ < 1024; omega⟩
    unfold kernelRun0_B.sl.r_12 at e
    rw [← e]
    refine congrArg _ (congrArg (ix2 (y 0)) (Fin.ext ?_))
    show (y 1).val = 128 * 0 + (y 1).val
    omega

/-- The block's own keys' gradient. -/
theorem leftB_dk {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftB m c t h ds kc vc).dk z = (D.dkw n j (lower (z 0)) d : EReal) + kc z := by
  show VO0_8.read (Elt Ideal) (VO0_8.writes (Elt Ideal) VO0_8.junk (runB m c t h ds kc vc).2.1) z = _
  rw [View.read_writes_eq_canon _ _ _ (coverB_dk m c t h ds kc vc)]
  dsimp only [runB, kernelRun0_B]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    refine (Piece.keys (fun κ d => Group3.dk c _ _ _ _ _ _ _ _ _ _ _ _ _ _ H κ d) _ y).trans ?_
    refine congrArg (((D.dkw n 3 (lower (y 0)) (y 1) : ℝ) : EReal) + ·) ?_
    refine (congrFun (Piece.load (Memref.isWhole_whole _) kc (Rect.unit ![0, 192] ![128, 64] inb_S128x256_S128x64_0_192)) _).trans ?_
    refine congrArg kc (funext fun a => Fin.ext ?_)
    fin_cases a
    · exact (Rect.idx_unit_val (s := S128x256) ![0, 192] ![128, 64] inb_S128x256_S128x64_0_192 y 0).trans (show 0 + (y 0).val = (z 0).val by omega)
    · exact (Rect.idx_unit_val (s := S128x256) ![0, 192] ![128, 64] inb_S128x256_S128x64_0_192 y 1).trans (show 192 + (y 1).val = (z 1).val by omega)
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    refine (Piece.keys (fun κ d => Group2.dk c _ _ _ _ _ _ _ _ _ _ _ _ _ _ H κ d) _ y).trans ?_
    refine congrArg (((D.dkw n 2 (lower (y 0)) (y 1) : ℝ) : EReal) + ·) ?_
    refine (congrFun (Piece.load (Memref.isWhole_whole _) kc (Rect.unit ![0, 128] ![128, 64] inb_S128x256_S128x64_0_128)) _).trans ?_
    refine congrArg kc (funext fun a => Fin.ext ?_)
    fin_cases a
    · exact (Rect.idx_unit_val (s := S128x256) ![0, 128] ![128, 64] inb_S128x256_S128x64_0_128 y 0).trans (show 0 + (y 0).val = (z 0).val by omega)
    · exact (Rect.idx_unit_val (s := S128x256) ![0, 128] ![128, 64] inb_S128x256_S128x64_0_128 y 1).trans (show 128 + (y 1).val = (z 1).val by omega)
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    refine (Piece.keys (fun κ d => Group1.dk c _ _ _ _ _ _ _ _ _ _ _ _ _ _ H κ d) _ y).trans ?_
    refine congrArg (((D.dkw n 1 (lower (y 0)) (y 1) : ℝ) : EReal) + ·) ?_
    refine (congrFun (Piece.load (Memref.isWhole_whole _) kc (Rect.unit ![0, 64] ![128, 64] inb_S128x256_S128x64_0_64)) _).trans ?_
    refine congrArg kc (funext fun a => Fin.ext ?_)
    fin_cases a
    · exact (Rect.idx_unit_val (s := S128x256) ![0, 64] ![128, 64] inb_S128x256_S128x64_0_64 y 0).trans (show 0 + (y 0).val = (z 0).val by omega)
    · exact (Rect.idx_unit_val (s := S128x256) ![0, 64] ![128, 64] inb_S128x256_S128x64_0_64 y 1).trans (show 64 + (y 1).val = (z 1).val by omega)
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    refine (Piece.keys (fun κ d => Group0.dk c _ _ _ _ _ _ _ _ _ _ _ _ _ _ H κ d) _ y).trans ?_
    refine congrArg (((D.dkw n 0 (lower (y 0)) (y 1) : ℝ) : EReal) + ·) ?_
    refine (congrFun (Piece.load (Memref.isWhole_whole _) kc (Rect.unit ![0, 0] ![128, 64] inb_S128x256_S128x64_0_0)) _).trans ?_
    refine congrArg kc (funext fun a => Fin.ext ?_)
    fin_cases a
    · exact (Rect.idx_unit_val (s := S128x256) ![0, 0] ![128, 64] inb_S128x256_S128x64_0_0 y 0).trans (show 0 + (y 0).val = (z 0).val by omega)
    · exact (Rect.idx_unit_val (s := S128x256) ![0, 0] ![128, 64] inb_S128x256_S128x64_0_0 y 1).trans (show 0 + (y 1).val = (z 1).val by omega)

/-- The block's own values' gradient. -/
theorem leftB_dv {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftB m c t h ds kc vc).dv z = (D.dvw n j (lower (z 0)) d : EReal) + vc z := by
  show VO0_9.read (Elt Ideal) (VO0_9.writes (Elt Ideal) VO0_9.junk (runB m c t h ds kc vc).2.2.1) z = _
  rw [View.read_writes_eq_canon _ _ _ (coverB_dv m c t h ds kc vc)]
  dsimp only [runB, kernelRun0_B]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    refine (Piece.values (fun κ d => Group3.dv c _ _ _ _ _ _ _ _ _ _ H κ d) _ y).trans ?_
    refine congrArg (((D.dvw n 3 (lower (y 0)) (y 1) : ℝ) : EReal) + ·) ?_
    refine (congrFun (Piece.load (Memref.isWhole_whole _) vc (Rect.unit ![0, 192] ![128, 64] inb_S128x256_S128x64_0_192)) _).trans ?_
    refine congrArg vc (funext fun a => Fin.ext ?_)
    fin_cases a
    · exact (Rect.idx_unit_val (s := S128x256) ![0, 192] ![128, 64] inb_S128x256_S128x64_0_192 y 0).trans (show 0 + (y 0).val = (z 0).val by omega)
    · exact (Rect.idx_unit_val (s := S128x256) ![0, 192] ![128, 64] inb_S128x256_S128x64_0_192 y 1).trans (show 192 + (y 1).val = (z 1).val by omega)
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    refine (Piece.values (fun κ d => Group2.dv c _ _ _ _ _ _ _ _ _ _ H κ d) _ y).trans ?_
    refine congrArg (((D.dvw n 2 (lower (y 0)) (y 1) : ℝ) : EReal) + ·) ?_
    refine (congrFun (Piece.load (Memref.isWhole_whole _) vc (Rect.unit ![0, 128] ![128, 64] inb_S128x256_S128x64_0_128)) _).trans ?_
    refine congrArg vc (funext fun a => Fin.ext ?_)
    fin_cases a
    · exact (Rect.idx_unit_val (s := S128x256) ![0, 128] ![128, 64] inb_S128x256_S128x64_0_128 y 0).trans (show 0 + (y 0).val = (z 0).val by omega)
    · exact (Rect.idx_unit_val (s := S128x256) ![0, 128] ![128, 64] inb_S128x256_S128x64_0_128 y 1).trans (show 128 + (y 1).val = (z 1).val by omega)
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    refine (Piece.values (fun κ d => Group1.dv c _ _ _ _ _ _ _ _ _ _ H κ d) _ y).trans ?_
    refine congrArg (((D.dvw n 1 (lower (y 0)) (y 1) : ℝ) : EReal) + ·) ?_
    refine (congrFun (Piece.load (Memref.isWhole_whole _) vc (Rect.unit ![0, 64] ![128, 64] inb_S128x256_S128x64_0_64)) _).trans ?_
    refine congrArg vc (funext fun a => Fin.ext ?_)
    fin_cases a
    · exact (Rect.idx_unit_val (s := S128x256) ![0, 64] ![128, 64] inb_S128x256_S128x64_0_64 y 0).trans (show 0 + (y 0).val = (z 0).val by omega)
    · exact (Rect.idx_unit_val (s := S128x256) ![0, 64] ![128, 64] inb_S128x256_S128x64_0_64 y 1).trans (show 64 + (y 1).val = (z 1).val by omega)
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    refine (Piece.values (fun κ d => Group0.dv c _ _ _ _ _ _ _ _ _ _ H κ d) _ y).trans ?_
    refine congrArg (((D.dvw n 0 (lower (y 0)) (y 1) : ℝ) : EReal) + ·) ?_
    refine (congrFun (Piece.load (Memref.isWhole_whole _) vc (Rect.unit ![0, 0] ![128, 64] inb_S128x256_S128x64_0_0)) _).trans ?_
    refine congrArg vc (funext fun a => Fin.ext ?_)
    fin_cases a
    · exact (Rect.idx_unit_val (s := S128x256) ![0, 0] ![128, 64] inb_S128x256_S128x64_0_0 y 0).trans (show 0 + (y 0).val = (z 0).val by omega)
    · exact (Rect.idx_unit_val (s := S128x256) ![0, 0] ![128, 64] inb_S128x256_S128x64_0_0 y 1).trans (show 0 + (y 1).val = (z 1).val by omega)

/-- The keys' gradient carried to the previous block. -/
theorem leftB_kc {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftB m c t h ds kc vc).kc z = (D.dkw n j (upper (z 0)) d : EReal) := by
  show VS0_0.read (Elt Ideal) (VS0_0.writes (Elt Ideal) VS0_0.junk (runB m c t h ds kc vc).2.2.2.2.1) z = _
  rw [View.read_writes_eq_canon _ _ _ (coverB_kc m c t h ds kc vc)]
  dsimp only [runB, kernelRun0_B]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    exact Piece.keysCarried (fun κ d => Group3.dk c _ _ _ _ _ _ _ _ _ _ _ _ _ _ H κ d) y
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    exact Piece.keysCarried (fun κ d => Group2.dk c _ _ _ _ _ _ _ _ _ _ _ _ _ _ H κ d) y
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    exact Piece.keysCarried (fun κ d => Group1.dk c _ _ _ _ _ _ _ _ _ _ _ _ _ _ H κ d) y
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    exact Piece.keysCarried (fun κ d => Group0.dk c _ _ _ _ _ _ _ _ _ _ _ _ _ _ H κ d) y

/-- The values' gradient carried to the previous block. -/
theorem leftB_vc {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (z : S128x256.Idx) (j : Fin 4) (d : Fin 64) (hz : (z 1).val = 64 * j.val + d.val) :
    (leftB m c t h ds kc vc).vc z = (D.dvw n j (upper (z 0)) d : EReal) := by
  show VS0_1.read (Elt Ideal) (VS0_1.writes (Elt Ideal) VS0_1.junk (runB m c t h ds kc vc).2.2.2.2.2.1) z = _
  rw [View.read_writes_eq_canon _ _ _ (coverB_vc m c t h ds kc vc)]
  dsimp only [runB, kernelRun0_B]
  canon_tiles y hy
  case piece0 =>
    obtain rfl : j = 3 := Fin.ext (by have := j.isLt; have := d.isLt; show j.val = 3; omega)
    obtain rfl : d = y 1 := Fin.ext (by have : (((3 : Fin 4)).val = 3) := rfl; omega)
    rw [show z 0 = y 0 from Fin.ext hy0]
    exact Piece.valuesCarried (fun κ d => Group3.dv c _ _ _ _ _ _ _ _ _ _ H κ d) y
  case piece1 =>
    obtain rfl : j = 2 := Fin.ext (by have := j.isLt; have := d.isLt; show j.val = 2; omega)
    obtain rfl : d = y 1 := Fin.ext (by have : (((2 : Fin 4)).val = 2) := rfl; omega)
    rw [show z 0 = y 0 from Fin.ext hy0]
    exact Piece.valuesCarried (fun κ d => Group2.dv c _ _ _ _ _ _ _ _ _ _ H κ d) y
  case piece2 =>
    obtain rfl : j = 1 := Fin.ext (by have := j.isLt; have := d.isLt; show j.val = 1; omega)
    obtain rfl : d = y 1 := Fin.ext (by have : (((1 : Fin 4)).val = 1) := rfl; omega)
    rw [show z 0 = y 0 from Fin.ext hy0]
    exact Piece.valuesCarried (fun κ d => Group1.dv c _ _ _ _ _ _ _ _ _ _ H κ d) y
  case piece3 =>
    obtain rfl : j = 0 := Fin.ext (by have := j.isLt; have := d.isLt; show j.val = 0; omega)
    obtain rfl : d = y 1 := Fin.ext (by have : (((0 : Fin 4)).val = 0) := rfl; omega)
    rw [show z 0 = y 0 from Fin.ext hy0]
    exact Piece.valuesCarried (fun κ d => Group0.dv c _ _ _ _ _ _ _ _ _ _ H κ d) y

/-- The sinks' gradients: each head's lane gets the block's share. -/
theorem leftB_ds {D : Data} {n : Fin 64} (c : Dev nD) (t : Fin cfg0.N) (h : ¬t.val % 64 = 0) (ds : Vec Ideal S1x128 .f32) (kc vc : Vec Ideal S128x256 .f32)
    (H : Ins D n (grid0.coords t) (iblk m c 0 t) (iblk m c 1 t) (iblk m c 2 t) (X0_3 m c t) (X0_4 m c t) (iblk m c 5 t) (iblk m c 6 t))
    (y : Fin 128) :
    (leftB m c t h ds kc vc).ds (ix2 0 y)
      = ds (ix2 0 y) + ∑ j : Fin 4, ∑ g : Fin 8, if y.val = 8 * j.val + g.val then (D.dsb n j g : EReal) else 0 := by
  show VO0_10.read (Elt Ideal) (VO0_10.writes (Elt Ideal) VO0_10.junk (runB m c t h ds kc vc).2.2.2.1) (ix2 0 y) = _
  rw [View.read_writes_eq_canon _ _ _ (coverB_ds m c t h ds kc vc)]
  dsimp only [runB, kernelRun0_B]
  rw [View.canon_cons_unit_lit _ _ _ (by intro a; fin_cases a <;> rfl)]
  refine (Piece.sinks _ _ _).trans ?_
  rw [Group3.lane c _ _ _ _ _ _ _ _ _ _ _ _ _ _ H, Group2.lane c _ _ _ _ _ _ _ _ _ _ _ _ _ _ H,
    Group1.lane c _ _ _ _ _ _ _ _ _ _ _ _ _ _ H, Group0.lane c _ _ _ _ _ _ _ _ _ _ _ _ _ _ H, Piece.sinks_zero]
  rw [zero_add, Fin.sum_univ_four]
  refine congrArg₂ (· + ·) ((congrFun (Piece.load (hs0_10 t) ds (Rect.unit ![0, 0] ![1, 128] inb_S1x128_S1x128_0_0)) (ix2 0 y)).trans (congrArg ds (funext fun a => Fin.ext ?_))) rfl
  fin_cases a
  · exact Rect.idx_unit_val (s := S1x128) ![0, 0] ![1, 128] inb_S1x128_S1x128_0_0 (ix2 0 y) 0
  · exact (Rect.idx_unit_val (s := S1x128) ![0, 0] ![1, 128] inb_S1x128_S1x128_0_0 (ix2 0 y) 1).trans (Nat.zero_add _)

end Cert.KernelIdeal.Attn

end

end
-- ==== Proof.AttnFinal.lean ====
/-
  The arrays the attention kernel leaves, on real data: what each point leaves, point by point, and the arrays put
  together from the points' blocks.
-/
module

public import proofs.«01_k».proof.Proof.AttnBlocks
public import proofs.«01_k».proof.Proof.AttnPointA
public import proofs.«01_k».proof.Proof.AttnPointB

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem
open Idealize.ShloMosaic.Pipeline (Dat)

variable (m : (ℓ : Loc nD τ sig) → Buf (Elt Ideal) ℓ) {D : Data} (c : Dev nD)
  (H : Holds D (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)))

include H

/-! ## What a point leaves -/

theorem left_dq (t : Fin cfg0.N) (n : Fin 64) (hn : n.val = 63 - t.val) (z : S2048x128.Idx) (j : Fin 4) (g : Fin 8) (d : Fin 64)
    (r : Fin 128) (hz : (z 0).val = 64 * (8 * j.val + g.val) + d.val) (hr : (z 1).val = r.val) :
    (left m c t.val t.isLt).dq z = (D.dq n j d ⟨128 * g.val + r.val, by omega⟩ : EReal) := by
  by_cases h : t.val % 64 = 0
  · rw [left_A m c t h]; exact leftA_dq m c t h (ins m c H t n hn) z j g d r hz hr
  · rw [left_B m c t h]; exact leftB_dq m c t h _ _ _ (ins m c H t n hn) z j g d r hz hr

theorem left_kc (t : Fin cfg0.N) (n : Fin 64) (hn : n.val = 63 - t.val) (z : S128x256.Idx) (j : Fin 4) (d : Fin 64)
    (hz : (z 1).val = 64 * j.val + d.val) : (left m c t.val t.isLt).kc z = (D.dkw n j (upper (z 0)) d : EReal) := by
  by_cases h : t.val % 64 = 0
  · rw [left_A m c t h]; exact leftA_kc m c t h (ins m c H t n hn) z j d hz
  · rw [left_B m c t h]; exact leftB_kc m c t h _ _ _ (ins m c H t n hn) z j d hz

theorem left_vc (t : Fin cfg0.N) (n : Fin 64) (hn : n.val = 63 - t.val) (z : S128x256.Idx) (j : Fin 4) (d : Fin 64)
    (hz : (z 1).val = 64 * j.val + d.val) : (left m c t.val t.isLt).vc z = (D.dvw n j (upper (z 0)) d : EReal) := by
  by_cases h : t.val % 64 = 0
  · rw [left_A m c t h]; exact leftA_vc m c t h (ins m c H t n hn) z j d hz
  · rw [left_B m c t h]; exact leftB_vc m c t h _ _ _ (ins m c H t n hn) z j d hz

theorem left_dk (t : Fin cfg0.N) (n : Fin 64) (hn : n.val = 63 - t.val) (z : S128x256.Idx) (j : Fin 4) (d : Fin 64)
    (hz : (z 1).val = 64 * j.val + d.val) : (left m c t.val t.isLt).dk z = (D.dk n (z 0) j d : EReal) := by
  have hN : t.val < 64 := lt_of_lt_of_eq t.isLt (show cfg0.N = 64 from N_0)
  unfold Data.dk both
  by_cases h : t.val % 64 = 0
  · rw [left_A m c t h, dif_neg (by omega), add_zero]
    exact leftA_dk m c t h (ins m c H t n hn) z j d hz
  · rw [left_B m c t h, dif_pos (by omega), EReal.coe_add]
    refine (leftB_dk m c t h _ _ _ (ins m c H t n hn) z j d hz).trans (congrArg _ ?_)
    exact left_kc m c H ⟨t.val - 1, Nat.lt_of_le_of_lt (Nat.sub_le _ _) t.isLt⟩ ⟨n.val + 1, _⟩ (by dsimp only; omega) z j d hz

theorem left_dv (t : Fin cfg0.N) (n : Fin 64) (hn : n.val = 63 - t.val) (z : S128x256.Idx) (j : Fin 4) (d : Fin 64)
    (hz : (z 1).val = 64 * j.val + d.val) : (left m c t.val t.isLt).dv z = (D.dv n (z 0) j d : EReal) := by
  have hN : t.val < 64 := lt_of_lt_of_eq t.isLt (show cfg0.N = 64 from N_0)
  unfold Data.dv both
  by_cases h : t.val % 64 = 0
  · rw [left_A m c t h, dif_neg (by omega), add_zero]
    exact leftA_dv m c t h (ins m c H t n hn) z j d hz
  · rw [left_B m c t h, dif_pos (by omega), EReal.coe_add]
    refine (leftB_dv m c t h _ _ _ (ins m c H t n hn) z j d hz).trans (congrArg _ ?_)
    exact left_vc m c H ⟨t.val - 1, Nat.lt_of_le_of_lt (Nat.sub_le _ _) t.isLt⟩ ⟨n.val + 1, _⟩ (by dsimp only; omega) z j d hz

/-- The sinks' gradients accumulate over the points. -/
theorem left_ds (y : Fin 128) : ∀ (k : ℕ) (hk : k < cfg0.N), (left m c k hk).ds (ix2 0 y)
    = ∑ t ∈ Finset.range (k + 1), ∑ j : Fin 4, ∑ g : Fin 8,
        if y.val = 8 * j.val + g.val then (D.dsb ⟨63 - t, by omega⟩ j g : EReal) else 0
  | 0, hk => by
    rw [left_A m c ⟨0, hk⟩ (Nat.zero_mod _), Finset.sum_range_one]
    exact leftA_ds m c ⟨0, hk⟩ _ (ins m c H ⟨0, hk⟩ ⟨63, by omega⟩ rfl) y
  | k + 1, hk => by
    have hN : k + 1 < 64 := lt_of_lt_of_eq hk (show cfg0.N = 64 from N_0)
    have h : ¬(k + 1) % 64 = 0 := by omega
    rw [Finset.sum_range_succ, ← left_ds y k (Nat.lt_of_succ_lt hk)]
    have e := left_B m c ⟨k + 1, hk⟩ h
    rw [e]
    exact leftB_ds m c ⟨k + 1, hk⟩ h _ _ _ (ins m c H ⟨k + 1, hk⟩ ⟨63 - (k + 1), by omega⟩ rfl) y

theorem left_ds_last (h : 63 < cfg0.N) (i : S1x128.Idx) : (left m c 63 h).ds i = resS D i := by
  obtain ⟨y, rfl⟩ : ∃ y : Fin 128, i = ix2 0 y := ⟨i 1, by idx_vars i; exact congrArg (ix2 · i1) (Subsingleton.elim (α := Fin 1) i0 0)⟩
  rw [left_ds m c H y 63 h, Finset.sum_range]
  simp only [lane_sum]
  show _ = if h : y.val < 32 then (D.ds ⟨y.val / 8, by omega⟩ ⟨y.val % 8, by omega⟩ : EReal) else 0
  by_cases hy : y.val < 32
  · simp only [dif_pos hy]
    unfold Data.ds
    rw [← Words.coe_sum]
    exact Fintype.sum_equiv Fin.revPerm _ (fun n => (D.dsb n ⟨y.val / 8, by omega⟩ ⟨y.val % 8, by omega⟩ : EReal)) fun t => by
      congr 2
  · simp only [dif_neg hy, Finset.sum_const_zero]

/-! ## The arrays -/

theorem final_dq : (dats m 0 c).arrAt 7 (cfgs 0).N = resQ D := by
  refine (dats m 0 c).arrAt_eq_of_covers 7 _ (by decide +kernel) fun t _ y => ?_
  have hN : t.val < 64 := lt_of_lt_of_eq t.isLt (show cfg0.N = 64 from N_0)
  blk_simp
  rw [after_7]
  have h0 : (y 0).val < 2048 := (y 0).isLt
  have h1 : (y 1).val < 128 := (y 1).isLt
  refine (left_dq m c H t ⟨63 - t.val, by omega⟩ rfl y ⟨(y 0).val / 512, by omega⟩ ⟨(y 0).val / 64 % 8, by omega⟩ ⟨(y 0).val % 64, by omega⟩
    (y 1) (by dsimp only; omega) rfl).trans ?_
  unfold resQ
  dsimp only
  have e0 : (((cfg0.win 7).blk t).view.emb y 0).val = (y 0).val := by blk_simp [idx t]
  have e1 : (((cfg0.win 7).blk t).view.emb y 1).val = (63 - t.val) * 128 + (y 1).val := by blk_simp [idx t]
  simp only [e0, e1]
  congr 2
  · exact Fin.ext (by dsimp only; omega)
  · exact Fin.ext (by dsimp only; omega)

theorem final_dk : (dats m 0 c).arrAt 8 (cfgs 0).N = resK D := by
  refine (dats m 0 c).arrAt_eq_of_covers 8 _ (by decide +kernel) fun t _ y => ?_
  have hN : t.val < 64 := lt_of_lt_of_eq t.isLt (show cfg0.N = 64 from N_0)
  blk_simp
  rw [after_8]
  have h0 : (y 0).val < 128 := (y 0).isLt
  have h1 : (y 1).val < 256 := (y 1).isLt
  refine (left_dk m c H t ⟨63 - t.val, by omega⟩ rfl y ⟨(y 1).val / 64, by omega⟩ ⟨(y 1).val % 64, by omega⟩
    (by dsimp only; omega)).trans ?_
  unfold resK
  dsimp only
  have e0 : (((cfg0.win 8).blk t).view.emb y 0).val = (63 - t.val) * 128 + (y 0).val := by blk_simp [idx t]
  have e1 : (((cfg0.win 8).blk t).view.emb y 1).val = (y 1).val := by blk_simp [idx t]
  simp only [e0, e1]
  congr 2
  · exact Fin.ext (by dsimp only; omega)
  · exact Fin.ext (by dsimp only; omega)

theorem final_dv : (dats m 0 c).arrAt 9 (cfgs 0).N = resV D (m ((c.tc : Thread nD τ).loc main_arg5)) := by
  refine ((dats m 0 c).arrAt_eq_of_coversWhere 9 (resV D (m ((c.tc : Thread nD τ).loc main_arg5)))
    (P := fun i : S8192x17024.Idx => 16640 ≤ (i 1).val ∧ (i 1).val < 16896)
    (fun β => β (1 : Fin 2) = 65) (by decide +kernel) (fun t hf y => ?_) (fun j => by blk_simp [Pipeline.Window.cell_apply]; omega)).trans ?_
  · have hN : t.val < 64 := lt_of_lt_of_eq t.isLt (show cfg0.N = 64 from N_0)
    rw [after_9]
    have h0 : (y 0).val < 128 := ((cfg0.win 9).xinj (cfg0.grid.coords t) y 0).isLt
    have h1 : (y 1).val < 256 := ((cfg0.win 9).xinj (cfg0.grid.coords t) y 1).isLt
    refine (left_dv m c H t ⟨63 - t.val, by omega⟩ rfl ((cfg0.win 9).xinj (cfg0.grid.coords t) y) ⟨(y 1).val / 64, by omega⟩ ⟨(y 1).val % 64, by omega⟩
      (show (y 1).val = 64 * ((y 1).val / 64) + (y 1).val % 64 by omega)).trans ?_
    have e0 : (((cfg0.win 9).blk t).view.emb y 0).val = (63 - t.val) * 128 + (y 0).val :=
      (Pipeline.Window.rect_emb_val win0_9 t y 0 rfl).trans (congrArg (· * 128 + (y 0).val) (congrFun (idx t).2.2.2.2.2.2.2.2.2.1 0))
    have e1 : (((cfg0.win 9).blk t).view.emb y 1).val = 65 * 256 + (y 1).val :=
      (Pipeline.Window.rect_emb_val win0_9 t y 1 rfl).trans (congrArg (· * 256 + (y 1).val) (congrFun (idx t).2.2.2.2.2.2.2.2.2.1 1))
    exact (resV_at D _ _ ⟨63 - t.val, by omega⟩ ⟨(y 0).val, h0⟩ ⟨(y 1).val / 64, by omega⟩ ⟨(y 1).val % 64, by omega⟩ e0
      (e1.trans (by dsimp only; omega))).symm
  · funext i
    by_cases h : 16640 ≤ (i 1).val ∧ (i 1).val < 16896
    · exact if_pos h
    · refine (if_neg h).trans ?_
      unfold resV
      rw [dif_neg h, A_eq]
      show V m c main_v9_2 i = _
      simp only [V, hostOps0, hostOps0_1, hostOps0_2, List.flatten_cons, List.flatten_nil, List.cons_append, List.nil_append, List.append_nil]
      entry_read
      rfl

theorem final_ds : (dats m 0 c).arrAt 10 (cfgs 0).N = resS D := by
  refine (dats m 0 c).arrAt_eq_of_after_last 10 ⟨63, by decide⟩ (by decide +kernel) _ fun j => ?_
  exact (congrFun (after_10 m c ⟨63, by decide⟩) _).trans (left_ds_last m c H _ j)

end Cert.KernelIdeal.Attn

end

end
-- ==== Proof.AttnRow.lean ====
/-
  The gradient of a row's softmax by the chain rule, as differentiation writes it, and the same with a window whose keys
  out of sight are zeros.
-/
module

public import proofs.«01_k».proof.Proof.AttnData

@[expose] public section

noncomputable section

namespace Cert.Row

open Idealize.ShloMosaic

section chain

variable (M : Fin 256 → Bool) (x : Fin 256 → ℝ) (σ : ℝ) (e : Fin 256 → ℝ)

/-- The gradient with respect to a masked score. -/
def gradX (κ : Fin 256) : ℝ := prob M x σ κ * (e κ - mean M x σ e)

theorem grad_eq (κ : Fin 256) : grad M x σ e κ = gradX M x σ e κ * (1 / 8) := rfl

/-- The probabilities add up to one. -/
theorem sum_prob : (∑ κ, prob M x σ κ) + probS M x σ = 1 := by
  unfold prob probS
  rw [← Finset.sum_mul, ← add_mul]
  exact mul_one_div_cancel (den_ne M x σ)

/-- The gradients of the scores and the sink cancel: a softmax does not change when all its scores move together. -/
theorem sum_gradX : (-gradS M x σ e) + -∑ κ, gradX M x σ e κ = 0 := by
  have h : ∑ κ, gradX M x σ e κ = mean M x σ e - (∑ κ, prob M x σ κ) * mean M x σ e := by
    simp only [gradX, mul_sub, Finset.sum_sub_distrib, Finset.sum_mul]
    rw [mean]
    congr 1
    exact Finset.sum_congr rfl fun κ _ => mul_comm _ _
  have h1 := sum_prob M x σ
  have h2 : ∑ κ, prob M x σ κ = 1 - probS M x σ := by linarith
  rw [h, h2, gradS]
  ring

/-- The gradient with respect to the sum of the weights. -/
theorem sum_den : ∑ κ, e κ * (1 / (den M x σ * den M x σ)) * wt M x σ κ = mean M x σ e * (1 / den M x σ) := by
  rw [mean, Finset.sum_mul]
  refine Finset.sum_congr rfl fun κ _ => ?_
  rw [prob, one_div, mul_inv]
  ring

theorem chainS : -(mean M x σ e * (1 / den M x σ)) * snk M x σ = gradS M x σ e := by
  rw [gradS, probS]; ring

theorem chainX (κ : Fin 256) : (e κ * (1 / den M x σ) + -(mean M x σ e * (1 / den M x σ))) * wt M x σ κ = gradX M x σ e κ := by
  rw [gradX, prob]; ring

/-- The largest score is one of the scores. -/
theorem exists_score : ∃ κ, score M x κ = Finset.univ.fold max ⊥ (score M x) := by
  obtain ⟨κ, _, h⟩ := Finset.exists_mem_eq_sup (Finset.univ : Finset (Fin 256)) Finset.univ_nonempty (score M x)
  exact ⟨κ, h.symm⟩

end chain

/-! ## Only what is in sight matters -/

section sight

variable {M : Fin 256 → Bool} {x x' : Fin 256 → ℝ} (σ : ℝ) {e e' : Fin 256 → ℝ}

theorem score_congr (h : ∀ κ, M κ = true → x κ = x' κ) : score M x = score M x' := by
  funext κ
  unfold score
  by_cases hM : M κ = true
  · rw [if_pos hM, if_pos hM, h κ hM]
  · rw [if_neg hM, if_neg hM]

theorem mean_congr (h : ∀ κ, M κ = true → e κ = e' κ) : mean M x σ e = mean M x σ e' := by
  refine Finset.sum_congr rfl fun κ _ => ?_
  by_cases hM : M κ = true
  · rw [h κ hM]
  · rw [prob_of_not M x σ (Bool.eq_false_iff.mpr hM), mul_zero, mul_zero]

theorem gradS_congr (h : ∀ κ, M κ = true → e κ = e' κ) : gradS M x σ e = gradS M x σ e' := by
  rw [gradS, gradS, mean_congr σ h]

theorem grad_congr (h : ∀ κ, M κ = true → e κ = e' κ) (κ : Fin 256) : grad M x σ e κ = grad M x σ e' κ := by
  by_cases hM : M κ = true
  · rw [grad, grad, mean_congr σ h, h κ hM]
  · rw [grad_of_not M x σ e (Bool.eq_false_iff.mpr hM), grad_of_not M x σ e' (Bool.eq_false_iff.mpr hM)]

end sight

end Cert.Row

namespace Cert.Attn

/-- Row `r` of head `g`'s queries among a group's 1024 columns. -/
def col (g : Fin 8) (r : Fin 128) : Fin 1024 := ⟨128 * g.val + r.val, by omega⟩

theorem colHead_col (g : Fin 8) (r : Fin 128) : colHead (col g r) = g := Fin.ext (by unfold colHead col; dsimp only; omega)

theorem colRow_col (g : Fin 8) (r : Fin 128) : colRow (col g r) = r := Fin.ext (by unfold colRow col; dsimp only; omega)

/-- A sum over the columns, by head and row. -/
theorem sum_col {α : Type} [AddCommMonoid α] (f : Fin 1024 → α) : ∑ x, f x = ∑ g, ∑ r, f (col g r) := by
  rw [← Fintype.sum_prod_type']
  refine (Fintype.sum_equiv ⟨fun p : Fin 8 × Fin 128 => col p.1 p.2, fun x => (colHead x, colRow x),
    fun p => Prod.ext (colHead_col _ _) (colRow_col _ _), fun x => Fin.ext (by unfold col colHead colRow; dsimp only; omega)⟩ _ _ fun p => rfl).symm

/-- A window with zeros before the first block. -/
def rwin (u : Fin 8192 → Fin 4 → Fin 64 → ℝ) (n : Fin 64) (j : Fin 4) (κ : Fin 256) (d : Fin 64) : ℝ :=
  if n.val < 1 ∧ κ.val < 128 then 0 else window u n j κ d

theorem rwin_first (u : Fin 8192 → Fin 4 → Fin 64 → ℝ) (n : Fin 64) (j : Fin 4) (κ : Fin 256) (d : Fin 64)
    (h : n.val < 1 ∧ κ.val < 128) : rwin u n j κ d = 0 := if_pos h

theorem rwin_before (u : Fin 8192 → Fin 4 → Fin 64 → ℝ) (n : Fin 64) (j : Fin 4) (κ : Fin 256) (d : Fin 64)
    (h : ¬n.val < 1) (h1 : κ.val < 128) : rwin u n j κ d = u (tok (before n) ⟨κ.val, h1⟩) j d :=
  (if_neg fun hh => h hh.1).trans (dif_pos h1)

theorem rwin_own (u : Fin 8192 → Fin 4 → Fin 64 → ℝ) (n : Fin 64) (j : Fin 4) (κ : Fin 256) (d : Fin 64)
    (h1 : ¬κ.val < 128) : rwin u n j κ d = u (tok n ⟨κ.val - 128, by omega⟩) j d :=
  (if_neg fun hh => h1 hh.2).trans (dif_neg h1)

/-- Keys in sight are no zeros of the first block's. -/
theorem rwin_of_sees (u : Fin 8192 → Fin 4 → Fin 64 → ℝ) (n : Fin 64) (j : Fin 4) (r : Fin 128) (κ : Fin 256) (d : Fin 64)
    (h : Band.sees n.val r κ = true) : rwin u n j κ d = window u n j κ d := by
  refine if_neg fun hh => ?_
  unfold Band.sees at h
  simp only [Bool.and_eq_true, Bool.or_eq_true, decide_eq_true_eq] at h
  omega

namespace Data

variable (D : Data) (n : Fin 64) (j : Fin 4)

theorem sc_congr (x : Fin 1024) (κ : Fin 256) (h : Data.M n x κ = true) :
    Row.sc (rwin D.k n j) (D.Q n j) x κ = Row.sc (D.K n j) (D.Q n j) x κ := by
  unfold Row.sc
  simp only [rwin_of_sees D.k n j (colRow x) κ _ h]

theorem gp_congr (x : Fin 1024) (κ : Fin 256) (h : Data.M n x κ = true) :
    Row.gp (rwin D.v n j) (D.O n j) x κ = Row.gp (D.V n j) (D.O n j) x κ := by
  unfold Row.gp
  simp only [rwin_of_sees D.v n j (colRow x) κ _ h]

/-- The gradient with respect to the queries, against the window with zeros. -/
theorem dq_eq (d : Fin 64) (x : Fin 1024) : ∑ κ, D.G n j x κ * rwin D.k n j κ d = D.dq n j d x := by
  refine Finset.sum_congr rfl fun κ _ => ?_
  by_cases h : Data.M n x κ = true
  · rw [rwin_of_sees D.k n j (colRow x) κ d h, mul_comm]
  · have h0 : D.G n j x κ = 0 := Row.grad_of_not _ _ _ _ (Bool.eq_false_iff.mpr h)
    rw [h0, zero_mul, mul_zero]

end Data

end Cert.Attn

end

end
-- ==== Proof.AttnRef1.lean ====
/-
  The reference's attention, read at an index on real data: windows, scores, mask, probabilities.
-/
module

public import proofs.«01_k».proof.Proof.AttnHolds
public import proofs.«01_k».proof.Proof.AttnRow
public import proofs.«01_k».proof.Proof.AttnMask
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem

variable {D : Data} {x0 : FVec Ideal S8192x32x64 .f32} {x1 : FVec Ideal S8192x4x64 .f32} {x2 : FVec Ideal S8192x17024 .f32}
  {x3 : FVec Ideal S32 .f32} {x4 : FVec Ideal S8192x2048 .f32} (H : Holds D x0 x1 x2 x3 x4)

/-! ## What a row reads -/

include H in
theorem q_at (n : Fin 64) (r : Fin 128) (j : Fin 4) (g : Fin 8) (d : Fin 64) :
    (val_main_v2 (F := Ideal) x0 : FVec Ideal S64x128x4x8x64 .f32) (ix5 n r j g d) = (D.Q n j d (col g r) : EReal) := by
  unfold Data.Q
  rw [colRow_col, colHead_col, ← H.q]
  pointwise [val_main_v2]
  exact congrArg₂ (fun a b => x0 (ix3 a b d)) (Fin.ext (by unfold tok; dsimp only; omega)) (Fin.ext (by unfold head; dsimp only; omega))

include H in
theorem k_at (n : Fin 64) (κ : Fin 256) (j : Fin 4) (d : Fin 64) :
    (val_main_v10 (F := Ideal) x1 : FVec Ideal S64x256x4x64 .f32) (ix4 n κ j d) = (rwin D.k n j κ d : EReal) := by
  pointwise [val_main_v10, val_main_v8, val_main_v7, val_main_v6, val_main_v3]
  by_cases h1 : κ.val < 128
  · refine (dif_pos h1).trans ?_
    by_cases h2 : n.val < 1
    · refine (dif_pos h2).trans ?_
      rw [rwin_first _ _ _ _ _ ⟨h2, h1⟩]
      exact Ideal.ofBits_zero_f32
    · refine (dif_neg h2).trans ?_
      rw [rwin_before _ _ _ _ _ h2 h1]
      exact (congrArg (fun a => x1 (ix3 a j d))  (Fin.ext (show (n.val - 1) * 128 + κ.val = 128 * (n.val - 1) + κ.val by omega))).trans (H.k _ _ _)
  · refine (dif_neg h1).trans ?_
    rw [rwin_own _ _ _ _ _ h1]
    exact (congrArg (fun a => x1 (ix3 a j d))  (Fin.ext (show n.val * 128 + (κ.val - 128) = 128 * n.val + (κ.val - 128) by omega))).trans (H.k _ _ _)

include H in
theorem v_at (n : Fin 64) (κ : Fin 256) (j : Fin 4) (d : Fin 64) :
    (val_main_v16 (F := Ideal) x2 : FVec Ideal S64x256x4x64 .f32) (ix4 n κ j d) = (rwin D.v n j κ d : EReal) := by
  have e : ∀ (t : Fin 8192), (val_main_v1 (F := Ideal) x2 : FVec Ideal S8192x4x64 .f32) (ix3 t j d) = (D.v t j d : EReal) := fun t => by
    pointwise [val_main_v1, val_main_v0]
    exact H.v _ _ _ _ (by dsimp only; omega)
  pointwise [val_main_v16, val_main_v14, val_main_v13, val_main_v12, val_main_v4]
  by_cases h1 : κ.val < 128
  · refine (dif_pos h1).trans ?_
    by_cases h2 : n.val < 1
    · refine (dif_pos h2).trans ?_
      rw [rwin_first _ _ _ _ _ ⟨h2, h1⟩]
      exact Ideal.ofBits_zero_f32
    · refine (dif_neg h2).trans ?_
      rw [rwin_before _ _ _ _ _ h2 h1]
      exact (congrArg (fun a => (val_main_v1 (F := Ideal) x2 : FVec Ideal S8192x4x64 .f32) (ix3 a j d))  (Fin.ext (show (n.val - 1) * 128 + κ.val = 128 * (n.val - 1) + κ.val by omega))).trans (e _)
  · refine (dif_neg h1).trans ?_
    rw [rwin_own _ _ _ _ _ h1]
    exact (congrArg (fun a => (val_main_v1 (F := Ideal) x2 : FVec Ideal S8192x4x64 .f32) (ix3 a j d))  (Fin.ext (show n.val * 128 + (κ.val - 128) = 128 * n.val + (κ.val - 128) by omega))).trans (e _)

include H in
theorem o_at (n : Fin 64) (r : Fin 128) (j : Fin 4) (g : Fin 8) (d : Fin 64) :
    (val_main_v97 (F := Ideal) x4 : FVec Ideal S64x4x64x8x128 .f32) (ix5 n j d g r) = (D.O n j d (col g r) : EReal) := by
  unfold Data.O
  rw [colRow_col, colHead_col]
  pointwise [val_main_v97, val_main_v96]
  refine (congrArg (fun a => x4 (ix2 a _)) (Fin.ext (?_ : _ = (tok n r).val))).trans (H.o _ _ _ _ ?_)
  · unfold tok; dsimp only; omega
  · unfold head; dsimp only; omega

include H in
theorem s_at (j : Fin 4) (g : Fin 8) (r : Fin 128) :
    (val_main_v51 (F := Ideal) x3 : FVec Ideal S1x4x8x1x1 .f32) (ix5 0 j g 0 0) = (D.σ j (col g r) : EReal) := by
  unfold Data.σ
  rw [colHead_col, ← H.s]
  pointwise [val_main_v51, val_main_v50]
  exact congrArg (fun a => x3 (ix1 a)) (Fin.ext (by unfold head; dsimp only; omega))

/-! ## The masked scores -/

theorem pos_eq : ∀ i : Fin 64, IntOp.cmpi CmpIPredicate.sgt (BitVec.ofNat 32 ↑i) 0#32 = BitVec.ofBool (decide (0 < i.val)) := by
  decide +kernel

theorem mask_at (n : Fin 64) (j : Fin 4) (g : Fin 8) (r : Fin 128) (κ : Fin 256) :
    (val_main_v49_1 (F := Ideal) : IVec S64x4x8x128x256 1) (ix5 n j g r κ) = BitVec.ofBool (Data.M n (col g r) κ) := by
  unfold Data.M
  rw [colRow_col]
  pointwise [val_main_v49_1, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_c, val_main_c_4, val_main_c_5]
  rw [KernelIdeal.Attn.gt_eq κ r, KernelIdeal.Attn.le_eq κ r, KernelIdeal.Attn.ge_eq κ, pos_eq n]
  exact KernelIdeal.Attn.and_or _ _ _ _

include H in
theorem sc_at (n : Fin 64) (j : Fin 4) (g : Fin 8) (r : Fin 128) (κ : Fin 256) :
    (val_main_v20 (F := Ideal) x0 x1 : FVec Ideal S64x4x8x128x256 .f32) (ix5 n j g r κ)
      = (Row.sc (rwin D.k n j) (D.Q n j) (col g r) κ : EReal) := by
  pointwise [val_main_v20, val_main_v19, val_main_v18, val_main_v17]
  simp only [k_at H, q_at H]
  unfold Row.sc
  rw [EReal.coe_mul, Words.coe_sum]
  simp only [EReal.coe_mul]
  exact congrArg _ Words.eighth

include H in
theorem ms_at (n : Fin 64) (j : Fin 4) (g : Fin 8) (r : Fin 128) (κ : Fin 256) :
    (val_main_v49_0 (F := Ideal) x0 x1 : FVec Ideal S64x4x8x128x256 .f32) (ix5 n j g r κ)
      = Row.score (Data.M n (col g r)) (Row.sc (D.K n j) (D.Q n j) (col g r)) κ := by
  rw [← Row.score_congr (D.sc_congr n j (col g r))]
  pointwise [val_main_v49_0, val_main_call0_v2]
  rw [mask_at, sc_at H]
  unfold Row.score
  by_cases h : Data.M n (col g r) κ = true
  · rw [h]; rfl
  · rw [Bool.eq_false_iff.mpr h]
    exact Words.negInf

/-! ## The weights -/

include H in
theorem max_at (n : Fin 64) (j : Fin 4) (g : Fin 8) (r : Fin 128) :
    (val_main_v52 (F := Ideal) x0 x1 : FVec Ideal S64x4x8x128 .f32) (ix4 n j g r)
      = Finset.univ.fold max ⊥ (Row.score (Data.M n (col g r)) (Row.sc (D.K n j) (D.Q n j) (col g r))) := by
  pointwise [val_main_v52]
  simp only [ms_at H]
  exact congrArg (fun b => Finset.fold max b _ _) Words.negInf

theorem one_word : FloatOps.uitofp (F := Ideal) FTy.f32 (BitVec.ofBool true) = (1 : EReal) := by
  show (((BitVec.ofBool true).toNat : ℝ) : EReal) = 1
  simp

theorem zero_word : FloatOps.uitofp (F := Ideal) FTy.f32 (BitVec.ofBool false) = (0 : EReal) := by
  show (((BitVec.ofBool false).toNat : ℝ) : EReal) = 0
  simp

theorem max_eq (a b c : EReal) (h : max a b = c) : FloatOps.maximumf (F := Ideal) (φ := .f32) a b = c := h

/-- At least one score is the largest. -/
theorem count_ne (f : Fin 256 → EReal) (b : EReal) (κ : Fin 256) (h : f κ = b) :
    Ideal.ofBits .f32 0x00000000#32 + ∑ κ, FloatOps.uitofp (F := Ideal) FTy.f32 (BitVec.ofBool (decide (f κ = b))) ≠ 0 := by
  have h1 : ∀ κ, FloatOps.uitofp (F := Ideal) FTy.f32 (BitVec.ofBool (decide (f κ = b))) = if f κ = b then (1 : EReal) else 0 := fun κ => by
    by_cases e : f κ = b
    · rw [if_pos e, decide_eq_true e]
      exact one_word
    · rw [if_neg e, decide_eq_false e]
      exact zero_word
  rw [Ideal.ofBits_zero_f32, zero_add]
  simp only [h1]
  have h2 : (1 : EReal) ≤ ∑ κ, if f κ = b then (1 : EReal) else 0 := by
    refine le_trans (le_of_eq (if_pos h).symm) (Finset.single_le_sum (f := fun κ => if f κ = b then (1 : EReal) else 0) (fun κ _ => ?_) (Finset.mem_univ κ))
    split
    · exact zero_le_one
    · exact le_refl _
  intro h3
  rw [h3] at h2
  exact absurd h2 (not_le.mpr zero_lt_one)

include H in
theorem count_at (n : Fin 64) (j : Fin 4) (g : Fin 8) (r : Fin 128) :
    (val_main_v57 (F := Ideal) x0 x1 : FVec Ideal S64x4x8x128 .f32) (ix4 n j g r) ≠ 0 := by
  pointwise [val_main_v57, val_main_v56, val_main_v55, val_main_v54, val_main_v53]
  obtain ⟨κ, h⟩ := Row.exists_score (Data.M n (col g r)) (Row.sc (D.K n j) (D.Q n j) (col g r))
  rw [← ms_at H, ← max_at H] at h
  exact count_ne _ _ κ h

end Cert.ReferenceIdeal.Attn

end

end
-- ==== Proof.AttnRef2.lean ====
/-
  The reference's attention, read at an index on real data: the probabilities.
-/
module

public import proofs.«01_k».proof.Proof.AttnRef1

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem

variable {D : Data} {x0 : FVec Ideal S8192x32x64 .f32} {x1 : FVec Ideal S8192x4x64 .f32} {x2 : FVec Ideal S8192x17024 .f32}
  {x3 : FVec Ideal S32 .f32} {x4 : FVec Ideal S8192x2048 .f32} (H : Holds D x0 x1 x2 x3 x4)

include H in
theorem top1 (n : Fin 64) (j : Fin 4) (g : Fin 8) (r : Fin 128) :
    (val_main_v58 (F := Ideal) x0 x1 : FVec Ideal S64x4x8x128x1 .f32) (ix5 n j g r 0)
      = Finset.univ.fold max ⊥ (Row.score (Data.M n (col g r)) (Row.sc (D.K n j) (D.Q n j) (col g r))) := by
  pointwise [val_main_v58]
  exact max_at H n j g r

include H in
theorem top2 (n : Fin 64) (j : Fin 4) (g : Fin 8) (r : Fin 128) :
    (val_main_v59 (F := Ideal) x3 : FVec Ideal S64x4x8x128x1 .f32) (ix5 n j g r 0) = (D.σ j (col g r) : EReal) := by
  pointwise [val_main_v59]
  exact s_at H j g r

include H in
theorem top_at (n : Fin 64) (j : Fin 4) (g : Fin 8) (r : Fin 128) :
    (val_main_v60 (F := Ideal) x0 x1 x3 : FVec Ideal S64x4x8x128x1 .f32) (ix5 n j g r 0)
      = (Row.top (Data.M n (col g r)) (Row.sc (D.K n j) (D.Q n j) (col g r)) (D.σ j (col g r)) : EReal) := by
  rw [val_main_v60_apply, top1 H, top2 H]
  exact max_eq _ _ _ (Row.top_eq _ _ _)

include H in
theorem wt_at (n : Fin 64) (j : Fin 4) (g : Fin 8) (r : Fin 128) (κ : Fin 256) :
    (val_main_v81 (F := Ideal) x0 x1 x3 : FVec Ideal S64x4x8x128x256 .f32) (ix5 n j g r κ)
      = (Row.wt (Data.M n (col g r)) (Row.sc (D.K n j) (D.Q n j) (col g r)) (D.σ j (col g r)) κ : EReal) := by
  pointwise [val_main_v81, val_main_v80, val_main_v79]
  rw [ms_at H, top_at H]
  exact Row.exp_score _ _ _ _

include H in
theorem snk_at (n : Fin 64) (j : Fin 4) (g : Fin 8) (r : Fin 128) :
    (val_main_v86 (F := Ideal) x0 x1 x3 : FVec Ideal S64x4x8x128x1 .f32) (ix5 n j g r 0)
      = (Row.snk (Data.M n (col g r)) (Row.sc (D.K n j) (D.Q n j) (col g r)) (D.σ j (col g r)) : EReal) := by
  pointwise [val_main_v86, val_main_v85, val_main_v84]
  rw [top_at H, s_at H j g r]
  exact Row.exp_snk _ _ _

include H in
theorem den_at (n : Fin 64) (j : Fin 4) (g : Fin 8) (r : Fin 128) :
    (val_main_v87 (F := Ideal) x0 x1 x3 : FVec Ideal S64x4x8x128x1 .f32) (ix5 n j g r 0)
      = (Row.den (Data.M n (col g r)) (Row.sc (D.K n j) (D.Q n j) (col g r)) (D.σ j (col g r)) : EReal) := by
  pointwise [val_main_v87, val_main_v83, val_main_v82]
  simp only [snk_at H, wt_at H]
  refine Eq.trans ?_ (Row.sum_wt _ _ _)
  refine congrArg (· + _) ?_
  exact (congrArg (· + _) Ideal.ofBits_zero_f32).trans (zero_add _)

include H in
theorem prob_at (n : Fin 64) (j : Fin 4) (g : Fin 8) (r : Fin 128) (κ : Fin 256) :
    (val_main_v89 (F := Ideal) x0 x1 x3 : FVec Ideal S64x4x8x128x256 .f32) (ix5 n j g r κ) = (D.P n j (col g r) κ : EReal) := by
  pointwise [val_main_v89, val_main_v88]
  rw [wt_at H, den_at H]
  refine (Row.div_den _ _ _ _).trans ?_
  rw [← EReal.coe_mul]
  rfl

end Cert.ReferenceIdeal.Attn

end

end
-- ==== Proof.AttnRef3.lean ====
/-
  The reference's attention, read at an index on real data: the gradients of the scores.
-/
module

public import proofs.«01_k».proof.Proof.AttnRef2

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem

variable {D : Data} {x0 : FVec Ideal S8192x32x64 .f32} {x1 : FVec Ideal S8192x4x64 .f32} {x2 : FVec Ideal S8192x17024 .f32}
  {x3 : FVec Ideal S32 .f32} {x4 : FVec Ideal S8192x2048 .f32} (H : Holds D x0 x1 x2 x3 x4)

/-! ## The gradient of a row -/

/-- The gradient of a probability, against the window with zeros. -/
abbrev e' (D : Data) (n : Fin 64) (j : Fin 4) (g : Fin 8) (r : Fin 128) : Fin 256 → ℝ := Row.gp (rwin D.v n j) (D.O n j) (col g r)

include H in
theorem dp_at (n : Fin 64) (j : Fin 4) (g : Fin 8) (r : Fin 128) (κ : Fin 256) :
    (val_main_v98 (F := Ideal) x2 x4 : FVec Ideal S64x4x8x128x256 .f32) (ix5 n j g r κ) = (e' D n j g r κ : EReal) := by
  pointwise [val_main_v98]
  simp only [o_at H, v_at H]
  unfold e' Row.gp
  rw [Words.coe_sum]
  refine Finset.sum_congr rfl fun d _ => ?_
  rw [EReal.coe_mul, mul_comm]

include H in
theorem inv_at (n : Fin 64) (j : Fin 4) (g : Fin 8) (r : Fin 128) :
    (val_main_v92 (F := Ideal) x0 x1 x3 : FVec Ideal S64x4x8x128x1 .f32) (ix5 n j g r 0)
      = ((1 / (Row.den (Data.M n (col g r)) (Row.sc (D.K n j) (D.Q n j) (col g r)) (D.σ j (col g r))
          * Row.den (Data.M n (col g r)) (Row.sc (D.K n j) (D.Q n j) (col g r)) (D.σ j (col g r))) : ℝ) : EReal) := by
  pointwise [val_main_v92, val_main_v91, val_main_v90]
  rw [den_at H, ← EReal.coe_mul]
  refine (Ideal.div_coe (mul_ne_zero (Row.den_ne _ _ _) (Row.den_ne _ _ _)) _).trans ?_
  exact (congrArg (· * _) Ideal.ofBits_one_f32).trans (one_mul _)

include H in
theorem r_at (n : Fin 64) (j : Fin 4) (g : Fin 8) (r : Fin 128) :
    (val_main_v104 (F := Ideal) x0 x1 x2 x3 x4 : FVec Ideal S64x4x8x128 .f32) (ix4 n j g r)
      = ((Row.mean (Data.M n (col g r)) (Row.sc (D.K n j) (D.Q n j) (col g r)) (D.σ j (col g r)) (e' D n j g r)
          * (1 / Row.den (Data.M n (col g r)) (Row.sc (D.K n j) (D.Q n j) (col g r)) (D.σ j (col g r))) : ℝ) : EReal) := by
  pointwise [val_main_v104, val_main_v103, val_main_v102, val_main_v101]
  simp only [dp_at H, inv_at H, wt_at H, ← EReal.coe_mul]
  rw [← Words.coe_sum, Row.sum_den]
  exact (congrArg (· + _) Ideal.ofBits_zero_f32).trans (zero_add _)

include H in
theorem nr_at (n : Fin 64) (j : Fin 4) (g : Fin 8) (r : Fin 128) :
    (val_main_v106 (F := Ideal) x0 x1 x2 x3 x4 : FVec Ideal S64x4x8x128x1 .f32) (ix5 n j g r 0)
      = ((-(Row.mean (Data.M n (col g r)) (Row.sc (D.K n j) (D.Q n j) (col g r)) (D.σ j (col g r)) (e' D n j g r)
          * (1 / Row.den (Data.M n (col g r)) (Row.sc (D.K n j) (D.Q n j) (col g r)) (D.σ j (col g r)))) : ℝ) : EReal) := by
  pointwise [val_main_v106, val_main_v105]
  rw [r_at H]
  exact (EReal.coe_neg _).symm

include H in
theorem ds_at (n : Fin 64) (j : Fin 4) (g : Fin 8) (r : Fin 128) :
    (val_main_v109 (F := Ideal) x0 x1 x2 x3 x4 : FVec Ideal S64x4x8x128x1 .f32) (ix5 n j g r 0)
      = (Row.gradS (Data.M n (col g r)) (Row.sc (D.K n j) (D.Q n j) (col g r)) (D.σ j (col g r)) (e' D n j g r) : EReal) := by
  pointwise [val_main_v109]
  rw [nr_at H, snk_at H, ← EReal.coe_mul, Row.chainS]

include H in
theorem h_at (n : Fin 64) (j : Fin 4) (g : Fin 8) (r : Fin 128) (κ : Fin 256) :
    (val_main_v116 (F := Ideal) x0 x1 x2 x3 x4 : FVec Ideal S64x4x8x128x256 .f32) (ix5 n j g r κ)
      = (Row.gradX (Data.M n (col g r)) (Row.sc (D.K n j) (D.Q n j) (col g r)) (D.σ j (col g r)) (e' D n j g r) κ : EReal) := by
  have h1 : (val_main_v113 (F := Ideal) x0 x1 x2 x3 x4 : FVec Ideal S64x4x8x128 .f32) (ix4 n j g r)
      = ((-(Row.mean (Data.M n (col g r)) (Row.sc (D.K n j) (D.Q n j) (col g r)) (D.σ j (col g r)) (e' D n j g r)
          * (1 / Row.den (Data.M n (col g r)) (Row.sc (D.K n j) (D.Q n j) (col g r)) (D.σ j (col g r)))) : ℝ) : EReal) := by
    pointwise [val_main_v113]
    rw [Fin.sum_univ_one, nr_at H]
    exact (congrArg (· + _) Ideal.ofBits_zero_f32).trans (zero_add _)
  pointwise [val_main_v116, val_main_v115, val_main_v114, val_main_v108, val_main_v107]
  rw [h1, dp_at H, den_at H, wt_at H]
  refine (congrArg (fun a : EReal => (a + _) * _) (Row.div_den _ _ _ _)).trans ?_
  rw [← EReal.coe_mul, ← EReal.coe_add, ← EReal.coe_mul, Row.chainX]

/-- The gradient with respect to the largest score vanishes. -/
theorem zero_aux (a : ℝ) (f : Fin 256 → ℝ) (h : -a + -∑ κ, f κ = 0) :
    -(a : EReal) + (Ideal.ofBits .f32 0x00000000#32 + ∑ κ, -(f κ : EReal)) = 0 := by
  simp only [← EReal.coe_neg]
  rw [← Words.coe_sum, Ideal.ofBits_zero_f32, zero_add, ← EReal.coe_add, Finset.sum_neg_distrib, h, EReal.coe_zero]

include H in
theorem dm_at (n : Fin 64) (j : Fin 4) (g : Fin 8) (r : Fin 128) :
    (val_main_v120 (F := Ideal) x0 x1 x2 x3 x4 : FVec Ideal S64x4x8x128x1 .f32) (ix5 n j g r 0) = 0 := by
  pointwise [val_main_v120, val_main_v119, val_main_v118, val_main_v117, val_main_v112]
  simp only [ds_at H, h_at H]
  exact zero_aux _ _ (Row.sum_gradX _ _ _ _)

include H in
theorem dms_at (n : Fin 64) (j : Fin 4) (g : Fin 8) (r : Fin 128) :
    (val_main_v121 (F := Ideal) x0 x1 x2 x3 x4 : FVec Ideal S64x4x8x128x1 .f32) (ix5 n j g r 0) = 0 := by
  rw [val_main_v121_apply, dm_at H]
  exact zero_mul _

include H in
theorem dmx_at (n : Fin 64) (j : Fin 4) (g : Fin 8) (r : Fin 128) :
    (val_main_v127 (F := Ideal) x0 x1 x2 x3 x4 : FVec Ideal S64x4x8x128 .f32) (ix4 n j g r) = 0 := by
  have h1 : (val_main_v125 (F := Ideal) x0 x1 x2 x3 x4 : FVec Ideal S64x4x8x128x1 .f32) (ix5 n j g r 0) = 0 := by
    rw [val_main_v125_apply, dm_at H]
    exact zero_mul _
  have h2 : (val_main_v126 (F := Ideal) x0 x1 x2 x3 x4 : FVec Ideal S64x4x8x128 .f32) (ix4 n j g r) = 0 := by
    pointwise [val_main_v126]
    rw [Fin.sum_univ_one, h1]
    exact (congrArg (· + _) Ideal.ofBits_zero_f32).trans (zero_add _)
  rw [val_main_v127_apply, h2]
  exact Ideal.zero_div (count_at H n j g r)

include H in
theorem G_at (n : Fin 64) (j : Fin 4) (g : Fin 8) (r : Fin 128) (κ : Fin 256) :
    (val_main_v135 (F := Ideal) x0 x1 x2 x3 x4 : FVec Ideal S64x4x8x128x256 .f32) (ix5 n j g r κ) = (D.G n j (col g r) κ : EReal) := by
  have h1 : (val_main_v130 (F := Ideal) x0 x1 x2 x3 x4 : FVec Ideal S64x4x8x128x256 .f32) (ix5 n j g r κ)
      = (Row.gradX (Data.M n (col g r)) (Row.sc (D.K n j) (D.Q n j) (col g r)) (D.σ j (col g r)) (e' D n j g r) κ : EReal) := by
    have h2 : (val_main_v128 (F := Ideal) x0 x1 x2 x3 x4 : FVec Ideal S64x4x8x128x256 .f32) (ix5 n j g r κ) = 0 := by
      pointwise [val_main_v128]
      exact dmx_at H n j g r
    rw [val_main_v130_apply, h_at H, val_main_v129_apply, h2]
    exact (congrArg (_ + ·) (zero_mul _)).trans (add_zero _)
  have h3 : (val_main_v133 (F := Ideal) x0 x1 x2 x3 x4 : FVec Ideal S64x4x8x128x256 .f32) (ix5 n j g r κ)
      = (Row.gradX (Data.M n (col g r)) (Row.sc (D.K n j) (D.Q n j) (col g r)) (D.σ j (col g r)) (e' D n j g r) κ : EReal) := by
    have h4 : (val_main_call1_v0 (F := Ideal) : FVec Ideal S64x4x8x128x256 .f32) (ix5 n j g r κ) = 0 := by
      pointwise [val_main_call1_v0]
      exact Ideal.ofBits_zero_f32
    rw [val_main_v133_apply, mask_at, h1, h4]
    by_cases h : Data.M n (col g r) κ = true
    · rw [h]; rfl
    · have h5 : Row.gradX (Data.M n (col g r)) (Row.sc (D.K n j) (D.Q n j) (col g r)) (D.σ j (col g r)) (e' D n j g r) κ = 0 := by
        rw [Row.gradX, Row.prob_of_not _ _ _ (Bool.eq_false_iff.mpr h), zero_mul]
      rw [Bool.eq_false_iff.mpr h, h5]
      rfl
  have h6 : (val_main_v134 (F := Ideal) : FVec Ideal S64x4x8x128x256 .f32) (ix5 n j g r κ) = ((1 / 8 : ℝ) : EReal) := by
    pointwise [val_main_v134]
    exact Words.eighth
  rw [val_main_v135_apply, h3, h6]
  refine (EReal.coe_mul _ _).symm.trans ?_
  rw [← Row.grad_eq, Row.grad_congr _ (D.gp_congr n j (col g r))]
  rfl

include H in
theorem S_at (n : Fin 64) (j : Fin 4) (g : Fin 8) (r : Fin 128) :
    (val_main_v109 (F := Ideal) x0 x1 x2 x3 x4 : FVec Ideal S64x4x8x128x1 .f32) (ix5 n j g r 0) = (D.S n j (col g r) : EReal) := by
  rw [ds_at H, Row.gradS_congr _ (D.gp_congr n j (col g r))]
  rfl

end Cert.ReferenceIdeal.Attn

end

end
-- ==== Proof.AttnRef4.lean ====
/-
  The reference's attention, read at an index on real data: the results.
-/
module

public import proofs.«01_k».proof.Proof.AttnRef3

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem

variable {D : Data} {x0 : FVec Ideal S8192x32x64 .f32} {x1 : FVec Ideal S8192x4x64 .f32} {x2 : FVec Ideal S8192x17024 .f32}
  {x3 : FVec Ideal S32 .f32} {x4 : FVec Ideal S8192x2048 .f32} (H : Holds D x0 x1 x2 x3 x4)

/-! ## The products -/

include H in
theorem dq_at (n : Fin 64) (r : Fin 128) (j : Fin 4) (g : Fin 8) (d : Fin 64) :
    (val_main_v137 (F := Ideal) x0 x1 x2 x3 x4 : FVec Ideal S64x4x128x8x64 .f32) (ix5 n j r g d) = (D.dq n j d (col g r) : EReal) := by
  pointwise [val_main_v137, val_main_v136]
  simp only [G_at H, k_at H, ← EReal.coe_mul]
  rw [← Words.coe_sum, Data.dq_eq]

include H in
theorem dkw_at (n : Fin 64) (κ : Fin 256) (j : Fin 4) (d : Fin 64) :
    (val_main_v139 (F := Ideal) x0 x1 x2 x3 x4 : FVec Ideal S64x4x256x64 .f32) (ix4 n j κ d) = (D.dkw n j κ d : EReal) := by
  pointwise [val_main_v139, val_main_v136]
  simp only [G_at H, q_at H, ← EReal.coe_mul]
  simp only [← Words.coe_sum]
  unfold Data.dkw
  rw [sum_col, Finset.sum_comm]

include H in
theorem dvw_at (n : Fin 64) (κ : Fin 256) (j : Fin 4) (d : Fin 64) :
    (val_main_v99 (F := Ideal) x0 x1 x3 x4 : FVec Ideal S64x4x64x256 .f32) (ix4 n j d κ) = (D.dvw n j κ d : EReal) := by
  pointwise [val_main_v99]
  simp only [o_at H, prob_at H, ← EReal.coe_mul]
  simp only [← Words.coe_sum]
  unfold Data.dvw
  rw [sum_col]
  refine congrArg _ (Finset.sum_congr rfl fun g _ => Finset.sum_congr rfl fun r _ => mul_comm _ _)

/-- A block's own half of its window and the other half of the next block's, elementwise. -/
theorem both_aux (w : Fin 64 → Fin 256 → ℝ) (n : Fin 64) (i : Fin 128) (f : Fin 64 → Fin 256 → EReal) (hf : ∀ n κ, f n κ = (w n κ : EReal))
    (z : EReal) (hz : z = 0) :
    (f n ⟨128 + i.val, by omega⟩ + if h : n.val < 63 then f ⟨1 + n.val, by omega⟩ ⟨i.val, by omega⟩ else z) = (both w n i : EReal) := by
  unfold both
  rw [EReal.coe_add, hf]
  by_cases h : n.val < 63
  · rw [dif_pos h, dif_pos (show n.val + 1 < 64 by omega), hf]
    exact congrArg (fun a => (w n (lower i) : EReal) + (w a (upper i) : EReal)) (Fin.ext (Nat.add_comm _ _))
  · rw [dif_neg h, dif_neg (show ¬n.val + 1 < 64 by omega), hz]
    rfl

/-! ## The results -/

include H in
theorem resQ_eq : (val_main_v163 (F := Ideal) x0 x1 x2 x3 x4 : FVec Ideal S2048x8192 .f32) = resQ D := by
  funext i
  idx_vars i
  unfold resQ
  dsimp only
  pointwise [val_main_v163, val_main_v162, val_main_v155, val_main_v138]
  rw [dq_at H]
  rfl

include H in
theorem dk_at (n : Fin 64) (i : Fin 128) (j : Fin 4) (d : Fin 64) :
    (val_main_v152 (F := Ideal) x0 x1 x2 x3 x4 : FVec Ideal S64x128x4x64 .f32) (ix4 n i j d) = (D.dk n i j d : EReal) := by
  pointwise [val_main_v152, val_main_v148, val_main_v151, val_main_v150, val_main_v147, val_main_v140]
  exact both_aux (fun n κ => D.dkw n j κ d) n i (fun n κ => (val_main_v139 (F := Ideal) x0 x1 x2 x3 x4 : FVec Ideal S64x4x256x64 .f32) (ix4 n j κ d)) (fun n κ => dkw_at H n κ j d) _ Ideal.ofBits_zero_f32

include H in
theorem resK_eq : (val_main_v164 (F := Ideal) x0 x1 x2 x3 x4 : FVec Ideal S8192x256 .f32) = resK D := by
  funext i
  idx_vars i
  unfold resK
  dsimp only
  pointwise [val_main_v164, val_main_v154]
  rw [dk_at H]

include H in
theorem dv_at (n : Fin 64) (i : Fin 128) (j : Fin 4) (d : Fin 64) :
    (val_main_v146 (F := Ideal) x0 x1 x3 x4 : FVec Ideal S64x128x4x64 .f32) (ix4 n i j d) = (D.dv n i j d : EReal) := by
  pointwise [val_main_v146, val_main_v142, val_main_v145, val_main_v144, val_main_v141, val_main_v100]
  exact both_aux (fun n κ => D.dvw n j κ d) n i (fun n κ => (val_main_v99 (F := Ideal) x0 x1 x3 x4 : FVec Ideal S64x4x64x256 .f32) (ix4 n j d κ)) (fun n κ => dvw_at H n κ j d) _ Ideal.ofBits_zero_f32

theorem resV_else (D : Data) (W : FVec Ideal ⟨2, ![8192, 17024]⟩ .bf16) (i0 : Fin 8192) (i1 : Fin 17024)
    (h : ¬(16640 ≤ i1.val ∧ i1.val < 16896)) : resV D W (ix2 i0 i1) = W (ix2 i0 i1) := dif_neg h

theorem resV_col (D : Data) (W : FVec Ideal ⟨2, ![8192, 17024]⟩ .bf16) (i0 : Fin 8192) (i1 : Fin 17024) (n : Fin 64) (r : Fin 128)
    (j : Fin 4) (d : Fin 64) (h0 : i0.val = n.val * 128 + r.val) (h1 : i1.val = 16640 + (64 * j.val + d.val)) :
    resV D W (ix2 i0 i1) = (D.dv n r j d : EReal) := resV_at D W (ix2 i0 i1) n r j d h0 h1

include H in
theorem resV_eq (x5 : FVec Ideal S8192x17024 .bf16) :
    (val_main_v161 (F := Ideal) x0 x1 x3 x4 x5 : FVec Ideal S8192x17024 .bf16) = resV D x5 := by
  funext i
  idx_vars i
  pointwise [val_main_v161, val_main_v160, val_main_v159, val_main_v158, val_main_v157, val_main_v156, val_main_v153]
  by_cases h1 : i1.val < 16640
  · rw [resV_else D x5 i0 i1 (by omega)]
    exact dif_pos h1
  · by_cases h2 : i1.val < 16896
    · have e : i1.val = 16640 + (64 * ((i1.val - 16640) / 64) + (i1.val - 16640) % 64) := by omega
      rw [resV_col D x5 i0 i1 ⟨i0.val / 128, by omega⟩ ⟨i0.val % 128, by omega⟩ ⟨(i1.val - 16640) / 64, by omega⟩
        ⟨(i1.val - 16640) % 64, by omega⟩ (by dsimp only; omega) e, ← dv_at H]
      have h3 : i1.val - 16640 < 256 := by omega
      refine (dif_neg h1).trans ?_
      exact dif_pos h3
    · rw [resV_else D x5 i0 i1 (by omega)]
      have h3 : ¬i1.val - 16640 < 256 := by omega
      refine (dif_neg h1).trans ?_
      refine (dif_neg h3).trans ?_
      exact congrArg x5 (congrArg (ix2 i0) (Fin.ext (by dsimp only; omega)))

theorem sum_03 (h : S64x4x8x128x1.ReducesTo [0, 3] S4x8x1) (v : S64x4x8x128x1.Idx → EReal) (b : EReal) (j : Fin 4) (g : Fin 8) :
    Ideal.hostReduceAdd h v b (ix3 j g 0) = b + ∑ n : Fin 64, ∑ r : Fin 128, v (ix5 n j g r 0) := by
  refine congrArg (b + ·) ?_
  refine (Finset.sum_filter_eq_sum_of_fiber _ (fun k : Fin 64 × Fin 128 => (ix5 k.1 j g k.2 0 : S64x4x8x128x1.Idx))
    (fun _ _ e => Prod.ext (congrFun e 0) (congrFun e 3)) (fun i => ⟨fun e => ⟨(i 0, i 3), ?_⟩, ?_⟩) v).trans ?_
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl
  · simp only [Fintype.sum_prod_type]

theorem sum_034 (h : S1x4x8x1x1.ReducesTo [0, 3, 4] S4x8) (v : S1x4x8x1x1.Idx → EReal) (b : EReal) (j : Fin 4) (g : Fin 8) :
    Ideal.hostReduceAdd h v b (ix2 j g) = b + v (ix5 0 j g 0 0) := by
  refine congrArg (b + ·) ?_
  refine (Finset.sum_filter_eq_sum_of_fiber _ (fun k : Fin 1 => (ix5 k j g 0 0 : S1x4x8x1x1.Idx))
    (fun _ _ e => congrFun e 0) (fun i => ⟨fun e => ⟨i 0, ?_⟩, ?_⟩) v).trans ?_
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => have := (i 3).isLt; show 0 = (i 3).val; exact (Nat.lt_one_iff.mp this).symm
    | ⟨4, _⟩ => have := (i 4).isLt; show 0 = (i 4).val; exact (Nat.lt_one_iff.mp this).symm
  · rintro ⟨k, rfl⟩
    funext b
    apply Fin.ext
    match b with
    | ⟨0, _⟩ => rfl
    | ⟨1, _⟩ => rfl
  · exact Fin.sum_univ_one _

include H in
theorem dsinks_at (j : Fin 4) (g : Fin 8) :
    (val_main_v131 (F := Ideal) x0 x1 x2 x3 x4 : FVec Ideal S4x8 .f32) (ix2 j g) = (D.ds j g : EReal) := by
  have h1 : (val_main_v110 (F := Ideal) x0 x1 x2 x3 x4 : FVec Ideal S4x8x1 .f32) (ix3 j g 0) = (D.ds j g : EReal) := by
    refine (sum_03 _ _ _ j g).trans ?_
    simp only [S_at H, ← Words.coe_sum]
    exact (congrArg (· + _) Ideal.ofBits_zero_f32).trans (zero_add _)
  have h2 : (val_main_v122 (F := Ideal) x0 x1 x2 x3 x4 : FVec Ideal S4x8x1 .f32) (ix3 j g 0) = 0 := by
    refine (sum_03 _ _ _ j g).trans ?_
    simp only [dms_at H, Finset.sum_const_zero]
    exact (congrArg (· + _) Ideal.ofBits_zero_f32).trans (zero_add _)
  have h3 : (val_main_v111 (F := Ideal) x0 x1 x2 x3 x4 : FVec Ideal S1x4x8x1x1 .f32) (ix5 0 j g 0 0) = (D.ds j g : EReal) := by
    pointwise [val_main_v111]
    exact h1
  have h4 : (val_main_v123 (F := Ideal) x0 x1 x2 x3 x4 : FVec Ideal S1x4x8x1x1 .f32) (ix5 0 j g 0 0) = 0 := by
    pointwise [val_main_v123]
    exact h2
  refine (sum_034 _ _ _ j g).trans ?_
  rw [val_main_v124_apply, h3, h4]
  refine (congrArg (· + _) Ideal.ofBits_zero_f32).trans ((zero_add _).trans (add_zero _))

theorem zero_int : FloatOps.sitofp (F := Ideal) FTy.f32 (0#32) = (0 : EReal) := by
  show (((0#32 : BitVec 32).toInt : ℝ) : EReal) = 0
  simp

include H in
theorem resS_eq : (val_main_v166 (F := Ideal) x0 x1 x2 x3 x4 : FVec Ideal S1x128 .f32) = resS D := by
  funext i
  idx_vars i
  unfold resS
  dsimp only
  pointwise [val_main_v166, val_main_v165, val_main_v132, val_main_call2_v0]
  by_cases h : i1.val < 32
  · rw [dif_pos h, dif_pos h]
    exact dsinks_at H _ _
  · rw [dif_neg h, dif_neg h]
    exact zero_int

end Cert.ReferenceIdeal.Attn

end

end
-- ==== Proof.AttnClaim.lean ====
/-
  The equation of the two programs of the attention gradient: at real queries, keys, values, sinks and cotangent the
  four arrays the kernel writes are the reference's.
-/
module

public import proofs.«01_k».proof.Proof.AttnFinal
public import proofs.«01_k».proof.Proof.AttnRef4
public import proofs.«01_k».proof.Proof.Gen.Pre_finite
public import proofs.«01_k».proof.Proof.Gen.ReferenceIdeal.Run
public import proofs.«01_k».proof.Proof.Gen.ReferenceIdeal.Read

@[expose] public section

set_option maxRecDepth 16384

noncomputable section

namespace Cert.Attn

open Idealize.ShloMosaic

/-- Arrays of real numbers hold some data. -/
theorem exists_holds (q : FVec Ideal ⟨3, ![8192, 32, 64]⟩ .f32) (k : FVec Ideal ⟨3, ![8192, 4, 64]⟩ .f32)
    (p : FVec Ideal ⟨2, ![8192, 17024]⟩ .f32) (s : FVec Ideal ⟨1, ![32]⟩ .f32) (o : FVec Ideal ⟨2, ![8192, 2048]⟩ .f32)
    (hq : ∀ i, ∃ r : ℝ, q i = r) (hk : ∀ i, ∃ r : ℝ, k i = r)
    (hp : ∀ (t : Fin 8192) (z : Fin 256), ∃ r : ℝ, p (ix2 t ⟨16640 + z.val, by omega⟩) = r)
    (hs : ∀ i, ∃ r : ℝ, s i = r) (ho : ∀ i, ∃ r : ℝ, o i = r) : ∃ D, Holds D q k p s o := by
  choose fq hq using hq
  choose fk hk using hk
  choose fp hp using hp
  choose fs hs using hs
  choose fo ho using ho
  refine ⟨⟨fun t h d => fq (ix3 t h d), fun t j d => fk (ix3 t j d), fun t j d => fp t ⟨64 * j.val + d.val, by omega⟩,
    fun h => fs (ix1 h), fun t h d => fo (ix2 t ⟨64 * h.val + d.val, by omega⟩)⟩, ⟨fun t h d => hq _, fun t j d => hk _, ?_, fun h => hs _, ?_⟩⟩
  · intro t y j d e
    rw [← hp]
    exact congrArg p (congrArg (ix2 t) (Fin.ext (by dsimp only; omega)))
  · intro t y h d e
    rw [← ho]
    exact congrArg o (congrArg (ix2 t) (Fin.ext (by dsimp only; omega)))

end Cert.Attn

namespace Cert.Proof

open Idealize.ShloMosaic Idealize.SL.Sem Cert.Attn

/-- Under the precondition the kernel's arguments hold some real data. -/
theorem finite_holds (m) (h : Cert.Pre_KernelIdeal_finite (hPre_finite := Cert.Pre_finite.Gen.facts) m) (c : Dev Cert.KernelIdeal.nD) :
    ∃ D, Holds D (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  obtain ⟨h1, h2, h3, h4, h5⟩ := h c
  refine exists_holds _ _ _ _ _ (fun i => ?_) (fun i => ?_) (fun t z => ?_) (fun i => ?_) (fun i => ?_)
  · exact Words.real_of_cmp (congrFun h1 i)
  · exact Words.real_of_cmp (congrFun h2 i)
  · obtain ⟨r, hr⟩ := Words.real_of_cmp (congrFun h3 (ix2 t z))
    refine ⟨r, Eq.trans ?_ hr⟩
    refine congrArg (m ((c.tc : Thread Cert.KernelIdeal.nD Cert.KernelIdeal.τ).loc Cert.KernelIdeal.main_arg2)) ?_
    funext a
    match a with
    | ⟨0, _⟩ => exact Fin.ext (show t.val = 0 + t.val by omega)
    | ⟨1, _⟩ => rfl
  · exact Words.real_of_cmp (congrFun h4 i)
  · exact Words.real_of_cmp (congrFun h5 i)

/-- The attention backward call and the reference compute the same gradients. -/
theorem attn_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Attn.run_main m g
    all_goals rfl
  · run_from Cert.ReferenceIdeal.Value.run m' g'
    all_goals
      obtain ⟨D, H⟩ := finite_holds m hpre c
      obtain ⟨a0, a1, a2, a3, a4, a5⟩ := hagree c
      have H' : Holds D (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
        rw [a0, a1, a2, a3, a4]
        exact H
    · rw [Cert.KernelIdeal.Attn.final_dq m c H]
      exact (Cert.ReferenceIdeal.Read.val_main_v163_eq _).trans (Cert.ReferenceIdeal.Attn.resQ_eq H')
    · rw [Cert.KernelIdeal.Attn.final_dk m c H]
      exact (Cert.ReferenceIdeal.Read.val_main_v164_eq _).trans (Cert.ReferenceIdeal.Attn.resK_eq H')
    · rw [Cert.KernelIdeal.Attn.final_dv m c H, ← a5]
      exact (Cert.ReferenceIdeal.Read.val_main_v161_eq _).trans (Cert.ReferenceIdeal.Attn.resV_eq H' _)
    · rw [Cert.KernelIdeal.Attn.final_ds m c H]
      exact (Cert.ReferenceIdeal.Read.val_main_v166_eq _).trans (Cert.ReferenceIdeal.Attn.resS_eq H')

end Cert.Proof
end
-- ==== Proof.DownDwValue.lean ====
/-
  What the down projection's weight-gradient call writes: a product of columns by columns, summed over four groups of
  2048 rows in the carried accumulator.
-/
module

public import proofs.«01_k».proof.Defs
public import proofs.«01_k».proof.Proof.Gen.Kernel3Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Grad

open Cert.Kernel3Ideal Cert.Kernel3Ideal.Gen
open Idealize.ShloMosaic Idealize.ShloMosaic.TcCoe Idealize.SL.Sem
open Idealize.ShloMosaic.Pipeline (Dat)

/-! ## One block -/

/-- The partial product of one grid point. -/
theorem pay2_at (v0 : Vec Ideal S2048x512 .bf16) (v2 : Vec Ideal S2048x1024 .bf16) (r : Fin 512) (n : Fin 1024) :
    k0_pay2 v0 v2 (ix2 r n) = ∑ k : Fin 2048, v0 (ix2 k r) * v2 (ix2 k n) := by
  pointwise [k0_pay2, k0_pay1]

theorem pay3_at (v0 : Vec Ideal S2048x512 .bf16) (v2 : Vec Ideal S2048x1024 .bf16) (a : Vec Ideal S512x1024 .f32) (i) :
    k0_pay3 v0 v2 a i = a i + k0_pay2 v0 v2 i := by
  pointwise [k0_pay3, k0_pay2]

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S512x1024 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (i) : (outsAt0 m c t.val t.isLt).1 i
    = (outsAt0 m c t.val t.isLt).2 i := by
  rw [outsAt0_C m c t (by omega) (by omega) h]
  frame_out

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, columns of `a` by columns of `b`. -/
def prod (a : FVec Ideal S8192x5632 .bf16) (b : FVec Ideal S8192x2048 .bf16) : FVec Ideal S5632x2048 .f32 :=
  fun i => ∑ l : Fin 8192, a (ix2 l (i 0)) * b (ix2 l (i 1))

theorem prod_at (a : FVec Ideal S8192x5632 .bf16) (b : FVec Ideal S8192x2048 .bf16) (r : Fin 5632) (n : Fin 2048) :
    prod a b (ix2 r n) = ∑ l : Fin 8192, a (ix2 l r) * b (ix2 l n) := rfl

theorem lhsBlk (c : Dev nD) (t : Fin cfg0.N) (p : Fin 2048) (q : Fin 512) (P : Fin 8192) (Q : Fin 5632)
    (hP : P.val = t.val % 4 * 2048 + p.val) (hQ : Q.val = t.val / 8 * 512 + q.val) :
    (show Vec Ideal S2048x512 .bf16 from iblk m c 0 t) (ix2 p q) = (V m c main_v2 : FVec Ideal S8192x5632 .bf16) (ix2 P Q) := by
  blk_point [iblk, idx t]

theorem rhsBlk (c : Dev nD) (t : Fin cfg0.N) (p : Fin 2048) (q : Fin 1024) (P : Fin 8192) (Q : Fin 2048)
    (hP : P.val = t.val % 4 * 2048 + p.val) (hQ : Q.val = t.val / 4 % 2 * 1024 + q.val) :
    (show Vec Ideal S2048x1024 .bf16 from iblk m c 1 t) (ix2 p q) = (V m c main_v3 : FVec Ideal S8192x2048 .bf16) (ix2 P Q) := by
  blk_point [iblk, idx t]

/-- The whole array the call writes. -/
theorem final (c : Dev nD) : (dats m 0 c).arrAt 2 (cfgs 0).N = prod (V m c main_v2) (V m c main_v3) := by
  refine (dats m 0 c).arrAt_eq_of_covers 2 _ (by decide +kernel) fun t hf y => ?_
  have h := (flush0_2 t).mp hf
  have ht : t.val < 88 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix2 p q) 0).val = t.val / 8 * 512 + p.val := by blk_simp [idx t] <;> omega
  have e1 : (((cfg0.win 2).blk t).view.emb (ix2 p q) 1).val = t.val / 4 % 2 * 1024 + q.val := by blk_simp [idx t] <;> omega
  exact congrArg₂ (fun x y : EReal => x * y)
    (lhsBlk m c ⟨4 * (t.val / 4) + s.val, Pipeline.run_point_lt_of_flush t h s⟩ k p _ _ (by dsimp only; omega) (by rw [e0]; dsimp only; omega))
    (rhsBlk m c ⟨4 * (t.val / 4) + s.val, Pipeline.run_point_lt_of_flush t h s⟩ k q _ _ (by dsimp only; omega) (by rw [e1]; dsimp only; omega))

end Cert.Kernel3Ideal.Grad
end
-- ==== Proof.DownDwClaim.lean ====
/-
  The reference's gradient with respect to the down projection's weights, element by element, and the equation of the two
  programs.
-/
module

public import proofs.«01_k».proof.Proof.DownDwValue
public import proofs.«01_k».proof.Proof.Gen.Reference3Ideal.Run
public import proofs.«01_k».proof.Proof.Gen.Reference3Ideal.Read

@[expose] public section

set_option maxRecDepth 16384

noncomputable section

namespace Cert.Reference3Ideal.Grad

open Cert.Reference3Ideal Cert.Reference3Ideal.Gen Cert.Reference3Ideal.Read
open Idealize.ShloMosaic Idealize.ShloMosaic.TcCoe Idealize.SL.Sem

variable (g u : FVec Ideal S8192x5632 .f32) (d : FVec Ideal S8192x2048 .f32)

/-- The reference's result at an element. -/
theorem result_at (r : Fin 5632) (n : Fin 2048) :
    val_main_v5 (F := Ideal) g u d (ix2 r n) = ∑ k : Fin 8192, d (ix2 k n) * val_main_v2 (F := Ideal) g u (ix2 k r) := by
  rw [val_main_v5_apply, val_main_v4_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference3Ideal.Grad

namespace Cert.Kernel3Ideal.Grad

open Cert.Kernel3Ideal Cert.Kernel3Ideal.Gen
open Idealize.ShloMosaic Idealize.ShloMosaic.TcCoe Idealize.SL.Sem

variable (m : (ℓ : Loc nD τ sig) → Buf (Elt Ideal) ℓ)

/-- The activations the call reads are the reference's. -/
theorem act_at (c : Dev nD) (i) : (V m c main_v2 : FVec Ideal S8192x5632 .bf16) i
    = Cert.Reference3Ideal.Read.val_main_v2 (F := Ideal) (m ((c.tc : Thread nD τ).loc main_arg0))
        (m ((c.tc : Thread nD τ).loc main_arg1)) i := by
  entry_read
  rfl

theorem ct_at (c : Dev nD) (i) : (V m c main_v3 : FVec Ideal S8192x2048 .bf16) i
    = (m ((c.tc : Thread nD τ).loc main_arg2) : FVec Ideal S8192x2048 .f32) i := by
  entry_read
  rfl

/-- The array the call writes is the reference's result of the same arguments. -/
theorem result_eq (c : Dev nD) :
    prod (V m c main_v2) (V m c main_v3)
      = Cert.Reference3Ideal.Read.val_main_v5 (F := Ideal) (m ((c.tc : Thread nD τ).loc main_arg0))
        (m ((c.tc : Thread nD τ).loc main_arg1)) (m ((c.tc : Thread nD τ).loc main_arg2)) := by
  funext j
  obtain ⟨r, n, rfl⟩ : ∃ r n, j = ix2 r n := ⟨j 0, j 1, by idx_vars j⟩
  refine Eq.trans ?_ (Cert.Reference3Ideal.Grad.result_at _ _ _ r n).symm
  refine Finset.sum_congr rfl fun k _ => ?_
  exact (congrArg₂ (fun x y : EReal => x * y) (act_at m c (ix2 k r)) (ct_at m c (ix2 k n))).trans (mul_comm _ _)

end Cert.Kernel3Ideal.Grad

namespace Cert.Proof

open Idealize.ShloMosaic Idealize.SL.Sem

/-- The down projection's weight-gradient call and the reference compute the same gradient. -/
theorem downDw_equal : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
    all_goals rfl
  · run_from Cert.Reference3Ideal.Value.run m' g'
    rw [Cert.Kernel3Ideal.Grad.final m c, Cert.Kernel3Ideal.Grad.result_eq m c]
    obtain ⟨h0, h1, h2⟩ := hagree c
    rw [← h0, ← h1, ← h2]
    exact Cert.Reference3Ideal.Read.val_main_v5_eq _ _ _

end Cert.Proof
end
-- ==== Proof.GuDxValue.lean ====
/-
  What the gate's input-gradient call writes: a product of rows by rows, summed over four groups of 2816 columns in the
  carried accumulator, plus the residual's gradient.
-/
module

public import proofs.«01_k».proof.Defs
public import proofs.«01_k».proof.Proof.Gen.Kernel4Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.Grad

open Cert.Kernel4Ideal Cert.Kernel4Ideal.Gen
open Idealize.ShloMosaic Idealize.ShloMosaic.TcCoe Idealize.SL.Sem
open Idealize.ShloMosaic.Pipeline (Dat)

/-! ## One block -/

/-- The partial product of one grid point. -/
theorem pay2_at (v0 v2 : Vec Ideal S1024x2816 .bf16) (r n : Fin 1024) :
    k0_pay2 v0 v2 (ix2 r n) = ∑ k : Fin 2816, v0 (ix2 r k) * v2 (ix2 n k) := by
  pointwise [k0_pay2, k0_pay1]

theorem pay3_at (v0 v2 : Vec Ideal S1024x2816 .bf16) (a : Vec Ideal S1024x1024 .f32) (i) :
    k0_pay3 v0 v2 a i = a i + k0_pay2 v0 v2 i := by
  pointwise [k0_pay3, k0_pay2]

theorem pay4_at (a b : Vec Ideal S1024x1024 .f32) (i) :
    k0_pay4 a b i = a i + Ideal.ofBits .f32 0x3F9837F0#32 * b i := by
  pointwise [k0_pay4]

theorem idx : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 :=
  k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it with the scaled residual gradient added. -/
theorem out_last (c : Dev nD) (t : Fin cfg0.N) (h : t.val % 4 = 3) (i) : (outsAt0 m c t.val t.isLt).1 i
    = (outsAt0 m c t.val t.isLt).2 i + Ideal.ofBits .f32 0x3F9837F0#32 * (show Vec Ideal S1024x1024 .f32 from iblk m c 2 t) i := by
  rw [outsAt0_C m c t (by omega) (by omega) h]
  frame_out
  rw [pay4_at]

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- Rows of `a` by rows of `b`, plus the scaled residual gradient. -/
def prod (a : FVec Ideal S8192x11264 .bf16) (b : FVec Ideal S2048x11264 .bf16) (r : FVec Ideal S8192x2048 .f32) :
    FVec Ideal S8192x2048 .f32 :=
  fun i => (∑ l : Fin 11264, a (ix2 (i 0) l) * b (ix2 (i 1) l)) + Ideal.ofBits .f32 0x3F9837F0#32 * r i

theorem lhsBlk (c : Dev nD) (t : Fin cfg0.N) (r : Fin 1024) (k : Fin 2816) (R : Fin 8192) (K : Fin 11264)
    (hR : R.val = t.val / 8 * 1024 + r.val) (hK : K.val = t.val % 4 * 2816 + k.val) :
    (show Vec Ideal S1024x2816 .bf16 from iblk m c 0 t) (ix2 r k) = (V m c main_v6 : FVec Ideal S8192x11264 .bf16) (ix2 R K) := by
  blk_point [iblk, idx t]

theorem rhsBlk (c : Dev nD) (t : Fin cfg0.N) (r : Fin 1024) (k : Fin 2816) (R : Fin 2048) (K : Fin 11264)
    (hR : R.val = t.val / 4 % 2 * 1024 + r.val) (hK : K.val = t.val % 4 * 2816 + k.val) :
    (show Vec Ideal S1024x2816 .bf16 from iblk m c 1 t) (ix2 r k) = (V m c main_v13 : FVec Ideal S2048x11264 .bf16) (ix2 R K) := by
  blk_point [iblk, idx t]

theorem addBlk (c : Dev nD) (t : Fin cfg0.N) (y) :
    (show Vec Ideal S1024x1024 .f32 from iblk m c 2 t) y
      = (m ((c.tc : Thread nD τ).loc main_arg0) : FVec Ideal S8192x2048 .f32) (((cfg0.win 3).blk t).view.emb y) := by
  blk_point [iblk, idx t]

/-- The whole array the call writes. -/
theorem final (c : Dev nD) : (dats m 0 c).arrAt 3 (cfgs 0).N
    = prod (V m c main_v6) (V m c main_v13) (m ((c.tc : Thread nD τ).loc main_arg0)) := by
  refine (dats m 0 c).arrAt_eq_of_covers 3 _ (by decide +kernel) fun t hf y => ?_
  have h := (flush0_3 t).mp hf
  have ht : t.val < 64 := lt_of_lt_of_eq t.isLt N_0
  blk_simp
  rw [after0_3, out_last m c t h, acc_sum m c t h, addBlk]
  unfold prod
  refine congrArg (· + _) ?_
  obtain ⟨p, q, rfl⟩ : ∃ p q, y = ix2 p q := ⟨y 0, y 1, by idx_vars y⟩
  simp only [part, pay2_at]
  refine Fin.sum_mul_add_congr fun s k hl => ?_
  have hs : s.val < 4 := s.isLt
  have e0 : (((cfg0.win 3).blk t).view.emb (ix2 p q) 0).val = t.val / 8 * 1024 + p.val := by blk_simp [idx t] <;> omega
  have e1 : (((cfg0.win 3).blk t).view.emb (ix2 p q) 1).val = t.val / 4 % 2 * 1024 + q.val := by blk_simp [idx t] <;> omega
  exact congrArg₂ (fun x y : EReal => x * y)
    (lhsBlk m c ⟨4 * (t.val / 4) + s.val, Pipeline.run_point_lt_of_flush t h s⟩ p k _ _ (by rw [e0]; dsimp only; omega) (by dsimp only; omega))
    (rhsBlk m c ⟨4 * (t.val / 4) + s.val, Pipeline.run_point_lt_of_flush t h s⟩ q k _ _ (by rw [e1]; dsimp only; omega) (by dsimp only; omega))

end Cert.Kernel4Ideal.Grad
end
-- ==== Proof.PairSum.lean ====
/-
  A sum over columns that alternate between two arrays in groups of 1408 is the sum over the one array's columns plus
  the sum over the other's.
-/
module

public import Idealize.ShloMosaic.Lib.Pipeline.ValueKit

@[expose] public section

noncomputable section

namespace Cert.PairSum

open Idealize.ShloMosaic

theorem sum_pairs (F : Fin 11264 → EReal) (p q : Fin 5632 → EReal)
    (h : ∀ (l : Fin 11264) (n : Fin 5632), n.val = l.val / 2816 * 1408 + l.val % 1408 →
      F l = if l.val / 1408 % 2 < 1 then p n else q n) :
    ∑ l : Fin 11264, F l = ∑ n : Fin 5632, q n + ∑ n : Fin 5632, p n := by
  rw [← Fin.sum_mul_add_fin 8 1408 F, ← Fin.sum_mul_add_fin 4 1408 p, ← Fin.sum_mul_add_fin 4 1408 q]
  have hn : ∀ (a : Fin 4) (k : Fin 1408), a.val * 1408 + k.val < 5632 := fun a k => by omega
  have hl : ∀ (s : Fin 8) (k : Fin 1408), s.val * 1408 + k.val < 11264 := fun s k => by omega
  have even : ∀ (s : Fin 8) (a : Fin 4), s.val = 2 * a.val →
      ∑ k : Fin 1408, F ⟨s.val * 1408 + k.val, hl s k⟩ = ∑ k : Fin 1408, p ⟨a.val * 1408 + k.val, hn a k⟩ := by
    intro s a ha
    refine Finset.sum_congr rfl fun k _ => (h _ ⟨a.val * 1408 + k.val, hn a k⟩ (by dsimp only; omega)).trans (if_pos ?_)
    dsimp only
    omega
  have odd : ∀ (s : Fin 8) (a : Fin 4), s.val = 2 * a.val + 1 →
      ∑ k : Fin 1408, F ⟨s.val * 1408 + k.val, hl s k⟩ = ∑ k : Fin 1408, q ⟨a.val * 1408 + k.val, hn a k⟩ := by
    intro s a ha
    refine Finset.sum_congr rfl fun k _ => (h _ ⟨a.val * 1408 + k.val, hn a k⟩ (by dsimp only; omega)).trans (if_neg ?_)
    dsimp only
    omega
  rw [Fin.sum_univ_eight, Fin.sum_univ_four, Fin.sum_univ_four, even 0 0 rfl, odd 1 0 rfl, even 2 1 rfl, odd 3 1 rfl,
    even 4 2 rfl, odd 5 2 rfl, even 6 3 rfl, odd 7 3 rfl]
  abel

end Cert.PairSum
end
-- ==== Proof.GuDxClaim.lean ====
/-
  The reference's gradient with respect to the gated block's input, element by element, and the equation of the two
  programs: the sum over the interleaved columns is the sum of the two products.
-/
module

public import proofs.«01_k».proof.Proof.GuDxValue
public import proofs.«01_k».proof.Proof.PairSum
public import proofs.«01_k».proof.Proof.Gen.Reference4Ideal.Run
public import proofs.«01_k».proof.Proof.Gen.Reference4Ideal.Read

@[expose] public section

set_option maxRecDepth 16384

noncomputable section

namespace Cert.Kernel4Ideal.Grad

open Cert.Kernel4Ideal Cert.Kernel4Ideal.Gen
open Idealize.ShloMosaic Idealize.ShloMosaic.TcCoe Idealize.SL.Sem

variable (m : (ℓ : Loc nD τ sig) → Buf (Elt Ideal) ℓ)

/-- The interleaved gradients the call reads. -/
theorem dgu_at (c : Dev nD) (r : Fin 8192) (n : Fin 11264) (k : Fin 5632) (hk : k.val = n.val / 2816 * 1408 + n.val % 1408) :
    (V m c main_v6 : FVec Ideal S8192x11264 .bf16) (ix2 r n) = if n.val / 1408 % 2 < 1
      then (m ((c.tc : Thread nD τ).loc main_arg1) : FVec Ideal S8192x5632 .f32) (ix2 r k)
      else (m ((c.tc : Thread nD τ).loc main_arg2) : FVec Ideal S8192x5632 .f32) (ix2 r k) := by
  have hb : n.val / 2816 * 1408 + n.val % 1408 < 5632 := by omega
  rw [show k = ⟨_, hb⟩ from Fin.ext hk]
  entry_read
  pointwise
  rfl

/-- The interleaved weights the call reads. -/
theorem wgu_at (c : Dev nD) (r : Fin 2048) (n : Fin 11264) (k : Fin 5632) (hk : k.val = n.val / 2816 * 1408 + n.val % 1408) :
    (V m c main_v13 : FVec Ideal S2048x11264 .bf16) (ix2 r n) = if n.val / 1408 % 2 < 1
      then (m ((c.tc : Thread nD τ).loc main_arg3) : FVec Ideal S2048x5632 .f32) (ix2 r k)
      else (m ((c.tc : Thread nD τ).loc main_arg4) : FVec Ideal S2048x5632 .f32) (ix2 r k) := by
  have hb : n.val / 2816 * 1408 + n.val % 1408 < 5632 := by omega
  rw [show k = ⟨_, hb⟩ from Fin.ext hk]
  entry_read
  pointwise
  rfl

end Cert.Kernel4Ideal.Grad

namespace Cert.Reference4Ideal.Grad

open Cert.Reference4Ideal Cert.Reference4Ideal.Gen Cert.Reference4Ideal.Read
open Idealize.ShloMosaic Idealize.ShloMosaic.TcCoe Idealize.SL.Sem

variable (dr : FVec Ideal S8192x2048 .f32) (dg du : FVec Ideal S8192x5632 .f32) (wg wu : FVec Ideal S2048x5632 .f32)

/-- The reference's result at an element. -/
theorem result_at (r : Fin 8192) (n : Fin 2048) :
    val_main_v10 (F := Ideal) dr dg du wg wu (ix2 r n)
      = ((∑ k : Fin 5632, du (ix2 r k) * wu (ix2 n k)) + ∑ k : Fin 5632, dg (ix2 r k) * wg (ix2 n k))
        + Ideal.ofBits .f32 0x3F9837F0#32 * dr (ix2 r n) := by
  rw [val_main_v10_apply, val_main_v7_apply, val_main_v9_apply, val_main_v5_apply, val_main_v6_apply, val_main_v8_apply,
    val_main_cst_1_apply]
  refine congrArg₂ (fun x y : EReal => x + y) (congrArg₂ (fun x y : EReal => x + y) ?_ ?_) rfl
  all_goals
    refine Finset.sum_congr rfl fun k _ => ?_
    refine congrArg₂ (fun x y : EReal => x * y) (congrArg _ ?_) (congrArg _ ?_) <;>
      (funext a; match a with | ⟨0, _⟩ => rfl | ⟨1, _⟩ => rfl)

end Cert.Reference4Ideal.Grad

namespace Cert.Kernel4Ideal.Grad

open Cert.Kernel4Ideal Cert.Kernel4Ideal.Gen
open Idealize.ShloMosaic Idealize.ShloMosaic.TcCoe Idealize.SL.Sem

variable (m : (ℓ : Loc nD τ sig) → Buf (Elt Ideal) ℓ)

/-- The array the call writes is the reference's result of the same arguments. -/
theorem result_eq (c : Dev nD) :
    prod (V m c main_v6) (V m c main_v13) (m ((c.tc : Thread nD τ).loc main_arg0))
      = Cert.Reference4Ideal.Read.val_main_v10 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) := by
  funext j
  obtain ⟨r, n, rfl⟩ : ∃ r n, j = ix2 r n := ⟨j 0, j 1, by idx_vars j⟩
  refine Eq.trans ?_ (Cert.Reference4Ideal.Grad.result_at _ _ _ _ _ r n).symm
  refine congrArg (fun x : EReal => x + _) ?_
  refine Cert.PairSum.sum_pairs _ _ _ fun l k hk => ?_
  refine (congrArg₂ (fun x y : EReal => x * y) (dgu_at m c r l k hk) (wgu_at m c n l k hk)).trans ?_
  by_cases h : l.val / 1408 % 2 < 1
  · simp only [if_pos h]
  · simp only [if_neg h]

end Cert.Kernel4Ideal.Grad

namespace Cert.Proof

open Idealize.ShloMosaic Idealize.SL.Sem

/-- The gate's input-gradient call and the reference compute the same gradient. -/
theorem guDx_equal : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    rw [Cert.Kernel4Ideal.Grad.final m c, Cert.Kernel4Ideal.Grad.result_eq m c]
    obtain ⟨h0, h1, h2, h3, h4⟩ := hagree c
    rw [← h0, ← h1, ← h2, ← h3, ← h4]
    exact Cert.Reference4Ideal.Read.val_main_v10_eq _ _ _ _ _

end Cert.Proof
end
-- ==== Proof.GuDwValue.lean ====
/-
  What the gate's weight-gradient call writes: a product of columns by columns, summed over four groups of 2048 rows in
  the carried accumulator, its columns written in four slabs.
-/
module

public import proofs.«01_k».proof.Defs
public import proofs.«01_k».proof.Proof.Gen.Kernel5Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.Grad

open Cert.Kernel5Ideal Cert.Kernel5Ideal.Gen
open Idealize.ShloMosaic Idealize.ShloMosaic.TcCoe Idealize.SL.Sem
open Idealize.ShloMosaic.Pipeline (Dat)

/-! ## One block -/

/-- The partial product of one grid point. -/
theorem pay2_at (v0 : Vec Ideal S2048x1024 .bf16) (v2 : Vec Ideal S2048x1408 .bf16) (r : Fin 1024) (n : Fin 1408) :
    k0_pay2 v0 v2 (ix2 r n) = ∑ k : Fin 2048, v0 (ix2 k r) * v2 (ix2 k n) := by
  pointwise [k0_pay2, k0_pay1]

theorem pay3_at (v0 : Vec Ideal S2048x1024 .bf16) (v2 : Vec Ideal S2048x1408 .bf16) (a : Vec Ideal S1024x1408 .f32) (i) :
    k0_pay3 v0 v2 a i = a i + k0_pay2 v0 v2 i := by
  pointwise [k0_pay3, k0_pay2]

theorem pay4_at (a : Vec Ideal S1024x1408 .f32) (z : Fin 1) (r : Fin 1024) (n : Fin 1408) :
    k0_pay4 a (ix3 z r n) = a (ix2 r n) := by
  pointwise [k0_pay4]

theorem idx : ∀ t : Fin cfg0.N, win0_0.index t = ![t.val % 4, t.val / 32] ∧ win0_1.index t = ![t.val % 4, t.val / 4 % 8]
    ∧ win0_2.index t = ![t.val / 4 % 8 / 2, t.val / 32, t.val / 4 % 8 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1408 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (z : Fin 1) (r : Fin 1024) (n : Fin 1408) :
    (outsAt0 m c t.val t.isLt).1 (ix3 z r n) = (outsAt0 m c t.val t.isLt).2 (ix2 r n) := by
  rw [outsAt0_C m c t (by omega) (by omega) h]
  frame_out
  rw [pay4_at]

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, columns of `a` by columns of `b`, its columns in slabs of 2816. -/
def prod (a : FVec Ideal S8192x2048 .bf16) (b : FVec Ideal S8192x11264 .bf16) : FVec Ideal S4x2048x2816 .f32 := fun i =>
  have hn : (i 0).val * 2816 + (i 2).val < 11264 := by
    have h0 : (i 0).val < 4 := (i 0).isLt
    have h2 : (i 2).val < 2816 := (i 2).isLt
    omega
  ∑ l : Fin 8192, a (ix2 l (i 1)) * b (ix2 l ⟨_, hn⟩)

theorem lhsBlk (c : Dev nD) (t : Fin cfg0.N) (p : Fin 2048) (q : Fin 1024) (P : Fin 8192) (Q : Fin 2048)
    (hP : P.val = t.val % 4 * 2048 + p.val) (hQ : Q.val = t.val / 32 * 1024 + q.val) :
    (show Vec Ideal S2048x1024 .bf16 from iblk m c 0 t) (ix2 p q) = (V m c main_v0 : FVec Ideal S8192x2048 .bf16) (ix2 P Q) := by
  blk_point [iblk, idx t]

theorem rhsBlk (c : Dev nD) (t : Fin cfg0.N) (p : Fin 2048) (q : Fin 1408) (P : Fin 8192) (Q : Fin 11264)
    (hP : P.val = t.val % 4 * 2048 + p.val) (hQ : Q.val = t.val / 4 % 8 * 1408 + q.val) :
    (show Vec Ideal S2048x1408 .bf16 from iblk m c 1 t) (ix2 p q) = (V m c main_v7 : FVec Ideal S8192x11264 .bf16) (ix2 P Q) := by
  blk_point [iblk, idx t]

/-- The whole array the call writes. -/
theorem final (c : Dev nD) : (dats m 0 c).arrAt 2 (cfgs 0).N = prod (V m c main_v0) (V m c main_v7) := by
  refine (dats m 0 c).arrAt_eq_of_covers 2 _ (by decide +kernel) fun t hf y => ?_
  have h := (flush0_2 t).mp hf
  have ht : t.val < 64 := lt_of_lt_of_eq t.isLt N_0
  blk_simp
  obtain ⟨z, p, q, rfl⟩ : ∃ z p q, y = ix3 z p q := ⟨y 0, y 1, y 2, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix3 z p q) 0).val = t.val / 4 % 8 / 2 := by blk_simp [idx t] <;> omega
  have e1 : (((cfg0.win 2).blk t).view.emb (ix3 z p q) 1).val = t.val / 32 * 1024 + p.val := by blk_simp [idx t] <;> omega
  have e2 : (((cfg0.win 2).blk t).view.emb (ix3 z p q) 2).val = t.val / 4 % 8 % 2 * 1408 + q.val := by blk_simp [idx t] <;> omega
  exact congrArg₂ (fun x y : EReal => x * y)
    (lhsBlk m c ⟨4 * (t.val / 4) + s.val, Pipeline.run_point_lt_of_flush t h s⟩ k p _ _ (by dsimp only; omega) (by rw [e1]; dsimp only; omega))
    (rhsBlk m c ⟨4 * (t.val / 4) + s.val, Pipeline.run_point_lt_of_flush t h s⟩ k q _ _ (by dsimp only; omega) (by dsimp only; rw [e0, e2]; omega))

end Cert.Kernel5Ideal.Grad
end
-- ==== Proof.GuDwClaim.lean ====
/-
  The reference's gradients with respect to the gate's weights, element by element in the layout of the four slabs, and
  the equation of the two programs.
-/
module

public import proofs.«01_k».proof.Proof.GuDwValue
public import proofs.«01_k».proof.Proof.Gen.Reference5Ideal.Run
public import proofs.«01_k».proof.Proof.Gen.Reference5Ideal.Read

@[expose] public section

set_option maxRecDepth 16384

noncomputable section

namespace Cert.Reference5Ideal.Grad

open Cert.Reference5Ideal Cert.Reference5Ideal.Gen Cert.Reference5Ideal.Read
open Idealize.ShloMosaic Idealize.ShloMosaic.TcCoe Idealize.SL.Sem

variable (x : FVec Ideal S8192x2048 .f32) (dg du : FVec Ideal S8192x5632 .f32)

/-- The gradient with respect to the gate's weights, at an element. -/
theorem gate_at (r : Fin 2048) (n : Fin 5632) :
    val_main_v6 (F := Ideal) x dg (ix2 r n) = ∑ k : Fin 8192, dg (ix2 k n) * x (ix2 k r) := by
  rw [val_main_v6_apply, val_main_v5_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The gradient with respect to the value's weights, at an element. -/
theorem value_at (r : Fin 2048) (n : Fin 5632) :
    val_main_v4 (F := Ideal) x du (ix2 r n) = ∑ k : Fin 8192, du (ix2 k n) * x (ix2 k r) := by
  rw [val_main_v4_apply, val_main_v3_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The reference's result: in every slab, 1408 columns of the one gradient and 1408 of the other. -/
theorem result_at (s : Fin 4) (r : Fin 2048) (n : Fin 2816) (k : Fin 5632) (hk : k.val = s.val * 1408 + n.val % 1408) :
    val_main_v13 (F := Ideal) x dg du (ix3 s r n) = if n.val / 1408 < 1 then val_main_v6 (F := Ideal) x dg (ix2 r k)
      else val_main_v4 (F := Ideal) x du (ix2 r k) := by
  have hb : s.val * 1408 + n.val % 1408 < 5632 := by omega
  rw [show k = ⟨_, hb⟩ from Fin.ext hk]
  unfold val_main_v13 val_main_v12 val_main_v11 val_main_v10 val_main_v9 val_main_v8 val_main_v7
  generalize val_main_v6 (F := Ideal) x dg = a
  generalize val_main_v4 (F := Ideal) x du = b
  pointwise
  rfl

end Cert.Reference5Ideal.Grad

namespace Cert.Kernel5Ideal.Grad

open Cert.Kernel5Ideal Cert.Kernel5Ideal.Gen
open Idealize.ShloMosaic Idealize.ShloMosaic.TcCoe Idealize.SL.Sem

variable (m : (ℓ : Loc nD τ sig) → Buf (Elt Ideal) ℓ)

/-- The interleaved gradients the call reads. -/
theorem dgu_at (c : Dev nD) (r : Fin 8192) (n : Fin 11264) (k : Fin 5632) (hk : k.val = n.val / 2816 * 1408 + n.val % 1408) :
    (V m c main_v7 : FVec Ideal S8192x11264 .bf16) (ix2 r n) = if n.val / 1408 % 2 < 1
      then (m ((c.tc : Thread nD τ).loc main_arg1) : FVec Ideal S8192x5632 .f32) (ix2 r k)
      else (m ((c.tc : Thread nD τ).loc main_arg2) : FVec Ideal S8192x5632 .f32) (ix2 r k) := by
  have hb : n.val / 2816 * 1408 + n.val % 1408 < 5632 := by omega
  rw [show k = ⟨_, hb⟩ from Fin.ext hk]
  entry_read
  pointwise
  rfl

theorem x_at (c : Dev nD) (i) : (V m c main_v0 : FVec Ideal S8192x2048 .bf16) i
    = (m ((c.tc : Thread nD τ).loc main_arg0) : FVec Ideal S8192x2048 .f32) i := by
  entry_read
  rfl

/-- The array the call writes is the reference's result of the same arguments. -/
theorem result_eq (c : Dev nD) :
    prod (V m c main_v0) (V m c main_v7)
      = Cert.Reference5Ideal.Read.val_main_v13 (F := Ideal) (m ((c.tc : Thread nD τ).loc main_arg0))
        (m ((c.tc : Thread nD τ).loc main_arg1)) (m ((c.tc : Thread nD τ).loc main_arg2)) := by
  funext j
  obtain ⟨s, r, n, rfl⟩ : ∃ s r n, j = ix3 s r n := ⟨j 0, j 1, j 2, by idx_vars j⟩
  obtain ⟨k, hk⟩ : ∃ k : Fin 5632, k.val = s.val * 1408 + n.val % 1408 := ⟨⟨_, by omega⟩, rfl⟩
  refine Eq.trans ?_ (Cert.Reference5Ideal.Grad.result_at _ _ _ s r n k hk).symm
  rw [Cert.Reference5Ideal.Grad.gate_at, Cert.Reference5Ideal.Grad.value_at]
  by_cases h : n.val / 1408 < 1
  · rw [if_pos h]
    refine Finset.sum_congr rfl fun l _ => ?_
    exact (congrArg₂ (fun x y : EReal => x * y) (x_at m c (ix2 l r))
      ((dgu_at m c l ⟨s.val * 2816 + n.val, by omega⟩ k (by dsimp only; omega)).trans (if_pos (by dsimp only; omega)))).trans (mul_comm _ _)
  · rw [if_neg h]
    refine Finset.sum_congr rfl fun l _ => ?_
    exact (congrArg₂ (fun x y : EReal => x * y) (x_at m c (ix2 l r))
      ((dgu_at m c l ⟨s.val * 2816 + n.val, by omega⟩ k (by dsimp only; omega)).trans (if_neg (by dsimp only; omega)))).trans (mul_comm _ _)

end Cert.Kernel5Ideal.Grad

namespace Cert.Proof

open Idealize.ShloMosaic Idealize.SL.Sem

/-- The gate's weight-gradient call and the reference compute the same gradients. -/
theorem guDw_equal : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    rw [Cert.Kernel5Ideal.Grad.final m c, Cert.Kernel5Ideal.Grad.result_eq m c]
    obtain ⟨h0, h1, h2⟩ := hagree c
    rw [← h0, ← h1, ← h2]
    exact Cert.Reference5Ideal.Read.val_main_v13_eq _ _ _

end Cert.Proof
end
-- ==== Proof.ProjDxValue.lean ====
/-
  What the input projection's input-gradient call writes: a product of rows by rows, summed over seven groups of 2432
  columns in the carried accumulator, plus the residual's gradient.
-/
module

public import proofs.«01_k».proof.Defs
public import proofs.«01_k».proof.Proof.Gen.Kernel6Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Grad

open Cert.Kernel6Ideal Cert.Kernel6Ideal.Gen
open Idealize.ShloMosaic Idealize.ShloMosaic.TcCoe Idealize.SL.Sem
open Idealize.ShloMosaic.Pipeline (Dat)

/-! ## One block -/

/-- The partial product of one grid point. -/
theorem pay2_at (v0 : Vec Ideal S1024x2432 .bf16) (v2 : Vec Ideal S1024x2432 .bf16) (r : Fin 1024) (n : Fin 1024) :
    k0_pay2 v0 v2 (ix2 r n) = ∑ k : Fin 2432, v0 (ix2 r k) * v2 (ix2 n k) := by
  pointwise [k0_pay2, k0_pay1]

theorem pay3_at (v0 : Vec Ideal S1024x2432 .bf16) (v2 : Vec Ideal S1024x2432 .bf16) (a : Vec Ideal S1024x1024 .f32) (i) :
    k0_pay3 v0 v2 a i = a i + k0_pay2 v0 v2 i := by
  pointwise [k0_pay3, k0_pay2]

theorem pay4_at (a b : Vec Ideal S1024x1024 .f32) (i) :
    k0_pay4 a b i = a i + Ideal.ofBits .f32 0x3F9837F0#32 * b i := by
  pointwise [k0_pay4]

theorem idx : ∀ t : Fin cfg0.N, win0_0.index t = ![t.val / 14, t.val % 7] ∧ win0_1.index t = ![t.val / 7 % 2, t.val % 7]
    ∧ win0_2.index t = ![t.val / 14, t.val / 7 % 2] ∧ win0_3.index t = ![t.val / 14, t.val / 7 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 := k0_pay2 (iblk m c 0 t) (iblk m c 1 t)

/-- At a group's first point the accumulator is set to the partial product, -/
theorem acc_first (c : Dev nD) (t : Fin cfg0.N) (h : t.val % 7 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 7 = 0) (i) : (outsAt0 m c t.val t.isLt).2 i
    = (outsAt0 m c (t.val - 1) (by omega)).2 i + part m c t i := by
  by_cases h2 : t.val % 7 = 6
  · rw [outsAt0_C m c t h (by omega) h2]
    frame_out
    rw [pay3_at, read_unread_whole]
    rfl
  · rw [outsAt0_B m c t h (by omega) h2]
    frame_out
    rw [pay3_at, read_unread_whole]
    rfl

/-- and the last point writes it with the scaled residual gradient added. -/
theorem out_last (c : Dev nD) (t : Fin cfg0.N) (h : t.val % 7 = 6) (i) : (outsAt0 m c t.val t.isLt).1 i
    = (outsAt0 m c t.val t.isLt).2 i + Ideal.ofBits .f32 0x3F9837F0#32 * (show Vec Ideal S1024x1024 .f32 from iblk m c 2 t) i := by
  rw [outsAt0_C m c t (by omega) (by omega) h]
  frame_out
  rw [pay4_at]

theorem acc_sum (c : Dev nD) (t : Fin cfg0.N) (h : t.val % 7 = 6) (i) : (outsAt0 m c t.val t.isLt).2 i
    = ∑ s : Fin 7, part m c ⟨7 * (t.val / 7) + s.val, Pipeline.run_point_lt_of_flush t h s⟩ i :=
  (Pipeline.eq_sum_fin_of_reset_step_apply_of_flush (fun n h => (outsAt0 m c n h).2) 7 (fun _ => 0) (part m c)
    (fun t h j => by rw [zero_add]; exact congrFun (acc_first m c t h) j) (fun t h j => acc_next m c t h j) t h i).trans (zero_add _)

/-! ## The whole array -/

/-- The product, rows of `a` by rows of `b`, plus the scaled residual gradient. -/
def prod (a : FVec Ideal S8192x17024 .bf16) (b : FVec Ideal S2048x17024 .bf16) (r : FVec Ideal S8192x2048 .f32) :
    FVec Ideal S8192x2048 .f32 :=
  fun i => (∑ l : Fin 17024, a (ix2 (i 0) l) * b (ix2 (i 1) l)) + Ideal.ofBits .f32 0x3F9837F0#32 * r i

theorem prod_at (a : FVec Ideal S8192x17024 .bf16) (b : FVec Ideal S2048x17024 .bf16) (x : FVec Ideal S8192x2048 .f32) (r : Fin 8192) (n : Fin 2048) :
    prod a b x (ix2 r n) = (∑ l : Fin 17024, a (ix2 r l) * b (ix2 n l)) + Ideal.ofBits .f32 0x3F9837F0#32 * x (ix2 r n) := rfl

theorem lhsBlk (c : Dev nD) (t : Fin cfg0.N) (p : Fin 1024) (q : Fin 2432) (P : Fin 8192) (Q : Fin 17024)
    (hP : P.val = t.val / 14 * 1024 + p.val) (hQ : Q.val = t.val % 7 * 2432 + q.val) :
    (show Vec Ideal S1024x2432 .bf16 from iblk m c 0 t) (ix2 p q) = (V m c main_v10 : FVec Ideal S8192x17024 .bf16) (ix2 P Q) := by
  blk_point [iblk, idx t]

theorem rhsBlk (c : Dev nD) (t : Fin cfg0.N) (p : Fin 1024) (q : Fin 2432) (P : Fin 2048) (Q : Fin 17024)
    (hP : P.val = t.val / 7 % 2 * 1024 + p.val) (hQ : Q.val = t.val % 7 * 2432 + q.val) :
    (show Vec Ideal S1024x2432 .bf16 from iblk m c 1 t) (ix2 p q) = (V m c main_v21 : FVec Ideal S2048x17024 .bf16) (ix2 P Q) := by
  blk_point [iblk, idx t]

theorem addBlk (c : Dev nD) (t : Fin cfg0.N) (y) :
    (show Vec Ideal S1024x1024 .f32 from iblk m c 2 t) y
      = (m ((c.tc : Thread nD τ).loc main_arg0) : FVec Ideal S8192x2048 .f32) (((cfg0.win 3).blk t).view.emb y) := by
  blk_point [iblk, idx t]

/-- The whole array the call writes. -/
theorem final (c : Dev nD) : (dats m 0 c).arrAt 3 (cfgs 0).N = prod (V m c main_v10) (V m c main_v21) (m ((c.tc : Thread nD τ).loc main_arg0)) := by
  refine (dats m 0 c).arrAt_eq_of_covers 3 _ (by decide +kernel) fun t hf y => ?_
  have h := (flush0_3 t).mp hf
  have ht : t.val < 112 := lt_of_lt_of_eq t.isLt N_0
  blk_simp
  obtain ⟨p, q, rfl⟩ : ∃ p q, y = ix2 p q := ⟨y 0, y 1, by idx_vars y⟩
  rw [after0_3, out_last m c t h, acc_sum m c t h, addBlk]
  unfold prod
  refine congrArg (· + _) ?_
  simp only [part, pay2_at]
  refine Fin.sum_mul_add_congr fun s k hl => ?_
  have hs : s.val < 7 := s.isLt
  have e0 : (((cfg0.win 3).blk t).view.emb (ix2 p q) 0).val = t.val / 14 * 1024 + p.val := by blk_simp [idx t] <;> omega
  have e1 : (((cfg0.win 3).blk t).view.emb (ix2 p q) 1).val = t.val / 7 % 2 * 1024 + q.val := by blk_simp [idx t] <;> omega
  exact congrArg₂ (fun x y : EReal => x * y)
    (lhsBlk m c ⟨7 * (t.val / 7) + s.val, Pipeline.run_point_lt_of_flush t h s⟩ p k _ _ (by rw [e0]; dsimp only; omega) (by dsimp only; omega))
    (rhsBlk m c ⟨7 * (t.val / 7) + s.val, Pipeline.run_point_lt_of_flush t h s⟩ q k _ _ (by rw [e1]; dsimp only; omega) (by dsimp only; omega))

end Cert.Kernel6Ideal.Grad
end
-- ==== Proof.ProjCols.lean ====
/-
  The order in which the calls of the input projection hold its columns: eight stretches of the 16960 columns in another
  order, then 64 columns of zeros. A sum over the columns of the call is the sum over the projection's columns.
-/
module

public import Idealize.ShloMosaic.Lib.Pipeline.ValueKit

@[expose] public section

noncomputable section

namespace Cert.ProjCols

/-- A row of the projection, with zero beyond its columns. -/
def ext (f : Fin 16960 → EReal) (n : ℕ) : EReal := if h : n < 16960 then f ⟨n, h⟩ else 0

theorem ext_eq (f : Fin 16960 → EReal) (n : ℕ) (h : n < 16960) : f ⟨n, h⟩ = ext f n := by
  unfold ext
  rw [dif_pos h]

/-- Column `l` of the call, of a row `g` of the projection. -/
def col (g : ℕ → EReal) (l : ℕ) : EReal :=
  if l < 4096 then g l
  else if l - 4096 < 2048 then g (12864 + (l - 4096))
  else if l - 4096 - 2048 < 2048 then g (14912 + (l - 4096 - 2048))
  else if l - 4096 - 2048 - 2048 < 2048 then g (10304 + (l - 4096 - 2048 - 2048))
  else if l - 4096 - 2048 - 2048 - 2048 < 6144 then g (4096 + (l - 4096 - 2048 - 2048 - 2048))
  else if l - 4096 - 2048 - 2048 - 2048 - 6144 < 256 then g (12352 + (l - 4096 - 2048 - 2048 - 2048 - 6144))
  else if l - 4096 - 2048 - 2048 - 2048 - 6144 - 256 < 256 then g (12608 + (l - 4096 - 2048 - 2048 - 2048 - 6144 - 256))
  else if l - 4096 - 2048 - 2048 - 2048 - 6144 - 256 - 256 < 64 then g (10240 + (l - 4096 - 2048 - 2048 - 2048 - 6144 - 256 - 256))
  else 0

theorem dite_eq_ite_of {p : Prop} [Decidable p] {a : p → EReal} {b : ¬p → EReal} {a' b' : EReal} (ha : ∀ h, a h = a')
    (hb : ∀ h, b h = b') : dite p a b = ite p a' b' := by
  by_cases h : p
  · rw [dif_pos h, if_pos h, ha]
  · rw [dif_neg h, if_neg h, hb]

/-- The product of two columns of the call is the column of the products. -/
theorem col_mul (f g : ℕ → EReal) (l : ℕ) : col f l * col g l = col (fun n => f n * g n) l := by
  unfold col
  split_ifs <;> first | rfl | exact mul_zero _

/-- A sum of multiples of columns of the call is the column of the sums. -/
theorem sum_col {ι : Type} [Fintype ι] (a : ι → EReal) (g : ι → ℕ → EReal) (l : ℕ) :
    ∑ t, a t * col (g t) l = col (fun n => ∑ t, a t * g t n) l := by
  unfold col
  split_ifs <;> first | rfl | exact Finset.sum_eq_zero fun t _ => mul_zero _

theorem ext_sum {ι : Type} [Fintype ι] (a : ι → EReal) (f : ι → Fin 16960 → EReal) (n : ℕ) :
    ∑ t, a t * ext (f t) n = ext (fun k => ∑ t, a t * f t k) n := by
  unfold ext
  split_ifs <;> first | rfl | exact Finset.sum_eq_zero fun t _ => mul_zero _

theorem ext_mul (f g : Fin 16960 → EReal) (n : ℕ) : ext f n * ext g n = ext (fun k => f k * g k) n := by
  unfold ext
  split_ifs <;> first | rfl | exact mul_zero _

/-- The sum of `n` terms from the term `a` on. -/
def stretch (g : ℕ → EReal) (a n : ℕ) : EReal := ∑ x ∈ Finset.range n, g (a + x)

theorem stretch_add (g : ℕ → EReal) (a n k : ℕ) : stretch g a (n + k) = stretch g a n + stretch g (a + n) k := by
  unfold stretch
  rw [Finset.sum_range_add]
  simp only [Nat.add_assoc]

theorem stretch_congr (f g : ℕ → EReal) (a b n : ℕ) (h : ∀ x, x < n → f (a + x) = g (b + x)) : stretch f a n = stretch g b n :=
  Finset.sum_congr rfl fun x hx => h x (Finset.mem_range.mp hx)

theorem sum_eq_stretch (n : ℕ) (g : ℕ → EReal) : ∑ l : Fin n, g l.val = stretch g 0 n := by
  unfold stretch
  rw [Fin.sum_univ_eq_sum_range (fun l => g l) n]
  simp only [Nat.zero_add]

theorem stretch_zero (g : ℕ → EReal) (a n : ℕ) (h : ∀ x, x < n → g (a + x) = 0) : stretch g a n = 0 :=
  Finset.sum_eq_zero fun x hx => h x (Finset.mem_range.mp hx)

attribute [irreducible] stretch

set_option maxHeartbeats 2000000 in
/-- The sum over the columns of the call is the sum over the projection's columns. -/
theorem sum_cols (f : Fin 16960 → EReal) : ∑ l : Fin 17024, col (ext f) l.val = ∑ k : Fin 16960, f k := by
  have hf : ∑ k : Fin 16960, f k = ∑ k : Fin 16960, ext f k.val := Finset.sum_congr rfl fun k _ => ext_eq f k.val k.isLt
  rw [hf, sum_eq_stretch, sum_eq_stretch]
  generalize ext f = g
  have s1 : stretch (col g) 0 17024 = stretch (col g) 0 4096 + (stretch (col g) 4096 2048 + (stretch (col g) 6144 2048
      + (stretch (col g) 8192 2048 + (stretch (col g) 10240 6144 + (stretch (col g) 16384 256 + (stretch (col g) 16640 256
      + (stretch (col g) 16896 64 + stretch (col g) 16960 64))))))) := by
    rw [← stretch_add (col g) 16896 64 64, ← stretch_add (col g) 16640 256, ← stretch_add (col g) 16384 256,
      ← stretch_add (col g) 10240 6144, ← stretch_add (col g) 8192 2048, ← stretch_add (col g) 6144 2048,
      ← stretch_add (col g) 4096 2048, ← stretch_add (col g) 0 4096]
  have s2 : stretch g 0 16960 = stretch g 0 4096 + (stretch g 4096 6144 + (stretch g 10240 64 + (stretch g 10304 2048
      + (stretch g 12352 256 + (stretch g 12608 256 + (stretch g 12864 2048 + stretch g 14912 2048)))))) := by
    rw [← stretch_add g 12864 2048, ← stretch_add g 12608 256, ← stretch_add g 12352 256,
      ← stretch_add g 10304 2048, ← stretch_add g 10240 64, ← stretch_add g 4096 6144, ← stretch_add g 0 4096]
  have c1 : stretch (col g) 0 4096 = stretch g 0 4096 := stretch_congr _ _ _ _ _ fun x hx => by
    unfold col; split_ifs <;> first | (exfalso; omega) | rfl
  have c2 : stretch (col g) 4096 2048 = stretch g 12864 2048 := stretch_congr _ _ _ _ _ fun x hx => by
    unfold col; split_ifs <;> first | (exfalso; omega) | exact congrArg g (by omega)
  have c3 : stretch (col g) 6144 2048 = stretch g 14912 2048 := stretch_congr _ _ _ _ _ fun x hx => by
    unfold col; split_ifs <;> first | (exfalso; omega) | exact congrArg g (by omega)
  have c4 : stretch (col g) 8192 2048 = stretch g 10304 2048 := stretch_congr _ _ _ _ _ fun x hx => by
    unfold col; split_ifs <;> first | (exfalso; omega) | exact congrArg g (by omega)
  have c5 : stretch (col g) 10240 6144 = stretch g 4096 6144 := stretch_congr _ _ _ _ _ fun x hx => by
    unfold col; split_ifs <;> first | (exfalso; omega) | exact congrArg g (by omega)
  have c6 : stretch (col g) 16384 256 = stretch g 12352 256 := stretch_congr _ _ _ _ _ fun x hx => by
    unfold col; split_ifs <;> first | (exfalso; omega) | exact congrArg g (by omega)
  have c7 : stretch (col g) 16640 256 = stretch g 12608 256 := stretch_congr _ _ _ _ _ fun x hx => by
    unfold col; split_ifs <;> first | (exfalso; omega) | exact congrArg g (by omega)
  have c8 : stretch (col g) 16896 64 = stretch g 10240 64 := stretch_congr _ _ _ _ _ fun x hx => by
    unfold col; split_ifs <;> first | (exfalso; omega) | exact congrArg g (by omega)
  have c9 : stretch (col g) 16960 64 = 0 := stretch_zero _ _ _ fun x hx => by
    unfold col; split_ifs <;> first | (exfalso; omega) | rfl
  rw [s1, s2, c1, c2, c3, c4, c5, c6, c7, c8, c9]
  abel

end Cert.ProjCols
end
-- ==== Proof.ProjDxClaim.lean ====
/-
  The reference's gradient with respect to the input projection's input, element by element, and the equation of the two
  programs: the columns of the call are the projection's in another order, and columns of zeros.
-/
module

public import proofs.«01_k».proof.Proof.ProjDxValue
public import proofs.«01_k».proof.Proof.ProjCols
public import proofs.«01_k».proof.Proof.Gen.Reference6Ideal.Run
public import proofs.«01_k».proof.Proof.Gen.Reference6Ideal.Read

@[expose] public section

set_option maxRecDepth 16384

noncomputable section

namespace Cert.Reference6Ideal.Grad

open Cert.Reference6Ideal Cert.Reference6Ideal.Gen Cert.Reference6Ideal.Read
open Idealize.ShloMosaic Idealize.ShloMosaic.TcCoe Idealize.SL.Sem

variable (dr : FVec Ideal S8192x2048 .f32) (d : FVec Ideal S8192x16960 .f32) (w : FVec Ideal S2048x16960 .f32)

/-- The reference's result at an element. -/
theorem result_at (r : Fin 8192) (n : Fin 2048) :
    val_main_v7 (F := Ideal) dr d w (ix2 r n)
      = (∑ k : Fin 16960, d (ix2 r k) * w (ix2 n k)) + Ideal.ofBits .f32 0x3F9837F0#32 * dr (ix2 r n) := by
  rw [val_main_v7_apply, val_main_v4_apply, val_main_v6_apply, val_main_v5_apply, val_main_cst_1_apply]
  refine congrArg₂ (fun x y : EReal => x + y) ?_ rfl
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference6Ideal.Grad

namespace Cert.Kernel6Ideal.Grad

open Cert.Kernel6Ideal Cert.Kernel6Ideal.Gen
open Idealize.ShloMosaic Idealize.ShloMosaic.TcCoe Idealize.SL.Sem

/-- The columns of an array in the order of the call, with 64 columns of zeros. -/
def gradCols (x : FVec Ideal S8192x16960 .f32) : FVec Ideal S8192x17024 .f32 :=
  concatenate S8192x17024 1 [⟨S8192x4096, extractStridedSlice S8192x4096 ![0, 0] x slices_S8192x16960_S8192x4096_0_0⟩,
    ⟨S8192x2048, extractStridedSlice S8192x2048 ![0, 12864] x slices_S8192x16960_S8192x2048_0_12864⟩,
    ⟨S8192x2048, extractStridedSlice S8192x2048 ![0, 14912] x slices_S8192x16960_S8192x2048_0_14912⟩,
    ⟨S8192x2048, extractStridedSlice S8192x2048 ![0, 10304] x slices_S8192x16960_S8192x2048_0_10304⟩,
    ⟨S8192x6144, extractStridedSlice S8192x6144 ![0, 4096] x slices_S8192x16960_S8192x6144_0_4096⟩,
    ⟨S8192x256, extractStridedSlice S8192x256 ![0, 12352] x slices_S8192x16960_S8192x256_0_12352⟩,
    ⟨S8192x256, extractStridedSlice S8192x256 ![0, 12608] x slices_S8192x16960_S8192x256_0_12608⟩,
    ⟨S8192x64, extractStridedSlice S8192x64 ![0, 10240] x slices_S8192x16960_S8192x64_0_10240⟩,
    ⟨S8192x64, broadcastInDim S8192x64 ![] bcast_S_S8192x64 (constant S_ .f32 0x00000000#32)⟩]
    concatenates_S8192x4096_S8192x2048_S8192x2048_S8192x2048_S8192x6144_S8192x256_S8192x256_S8192x64_S8192x64_S8192x17024_d1

theorem gradCols_at (x : FVec Ideal S8192x16960 .f32) (r : Fin 8192) (l : Fin 17024) :
    gradCols x (ix2 r l) = ProjCols.col (ProjCols.ext fun k => x (ix2 r k)) l.val := by
  unfold ProjCols.col
  pointwise [gradCols]
  iterate 8 refine ProjCols.dite_eq_ite_of (fun h => ProjCols.ext_eq (fun k => x (ix2 r k)) _ (by omega)) (fun h => ?_)
  rfl

/-- The columns of an array in the order of the call, with 64 columns of zeros. -/
def weightCols (x : FVec Ideal S2048x16960 .f32) : FVec Ideal S2048x17024 .f32 :=
  concatenate S2048x17024 1 [⟨S2048x4096, extractStridedSlice S2048x4096 ![0, 0] x slices_S2048x16960_S2048x4096_0_0⟩,
    ⟨S2048x2048, extractStridedSlice S2048x2048 ![0, 12864] x slices_S2048x16960_S2048x2048_0_12864⟩,
    ⟨S2048x2048, extractStridedSlice S2048x2048 ![0, 14912] x slices_S2048x16960_S2048x2048_0_14912⟩,
    ⟨S2048x2048, extractStridedSlice S2048x2048 ![0, 10304] x slices_S2048x16960_S2048x2048_0_10304⟩,
    ⟨S2048x6144, extractStridedSlice S2048x6144 ![0, 4096] x slices_S2048x16960_S2048x6144_0_4096⟩,
    ⟨S2048x256, extractStridedSlice S2048x256 ![0, 12352] x slices_S2048x16960_S2048x256_0_12352⟩,
    ⟨S2048x256, extractStridedSlice S2048x256 ![0, 12608] x slices_S2048x16960_S2048x256_0_12608⟩,
    ⟨S2048x64, extractStridedSlice S2048x64 ![0, 10240] x slices_S2048x16960_S2048x64_0_10240⟩,
    ⟨S2048x64, broadcastInDim S2048x64 ![] bcast_S_S2048x64 (constant S_ .f32 0x00000000#32)⟩]
    concatenates_S2048x4096_S2048x2048_S2048x2048_S2048x2048_S2048x6144_S2048x256_S2048x256_S2048x64_S2048x64_S2048x17024_d1

theorem weightCols_at (x : FVec Ideal S2048x16960 .f32) (r : Fin 2048) (l : Fin 17024) :
    weightCols x (ix2 r l) = ProjCols.col (ProjCols.ext fun k => x (ix2 r k)) l.val := by
  unfold ProjCols.col
  pointwise [weightCols]
  iterate 8 refine ProjCols.dite_eq_ite_of (fun h => ProjCols.ext_eq (fun k => x (ix2 r k)) _ (by omega)) (fun h => ?_)
  rfl

variable (m : (ℓ : Loc nD τ sig) → Buf (Elt Ideal) ℓ)

theorem d_at (c : Dev nD) (r : Fin 8192) (l : Fin 17024) : (V m c main_v10 : FVec Ideal S8192x17024 .bf16) (ix2 r l)
    = ProjCols.col (ProjCols.ext fun k => (m ((c.tc : Thread nD τ).loc main_arg1) : FVec Ideal S8192x16960 .f32) (ix2 r k)) l.val := by
  rw [← gradCols_at]
  rfl

theorem w_at (c : Dev nD) (r : Fin 2048) (l : Fin 17024) : (V m c main_v21 : FVec Ideal S2048x17024 .bf16) (ix2 r l)
    = ProjCols.col (ProjCols.ext fun k => (m ((c.tc : Thread nD τ).loc main_arg2) : FVec Ideal S2048x16960 .f32) (ix2 r k)) l.val := by
  rw [← weightCols_at]
  rfl

/-- The array the call writes is the reference's result of the same arguments. -/
theorem result_eq (c : Dev nD) :
    prod (V m c main_v10) (V m c main_v21) (m ((c.tc : Thread nD τ).loc main_arg0))
      = Cert.Reference6Ideal.Read.val_main_v7 (F := Ideal) (m ((c.tc : Thread nD τ).loc main_arg0))
        (m ((c.tc : Thread nD τ).loc main_arg1)) (m ((c.tc : Thread nD τ).loc main_arg2)) := by
  funext j
  obtain ⟨r, n, rfl⟩ : ∃ r n, j = ix2 r n := ⟨j 0, j 1, by idx_vars j⟩
  refine (prod_at _ _ _ r n).trans (Eq.trans ?_ (Cert.Reference6Ideal.Grad.result_at _ _ _ r n).symm)
  refine congrArg₂ (fun x y : EReal => x + y) ?_ rfl
  refine Eq.trans ?_ (ProjCols.sum_cols _)
  refine Finset.sum_congr rfl fun l _ => ?_
  refine (congrArg₂ (fun x y : EReal => x * y) (d_at m c r l) (w_at m c n l)).trans ?_
  refine (ProjCols.col_mul _ _ _).trans ?_
  simp only [ProjCols.ext_mul]

end Cert.Kernel6Ideal.Grad

namespace Cert.Proof

open Idealize.ShloMosaic Idealize.SL.Sem

/-- The input projection's input-gradient call and the reference compute the same gradient. -/
theorem projDx_equal : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · refine Idealize.ShloMosaic.θ_run_mono (Cert.Reference6Ideal.Value.run m' g') ?_
    intro r hr c
    refine ⟨(hr c).1.trans ?_, (hr c).2⟩
    rw [Cert.Kernel6Ideal.Grad.final m c, Cert.Kernel6Ideal.Grad.result_eq m c]
    obtain ⟨h0, h1, h2⟩ := hagree c
    rw [← h0, ← h1, ← h2]
    exact Cert.Reference6Ideal.Read.val_main_v7_eq _ _ _

end Cert.Proof
end
-- ==== Proof.ProjDwValue.lean ====
/-
  What the input projection's weight-gradient call writes: a product of columns by columns, summed over four groups of
  2048 rows in the carried accumulator.
-/
module

public import proofs.«01_k».proof.Defs
public import proofs.«01_k».proof.Proof.Gen.Kernel7Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel7Ideal.Grad

open Cert.Kernel7Ideal Cert.Kernel7Ideal.Gen
open Idealize.ShloMosaic Idealize.ShloMosaic.TcCoe Idealize.SL.Sem
open Idealize.ShloMosaic.Pipeline (Dat)

/-! ## One block -/

/-- The partial product of one grid point. -/
theorem pay2_at (v0 : Vec Ideal S2048x1024 .bf16) (v2 : Vec Ideal S2048x896 .bf16) (r : Fin 1024) (n : Fin 896) :
    k0_pay2 v0 v2 (ix2 r n) = ∑ k : Fin 2048, v0 (ix2 k r) * v2 (ix2 k n) := by
  pointwise [k0_pay2, k0_pay1]

theorem pay3_at (v0 : Vec Ideal S2048x1024 .bf16) (v2 : Vec Ideal S2048x896 .bf16) (a : Vec Ideal S1024x896 .f32) (i) :
    k0_pay3 v0 v2 a i = a i + k0_pay2 v0 v2 i := by
  pointwise [k0_pay3, k0_pay2]

theorem idx : ∀ t : Fin cfg0.N, win0_0.index t = ![t.val % 4, t.val / 76] ∧ win0_1.index t = ![t.val % 4, t.val / 4 % 19]
    ∧ win0_2.index t = ![t.val / 76, t.val / 4 % 19] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x896 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (i) : (outsAt0 m c t.val t.isLt).1 i
    = (outsAt0 m c t.val t.isLt).2 i := by
  rw [outsAt0_C m c t (by omega) (by omega) h]
  frame_out

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, columns of `a` by columns of `b`. -/
def prod (a : FVec Ideal S8192x2048 .bf16) (b : FVec Ideal S8192x17024 .bf16) : FVec Ideal S2048x17024 .f32 :=
  fun i => ∑ l : Fin 8192, a (ix2 l (i 0)) * b (ix2 l (i 1))

theorem prod_at (a : FVec Ideal S8192x2048 .bf16) (b : FVec Ideal S8192x17024 .bf16) (r : Fin 2048) (n : Fin 17024) :
    prod a b (ix2 r n) = ∑ l : Fin 8192, a (ix2 l r) * b (ix2 l n) := rfl

theorem lhsBlk (c : Dev nD) (t : Fin cfg0.N) (p : Fin 2048) (q : Fin 1024) (P : Fin 8192) (Q : Fin 2048)
    (hP : P.val = t.val % 4 * 2048 + p.val) (hQ : Q.val = t.val / 76 * 1024 + q.val) :
    (show Vec Ideal S2048x1024 .bf16 from iblk m c 0 t) (ix2 p q) = (V m c main_v0 : FVec Ideal S8192x2048 .bf16) (ix2 P Q) := by
  blk_point [iblk, idx t]

theorem rhsBlk (c : Dev nD) (t : Fin cfg0.N) (p : Fin 2048) (q : Fin 896) (P : Fin 8192) (Q : Fin 17024)
    (hP : P.val = t.val % 4 * 2048 + p.val) (hQ : Q.val = t.val / 4 % 19 * 896 + q.val) :
    (show Vec Ideal S2048x896 .bf16 from iblk m c 1 t) (ix2 p q) = (V m c main_v11 : FVec Ideal S8192x17024 .bf16) (ix2 P Q) := by
  blk_point [iblk, idx t]

/-- The whole array the call writes. -/
theorem final (c : Dev nD) : (dats m 0 c).arrAt 2 (cfgs 0).N = prod (V m c main_v0) (V m c main_v11) := by
  refine (dats m 0 c).arrAt_eq_of_covers 2 _ (by decide +kernel) fun t hf y => ?_
  have h := (flush0_2 t).mp hf
  have ht : t.val < 152 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix2 p q) 0).val = t.val / 76 * 1024 + p.val := by blk_simp [idx t] <;> omega
  have e1 : (((cfg0.win 2).blk t).view.emb (ix2 p q) 1).val = t.val / 4 % 19 * 896 + q.val := by blk_simp [idx t] <;> omega
  exact congrArg₂ (fun x y : EReal => x * y)
    (lhsBlk m c ⟨4 * (t.val / 4) + s.val, Pipeline.run_point_lt_of_flush t h s⟩ k p _ _ (by dsimp only; omega) (by rw [e0]; dsimp only; omega))
    (rhsBlk m c ⟨4 * (t.val / 4) + s.val, Pipeline.run_point_lt_of_flush t h s⟩ k q _ _ (by dsimp only; omega) (by rw [e1]; dsimp only; omega))

end Cert.Kernel7Ideal.Grad
end
-- ==== Proof.ProjDwClaim.lean ====
/-
  The reference's gradient with respect to the input projection's weights, element by element, and the equation of the
  two programs.
-/
module

public import proofs.«01_k».proof.Proof.ProjDwValue
public import proofs.«01_k».proof.Proof.ProjCols
public import proofs.«01_k».proof.Proof.Gen.Reference7Ideal.Run
public import proofs.«01_k».proof.Proof.Gen.Reference7Ideal.Read

@[expose] public section

set_option maxRecDepth 16384

noncomputable section

namespace Cert.Reference7Ideal.Grad

open Cert.Reference7Ideal Cert.Reference7Ideal.Gen Cert.Reference7Ideal.Read
open Idealize.ShloMosaic Idealize.ShloMosaic.TcCoe Idealize.SL.Sem

variable (h : FVec Ideal S8192x2048 .f32) (d : FVec Ideal S8192x16960 .f32)

/-- The gradient with respect to the weights, at an element. -/
theorem weight_at (r : Fin 2048) (n : Fin 16960) :
    val_main_v3 (F := Ideal) h d (ix2 r n) = ∑ k : Fin 8192, d (ix2 k n) * h (ix2 k r) := by
  rw [val_main_v3_apply, val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The reference's result: the gradient's columns in the order of the call, then zeros. -/
theorem result_at (r : Fin 2048) (l : Fin 17024) :
    val_main_v13 (F := Ideal) h d (ix2 r l) = ProjCols.col (ProjCols.ext fun k => val_main_v3 (F := Ideal) h d (ix2 r k)) l.val := by
  unfold ProjCols.col val_main_v13 val_main_v12 val_main_v11 val_main_v10 val_main_v9 val_main_v8 val_main_v7 val_main_v6
    val_main_v5 val_main_v4 val_main_cst_0
  generalize val_main_v3 (F := Ideal) h d = x
  pointwise
  iterate 8 refine ProjCols.dite_eq_ite_of (fun h => ProjCols.ext_eq (fun k => x (ix2 r k)) _ (by omega)) (fun h => ?_)
  rfl

end Cert.Reference7Ideal.Grad

namespace Cert.Kernel7Ideal.Grad

open Cert.Kernel7Ideal Cert.Kernel7Ideal.Gen
open Idealize.ShloMosaic Idealize.ShloMosaic.TcCoe Idealize.SL.Sem

/-- The columns of an array in the order of the call, with 64 columns of zeros. -/
def gradCols (x : FVec Ideal S8192x16960 .f32) : FVec Ideal S8192x17024 .f32 :=
  concatenate S8192x17024 1 [⟨S8192x4096, extractStridedSlice S8192x4096 ![0, 0] x slices_S8192x16960_S8192x4096_0_0⟩,
    ⟨S8192x2048, extractStridedSlice S8192x2048 ![0, 12864] x slices_S8192x16960_S8192x2048_0_12864⟩,
    ⟨S8192x2048, extractStridedSlice S8192x2048 ![0, 14912] x slices_S8192x16960_S8192x2048_0_14912⟩,
    ⟨S8192x2048, extractStridedSlice S8192x2048 ![0, 10304] x slices_S8192x16960_S8192x2048_0_10304⟩,
    ⟨S8192x6144, extractStridedSlice S8192x6144 ![0, 4096] x slices_S8192x16960_S8192x6144_0_4096⟩,
    ⟨S8192x256, extractStridedSlice S8192x256 ![0, 12352] x slices_S8192x16960_S8192x256_0_12352⟩,
    ⟨S8192x256, extractStridedSlice S8192x256 ![0, 12608] x slices_S8192x16960_S8192x256_0_12608⟩,
    ⟨S8192x64, extractStridedSlice S8192x64 ![0, 10240] x slices_S8192x16960_S8192x64_0_10240⟩,
    ⟨S8192x64, broadcastInDim S8192x64 ![] bcast_S_S8192x64 (constant S_ .f32 0x00000000#32)⟩]
    concatenates_S8192x4096_S8192x2048_S8192x2048_S8192x2048_S8192x6144_S8192x256_S8192x256_S8192x64_S8192x64_S8192x17024_d1

theorem gradCols_at (x : FVec Ideal S8192x16960 .f32) (r : Fin 8192) (l : Fin 17024) :
    gradCols x (ix2 r l) = ProjCols.col (ProjCols.ext fun k => x (ix2 r k)) l.val := by
  unfold ProjCols.col
  pointwise [gradCols]
  iterate 8 refine ProjCols.dite_eq_ite_of (fun h => ProjCols.ext_eq (fun k => x (ix2 r k)) _ (by omega)) (fun h => ?_)
  rfl

variable (m : (ℓ : Loc nD τ sig) → Buf (Elt Ideal) ℓ)

theorem d_at (c : Dev nD) (r : Fin 8192) (l : Fin 17024) : (V m c main_v11 : FVec Ideal S8192x17024 .bf16) (ix2 r l)
    = ProjCols.col (ProjCols.ext fun k => (m ((c.tc : Thread nD τ).loc main_arg1) : FVec Ideal S8192x16960 .f32) (ix2 r k)) l.val := by
  rw [← gradCols_at]
  rfl

theorem h_at (c : Dev nD) (i) : (V m c main_v0 : FVec Ideal S8192x2048 .bf16) i
    = (m ((c.tc : Thread nD τ).loc main_arg0) : FVec Ideal S8192x2048 .f32) i := by
  entry_read
  rfl

/-- The array the call writes is the reference's result of the same arguments. -/
theorem result_eq (c : Dev nD) :
    prod (V m c main_v0) (V m c main_v11)
      = Cert.Reference7Ideal.Read.val_main_v13 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference7Ideal.Grad.result_at _ _ r n).symm)
  refine (Finset.sum_congr rfl fun k _ =>
    congrArg₂ (fun x y : EReal => x * y) (h_at m c (ix2 k r)) (d_at m c k n)).trans ?_
  refine (ProjCols.sum_col _ _ _).trans ?_
  simp only [ProjCols.ext_sum]
  refine congrArg (fun f => ProjCols.col (ProjCols.ext f) n.val) (funext fun q => ?_)
  refine (Finset.sum_congr rfl fun k _ => mul_comm _ _).trans (Cert.Reference7Ideal.Grad.weight_at _ _ r q).symm

end Cert.Kernel7Ideal.Grad

namespace Cert.Proof

open Idealize.ShloMosaic Idealize.SL.Sem

/-- The input projection's weight-gradient call and the reference compute the same gradient. -/
theorem projDw_equal : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    rw [Cert.Kernel7Ideal.Grad.final m c, Cert.Kernel7Ideal.Grad.result_eq m c]
    obtain ⟨h0, h1⟩ := hagree c
    rw [← h0, ← h1]
    exact Cert.Reference7Ideal.Read.val_main_v13_eq _ _

end Cert.Proof
end
-- ==== Proof.SsdOutDwValue.lean ====
/-
  What the weight-gradient call of the recurrent branch's projection writes: a product of columns by columns, summed over four groups of
  2048 rows in the carried accumulator.
-/
module

public import proofs.«01_k».proof.Defs
public import proofs.«01_k».proof.Proof.Gen.Kernel8Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel8Ideal.Grad

open Cert.Kernel8Ideal Cert.Kernel8Ideal.Gen
open Idealize.ShloMosaic Idealize.ShloMosaic.TcCoe Idealize.SL.Sem
open Idealize.ShloMosaic.Pipeline (Dat)

/-! ## One block -/

/-- The partial product of one grid point. -/
theorem pay2_at (v0 : Vec Ideal S2048x1024 .bf16) (v2 : Vec Ideal S2048x1024 .bf16) (r : Fin 1024) (n : Fin 1024) :
    k0_pay2 v0 v2 (ix2 r n) = ∑ k : Fin 2048, v0 (ix2 k r) * v2 (ix2 k n) := by
  pointwise [k0_pay2, k0_pay1]

theorem pay3_at (v0 : Vec Ideal S2048x1024 .bf16) (v2 : Vec Ideal S2048x1024 .bf16) (a : Vec Ideal S1024x1024 .f32) (i) :
    k0_pay3 v0 v2 a i = a i + k0_pay2 v0 v2 i := by
  pointwise [k0_pay3, k0_pay2]

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (i) : (outsAt0 m c t.val t.isLt).1 i
    = (outsAt0 m c t.val t.isLt).2 i := by
  rw [outsAt0_C m c t (by omega) (by omega) h]
  frame_out

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, columns of `a` by columns of `b`. -/
def prod (a : FVec Ideal S8192x4096 .bf16) (b : FVec Ideal S8192x2048 .bf16) : FVec Ideal S4096x2048 .f32 :=
  fun i => ∑ l : Fin 8192, a (ix2 l (i 0)) * b (ix2 l (i 1))

theorem prod_at (a : FVec Ideal S8192x4096 .bf16) (b : FVec Ideal S8192x2048 .bf16) (r : Fin 4096) (n : Fin 2048) :
    prod a b (ix2 r n) = ∑ l : Fin 8192, a (ix2 l r) * b (ix2 l n) := rfl

theorem lhsBlk (c : Dev nD) (t : Fin cfg0.N) (p : Fin 2048) (q : Fin 1024) (P : Fin 8192) (Q : Fin 4096)
    (hP : P.val = t.val % 4 * 2048 + p.val) (hQ : Q.val = t.val / 8 * 1024 + q.val) :
    (show Vec Ideal S2048x1024 .bf16 from iblk m c 0 t) (ix2 p q) = (V m c main_v0 : FVec Ideal S8192x4096 .bf16) (ix2 P Q) := by
  blk_point [iblk, idx t]

theorem rhsBlk (c : Dev nD) (t : Fin cfg0.N) (p : Fin 2048) (q : Fin 1024) (P : Fin 8192) (Q : Fin 2048)
    (hP : P.val = t.val % 4 * 2048 + p.val) (hQ : Q.val = t.val / 4 % 2 * 1024 + q.val) :
    (show Vec Ideal S2048x1024 .bf16 from iblk m c 1 t) (ix2 p q) = (V m c main_v1 : FVec Ideal S8192x2048 .bf16) (ix2 P Q) := by
  blk_point [iblk, idx t]

/-- The whole array the call writes. -/
theorem final (c : Dev nD) : (dats m 0 c).arrAt 2 (cfgs 0).N = prod (V m c main_v0) (V m c main_v1) := by
  refine (dats m 0 c).arrAt_eq_of_covers 2 _ (by decide +kernel) fun t hf y => ?_
  have h := (flush0_2 t).mp hf
  have ht : t.val < 32 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix2 p q) 0).val = t.val / 8 * 1024 + p.val := by blk_simp [idx t] <;> omega
  have e1 : (((cfg0.win 2).blk t).view.emb (ix2 p q) 1).val = t.val / 4 % 2 * 1024 + q.val := by blk_simp [idx t] <;> omega
  exact congrArg₂ (fun x y : EReal => x * y)
    (lhsBlk m c ⟨4 * (t.val / 4) + s.val, Pipeline.run_point_lt_of_flush t h s⟩ k p _ _ (by dsimp only; omega) (by rw [e0]; dsimp only; omega))
    (rhsBlk m c ⟨4 * (t.val / 4) + s.val, Pipeline.run_point_lt_of_flush t h s⟩ k q _ _ (by dsimp only; omega) (by rw [e1]; dsimp only; omega))

end Cert.Kernel8Ideal.Grad
end
-- ==== Proof.SsdOutDwClaim.lean ====
/-
  The reference's gradient with respect to the weights of the recurrent branch's projection, element by element, and the equation
  of the two programs.
-/
module

public import proofs.«01_k».proof.Proof.SsdOutDwValue
public import proofs.«01_k».proof.Proof.Gen.Reference8Ideal.Run
public import proofs.«01_k».proof.Proof.Gen.Reference8Ideal.Read

@[expose] public section

set_option maxRecDepth 16384

noncomputable section

namespace Cert.Reference8Ideal.Grad

open Cert.Reference8Ideal Cert.Reference8Ideal.Gen Cert.Reference8Ideal.Read
open Idealize.ShloMosaic Idealize.ShloMosaic.TcCoe Idealize.SL.Sem

/-- The reference's result at an element. -/
theorem result_at (x0 : FVec Ideal S8192x4096 .f32) (x1 : FVec Ideal S8192x2048 .f32) (r : Fin 4096) (n : Fin 2048) :
    val_main_v3 (F := Ideal) x0 x1 (ix2 r n) = ∑ k : Fin 8192, x1 (ix2 k n) * x0 (ix2 k r) := by
  rw [val_main_v3_apply, val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference8Ideal.Grad

namespace Cert.Kernel8Ideal.Grad

open Cert.Kernel8Ideal Cert.Kernel8Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x4096 .bf16) i
    = (m ((c.tc : Thread nD τ).loc main_arg0) : FVec Ideal S8192x4096 .f32) i := by
  entry_read
  rfl

theorem rhs_at (c : Dev nD) (i) : (V m c main_v1 : FVec Ideal S8192x2048 .bf16) i
    = (m ((c.tc : Thread nD τ).loc main_arg1) : FVec Ideal S8192x2048 .f32) i := by
  entry_read
  rfl

/-- The array the call writes is the reference's result of the same arguments. -/
theorem result_eq (c : Dev nD) :
    prod (V m c main_v0) (V m c main_v1)
      = Cert.Reference8Ideal.Read.val_main_v3 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference8Ideal.Grad.result_at _ _ r n).symm)
  exact Finset.sum_congr rfl fun k _ => (congrArg₂ (fun x y : EReal => x * y) (lhs_at m c (ix2 k r)) (rhs_at m c (ix2 k n))).trans (mul_comm _ _)

end Cert.Kernel8Ideal.Grad

namespace Cert.Proof

open Idealize.ShloMosaic Idealize.SL.Sem

/-- The weight-gradient call of the recurrent branch's projection and the reference compute the same gradient. -/
theorem ssdOutDw_equal : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    rw [Cert.Kernel8Ideal.Grad.final m c, Cert.Kernel8Ideal.Grad.result_eq m c]
    obtain ⟨h0, h1⟩ := hagree c
    rw [← h0, ← h1]
    exact Cert.Reference8Ideal.Read.val_main_v3_eq (F := Ideal) _ _

end Cert.Proof
end
-- ==== Proof.AttnOutDwValue.lean ====
/-
  What the weight-gradient call of the attention's projection writes: a product of rows by columns, summed over four
  groups of 2048 in the carried accumulator.
-/
module

public import proofs.«01_k».proof.Defs
public import proofs.«01_k».proof.Proof.Gen.Kernel9Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel9Ideal.Grad

open Cert.Kernel9Ideal Cert.Kernel9Ideal.Gen
open Idealize.ShloMosaic Idealize.ShloMosaic.TcCoe Idealize.SL.Sem
open Idealize.ShloMosaic.Pipeline (Dat)

/-! ## One block -/

/-- The partial product of one grid point. -/
theorem pay2_at (v0 : Vec Ideal S1024x2048 .bf16) (v2 : Vec Ideal S2048x1024 .bf16) (r : Fin 1024) (n : Fin 1024) :
    k0_pay2 v0 v2 (ix2 r n) = ∑ k : Fin 2048, v0 (ix2 r k) * v2 (ix2 k n) := by
  pointwise [k0_pay2, k0_pay1]

theorem pay3_at (v0 : Vec Ideal S1024x2048 .bf16) (v2 : Vec Ideal S2048x1024 .bf16) (a : Vec Ideal S1024x1024 .f32) (i) :
    k0_pay3 v0 v2 a i = a i + k0_pay2 v0 v2 i := by
  pointwise [k0_pay3, k0_pay2]

theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (i) : (outsAt0 m c t.val t.isLt).1 i
    = (outsAt0 m c t.val t.isLt).2 i := by
  rw [outsAt0_C m c t (by omega) (by omega) h]
  frame_out

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, rows of `a` by columns of `b`. -/
def prod (a : FVec Ideal S2048x8192 .bf16) (b : FVec Ideal S8192x2048 .bf16) : FVec Ideal S2048x2048 .f32 :=
  fun i => ∑ l : Fin 8192, a (ix2 (i 0) l) * b (ix2 l (i 1))

theorem prod_at (a : FVec Ideal S2048x8192 .bf16) (b : FVec Ideal S8192x2048 .bf16) (r : Fin 2048) (n : Fin 2048) :
    prod a b (ix2 r n) = ∑ l : Fin 8192, a (ix2 r l) * b (ix2 l n) := rfl

theorem lhsBlk (c : Dev nD) (t : Fin cfg0.N) (p : Fin 1024) (q : Fin 2048) (P : Fin 2048) (Q : Fin 8192)
    (hP : P.val = t.val / 8 * 1024 + p.val) (hQ : Q.val = t.val % 4 * 2048 + q.val) :
    (show Vec Ideal S1024x2048 .bf16 from iblk m c 0 t) (ix2 p q) = (V m c main_v1 : FVec Ideal S2048x8192 .bf16) (ix2 P Q) := by
  blk_point [iblk, idx t]

theorem rhsBlk (c : Dev nD) (t : Fin cfg0.N) (p : Fin 2048) (q : Fin 1024) (P : Fin 8192) (Q : Fin 2048)
    (hP : P.val = t.val % 4 * 2048 + p.val) (hQ : Q.val = t.val / 4 % 2 * 1024 + q.val) :
    (show Vec Ideal S2048x1024 .bf16 from iblk m c 1 t) (ix2 p q) = (V m c main_v2 : FVec Ideal S8192x2048 .bf16) (ix2 P Q) := by
  blk_point [iblk, idx t]

/-- The whole array the call writes. -/
theorem final (c : Dev nD) : (dats m 0 c).arrAt 2 (cfgs 0).N = prod (V m c main_v1) (V m c main_v2) := by
  refine (dats m 0 c).arrAt_eq_of_covers 2 _ (by decide +kernel) fun t hf y => ?_
  have h := (flush0_2 t).mp hf
  have ht : t.val < 16 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix2 p q) 0).val = t.val / 8 * 1024 + p.val := by blk_simp [idx t] <;> omega
  have e1 : (((cfg0.win 2).blk t).view.emb (ix2 p q) 1).val = t.val / 4 % 2 * 1024 + q.val := by blk_simp [idx t] <;> omega
  exact congrArg₂ (fun x y : EReal => x * y)
    (lhsBlk m c ⟨4 * (t.val / 4) + s.val, Pipeline.run_point_lt_of_flush t h s⟩ p k _ _ (by rw [e0]; dsimp only; omega) (by dsimp only; omega))
    (rhsBlk m c ⟨4 * (t.val / 4) + s.val, Pipeline.run_point_lt_of_flush t h s⟩ k q _ _ (by dsimp only; omega) (by rw [e1]; dsimp only; omega))

end Cert.Kernel9Ideal.Grad
end
-- ==== Proof.AttnOutDwClaim.lean ====
/-
  The reference's gradient with respect to the weights of the attention's projection, element by element, and the equation
  of the two programs.
-/
module

public import proofs.«01_k».proof.Proof.AttnOutDwValue
public import proofs.«01_k».proof.Proof.Gen.Reference9Ideal.Run
public import proofs.«01_k».proof.Proof.Gen.Reference9Ideal.Read

@[expose] public section

set_option maxRecDepth 16384

noncomputable section

namespace Cert.Reference9Ideal.Grad

open Cert.Reference9Ideal Cert.Reference9Ideal.Gen Cert.Reference9Ideal.Read
open Idealize.ShloMosaic Idealize.ShloMosaic.TcCoe Idealize.SL.Sem

/-- The reference's result at an element. -/
theorem result_at (x0 : FVec Ideal S8192x2048 .f32) (x1 : FVec Ideal S8192x2048 .f32) (r : Fin 2048) (n : Fin 2048) :
    val_main_v3 (F := Ideal) x0 x1 (ix2 r n) = ∑ k : Fin 8192, x1 (ix2 k n) * x0 (ix2 k r) := by
  rw [val_main_v3_apply, val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference9Ideal.Grad

namespace Cert.Kernel9Ideal.Grad

open Cert.Kernel9Ideal Cert.Kernel9Ideal.Gen
open Idealize.ShloMosaic Idealize.ShloMosaic.TcCoe Idealize.SL.Sem

variable (m : (ℓ : Loc nD τ sig) → Buf (Elt Ideal) ℓ)

theorem lhs_at (c : Dev nD) (p : Fin 2048) (q : Fin 8192) : (V m c main_v1 : FVec Ideal S2048x8192 .bf16) (ix2 p q)
    = (m ((c.tc : Thread nD τ).loc main_arg0) : FVec Ideal S8192x2048 .f32) (ix2 q p) := by
  entry_read
  pointwise

theorem rhs_at (c : Dev nD) (i) : (V m c main_v2 : FVec Ideal S8192x2048 .bf16) i
    = (m ((c.tc : Thread nD τ).loc main_arg1) : FVec Ideal S8192x2048 .f32) i := by
  entry_read
  rfl

/-- The array the call writes is the reference's result of the same arguments. -/
theorem result_eq (c : Dev nD) :
    prod (V m c main_v1) (V m c main_v2)
      = Cert.Reference9Ideal.Read.val_main_v3 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference9Ideal.Grad.result_at _ _ r n).symm)
  exact Finset.sum_congr rfl fun k _ => (congrArg₂ (fun x y : EReal => x * y) (lhs_at m c r k) (rhs_at m c (ix2 k n))).trans (mul_comm _ _)

end Cert.Kernel9Ideal.Grad

namespace Cert.Proof

open Idealize.ShloMosaic Idealize.SL.Sem

/-- The weight-gradient call of the attention's projection and the reference compute the same gradient. -/
theorem attnOutDw_equal : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    rw [Cert.Kernel9Ideal.Grad.final m c, Cert.Kernel9Ideal.Grad.result_eq m c]
    obtain ⟨h0, h1⟩ := hagree c
    rw [← h0, ← h1]
    exact Cert.Reference9Ideal.Read.val_main_v3_eq (F := Ideal) _ _

end Cert.Proof
end
-- ==== Proof.MixOutDwValue.lean ====
/-
  What the weight-gradient call of the mixer's output projection writes: a product of columns by columns, summed over four groups of
  2048 rows in the carried accumulator.
-/
module

public import proofs.«01_k».proof.Defs
public import proofs.«01_k».proof.Proof.Gen.Kernel10Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel10Ideal.Grad

open Cert.Kernel10Ideal Cert.Kernel10Ideal.Gen
open Idealize.ShloMosaic Idealize.ShloMosaic.TcCoe Idealize.SL.Sem
open Idealize.ShloMosaic.Pipeline (Dat)

/-! ## One block -/

/-- The partial product of one grid point. -/
theorem pay2_at (v0 : Vec Ideal S2048x1024 .bf16) (v2 : Vec Ideal S2048x1024 .bf16) (r : Fin 1024) (n : Fin 1024) :
    k0_pay2 v0 v2 (ix2 r n) = ∑ k : Fin 2048, v0 (ix2 k r) * v2 (ix2 k n) := by
  pointwise [k0_pay2, k0_pay1]

theorem pay3_at (v0 : Vec Ideal S2048x1024 .bf16) (v2 : Vec Ideal S2048x1024 .bf16) (a : Vec Ideal S1024x1024 .f32) (i) :
    k0_pay3 v0 v2 a i = a i + k0_pay2 v0 v2 i := by
  pointwise [k0_pay3, k0_pay2]

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 := k0_pay2 (iblk m c 0 t) (iblk m c 1 t)

/-- At a group's first point the accumulator is set to the partial product, -/
theorem acc_first (c : Dev nD) (t : Fin cfg0.N) (h : t.val % 4 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 4 = 0) (i) : (outsAt0 m c t.val t.isLt).2 i
    = (outsAt0 m c (t.val - 1) (by omega)).2 i + part m c t i := by
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

/-- and the last point writes it. -/
theorem out_last (c : Dev nD) (t : Fin cfg0.N) (h : t.val % 4 = 3) (i) : (outsAt0 m c t.val t.isLt).1 i
    = (outsAt0 m c t.val t.isLt).2 i := by
  rw [outsAt0_C m c t (by omega) (by omega) h]
  frame_out

theorem acc_sum (c : Dev nD) (t : Fin cfg0.N) (h : t.val % 4 = 3) (i) : (outsAt0 m c t.val t.isLt).2 i
    = ∑ s : Fin 4, part m c ⟨4 * (t.val / 4) + s.val, Pipeline.run_point_lt_of_flush t h s⟩ i :=
  (Pipeline.eq_sum_fin_of_reset_step_apply_of_flush (fun n h => (outsAt0 m c n h).2) 4 (fun _ => 0) (part m c)
    (fun t h j => by rw [zero_add]; exact congrFun (acc_first m c t h) j) (fun t h j => acc_next m c t h j) t h i).trans (zero_add _)

/-! ## The whole array -/

/-- The product, columns of `a` by columns of `b`. -/
def prod (a : FVec Ideal S8192x2048 .bf16) (b : FVec Ideal S8192x2048 .bf16) : FVec Ideal S2048x2048 .f32 :=
  fun i => ∑ l : Fin 8192, a (ix2 l (i 0)) * b (ix2 l (i 1))

theorem prod_at (a : FVec Ideal S8192x2048 .bf16) (b : FVec Ideal S8192x2048 .bf16) (r : Fin 2048) (n : Fin 2048) :
    prod a b (ix2 r n) = ∑ l : Fin 8192, a (ix2 l r) * b (ix2 l n) := rfl

theorem lhsBlk (c : Dev nD) (t : Fin cfg0.N) (p : Fin 2048) (q : Fin 1024) (P : Fin 8192) (Q : Fin 2048)
    (hP : P.val = t.val % 4 * 2048 + p.val) (hQ : Q.val = t.val / 8 * 1024 + q.val) :
    (show Vec Ideal S2048x1024 .bf16 from iblk m c 0 t) (ix2 p q) = (V m c main_v0 : FVec Ideal S8192x2048 .bf16) (ix2 P Q) := by
  blk_point [iblk, idx t]

theorem rhsBlk (c : Dev nD) (t : Fin cfg0.N) (p : Fin 2048) (q : Fin 1024) (P : Fin 8192) (Q : Fin 2048)
    (hP : P.val = t.val % 4 * 2048 + p.val) (hQ : Q.val = t.val / 4 % 2 * 1024 + q.val) :
    (show Vec Ideal S2048x1024 .bf16 from iblk m c 1 t) (ix2 p q) = (V m c main_v1 : FVec Ideal S8192x2048 .bf16) (ix2 P Q) := by
  blk_point [iblk, idx t]

/-- The whole array the call writes. -/
theorem final (c : Dev nD) : (dats m 0 c).arrAt 2 (cfgs 0).N = prod (V m c main_v0) (V m c main_v1) := by
  refine (dats m 0 c).arrAt_eq_of_covers 2 _ (by decide +kernel) fun t hf y => ?_
  have h := (flush0_2 t).mp hf
  have ht : t.val < 16 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 4 := s.isLt
  have e0 : (((cfg0.win 2).blk t).view.emb (ix2 p q) 0).val = t.val / 8 * 1024 + p.val := by blk_simp [idx t] <;> omega
  have e1 : (((cfg0.win 2).blk t).view.emb (ix2 p q) 1).val = t.val / 4 % 2 * 1024 + q.val := by blk_simp [idx t] <;> omega
  exact congrArg₂ (fun x y : EReal => x * y)
    (lhsBlk m c ⟨4 * (t.val / 4) + s.val, Pipeline.run_point_lt_of_flush t h s⟩ k p _ _ (by dsimp only; omega) (by rw [e0]; dsimp only; omega))
    (rhsBlk m c ⟨4 * (t.val / 4) + s.val, Pipeline.run_point_lt_of_flush t h s⟩ k q _ _ (by dsimp only; omega) (by rw [e1]; dsimp only; omega))

end Cert.Kernel10Ideal.Grad
end
-- ==== Proof.MixOutDwClaim.lean ====
/-
  The reference's gradient with respect to the weights of the mixer's output projection, element by element, and the equation
  of the two programs.
-/
module

public import proofs.«01_k».proof.Proof.MixOutDwValue
public import proofs.«01_k».proof.Proof.Gen.Reference10Ideal.Run
public import proofs.«01_k».proof.Proof.Gen.Reference10Ideal.Read

@[expose] public section

set_option maxRecDepth 16384

noncomputable section

namespace Cert.Reference10Ideal.Grad

open Cert.Reference10Ideal Cert.Reference10Ideal.Gen Cert.Reference10Ideal.Read
open Idealize.ShloMosaic Idealize.ShloMosaic.TcCoe Idealize.SL.Sem

/-- The reference's result at an element. -/
theorem result_at (x0 : FVec Ideal S8192x2048 .f32) (x1 : FVec Ideal S8192x2048 .f32) (r : Fin 2048) (n : Fin 2048) :
    val_main_v3 (F := Ideal) x0 x1 (ix2 r n) = ∑ k : Fin 8192, x1 (ix2 k n) * x0 (ix2 k r) := by
  rw [val_main_v3_apply, val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference10Ideal.Grad

namespace Cert.Kernel10Ideal.Grad

open Cert.Kernel10Ideal Cert.Kernel10Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x2048 .bf16) i
    = (m ((c.tc : Thread nD τ).loc main_arg0) : FVec Ideal S8192x2048 .f32) i := by
  entry_read
  rfl

theorem rhs_at (c : Dev nD) (i) : (V m c main_v1 : FVec Ideal S8192x2048 .bf16) i
    = (m ((c.tc : Thread nD τ).loc main_arg1) : FVec Ideal S8192x2048 .f32) i := by
  entry_read
  rfl

/-- The array the call writes is the reference's result of the same arguments. -/
theorem result_eq (c : Dev nD) :
    prod (V m c main_v0) (V m c main_v1)
      = Cert.Reference10Ideal.Read.val_main_v3 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference10Ideal.Grad.result_at _ _ r n).symm)
  exact Finset.sum_congr rfl fun k _ => (congrArg₂ (fun x y : EReal => x * y) (lhs_at m c (ix2 k r)) (rhs_at m c (ix2 k n))).trans (mul_comm _ _)

end Cert.Kernel10Ideal.Grad

namespace Cert.Proof

open Idealize.ShloMosaic Idealize.SL.Sem

/-- The weight-gradient call of the mixer's output projection and the reference compute the same gradient. -/
theorem mixOutDw_equal : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    rw [Cert.Kernel10Ideal.Grad.final m c, Cert.Kernel10Ideal.Grad.result_eq m c]
    obtain ⟨h0, h1⟩ := hagree c
    rw [← h0, ← h1]
    exact Cert.Reference10Ideal.Read.val_main_v3_eq (F := Ideal) _ _

end Cert.Proof
end
-- ==== Proof.SsdOutDxValue.lean ====
/-
  What the input-gradient call of the recurrent branch's projection writes: a product of rows by rows.
-/
module

public import proofs.«01_k».proof.Defs
public import proofs.«01_k».proof.Proof.Gen.Kernel11Ideal.Frame
public import Idealize.ShloMosaic.Lib.Pipeline.ValueKit
public import Idealize.ShloMosaic.Lib.Claim

@[expose] public section

set_option maxRecDepth 16384

noncomputable section

namespace Cert.Kernel11Ideal.Grad

open Cert.Kernel11Ideal Cert.Kernel11Ideal.Gen
open Idealize.ShloMosaic Idealize.ShloMosaic.TcCoe Idealize.SL.Sem
open Idealize.ShloMosaic.Pipeline (Dat)

/-- One block: the whole product of the rows and columns it reads. -/
theorem pay1_at (v0 : Vec Ideal S1024x2048 .bf16) (v2 : Vec Ideal S1024x2048 .bf16) (r : Fin 1024) (n : Fin 1024) :
    k0_pay1 v0 v2 (ix2 r n) = ∑ k : Fin 2048, v0 (ix2 r k) * v2 (ix2 n k) := by
  pointwise [k0_pay1]

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

variable (m : (ℓ : Loc nD τ sig) → Buf (Elt Ideal) ℓ)

/-- The product, rows of `a` by rows of `b`. -/
def prod (a : FVec Ideal S8192x2048 .bf16) (b : FVec Ideal S4096x2048 .bf16) : FVec Ideal S8192x4096 .f32 :=
  fun i => ∑ k : Fin 2048, a (ix2 (i 0) k) * b (ix2 (i 1) k)

theorem prod_at (a : FVec Ideal S8192x2048 .bf16) (b : FVec Ideal S4096x2048 .bf16) (r : Fin 8192) (n : Fin 4096) :
    prod a b (ix2 r n) = ∑ k : Fin 2048, a (ix2 r k) * b (ix2 n k) := rfl

theorem lhsBlk (c : Dev nD) (t : Fin cfg0.N) (p : Fin 1024) (q : Fin 2048) (P : Fin 8192) (Q : Fin 2048)
    (hP : P.val = t.val / 4 * 1024 + p.val) (hQ : Q.val = q.val) :
    View.ld (iblk m c 0 t) r0_0 (ix2 p q) = (V m c (Pipeline.arrRef spec0 0) : FVec Ideal S8192x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 1024) (q : Fin 2048) (P : Fin 4096) (Q : Fin 2048)
    (hP : P.val = t.val % 4 * 1024 + p.val) (hQ : Q.val = q.val) :
    View.ld (iblk m c 1 t) r0_0 (ix2 p q) = (V m c (Pipeline.arrRef spec0 1) : FVec Ideal S4096x2048 .bf16) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v0) (V m c main_v1) (((cfg0.win 2).blk t).view.emb y) := by
  have ht : t.val < 32 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 4 * 1024 + x0.val := by blk_simp [idx t] <;> omega
  have e1 : (((cfg0.win 2).blk t).view.emb y 1).val = t.val % 4 * 1024 + x1.val := by blk_simp [idx t] <;> omega
  exact congrArg₂ (fun x y : EReal => x * y) (lhsBlk m c t x0 k _ _ e0 rfl) (rhsBlk m c t x1 k _ _ e1 rfl)

/-- The whole array the call writes. -/
theorem final (c : Dev nD) : (dats m 0 c).arrAt 2 (cfgs 0).N = prod (V m c main_v0) (V m c main_v1) := by
  refine (dats m 0 c).arrAt_eq_of_covers 2 _ (by decide +kernel) fun t _ y => ?_
  blk_simp
  rw [after0_2]
  exact point m c t y

end Cert.Kernel11Ideal.Grad
end
-- ==== Proof.SsdOutDxClaim.lean ====
/-
  The reference's gradient with respect to the input of the recurrent branch's projection, element by element, and the equation
  of the two programs.
-/
module

public import proofs.«01_k».proof.Proof.SsdOutDxValue
public import proofs.«01_k».proof.Proof.Gen.Reference11Ideal.Run
public import proofs.«01_k».proof.Proof.Gen.Reference11Ideal.Read

@[expose] public section

set_option maxRecDepth 16384

noncomputable section

namespace Cert.Reference11Ideal.Grad

open Cert.Reference11Ideal Cert.Reference11Ideal.Gen Cert.Reference11Ideal.Read
open Idealize.ShloMosaic Idealize.ShloMosaic.TcCoe Idealize.SL.Sem

/-- The reference's result at an element. -/
theorem result_at (x0 : FVec Ideal S4096x2048 .f32) (x1 : FVec Ideal S8192x2048 .f32) (r : Fin 8192) (n : Fin 4096) :
    val_main_v2 (F := Ideal) x0 x1 (ix2 r n) = ∑ k : Fin 2048, x1 (ix2 r k) * x0 (ix2 n k) := by
  rw [val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference11Ideal.Grad

namespace Cert.Kernel11Ideal.Grad

open Cert.Kernel11Ideal Cert.Kernel11Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x2048 .bf16) i
    = (m ((c.tc : Thread nD τ).loc main_arg1) : FVec Ideal S8192x2048 .f32) i := by
  entry_read
  rfl

theorem rhs_at (c : Dev nD) (i) : (V m c main_v1 : FVec Ideal S4096x2048 .bf16) i
    = (m ((c.tc : Thread nD τ).loc main_arg0) : FVec Ideal S4096x2048 .f32) i := by
  entry_read
  rfl

/-- The array the call writes is the reference's result of the same arguments. -/
theorem result_eq (c : Dev nD) :
    prod (V m c main_v0) (V m c main_v1)
      = Cert.Reference11Ideal.Read.val_main_v2 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference11Ideal.Grad.result_at _ _ r n).symm)
  exact Finset.sum_congr rfl fun k _ => congrArg₂ (fun x y : EReal => x * y) (lhs_at m c (ix2 r k)) (rhs_at m c (ix2 n k))

end Cert.Kernel11Ideal.Grad

namespace Cert.Proof

open Idealize.ShloMosaic Idealize.SL.Sem

/-- The input-gradient call of the recurrent branch's projection and the reference compute the same gradient. -/
theorem ssdOutDx_equal : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    rw [Cert.Kernel11Ideal.Grad.final m c, Cert.Kernel11Ideal.Grad.result_eq m c]
    obtain ⟨h0, h1⟩ := hagree c
    rw [← h0, ← h1]
    exact Cert.Reference11Ideal.Read.val_main_v2_eq (F := Ideal) _ _

end Cert.Proof
end
-- ==== Proof.AttnOutDxValue.lean ====
/-
  What the input-gradient call of the attention's projection writes: a product of rows by rows.
-/
module

public import proofs.«01_k».proof.Defs
public import proofs.«01_k».proof.Proof.Gen.Kernel12Ideal.Frame
public import Idealize.ShloMosaic.Lib.Pipeline.ValueKit
public import Idealize.ShloMosaic.Lib.Claim

@[expose] public section

set_option maxRecDepth 16384

noncomputable section

namespace Cert.Kernel12Ideal.Grad

open Cert.Kernel12Ideal Cert.Kernel12Ideal.Gen
open Idealize.ShloMosaic Idealize.ShloMosaic.TcCoe Idealize.SL.Sem
open Idealize.ShloMosaic.Pipeline (Dat)

/-- One block: the whole product of the rows and columns it reads. -/
theorem pay1_at (v0 : Vec Ideal S1024x2048 .bf16) (v2 : Vec Ideal S1024x2048 .bf16) (r : Fin 1024) (n : Fin 1024) :
    k0_pay1 v0 v2 (ix2 r n) = ∑ k : Fin 2048, v0 (ix2 r k) * v2 (ix2 n k) := by
  pointwise [k0_pay1]

theorem idx : ∀ t : Fin cfg0.N, win0_0.index t = ![t.val / 8, 0] ∧ win0_1.index t = ![t.val % 8, 0]
    ∧ win0_2.index t = ![t.val / 8, t.val % 8] :=
  (by decide +kernel : ∀ t : Fin grid0.N, _)

variable (m : (ℓ : Loc nD τ sig) → Buf (Elt Ideal) ℓ)

/-- The product, rows of `a` by rows of `b`. -/
def prod (a : FVec Ideal S2048x2048 .bf16) (b : FVec Ideal S8192x2048 .bf16) : FVec Ideal S2048x8192 .bf16 :=
  fun i => ∑ k : Fin 2048, a (ix2 (i 0) k) * b (ix2 (i 1) k)

theorem prod_at (a : FVec Ideal S2048x2048 .bf16) (b : FVec Ideal S8192x2048 .bf16) (r : Fin 2048) (n : Fin 8192) :
    prod a b (ix2 r n) = ∑ k : Fin 2048, a (ix2 r k) * b (ix2 n k) := rfl

theorem lhsBlk (c : Dev nD) (t : Fin cfg0.N) (p : Fin 1024) (q : Fin 2048) (P : Fin 2048) (Q : Fin 2048)
    (hP : P.val = t.val / 8 * 1024 + p.val) (hQ : Q.val = q.val) :
    View.ld (iblk m c 0 t) r0_0 (ix2 p q) = (V m c (Pipeline.arrRef spec0 0) : FVec Ideal S2048x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 1024) (q : Fin 2048) (P : Fin 8192) (Q : Fin 2048)
    (hP : P.val = t.val % 8 * 1024 + p.val) (hQ : Q.val = q.val) :
    View.ld (iblk m c 1 t) r0_0 (ix2 p q) = (V m c (Pipeline.arrRef spec0 1) : FVec Ideal S8192x2048 .bf16) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v0) (V m c main_v1) (((cfg0.win 2).blk t).view.emb y) := by
  have ht : t.val < 16 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 8 * 1024 + x0.val := by blk_simp [idx t] <;> omega
  have e1 : (((cfg0.win 2).blk t).view.emb y 1).val = t.val % 8 * 1024 + x1.val := by blk_simp [idx t] <;> omega
  exact congrArg₂ (fun x y : EReal => x * y) (lhsBlk m c t x0 k _ _ e0 rfl) (rhsBlk m c t x1 k _ _ e1 rfl)

/-- The whole array the call writes. -/
theorem final (c : Dev nD) : (dats m 0 c).arrAt 2 (cfgs 0).N = prod (V m c main_v0) (V m c main_v1) := by
  refine (dats m 0 c).arrAt_eq_of_covers 2 _ (by decide +kernel) fun t _ y => ?_
  blk_simp
  rw [after0_2]
  exact point m c t y

end Cert.Kernel12Ideal.Grad
end
-- ==== Proof.AttnOutDxClaim.lean ====
/-
  The reference's gradient with respect to the input of the attention's projection, element by element, and the equation
  of the two programs.
-/
module

public import proofs.«01_k».proof.Proof.AttnOutDxValue
public import proofs.«01_k».proof.Proof.Gen.Reference12Ideal.Run
public import proofs.«01_k».proof.Proof.Gen.Reference12Ideal.Read

@[expose] public section

set_option maxRecDepth 16384

noncomputable section

namespace Cert.Reference12Ideal.Grad

open Cert.Reference12Ideal Cert.Reference12Ideal.Gen Cert.Reference12Ideal.Read
open Idealize.ShloMosaic Idealize.ShloMosaic.TcCoe Idealize.SL.Sem

/-- The reference's result at an element. -/
theorem result_at (x0 : FVec Ideal S2048x2048 .f32) (x1 : FVec Ideal S8192x2048 .f32) (r : Fin 2048) (n : Fin 8192) :
    val_main_v4 (F := Ideal) x0 x1 (ix2 r n) = ∑ k : Fin 2048, x1 (ix2 n k) * x0 (ix2 r k) := by
  rw [val_main_v4_apply, val_main_v3_apply, val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference12Ideal.Grad

namespace Cert.Kernel12Ideal.Grad

open Cert.Kernel12Ideal Cert.Kernel12Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S2048x2048 .bf16) i
    = (m ((c.tc : Thread nD τ).loc main_arg0) : FVec Ideal S2048x2048 .f32) i := by
  entry_read
  rfl

theorem rhs_at (c : Dev nD) (i) : (V m c main_v1 : FVec Ideal S8192x2048 .bf16) i
    = (m ((c.tc : Thread nD τ).loc main_arg1) : FVec Ideal S8192x2048 .f32) i := by
  entry_read
  rfl

/-- The array the call writes is the reference's result of the same arguments. -/
theorem result_eq (c : Dev nD) :
    prod (V m c main_v0) (V m c main_v1)
      = Cert.Reference12Ideal.Read.val_main_v4 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference12Ideal.Grad.result_at _ _ r n).symm)
  exact Finset.sum_congr rfl fun k _ => (congrArg₂ (fun x y : EReal => x * y) (lhs_at m c (ix2 r k)) (rhs_at m c (ix2 n k))).trans (mul_comm _ _)

end Cert.Kernel12Ideal.Grad

namespace Cert.Proof

open Idealize.ShloMosaic Idealize.SL.Sem

/-- The input-gradient call of the attention's projection and the reference compute the same gradient. -/
theorem attnOutDx_equal : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    rw [Cert.Kernel12Ideal.Grad.final m c, Cert.Kernel12Ideal.Grad.result_eq m c]
    obtain ⟨h0, h1⟩ := hagree c
    rw [← h0, ← h1]
    exact Cert.Reference12Ideal.Read.val_main_v4_eq (F := Ideal) _ _

end Cert.Proof
end
-- ==== Proof.MixOutDxValue.lean ====
/-
  What the input-gradient call of the mixer's output projection writes: a product of rows by rows.
-/
module

public import proofs.«01_k».proof.Defs
public import proofs.«01_k».proof.Proof.Gen.Kernel13Ideal.Frame
public import Idealize.ShloMosaic.Lib.Pipeline.ValueKit
public import Idealize.ShloMosaic.Lib.Claim

@[expose] public section

set_option maxRecDepth 16384

noncomputable section

namespace Cert.Kernel13Ideal.Grad

open Cert.Kernel13Ideal Cert.Kernel13Ideal.Gen
open Idealize.ShloMosaic Idealize.ShloMosaic.TcCoe Idealize.SL.Sem
open Idealize.ShloMosaic.Pipeline (Dat)

/-- One block: the whole product of the rows and columns it reads. -/
theorem pay1_at (v0 : Vec Ideal S1024x2048 .bf16) (v2 : Vec Ideal S1024x2048 .bf16) (r : Fin 1024) (n : Fin 1024) :
    k0_pay1 v0 v2 (ix2 r n) = ∑ k : Fin 2048, v0 (ix2 r k) * v2 (ix2 n k) := by
  pointwise [k0_pay1]

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- The product, rows of `a` by rows of `b`. -/
def prod (a : FVec Ideal S8192x2048 .bf16) (b : FVec Ideal S2048x2048 .bf16) : FVec Ideal S8192x2048 .f32 :=
  fun i => ∑ k : Fin 2048, a (ix2 (i 0) k) * b (ix2 (i 1) k)

theorem prod_at (a : FVec Ideal S8192x2048 .bf16) (b : FVec Ideal S2048x2048 .bf16) (r : Fin 8192) (n : Fin 2048) :
    prod a b (ix2 r n) = ∑ k : Fin 2048, a (ix2 r k) * b (ix2 n k) := rfl

theorem lhsBlk (c : Dev nD) (t : Fin cfg0.N) (p : Fin 1024) (q : Fin 2048) (P : Fin 8192) (Q : Fin 2048)
    (hP : P.val = t.val / 2 * 1024 + p.val) (hQ : Q.val = q.val) :
    View.ld (iblk m c 0 t) r0_0 (ix2 p q) = (V m c (Pipeline.arrRef spec0 0) : FVec Ideal S8192x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 1024) (q : Fin 2048) (P : Fin 2048) (Q : Fin 2048)
    (hP : P.val = t.val % 2 * 1024 + p.val) (hQ : Q.val = q.val) :
    View.ld (iblk m c 1 t) r0_0 (ix2 p q) = (V m c (Pipeline.arrRef spec0 1) : FVec Ideal S2048x2048 .bf16) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v0) (V m c main_v1) (((cfg0.win 2).blk t).view.emb y) := by
  have ht : t.val < 16 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 2 * 1024 + x0.val := by blk_simp [idx t] <;> omega
  have e1 : (((cfg0.win 2).blk t).view.emb y 1).val = t.val % 2 * 1024 + x1.val := by blk_simp [idx t] <;> omega
  exact congrArg₂ (fun x y : EReal => x * y) (lhsBlk m c t x0 k _ _ e0 rfl) (rhsBlk m c t x1 k _ _ e1 rfl)

/-- The whole array the call writes. -/
theorem final (c : Dev nD) : (dats m 0 c).arrAt 2 (cfgs 0).N = prod (V m c main_v0) (V m c main_v1) := by
  refine (dats m 0 c).arrAt_eq_of_covers 2 _ (by decide +kernel) fun t _ y => ?_
  blk_simp
  rw [after0_2]
  exact point m c t y

end Cert.Kernel13Ideal.Grad
end
-- ==== Proof.MixOutDxClaim.lean ====
/-
  The reference's gradient with respect to the input of the mixer's output projection, element by element, and the equation
  of the two programs.
-/
module

public import proofs.«01_k».proof.Proof.MixOutDxValue
public import proofs.«01_k».proof.Proof.Gen.Reference13Ideal.Run
public import proofs.«01_k».proof.Proof.Gen.Reference13Ideal.Read

@[expose] public section

set_option maxRecDepth 16384

noncomputable section

namespace Cert.Reference13Ideal.Grad

open Cert.Reference13Ideal Cert.Reference13Ideal.Gen Cert.Reference13Ideal.Read
open Idealize.ShloMosaic Idealize.ShloMosaic.TcCoe Idealize.SL.Sem

/-- The reference's result at an element. -/
theorem result_at (x0 : FVec Ideal S2048x2048 .f32) (x1 : FVec Ideal S8192x2048 .f32) (r : Fin 8192) (n : Fin 2048) :
    val_main_v2 (F := Ideal) x0 x1 (ix2 r n) = ∑ k : Fin 2048, x1 (ix2 r k) * x0 (ix2 n k) := by
  rw [val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference13Ideal.Grad

namespace Cert.Kernel13Ideal.Grad

open Cert.Kernel13Ideal Cert.Kernel13Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x2048 .bf16) i
    = (m ((c.tc : Thread nD τ).loc main_arg1) : FVec Ideal S8192x2048 .f32) i := by
  entry_read
  rfl

theorem rhs_at (c : Dev nD) (i) : (V m c main_v1 : FVec Ideal S2048x2048 .bf16) i
    = (m ((c.tc : Thread nD τ).loc main_arg0) : FVec Ideal S2048x2048 .f32) i := by
  entry_read
  rfl

/-- The array the call writes is the reference's result of the same arguments. -/
theorem result_eq (c : Dev nD) :
    prod (V m c main_v0) (V m c main_v1)
      = Cert.Reference13Ideal.Read.val_main_v2 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference13Ideal.Grad.result_at _ _ r n).symm)
  exact Finset.sum_congr rfl fun k _ => congrArg₂ (fun x y : EReal => x * y) (lhs_at m c (ix2 r k)) (rhs_at m c (ix2 n k))

end Cert.Kernel13Ideal.Grad

namespace Cert.Proof

open Idealize.ShloMosaic Idealize.SL.Sem

/-- The input-gradient call of the mixer's output projection and the reference compute the same gradient. -/
theorem mixOutDx_equal : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    rw [Cert.Kernel13Ideal.Grad.final m c, Cert.Kernel13Ideal.Grad.result_eq m c]
    obtain ⟨h0, h1⟩ := hagree c
    rw [← h0, ← h1]
    exact Cert.Reference13Ideal.Read.val_main_v2_eq (F := Ideal) _ _

end Cert.Proof
end
-- ==== Proof.ProjValue.lean ====
/-
  What the mixer's input projection writes: a product of rows by columns.
-/
module

public import proofs.«01_k».proof.Defs
public import proofs.«01_k».proof.Proof.Gen.Kernel14Ideal.Frame
public import Idealize.ShloMosaic.Lib.Pipeline.ValueKit
public import Idealize.ShloMosaic.Lib.Claim

@[expose] public section

set_option maxRecDepth 16384

noncomputable section

namespace Cert.Kernel14Ideal.Grad

open Cert.Kernel14Ideal Cert.Kernel14Ideal.Gen
open Idealize.ShloMosaic Idealize.ShloMosaic.TcCoe Idealize.SL.Sem
open Idealize.ShloMosaic.Pipeline (Dat)

/-- One block: the whole product of the rows and columns it reads. -/
theorem pay1_at (v0 : Vec Ideal S1024x2048 .bf16) (v2 : Vec Ideal S2048x896 .bf16) (r : Fin 1024) (n : Fin 896) :
    k0_pay1 v0 v2 (ix2 r n) = ∑ k : Fin 2048, v0 (ix2 r k) * v2 (ix2 k n) := by
  pointwise [k0_pay1]

theorem idx : ∀ t : Fin cfg0.N, win0_0.index t = ![t.val / 19, 0] ∧ win0_1.index t = ![0, t.val % 19]
    ∧ win0_2.index t = ![t.val / 19, t.val % 19] :=
  (by decide +kernel : ∀ t : Fin grid0.N, _)

variable (m : (ℓ : Loc nD τ sig) → Buf (Elt Ideal) ℓ)

/-- The product, rows of `a` by columns of `b`. -/
def prod (a : FVec Ideal S8192x2048 .bf16) (b : FVec Ideal S2048x17024 .bf16) : FVec Ideal S8192x17024 .f32 :=
  fun i => ∑ k : Fin 2048, a (ix2 (i 0) k) * b (ix2 k (i 1))

theorem prod_at (a : FVec Ideal S8192x2048 .bf16) (b : FVec Ideal S2048x17024 .bf16) (r : Fin 8192) (n : Fin 17024) :
    prod a b (ix2 r n) = ∑ k : Fin 2048, a (ix2 r k) * b (ix2 k n) := rfl

theorem lhsBlk (c : Dev nD) (t : Fin cfg0.N) (p : Fin 1024) (q : Fin 2048) (P : Fin 8192) (Q : Fin 2048)
    (hP : P.val = t.val / 19 * 1024 + p.val) (hQ : Q.val = q.val) :
    View.ld (iblk m c 0 t) r0_0 (ix2 p q) = (V m c (Pipeline.arrRef spec0 0) : FVec Ideal S8192x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 2048) (q : Fin 896) (P : Fin 2048) (Q : Fin 17024)
    (hP : P.val = p.val) (hQ : Q.val = t.val % 19 * 896 + q.val) :
    View.ld (iblk m c 1 t) r0_1 (ix2 p q) = (V m c (Pipeline.arrRef spec0 1) : FVec Ideal S2048x17024 .bf16) (ix2 P Q) := by
  unfold iblk
  generalize V m c (Pipeline.arrRef spec0 1) = W
  have a0 : (r0_1.idx (ix2 p q) 0).val = p.val := (Rect.idx_unit_val _ _ _ _ _).trans (Nat.zero_add _)
  have a1 : (r0_1.idx (ix2 p q) 1).val = q.val := (Rect.idx_unit_val _ _ _ _ _).trans (Nat.zero_add _)
  have e0 : (((cfg0.win 1).blk t).view.emb (r0_1.idx (ix2 p q)) 0).val = P.val := by blk_simp [idx t] <;> omega
  have e1 : (((cfg0.win 1).blk t).view.emb (r0_1.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v0) (V m c main_v11) (((cfg0.win 2).blk t).view.emb y) := by
  have ht : t.val < 152 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 19 * 1024 + x0.val := by blk_simp [idx t] <;> omega
  have e1 : (((cfg0.win 2).blk t).view.emb y 1).val = t.val % 19 * 896 + x1.val := by blk_simp [idx t] <;> omega
  exact congrArg₂ (fun x y : EReal => x * y) (lhsBlk m c t x0 k _ _ e0 rfl) (rhsBlk m c t k x1 _ _ rfl e1)

/-- The whole array the call writes. -/
theorem final (c : Dev nD) : (dats m 0 c).arrAt 2 (cfgs 0).N = prod (V m c main_v0) (V m c main_v11) := by
  refine (dats m 0 c).arrAt_eq_of_covers 2 _ (by decide +kernel) fun t _ y => ?_
  blk_simp
  rw [after0_2]
  exact point m c t y

end Cert.Kernel14Ideal.Grad
end
-- ==== Proof.ProjClaim.lean ====
/-
  The reference's projection into the mixer, its columns in the order of the call, and the equation of the two programs.
-/
module

public import proofs.«01_k».proof.Proof.ProjValue
public import proofs.«01_k».proof.Proof.ProjCols
public import proofs.«01_k».proof.Proof.Gen.Reference14Ideal.Run
public import proofs.«01_k».proof.Proof.Gen.Reference14Ideal.Read

@[expose] public section

set_option maxRecDepth 16384

noncomputable section

namespace Cert.Reference14Ideal.Grad

open Cert.Reference14Ideal Cert.Reference14Ideal.Gen Cert.Reference14Ideal.Read
open Idealize.ShloMosaic Idealize.ShloMosaic.TcCoe Idealize.SL.Sem

variable (h : FVec Ideal S8192x2048 .f32) (w : FVec Ideal S2048x16960 .f32)

/-- The projection at an element. -/
theorem proj_at (r : Fin 8192) (n : Fin 16960) :
    val_main_v0 (F := Ideal) h w (ix2 r n) = ∑ k : Fin 2048, h (ix2 r k) * w (ix2 k n) := by
  rw [val_main_v0_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The reference's result: the projection's columns in the order of the call, then zeros. -/
theorem result_at (r : Fin 8192) (l : Fin 17024) :
    val_main_v10 (F := Ideal) h w (ix2 r l) = ProjCols.col (ProjCols.ext fun k => val_main_v0 (F := Ideal) h w (ix2 r k)) l.val := by
  unfold ProjCols.col val_main_v10 val_main_v9 val_main_v8 val_main_v7 val_main_v6 val_main_v5 val_main_v4 val_main_v3
    val_main_v2 val_main_v1 val_main_cst
  generalize val_main_v0 (F := Ideal) h w = x
  pointwise
  iterate 8 refine ProjCols.dite_eq_ite_of (fun h => ProjCols.ext_eq (fun k => x (ix2 r k)) _ (by omega)) (fun h => ?_)
  rfl

end Cert.Reference14Ideal.Grad

namespace Cert.Kernel14Ideal.Grad

open Cert.Kernel14Ideal Cert.Kernel14Ideal.Gen
open Idealize.ShloMosaic Idealize.ShloMosaic.TcCoe Idealize.SL.Sem

/-- The columns of an array in the order of the call, with 64 columns of zeros. -/
def weightCols (x : FVec Ideal S2048x16960 .f32) : FVec Ideal S2048x17024 .f32 :=
  concatenate S2048x17024 1 [⟨S2048x4096, extractStridedSlice S2048x4096 ![0, 0] x slices_S2048x16960_S2048x4096_0_0⟩,
    ⟨S2048x2048, extractStridedSlice S2048x2048 ![0, 12864] x slices_S2048x16960_S2048x2048_0_12864⟩,
    ⟨S2048x2048, extractStridedSlice S2048x2048 ![0, 14912] x slices_S2048x16960_S2048x2048_0_14912⟩,
    ⟨S2048x2048, extractStridedSlice S2048x2048 ![0, 10304] x slices_S2048x16960_S2048x2048_0_10304⟩,
    ⟨S2048x6144, extractStridedSlice S2048x6144 ![0, 4096] x slices_S2048x16960_S2048x6144_0_4096⟩,
    ⟨S2048x256, extractStridedSlice S2048x256 ![0, 12352] x slices_S2048x16960_S2048x256_0_12352⟩,
    ⟨S2048x256, extractStridedSlice S2048x256 ![0, 12608] x slices_S2048x16960_S2048x256_0_12608⟩,
    ⟨S2048x64, extractStridedSlice S2048x64 ![0, 10240] x slices_S2048x16960_S2048x64_0_10240⟩,
    ⟨S2048x64, broadcastInDim S2048x64 ![] bcast_S_S2048x64 (constant S_ .f32 0x00000000#32)⟩]
    concatenates_S2048x4096_S2048x2048_S2048x2048_S2048x2048_S2048x6144_S2048x256_S2048x256_S2048x64_S2048x64_S2048x17024_d1

theorem weightCols_at (x : FVec Ideal S2048x16960 .f32) (r : Fin 2048) (l : Fin 17024) :
    weightCols x (ix2 r l) = ProjCols.col (ProjCols.ext fun k => x (ix2 r k)) l.val := by
  unfold ProjCols.col
  pointwise [weightCols]
  iterate 8 refine ProjCols.dite_eq_ite_of (fun h => ProjCols.ext_eq (fun k => x (ix2 r k)) _ (by omega)) (fun h => ?_)
  rfl

variable (m : (ℓ : Loc nD τ sig) → Buf (Elt Ideal) ℓ)

theorem w_at (c : Dev nD) (r : Fin 2048) (l : Fin 17024) : (V m c main_v11 : FVec Ideal S2048x17024 .bf16) (ix2 r l)
    = ProjCols.col (ProjCols.ext fun k => (m ((c.tc : Thread nD τ).loc main_arg1) : FVec Ideal S2048x16960 .f32) (ix2 r k)) l.val := by
  rw [← weightCols_at]
  rfl

theorem h_at (c : Dev nD) (i) : (V m c main_v0 : FVec Ideal S8192x2048 .bf16) i
    = (m ((c.tc : Thread nD τ).loc main_arg0) : FVec Ideal S8192x2048 .f32) i := by
  entry_read
  rfl

/-- The array the call writes is the reference's result of the same arguments. -/
theorem result_eq (c : Dev nD) :
    prod (V m c main_v0) (V m c main_v11)
      = Cert.Reference14Ideal.Read.val_main_v10 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference14Ideal.Grad.result_at _ _ r n).symm)
  refine (Finset.sum_congr rfl fun k _ =>
    congrArg₂ (fun x y : EReal => x * y) (h_at m c (ix2 r k)) (w_at m c k n)).trans ?_
  refine (ProjCols.sum_col _ _ _).trans ?_
  simp only [ProjCols.ext_sum]
  exact congrArg (fun f => ProjCols.col (ProjCols.ext f) n.val) (funext fun q => (Cert.Reference14Ideal.Grad.proj_at _ _ r q).symm)

end Cert.Kernel14Ideal.Grad

namespace Cert.Proof

open Idealize.ShloMosaic Idealize.SL.Sem

/-- The input projection's call and the reference compute the same product. -/
theorem proj_equal : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    rw [Cert.Kernel14Ideal.Grad.final m c, Cert.Kernel14Ideal.Grad.result_eq m c]
    obtain ⟨h0, h1⟩ := hagree c
    rw [← h0, ← h1]
    exact Cert.Reference14Ideal.Read.val_main_v10_eq (F := Ideal) _ _

end Cert.Proof
end
-- ==== Proof.SsdOutValue.lean ====
/-
  What the recurrent branch's projection writes: a product of rows by columns, summed over two groups of 2048 in the
  carried accumulator.
-/
module

public import proofs.«01_k».proof.Defs
public import proofs.«01_k».proof.Proof.Gen.Kernel15Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel15Ideal.Grad

open Cert.Kernel15Ideal Cert.Kernel15Ideal.Gen
open Idealize.ShloMosaic Idealize.ShloMosaic.TcCoe Idealize.SL.Sem
open Idealize.ShloMosaic.Pipeline (Dat)

/-! ## One block -/

/-- The partial product of one grid point. -/
theorem pay2_at (v0 : Vec Ideal S1024x2048 .bf16) (v2 : Vec Ideal S2048x1024 .bf16) (r : Fin 1024) (n : Fin 1024) :
    k0_pay2 v0 v2 (ix2 r n) = ∑ k : Fin 2048, v0 (ix2 r k) * v2 (ix2 k n) := by
  pointwise [k0_pay2, k0_pay1]

theorem pay3_at (v0 : Vec Ideal S1024x2048 .bf16) (v2 : Vec Ideal S2048x1024 .bf16) (a : Vec Ideal S1024x1024 .f32) (i) :
    k0_pay3 v0 v2 a i = a i + k0_pay2 v0 v2 i := by
  pointwise [k0_pay3, k0_pay2]

theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

variable (m : (ℓ : Loc nD τ sig) → Buf (Elt Ideal) ℓ)

/-- The partial product of grid point `t`. -/
def part (c : Dev nD) (t : Fin cfg0.N) : Vec Ideal S1024x1024 .f32 := k0_pay2 (iblk m c 0 t) (iblk m c 1 t)

/-- At a group's first point the accumulator is set to the partial product, -/
theorem acc_first (c : Dev nD) (t : Fin cfg0.N) (h : t.val % 2 = 0) : (outsAt0 m c t.val t.isLt).2 = part m c t := by
  rw [outsAt0_A m c t h (by omega) (by omega)]
  frame_out
  rfl

/-- at the others the partial product is added to it, -/
theorem acc_next (c : Dev nD) (t : Fin cfg0.N) (h : ¬t.val % 2 = 0) (i) : (outsAt0 m c t.val t.isLt).2 i
    = (outsAt0 m c (t.val - 1) (by omega)).2 i + part m c t i := by
  rw [outsAt0_B m c t h (by omega) (by omega)]
  frame_out
  rw [pay3_at, read_unread_whole]
  rfl

/-- and the last point writes it. -/
theorem out_last (c : Dev nD) (t : Fin cfg0.N) (h : t.val % 2 = 1) (i) : (outsAt0 m c t.val t.isLt).1 i
    = (outsAt0 m c t.val t.isLt).2 i := by
  rw [outsAt0_B m c t (by omega) h h]
  frame_out

theorem acc_sum (c : Dev nD) (t : Fin cfg0.N) (h : t.val % 2 = 1) (i) : (outsAt0 m c t.val t.isLt).2 i
    = ∑ s : Fin 2, part m c ⟨2 * (t.val / 2) + s.val, Pipeline.run_point_lt_of_flush t h s⟩ i :=
  (Pipeline.eq_sum_fin_of_reset_step_apply_of_flush (fun n h => (outsAt0 m c n h).2) 2 (fun _ => 0) (part m c)
    (fun t h j => by rw [zero_add]; exact congrFun (acc_first m c t h) j) (fun t h j => acc_next m c t h j) t h i).trans (zero_add _)

/-! ## The whole array -/

/-- The product, rows of `a` by columns of `b`. -/
def prod (a : FVec Ideal S8192x4096 .bf16) (b : FVec Ideal S4096x2048 .bf16) : FVec Ideal S8192x2048 .f32 :=
  fun i => ∑ l : Fin 4096, a (ix2 (i 0) l) * b (ix2 l (i 1))

theorem prod_at (a : FVec Ideal S8192x4096 .bf16) (b : FVec Ideal S4096x2048 .bf16) (r : Fin 8192) (n : Fin 2048) :
    prod a b (ix2 r n) = ∑ l : Fin 4096, a (ix2 r l) * b (ix2 l n) := rfl

theorem lhsBlk (c : Dev nD) (t : Fin cfg0.N) (p : Fin 1024) (q : Fin 2048) (P : Fin 8192) (Q : Fin 4096)
    (hP : P.val = t.val / 4 * 1024 + p.val) (hQ : Q.val = t.val % 2 * 2048 + q.val) :
    (show Vec Ideal S1024x2048 .bf16 from iblk m c 0 t) (ix2 p q) = (V m c main_v0 : FVec Ideal S8192x4096 .bf16) (ix2 P Q) := by
  blk_point [iblk, idx t]

theorem rhsBlk (c : Dev nD) (t : Fin cfg0.N) (p : Fin 2048) (q : Fin 1024) (P : Fin 4096) (Q : Fin 2048)
    (hP : P.val = t.val % 2 * 2048 + p.val) (hQ : Q.val = t.val / 2 % 2 * 1024 + q.val) :
    (show Vec Ideal S2048x1024 .bf16 from iblk m c 1 t) (ix2 p q) = (V m c main_v1 : FVec Ideal S4096x2048 .bf16) (ix2 P Q) := by
  blk_point [iblk, idx t]

/-- The whole array the call writes. -/
theorem final (c : Dev nD) : (dats m 0 c).arrAt 2 (cfgs 0).N = prod (V m c main_v0) (V m c main_v1) := by
  refine (dats m 0 c).arrAt_eq_of_covers 2 _ (by decide +kernel) fun t hf y => ?_
  have h := (flush0_2 t).mp hf
  have ht : t.val < 32 := lt_of_lt_of_eq t.isLt N_0
  blk_simp
  obtain ⟨p, q, rfl⟩ : ∃ p q, y = ix2 p q := ⟨y 0, y 1, by idx_vars y⟩
  rw [after0_2, out_last m c t h, acc_sum m c t h]
  unfold prod
  simp only [part, pay2_at]
  refine Fin.sum_mul_add_congr fun s k hl => ?_
  have hs : s.val < 2 := s.isLt
  have e0 : (((cfg0.win 2).blk t).view.emb (ix2 p q) 0).val = t.val / 4 * 1024 + p.val := by blk_simp [idx t] <;> omega
  have e1 : (((cfg0.win 2).blk t).view.emb (ix2 p q) 1).val = t.val / 2 % 2 * 1024 + q.val := by blk_simp [idx t] <;> omega
  exact congrArg₂ (fun x y : EReal => x * y)
    (lhsBlk m c ⟨2 * (t.val / 2) + s.val, Pipeline.run_point_lt_of_flush t h s⟩ p k _ _ (by rw [e0]; dsimp only; omega) (by dsimp only; omega))
    (rhsBlk m c ⟨2 * (t.val / 2) + s.val, Pipeline.run_point_lt_of_flush t h s⟩ k q _ _ (by dsimp only; omega) (by rw [e1]; dsimp only; omega))

end Cert.Kernel15Ideal.Grad
end
-- ==== Proof.SsdOutClaim.lean ====
/-
  The reference's recurrent branch's projection, element by element, and the equation of the two programs.
-/
module

public import proofs.«01_k».proof.Proof.SsdOutValue
public import proofs.«01_k».proof.Proof.Gen.Reference15Ideal.Run
public import proofs.«01_k».proof.Proof.Gen.Reference15Ideal.Read

@[expose] public section

set_option maxRecDepth 16384

noncomputable section

namespace Cert.Reference15Ideal.Grad

open Cert.Reference15Ideal Cert.Reference15Ideal.Gen Cert.Reference15Ideal.Read
open Idealize.ShloMosaic Idealize.ShloMosaic.TcCoe Idealize.SL.Sem

/-- The reference's result at an element. -/
theorem result_at (x0 : FVec Ideal S8192x4096 .f32) (x1 : FVec Ideal S4096x2048 .f32) (r : Fin 8192) (n : Fin 2048) :
    val_main_v0 (F := Ideal) x0 x1 (ix2 r n) = ∑ k : Fin 4096, x0 (ix2 r k) * x1 (ix2 k n) := by
  rw [val_main_v0_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference15Ideal.Grad

namespace Cert.Kernel15Ideal.Grad

open Cert.Kernel15Ideal Cert.Kernel15Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x4096 .bf16) i
    = (m ((c.tc : Thread nD τ).loc main_arg0) : FVec Ideal S8192x4096 .f32) i := by
  entry_read
  rfl

theorem rhs_at (c : Dev nD) (i) : (V m c main_v1 : FVec Ideal S4096x2048 .bf16) i
    = (m ((c.tc : Thread nD τ).loc main_arg1) : FVec Ideal S4096x2048 .f32) i := by
  entry_read
  rfl

/-- The array the call writes is the reference's result of the same arguments. -/
theorem result_eq (c : Dev nD) :
    prod (V m c main_v0) (V m c main_v1)
      = Cert.Reference15Ideal.Read.val_main_v0 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference15Ideal.Grad.result_at _ _ r n).symm)
  exact Finset.sum_congr rfl fun k _ => congrArg₂ (fun x y : EReal => x * y) (lhs_at m c (ix2 r k)) (rhs_at m c (ix2 k n))

end Cert.Kernel15Ideal.Grad

namespace Cert.Proof

open Idealize.ShloMosaic Idealize.SL.Sem

/-- The call of the recurrent branch's projection and the reference compute the same product. -/
theorem ssdOut_equal : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    rw [Cert.Kernel15Ideal.Grad.final m c, Cert.Kernel15Ideal.Grad.result_eq m c]
    obtain ⟨h0, h1⟩ := hagree c
    rw [← h0, ← h1]
    exact Cert.Reference15Ideal.Read.val_main_v0_eq (F := Ideal) _ _

end Cert.Proof
end
-- ==== Proof.AttnOutValue.lean ====
/-
  What the attention's projection writes: a product of columns by columns.
-/
module

public import proofs.«01_k».proof.Defs
public import proofs.«01_k».proof.Proof.Gen.Kernel16Ideal.Frame
public import Idealize.ShloMosaic.Lib.Pipeline.ValueKit
public import Idealize.ShloMosaic.Lib.Claim

@[expose] public section

set_option maxRecDepth 16384

noncomputable section

namespace Cert.Kernel16Ideal.Grad

open Cert.Kernel16Ideal Cert.Kernel16Ideal.Gen
open Idealize.ShloMosaic Idealize.ShloMosaic.TcCoe Idealize.SL.Sem
open Idealize.ShloMosaic.Pipeline (Dat)

/-- One block: the whole product of the rows and columns it reads. -/
theorem pay1_at (v0 : Vec Ideal S2048x1024 .bf16) (v2 : Vec Ideal S2048x1024 .bf16) (r : Fin 1024) (n : Fin 1024) :
    k0_pay1 v0 v2 (ix2 r n) = ∑ k : Fin 2048, v0 (ix2 k r) * v2 (ix2 k n) := by
  pointwise [k0_pay1]

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The product, columns of `a` by columns of `b`. -/
def prod (a : FVec Ideal S2048x8192 .bf16) (b : FVec Ideal S2048x2048 .bf16) : FVec Ideal S8192x2048 .f32 :=
  fun i => ∑ k : Fin 2048, a (ix2 k (i 0)) * b (ix2 k (i 1))

theorem prod_at (a : FVec Ideal S2048x8192 .bf16) (b : FVec Ideal S2048x2048 .bf16) (r : Fin 8192) (n : Fin 2048) :
    prod a b (ix2 r n) = ∑ k : Fin 2048, a (ix2 k r) * b (ix2 k n) := rfl

theorem lhsBlk (c : Dev nD) (t : Fin cfg0.N) (p : Fin 2048) (q : Fin 1024) (P : Fin 2048) (Q : Fin 8192)
    (hP : P.val = p.val) (hQ : Q.val = t.val / 2 * 1024 + q.val) :
    View.ld (iblk m c 0 t) r0_0 (ix2 p q) = (V m c (Pipeline.arrRef spec0 0) : FVec Ideal S2048x8192 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 2048) (q : Fin 1024) (P : Fin 2048) (Q : Fin 2048)
    (hP : P.val = p.val) (hQ : Q.val = t.val % 2 * 1024 + q.val) :
    View.ld (iblk m c 1 t) r0_0 (ix2 p q) = (V m c (Pipeline.arrRef spec0 1) : FVec Ideal S2048x2048 .bf16) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v1) (V m c main_v2) (((cfg0.win 2).blk t).view.emb y) := by
  have ht : t.val < 16 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 2 * 1024 + x0.val := by blk_simp [idx t] <;> omega
  have e1 : (((cfg0.win 2).blk t).view.emb y 1).val = t.val % 2 * 1024 + x1.val := by blk_simp [idx t] <;> omega
  exact congrArg₂ (fun x y : EReal => x * y) (lhsBlk m c t k x0 _ _ rfl e0) (rhsBlk m c t k x1 _ _ rfl e1)

/-- The whole array the call writes. -/
theorem final (c : Dev nD) : (dats m 0 c).arrAt 2 (cfgs 0).N = prod (V m c main_v1) (V m c main_v2) := by
  refine (dats m 0 c).arrAt_eq_of_covers 2 _ (by decide +kernel) fun t _ y => ?_
  blk_simp
  rw [after0_2]
  exact point m c t y

end Cert.Kernel16Ideal.Grad
end
-- ==== Proof.AttnOutClaim.lean ====
/-
  The reference's attention's projection, element by element, and the equation of the two programs.
-/
module

public import proofs.«01_k».proof.Proof.AttnOutValue
public import proofs.«01_k».proof.Proof.Gen.Reference16Ideal.Run
public import proofs.«01_k».proof.Proof.Gen.Reference16Ideal.Read

@[expose] public section

set_option maxRecDepth 16384

noncomputable section

namespace Cert.Reference16Ideal.Grad

open Cert.Reference16Ideal Cert.Reference16Ideal.Gen Cert.Reference16Ideal.Read
open Idealize.ShloMosaic Idealize.ShloMosaic.TcCoe Idealize.SL.Sem

/-- The reference's result at an element. -/
theorem result_at (x0 : FVec Ideal S8192x2048 .f32) (x1 : FVec Ideal S2048x2048 .f32) (r : Fin 8192) (n : Fin 2048) :
    val_main_v0 (F := Ideal) x0 x1 (ix2 r n) = ∑ k : Fin 2048, x0 (ix2 r k) * x1 (ix2 k n) := by
  rw [val_main_v0_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference16Ideal.Grad

namespace Cert.Kernel16Ideal.Grad

open Cert.Kernel16Ideal Cert.Kernel16Ideal.Gen
open Idealize.ShloMosaic Idealize.ShloMosaic.TcCoe Idealize.SL.Sem

variable (m : (ℓ : Loc nD τ sig) → Buf (Elt Ideal) ℓ)

theorem lhs_at (c : Dev nD) (p : Fin 2048) (q : Fin 8192) : (V m c main_v1 : FVec Ideal S2048x8192 .bf16) (ix2 p q)
    = (m ((c.tc : Thread nD τ).loc main_arg0) : FVec Ideal S8192x2048 .f32) (ix2 q p) := by
  entry_read
  pointwise

theorem rhs_at (c : Dev nD) (i) : (V m c main_v2 : FVec Ideal S2048x2048 .bf16) i
    = (m ((c.tc : Thread nD τ).loc main_arg1) : FVec Ideal S2048x2048 .f32) i := by
  entry_read
  rfl

/-- The array the call writes is the reference's result of the same arguments. -/
theorem result_eq (c : Dev nD) :
    prod (V m c main_v1) (V m c main_v2)
      = Cert.Reference16Ideal.Read.val_main_v0 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference16Ideal.Grad.result_at _ _ r n).symm)
  exact Finset.sum_congr rfl fun k _ => congrArg₂ (fun x y : EReal => x * y) (lhs_at m c k r) (rhs_at m c (ix2 k n))

end Cert.Kernel16Ideal.Grad

namespace Cert.Proof

open Idealize.ShloMosaic Idealize.SL.Sem

/-- The call of the attention's projection and the reference compute the same product. -/
theorem attnOut_equal : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · run_from Cert.Reference16Ideal.Value.run m' g'
    rw [Cert.Kernel16Ideal.Grad.final m c, Cert.Kernel16Ideal.Grad.result_eq m c]
    obtain ⟨h0, h1⟩ := hagree c
    rw [← h0, ← h1]
    exact Cert.Reference16Ideal.Read.val_main_v0_eq (F := Ideal) _ _

end Cert.Proof
end
-- ==== Proof.MixOutValue.lean ====
/-
  What the mixer's output projection writes: a product of rows by columns.
-/
module

public import proofs.«01_k».proof.Defs
public import proofs.«01_k».proof.Proof.Gen.Kernel17Ideal.Frame
public import Idealize.ShloMosaic.Lib.Pipeline.ValueKit
public import Idealize.ShloMosaic.Lib.Claim

@[expose] public section

set_option maxRecDepth 16384

noncomputable section

namespace Cert.Kernel17Ideal.Grad

open Cert.Kernel17Ideal Cert.Kernel17Ideal.Gen
open Idealize.ShloMosaic Idealize.ShloMosaic.TcCoe Idealize.SL.Sem
open Idealize.ShloMosaic.Pipeline (Dat)

/-- One block: the whole product of the rows and columns it reads. -/
theorem pay1_at (v0 : Vec Ideal S1024x2048 .bf16) (v2 : Vec Ideal S2048x1024 .bf16) (r : Fin 1024) (n : Fin 1024) :
    k0_pay1 v0 v2 (ix2 r n) = ∑ k : Fin 2048, v0 (ix2 r k) * v2 (ix2 k n) := by
  pointwise [k0_pay1]

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The product, rows of `a` by columns of `b`. -/
def prod (a : FVec Ideal S8192x2048 .bf16) (b : FVec Ideal S2048x2048 .bf16) : FVec Ideal S8192x2048 .f32 :=
  fun i => ∑ k : Fin 2048, a (ix2 (i 0) k) * b (ix2 k (i 1))

theorem prod_at (a : FVec Ideal S8192x2048 .bf16) (b : FVec Ideal S2048x2048 .bf16) (r : Fin 8192) (n : Fin 2048) :
    prod a b (ix2 r n) = ∑ k : Fin 2048, a (ix2 r k) * b (ix2 k n) := rfl

theorem lhsBlk (c : Dev nD) (t : Fin cfg0.N) (p : Fin 1024) (q : Fin 2048) (P : Fin 8192) (Q : Fin 2048)
    (hP : P.val = t.val / 2 * 1024 + p.val) (hQ : Q.val = q.val) :
    View.ld (iblk m c 0 t) r0_0 (ix2 p q) = (V m c (Pipeline.arrRef spec0 0) : FVec Ideal S8192x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 2048) (q : Fin 1024) (P : Fin 2048) (Q : Fin 2048)
    (hP : P.val = p.val) (hQ : Q.val = t.val % 2 * 1024 + q.val) :
    View.ld (iblk m c 1 t) r0_1 (ix2 p q) = (V m c (Pipeline.arrRef spec0 1) : FVec Ideal S2048x2048 .bf16) (ix2 P Q) := by
  unfold iblk
  generalize V m c (Pipeline.arrRef spec0 1) = W
  have a0 : (r0_1.idx (ix2 p q) 0).val = p.val := (Rect.idx_unit_val _ _ _ _ _).trans (Nat.zero_add _)
  have a1 : (r0_1.idx (ix2 p q) 1).val = q.val := (Rect.idx_unit_val _ _ _ _ _).trans (Nat.zero_add _)
  have e0 : (((cfg0.win 1).blk t).view.emb (r0_1.idx (ix2 p q)) 0).val = P.val := by blk_simp [idx t] <;> omega
  have e1 : (((cfg0.win 1).blk t).view.emb (r0_1.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v0) (V m c main_v1) (((cfg0.win 2).blk t).view.emb y) := by
  have ht : t.val < 16 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 2 * 1024 + x0.val := by blk_simp [idx t] <;> omega
  have e1 : (((cfg0.win 2).blk t).view.emb y 1).val = t.val % 2 * 1024 + x1.val := by blk_simp [idx t] <;> omega
  exact congrArg₂ (fun x y : EReal => x * y) (lhsBlk m c t x0 k _ _ e0 rfl) (rhsBlk m c t k x1 _ _ rfl e1)

/-- The whole array the call writes. -/
theorem final (c : Dev nD) : (dats m 0 c).arrAt 2 (cfgs 0).N = prod (V m c main_v0) (V m c main_v1) := by
  refine (dats m 0 c).arrAt_eq_of_covers 2 _ (by decide +kernel) fun t _ y => ?_
  blk_simp
  rw [after0_2]
  exact point m c t y

end Cert.Kernel17Ideal.Grad
end
-- ==== Proof.MixOutClaim.lean ====
/-
  The reference's mixer's output projection, element by element, and the equation of the two programs.
-/
module

public import proofs.«01_k».proof.Proof.MixOutValue
public import proofs.«01_k».proof.Proof.Gen.Reference17Ideal.Run
public import proofs.«01_k».proof.Proof.Gen.Reference17Ideal.Read

@[expose] public section

set_option maxRecDepth 16384

noncomputable section

namespace Cert.Reference17Ideal.Grad

open Cert.Reference17Ideal Cert.Reference17Ideal.Gen Cert.Reference17Ideal.Read
open Idealize.ShloMosaic Idealize.ShloMosaic.TcCoe Idealize.SL.Sem

/-- The reference's result at an element. -/
theorem result_at (x0 : FVec Ideal S8192x2048 .f32) (x1 : FVec Ideal S2048x2048 .f32) (r : Fin 8192) (n : Fin 2048) :
    val_main_v0 (F := Ideal) x0 x1 (ix2 r n) = ∑ k : Fin 2048, x0 (ix2 r k) * x1 (ix2 k n) := by
  rw [val_main_v0_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference17Ideal.Grad

namespace Cert.Kernel17Ideal.Grad

open Cert.Kernel17Ideal Cert.Kernel17Ideal.Gen
open Idealize.ShloMosaic Idealize.ShloMosaic.TcCoe Idealize.SL.Sem

variable (m : (ℓ : Loc nD τ sig) → Buf (Elt Ideal) ℓ)

theorem lhs_at (c : Dev nD) (i) : (V m c main_v0 : FVec Ideal S8192x2048 .bf16) i
    = (m ((c.tc : Thread nD τ).loc main_arg0) : FVec Ideal S8192x2048 .f32) i := by
  entry_read
  rfl

theorem rhs_at (c : Dev nD) (i) : (V m c main_v1 : FVec Ideal S2048x2048 .bf16) i
    = (m ((c.tc : Thread nD τ).loc main_arg1) : FVec Ideal S2048x2048 .f32) i := by
  entry_read
  rfl

/-- The array the call writes is the reference's result of the same arguments. -/
theorem result_eq (c : Dev nD) :
    prod (V m c main_v0) (V m c main_v1)
      = Cert.Reference17Ideal.Read.val_main_v0 (F := Ideal) (m ((c.tc : Thread nD τ).loc main_arg0))
        (m ((c.tc : Thread nD τ).loc main_arg1)) := by
  funext j
  obtain ⟨r, n, rfl⟩ : ∃ r n, j = ix2 r n := ⟨j 0, j 1, by idx_vars j⟩
  refine (prod_at _ _ r n).trans (Eq.trans ?_ (Cert.Reference17Ideal.Grad.result_at _ _ r n).symm)
  exact Finset.sum_congr rfl fun k _ => congrArg₂ (fun x y : EReal => x * y) (lhs_at m c (ix2 r k)) (rhs_at m c (ix2 k n))

end Cert.Kernel17Ideal.Grad

namespace Cert.Proof

open Idealize.ShloMosaic Idealize.SL.Sem

/-- The call of the mixer's output projection and the reference compute the same product. -/
theorem mixOut_equal : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · run_from Cert.Reference17Ideal.Value.run m' g'
    rw [Cert.Kernel17Ideal.Grad.final m c, Cert.Kernel17Ideal.Grad.result_eq m c]
    obtain ⟨h0, h1⟩ := hagree c
    rw [← h0, ← h1]
    exact Cert.Reference17Ideal.Read.val_main_v0_eq (F := Ideal) _ _

end Cert.Proof
end
-- ==== Proof.DownValue.lean ====
/-
  What a feed-forward block's down projection writes: a product of rows by columns.
-/
module

public import proofs.«01_k».proof.Defs
public import proofs.«01_k».proof.Proof.Gen.Kernel18Ideal.Frame
public import Idealize.ShloMosaic.Lib.Pipeline.ValueKit
public import Idealize.ShloMosaic.Lib.Claim

@[expose] public section

set_option maxRecDepth 16384

noncomputable section

namespace Cert.Kernel18Ideal.Grad

open Cert.Kernel18Ideal Cert.Kernel18Ideal.Gen
open Idealize.ShloMosaic Idealize.ShloMosaic.TcCoe Idealize.SL.Sem
open Idealize.ShloMosaic.Pipeline (Dat)

/-- One block: the whole product of the rows and columns it reads. -/
theorem pay1_at (v0 : Vec Ideal S512x5632 .bf16) (v2 : Vec Ideal S5632x1024 .bf16) (r : Fin 512) (n : Fin 1024) :
    k0_pay1 v0 v2 (ix2 r n) = ∑ k : Fin 5632, v0 (ix2 r k) * v2 (ix2 k n) := by
  pointwise [k0_pay1]

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The product, rows of `a` by columns of `b`. -/
def prod (a : FVec Ideal S8192x5632 .bf16) (b : FVec Ideal S5632x2048 .bf16) : FVec Ideal S8192x2048 .f32 :=
  fun i => ∑ k : Fin 5632, a (ix2 (i 0) k) * b (ix2 k (i 1))

theorem prod_at (a : FVec Ideal S8192x5632 .bf16) (b : FVec Ideal S5632x2048 .bf16) (r : Fin 8192) (n : Fin 2048) :
    prod a b (ix2 r n) = ∑ k : Fin 5632, a (ix2 r k) * b (ix2 k n) := rfl

theorem lhsBlk (c : Dev nD) (t : Fin cfg0.N) (p : Fin 512) (q : Fin 5632) (P : Fin 8192) (Q : Fin 5632)
    (hP : P.val = t.val / 2 * 512 + p.val) (hQ : Q.val = q.val) :
    View.ld (iblk m c 0 t) r0_0 (ix2 p q) = (V m c (Pipeline.arrRef spec0 0) : FVec Ideal S8192x5632 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 5632) (q : Fin 1024) (P : Fin 5632) (Q : Fin 2048)
    (hP : P.val = p.val) (hQ : Q.val = t.val % 2 * 1024 + q.val) :
    View.ld (iblk m c 1 t) r0_1 (ix2 p q) = (V m c (Pipeline.arrRef spec0 1) : FVec Ideal S5632x2048 .bf16) (ix2 P Q) := by
  unfold iblk
  generalize V m c (Pipeline.arrRef spec0 1) = W
  have a0 : (r0_1.idx (ix2 p q) 0).val = p.val := (Rect.idx_unit_val _ _ _ _ _).trans (Nat.zero_add _)
  have a1 : (r0_1.idx (ix2 p q) 1).val = q.val := (Rect.idx_unit_val _ _ _ _ _).trans (Nat.zero_add _)
  have e0 : (((cfg0.win 1).blk t).view.emb (r0_1.idx (ix2 p q)) 0).val = P.val := by blk_simp [idx t] <;> omega
  have e1 : (((cfg0.win 1).blk t).view.emb (r0_1.idx (ix2 p q)) 1).val = Q.val := by blk_simp [idx t] <;> omega
  refine congrArg W (funext fun a => Fin.ext ?_)
  match a with
  | ⟨0, _⟩ => exact e0
  | ⟨1, _⟩ => exact e1

/-- One element of the block a grid point writes is that element of the product. -/
theorem point (c : Dev nD) (t : Fin cfg0.N) (y) :
    out0_2 (iblk m c 0 t) (iblk m c 1 t) y = prod (V m c main_v2) (V m c main_v3) (((cfg0.win 2).blk t).view.emb y) := by
  have ht : t.val < 32 := lt_of_lt_of_eq t.isLt N_0
  unfold out0_2
  canon_tiles x h
  idx_vars x
  rw [pay1_at]
  unfold prod
  refine Finset.sum_congr rfl fun k _ => ?_
  have e0 : (((cfg0.win 2).blk t).view.emb y 0).val = t.val / 2 * 512 + x0.val := by blk_simp [idx t] <;> omega
  have e1 : (((cfg0.win 2).blk t).view.emb y 1).val = t.val % 2 * 1024 + x1.val := by blk_simp [idx t] <;> omega
  exact congrArg₂ (fun x y : EReal => x * y) (lhsBlk m c t x0 k _ _ e0 rfl) (rhsBlk m c t k x1 _ _ rfl e1)

/-- The whole array the call writes. -/
theorem final (c : Dev nD) : (dats m 0 c).arrAt 2 (cfgs 0).N = prod (V m c main_v2) (V m c main_v3) := by
  refine (dats m 0 c).arrAt_eq_of_covers 2 _ (by decide +kernel) fun t _ y => ?_
  blk_simp
  rw [after0_2]
  exact point m c t y

end Cert.Kernel18Ideal.Grad
end
-- ==== Proof.DownClaim.lean ====
/-
  The reference's gated down projection, element by element, and the equation of the two programs.
-/
module

public import proofs.«01_k».proof.Proof.DownValue
public import proofs.«01_k».proof.Proof.Gen.Reference18Ideal.Run
public import proofs.«01_k».proof.Proof.Gen.Reference18Ideal.Read

@[expose] public section

set_option maxRecDepth 16384

noncomputable section

namespace Cert.Reference18Ideal.Grad

open Cert.Reference18Ideal Cert.Reference18Ideal.Gen Cert.Reference18Ideal.Read
open Idealize.ShloMosaic Idealize.ShloMosaic.TcCoe Idealize.SL.Sem

/-- The reference's result at an element. -/
theorem result_at (g u : FVec Ideal S8192x5632 .f32) (w : FVec Ideal S5632x2048 .f32) (r : Fin 8192) (n : Fin 2048) :
    val_main_v2 (F := Ideal) g u w (ix2 r n) = ∑ k : Fin 5632, val_main_v1 (F := Ideal) g u (ix2 r k) * w (ix2 k n) := by
  rw [val_main_v2_apply]
  refine Finset.sum_congr rfl fun k _ => ?_
  refine congrArg₂ (fun x y : EReal => x * y) (congrArg _ ?_) (congrArg _ ?_) <;>
    (funext a; match a with | ⟨0, _⟩ => rfl | ⟨1, _⟩ => rfl)

end Cert.Reference18Ideal.Grad

namespace Cert.Kernel18Ideal.Grad

open Cert.Kernel18Ideal Cert.Kernel18Ideal.Gen
open Idealize.ShloMosaic Idealize.ShloMosaic.TcCoe Idealize.SL.Sem

variable (m : (ℓ : Loc nD τ sig) → Buf (Elt Ideal) ℓ)

/-- The activations the call reads are the reference's. -/
theorem act_at (c : Dev nD) (i) : (V m c main_v2 : FVec Ideal S8192x5632 .bf16) i
    = Cert.Reference18Ideal.Read.val_main_v1 (F := Ideal) (m ((c.tc : Thread nD τ).loc main_arg0))
        (m ((c.tc : Thread nD τ).loc main_arg1)) i := by
  entry_read
  rfl

theorem w_at (c : Dev nD) (i) : (V m c main_v3 : FVec Ideal S5632x2048 .bf16) i
    = (m ((c.tc : Thread nD τ).loc main_arg2) : FVec Ideal S5632x2048 .f32) i := by
  entry_read
  rfl

/-- The array the call writes is the reference's result of the same arguments. -/
theorem result_eq (c : Dev nD) :
    prod (V m c main_v2) (V m c main_v3)
      = Cert.Reference18Ideal.Read.val_main_v2 (F := Ideal) (m ((c.tc : Thread nD τ).loc main_arg0))
        (m ((c.tc : Thread nD τ).loc main_arg1)) (m ((c.tc : Thread nD τ).loc main_arg2)) := by
  funext j
  obtain ⟨r, n, rfl⟩ : ∃ r n, j = ix2 r n := ⟨j 0, j 1, by idx_vars j⟩
  refine (prod_at _ _ r n).trans (Eq.trans ?_ (Cert.Reference18Ideal.Grad.result_at _ _ _ r n).symm)
  exact Finset.sum_congr rfl fun k _ => congrArg₂ (fun x y : EReal => x * y) (act_at m c (ix2 r k)) (w_at m c (ix2 k n))

end Cert.Kernel18Ideal.Grad

namespace Cert.Proof

open Idealize.ShloMosaic Idealize.SL.Sem

/-- The down projection's call and the reference compute the same product. -/
theorem down_equal : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
    all_goals rfl
  · run_from Cert.Reference18Ideal.Value.run m' g'
    rw [Cert.Kernel18Ideal.Grad.final m c, Cert.Kernel18Ideal.Grad.result_eq m c]
    obtain ⟨h0, h1, h2⟩ := hagree c
    rw [← h0, ← h1, ← h2]
    exact Cert.Reference18Ideal.Read.val_main_v2_eq (F := Ideal) _ _ _

end Cert.Proof
end
-- ==== Proof.GuValue.lean ====
/-
  What a feed-forward block's gated up projection writes: the product of the rows by the interleaved columns of the two
  weights, and the gated values of it.
-/
module

public import proofs.«01_k».proof.Defs
public import proofs.«01_k».proof.Proof.Words
public import proofs.«01_k».proof.Proof.GateMath
public import proofs.«01_k».proof.Proof.Gen.Kernel19Ideal.Frame
public import Idealize.ShloMosaic.Lib.Pipeline.ValueKit
public import Idealize.ShloMosaic.Lib.Claim

@[expose] public section

set_option maxRecDepth 16384

noncomputable section

namespace Cert.Kernel19Ideal.Grad

open Cert.Kernel19Ideal Cert.Kernel19Ideal.Gen
open Idealize.ShloMosaic Idealize.ShloMosaic.TcCoe Idealize.SL.Sem
open Idealize.ShloMosaic.Pipeline (Dat)

/-- One block: the whole product of the rows and columns it reads. -/
theorem pay1_at (v0 : Vec Ideal S512x2048 .bf16) (v2 : Vec Ideal S2048x2816 .bf16) (r : Fin 512) (n : Fin 2816) :
    k0_pay1 v0 v2 (ix2 r n) = ∑ k : Fin 2048, v0 (ix2 r k) * v2 (ix2 k n) := by
  pointwise [k0_pay1]

theorem pay2_at (v0 : Vec Ideal S512x2048 .bf16) (v2 : Vec Ideal S2048x2816 .bf16) (r : Fin 512) (n : Fin 2816) :
    k0_pay2 v0 v2 (ix2 r n) = ∑ k : Fin 2048, v0 (ix2 r k) * v2 (ix2 k n) := by
  rw [← pay1_at]
  rfl

/-- The gated values of a block: the first 1408 columns are the gate's argument, the others the value. -/
theorem pay3_at (v0 : Vec Ideal S512x2048 .bf16) (v2 : Vec Ideal S2048x2816 .bf16) (r : Fin 512) (n : Fin 1408)
    (a b : Fin 2816) (ha : a.val = n.val) (hb : b.val = n.val + 1408) :
    k0_pay3 v0 v2 (ix2 r n) = (∑ k : Fin 2048, v0 (ix2 r k) * v2 (ix2 k a))
      * Gate.sig (∑ k : Fin 2048, v0 (ix2 r k) * v2 (ix2 k a)) * (∑ k : Fin 2048, v0 (ix2 r k) * v2 (ix2 k b)) := by
  obtain ⟨b, hb'⟩ := b
  obtain ⟨a, ha'⟩ := a
  obtain rfl : a = n.val := ha
  obtain rfl : b = 1408 + n.val := hb.trans (Nat.add_comm _ _)
  rw [← pay1_at, ← pay1_at, ← Gate.half_tanh, ← Words.half]
  unfold k0_pay3
  generalize k0_pay1 v0 v2 = x
  pointwise

theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

variable (m : (ℓ : Loc nD τ sig) → Buf (Elt Ideal) ℓ)

/-- The product, rows of `a` by columns of `b`. -/
def prod (a : FVec Ideal S8192x2048 .bf16) (b : FVec Ideal S2048x11264 .bf16) : FVec Ideal S8192x11264 .bf16 :=
  fun i => ∑ k : Fin 2048, a (ix2 (i 0) k) * b (ix2 k (i 1))

theorem prod_at (a : FVec Ideal S8192x2048 .bf16) (b : FVec Ideal S2048x11264 .bf16) (r : Fin 8192) (n : Fin 11264) :
    prod a b (ix2 r n) = ∑ k : Fin 2048, a (ix2 r k) * b (ix2 k n) := rfl

/-- The gated values: the gate's arguments and the values lie in alternate groups of 1408 columns of the product. -/
def act (a : FVec Ideal S8192x2048 .bf16) (b : FVec Ideal S2048x11264 .bf16) : FVec Ideal S8192x5632 .bf16 := fun i =>
  let n : Fin 11264 := ⟨(i 1).val / 1408 * 2816 + (i 1).val % 1408, by have : (i 1).val < 5632 := (i 1).isLt; omega⟩
  let l : Fin 11264 := ⟨(i 1).val / 1408 * 2816 + (i 1).val % 1408 + 1408, by have : (i 1).val < 5632 := (i 1).isLt; omega⟩
  prod a b (ix2 (i 0) n) * Gate.sig (prod a b (ix2 (i 0) n)) * prod a b (ix2 (i 0) l)

theorem act_at (a : FVec Ideal S8192x2048 .bf16) (b : FVec Ideal S2048x11264 .bf16) (i : S8192x5632.Idx) (r : Fin 8192)
    (n l : Fin 11264) (hr : (i 0).val = r.val) (hn : n.val = (i 1).val / 1408 * 2816 + (i 1).val % 1408) (hl : l.val = n.val + 1408) :
    act a b i = prod a b (ix2 r n) * Gate.sig (prod a b (ix2 r n)) * prod a b (ix2 r l) := by
  have e : l.val = (i 1).val / 1408 * 2816 + (i 1).val % 1408 + 1408 := by omega
  obtain ⟨n, _⟩ := n
  obtain ⟨l, _⟩ := l
  obtain rfl : i 0 = r := Fin.ext hr
  subst hn
  subst e
  rfl

theorem lhsBlk (c : Dev nD) (t : Fin cfg0.N) (p : Fin 512) (q : Fin 2048) (P : Fin 8192) (Q : Fin 2048)
    (hP : P.val = t.val % 16 * 512 + p.val) (hQ : Q.val = q.val) :
    View.ld (iblk m c 0 t) r0_0 (ix2 p q) = (V m c (Pipeline.arrRef spec0 0) : FVec Ideal S8192x2048 .bf16) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem rhsBlk (c : Dev nD) (t : Fin cfg0.N) (p : Fin 2048) (q : Fin 2816) (P : Fin 2048) (Q : Fin 11264)
    (hP : P.val = p.val) (hQ : Q.val = t.val / 16 * 2816 + q.val) :
    View.ld (iblk m c 1 t) r0_1 (ix2 p q) = (V m c (Pipeline.arrRef spec0 1) : FVec Ideal S2048x11264 .bf16) (ix2 P Q) := by
  unfold iblk
  generalize V m c (Pipeline.arrRef spec0 1) = W
  have a0 : (r0_1.idx (ix2 p q) 0).val = p.val := (Rect.idx_unit_val _ _ _ _ _).trans (Nat.zero_add _)
  have a1 : (r0_1.idx (ix2 p q) 1).val = q.val := (Rect.idx_unit_val _ _ _ _ _).trans (Nat.zero_add _)
  have e0 : (((cfg0.win 1).blk t).view.emb (r0_1.idx (ix2 p q)) 0).val = P.val := by blk_simp [idx t] <;> omega
  have e1 : (((cfg0.win 1).blk t).view.emb (r0_1.idx (ix2 p q)) 1).val = Q.val := by blk_simp [idx t] <;> omega
  refine congrArg W (funext fun a => Fin.ext ?_)
  match a with
  | ⟨0, _⟩ => exact e0
  | ⟨1, _⟩ => exact e1

/-- The sum of a block at an element is the product there. -/
theorem sum_at (c : Dev nD) (t : Fin cfg0.N) (x : Vec Ideal S512x2048 .bf16) (hx : x = View.ld (iblk m c 0 t) r0_0)
    (w : Vec Ideal S2048x2816 .bf16) (hw : w = View.ld (iblk m c 1 t) r0_1) (p : Fin 512) (q : Fin 2816) (P : Fin 8192) (Q : Fin 11264)
    (hP : P.val = t.val % 16 * 512 + p.val) (hQ : Q.val = t.val / 16 * 2816 + q.val) :
    ∑ k : Fin 2048, x (ix2 p k) * w (ix2 k q) = prod (V m c main_v0) (V m c main_v7) (ix2 P Q) := by
  rw [prod_at, hx, hw]
  exact Finset.sum_congr rfl fun k _ => congrArg₂ (fun x y : EReal => x * y) (lhsBlk m c t p k _ _ hP rfl) (rhsBlk m c t k q _ _ rfl hQ)

/-- One element of the block of products a grid point writes. -/
theorem point2 (c : Dev nD) (t : Fin cfg0.N) (y) :
    out0_2 (iblk m c 0 t) (iblk m c 1 t) y = prod (V m c main_v0) (V m c main_v7) (((cfg0.win 2).blk t).view.emb y) := by
  have ht : t.val < 64 := lt_of_lt_of_eq t.isLt N_0
  unfold out0_2
  canon_tiles x h
  idx_vars x
  rw [pay2_at]
  have e0 : (((cfg0.win 2).blk t).view.emb y 0).val = t.val % 16 * 512 + x0.val := by blk_simp [idx t] <;> omega
  have e1 : (((cfg0.win 2).blk t).view.emb y 1).val = t.val / 16 * 2816 + x1.val := by blk_simp [idx t] <;> omega
  exact sum_at m c t _ rfl _ rfl x0 x1 _ _ e0 e1

/-- One element of the block of gated values a grid point writes. -/
theorem point3 (c : Dev nD) (t : Fin cfg0.N) (y) :
    out0_3 (iblk m c 0 t) (iblk m c 1 t) y = act (V m c main_v0) (V m c main_v7) (((cfg0.win 3).blk t).view.emb y) := by
  have ht : t.val < 64 := lt_of_lt_of_eq t.isLt N_0
  unfold out0_3
  canon_tiles x h
  idx_vars x
  have e0 : (((cfg0.win 3).blk t).view.emb y 0).val = t.val % 16 * 512 + x0.val := by blk_simp [idx t] <;> omega
  have e1 : (((cfg0.win 3).blk t).view.emb y 1).val = t.val / 16 * 1408 + x1.val := by blk_simp [idx t] <;> omega
  generalize ((cfg0.win 3).blk t).view.emb y = z at e0 e1
  rw [pay3_at _ _ x0 x1 ⟨x1.val, by omega⟩ ⟨x1.val + 1408, by omega⟩ rfl rfl,
    act_at _ _ z ⟨t.val % 16 * 512 + x0.val, by omega⟩ ⟨t.val / 16 * 2816 + x1.val, by omega⟩
      ⟨t.val / 16 * 2816 + x1.val + 1408, by omega⟩ e0 (by dsimp only; omega) rfl,
    sum_at m c t _ rfl _ rfl x0 ⟨x1.val, by omega⟩ ⟨t.val % 16 * 512 + x0.val, by omega⟩ ⟨t.val / 16 * 2816 + x1.val, by omega⟩ rfl rfl,
    sum_at m c t _ rfl _ rfl x0 ⟨x1.val + 1408, by omega⟩ ⟨t.val % 16 * 512 + x0.val, by omega⟩ ⟨t.val / 16 * 2816 + x1.val + 1408, by omega⟩
      rfl (by dsimp only; omega)]

/-- The whole array of products. -/
theorem final2 (c : Dev nD) : (dats m 0 c).arrAt 2 (cfgs 0).N = prod (V m c main_v0) (V m c main_v7) := by
  refine (dats m 0 c).arrAt_eq_of_covers 2 _ (by decide +kernel) fun t _ y => ?_
  blk_simp
  rw [after0_2]
  exact point2 m c t y

/-- The whole array of gated values. -/
theorem final3 (c : Dev nD) : (dats m 0 c).arrAt 3 (cfgs 0).N = act (V m c main_v0) (V m c main_v7) := by
  refine (dats m 0 c).arrAt_eq_of_covers 3 _ (by decide +kernel) fun t _ y => ?_
  blk_simp
  rw [after0_3]
  exact point3 m c t y

end Cert.Kernel19Ideal.Grad
end
-- ==== Proof.GuClaim.lean ====
/-
  The reference's gated up projection, element by element, and the equation of the two programs.
-/
module

public import proofs.«01_k».proof.Proof.GuValue
public import proofs.«01_k».proof.Proof.Gen.Reference19Ideal.Run
public import proofs.«01_k».proof.Proof.Gen.Reference19Ideal.Read

@[expose] public section

set_option maxRecDepth 16384

noncomputable section

namespace Cert.Reference19Ideal.Grad

open Cert.Reference19Ideal Cert.Reference19Ideal.Gen Cert.Reference19Ideal.Read
open Idealize.ShloMosaic Idealize.ShloMosaic.TcCoe Idealize.SL.Sem

variable (h : FVec Ideal S8192x2048 .f32) (wg wu : FVec Ideal S2048x5632 .f32)

/-- The gate's argument at an element. -/
theorem gate_at (r : Fin 8192) (n : Fin 5632) :
    val_main_v0 (F := Ideal) h wg (ix2 r n) = ∑ k : Fin 2048, h (ix2 r k) * wg (ix2 k n) := by
  rw [val_main_v0_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The value at an element. -/
theorem value_at (r : Fin 8192) (n : Fin 5632) :
    val_main_v1 (F := Ideal) h wu (ix2 r n) = ∑ k : Fin 2048, h (ix2 r k) * wu (ix2 k n) := by
  rw [val_main_v1_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- The reference's first result: the two products, in alternate groups of 1408 columns. -/
theorem pair_at (r : Fin 8192) (n : Fin 11264) (k : Fin 5632) (hk : k.val = n.val / 2816 * 1408 + n.val % 1408) :
    val_main_v8 (F := Ideal) h wg wu (ix2 r n) = if n.val / 1408 % 2 < 1 then val_main_v0 (F := Ideal) h wg (ix2 r k)
      else val_main_v1 (F := Ideal) h wu (ix2 r k) := by
  have hb : n.val / 2816 * 1408 + n.val % 1408 < 5632 := by omega
  rw [show k = ⟨_, hb⟩ from Fin.ext hk]
  unfold val_main_v8 val_main_v7 val_main_v6 val_main_v5 val_main_v4 val_main_v3 val_main_v2
  generalize val_main_v0 (F := Ideal) h wg = a
  generalize val_main_v1 (F := Ideal) h wu = b
  pointwise
  rfl

/-- The reference's logistic function. -/
theorem sig_at (i : S8192x5632.Idx) : val_main_call0_v5 (F := Ideal) h wg i = Gate.sig (val_main_v0 (F := Ideal) h wg i) := by
  unfold val_main_call0_v5 val_main_call0_v4 val_main_call0_cst_0 val_main_call0_v3 val_main_call0_v2 val_main_call0_cst
    val_main_call0_v1 val_main_call0_v0
  generalize val_main_v0 (F := Ideal) h wg = x
  pointwise [Ideal.ofBits_one_f32, Gate.sig]

/-- The reference's second result: the gated values. -/
theorem act_at (i : S8192x5632.Idx) : val_main_v11 (F := Ideal) h wg wu i
    = val_main_v0 (F := Ideal) h wg i * Gate.sig (val_main_v0 (F := Ideal) h wg i) * val_main_v1 (F := Ideal) h wu i := by
  rw [← sig_at]
  rfl

end Cert.Reference19Ideal.Grad

namespace Cert.Kernel19Ideal.Grad

open Cert.Kernel19Ideal Cert.Kernel19Ideal.Gen
open Idealize.ShloMosaic Idealize.ShloMosaic.TcCoe Idealize.SL.Sem

variable (m : (ℓ : Loc nD τ sig) → Buf (Elt Ideal) ℓ)

/-- The interleaved weights the call reads. -/
theorem w_at (c : Dev nD) (r : Fin 2048) (n : Fin 11264) (k : Fin 5632) (hk : k.val = n.val / 2816 * 1408 + n.val % 1408) :
    (V m c main_v7 : FVec Ideal S2048x11264 .bf16) (ix2 r n) = if n.val / 1408 % 2 < 1
      then (m ((c.tc : Thread nD τ).loc main_arg1) : FVec Ideal S2048x5632 .f32) (ix2 r k)
      else (m ((c.tc : Thread nD τ).loc main_arg2) : FVec Ideal S2048x5632 .f32) (ix2 r k) := by
  have hb : n.val / 2816 * 1408 + n.val % 1408 < 5632 := by omega
  rw [show k = ⟨_, hb⟩ from Fin.ext hk]
  entry_read
  pointwise
  rfl

theorem h_at (c : Dev nD) (i) : (V m c main_v0 : FVec Ideal S8192x2048 .bf16) i
    = (m ((c.tc : Thread nD τ).loc main_arg0) : FVec Ideal S8192x2048 .f32) i := by
  entry_read
  rfl

/-- A gate's column of the product is the reference's gate argument. -/
theorem gate_eq (c : Dev nD) (r : Fin 8192) (n : Fin 11264) (k : Fin 5632) (hk : k.val = n.val / 2816 * 1408 + n.val % 1408)
    (h : n.val / 1408 % 2 < 1) : prod (V m c main_v0) (V m c main_v7) (ix2 r n)
      = Cert.Reference19Ideal.Read.val_main_v0 (F := Ideal) (m ((c.tc : Thread nD τ).loc main_arg0))
        (m ((c.tc : Thread nD τ).loc main_arg1)) (ix2 r k) := by
  refine (prod_at _ _ r n).trans (Eq.trans ?_ (Cert.Reference19Ideal.Grad.gate_at _ _ r k).symm)
  exact Finset.sum_congr rfl fun l _ => congrArg₂ (fun x y : EReal => x * y) (h_at m c (ix2 r l))
    ((w_at m c l n k hk).trans (if_pos h))

/-- A value's column of the product is the reference's value. -/
theorem value_eq (c : Dev nD) (r : Fin 8192) (n : Fin 11264) (k : Fin 5632) (hk : k.val = n.val / 2816 * 1408 + n.val % 1408)
    (h : ¬ n.val / 1408 % 2 < 1) : prod (V m c main_v0) (V m c main_v7) (ix2 r n)
      = Cert.Reference19Ideal.Read.val_main_v1 (F := Ideal) (m ((c.tc : Thread nD τ).loc main_arg0))
        (m ((c.tc : Thread nD τ).loc main_arg2)) (ix2 r k) := by
  refine (prod_at _ _ r n).trans (Eq.trans ?_ (Cert.Reference19Ideal.Grad.value_at _ _ r k).symm)
  exact Finset.sum_congr rfl fun l _ => congrArg₂ (fun x y : EReal => x * y) (h_at m c (ix2 r l))
    ((w_at m c l n k hk).trans (if_neg h))

/-- The array of products is the reference's first result of the same arguments. -/
theorem pair_eq (c : Dev nD) :
    prod (V m c main_v0) (V m c main_v7)
      = Cert.Reference19Ideal.Read.val_main_v8 (F := Ideal) (m ((c.tc : Thread nD τ).loc main_arg0))
        (m ((c.tc : Thread nD τ).loc main_arg1)) (m ((c.tc : Thread nD τ).loc main_arg2)) := by
  funext j
  obtain ⟨r, n, rfl⟩ : ∃ r n, j = ix2 r n := ⟨j 0, j 1, by idx_vars j⟩
  obtain ⟨k, hk⟩ : ∃ k : Fin 5632, k.val = n.val / 2816 * 1408 + n.val % 1408 := ⟨⟨_, by omega⟩, rfl⟩
  refine Eq.trans ?_ (Cert.Reference19Ideal.Grad.pair_at _ _ _ r n k hk).symm
  by_cases h : n.val / 1408 % 2 < 1
  · rw [if_pos h]
    exact gate_eq m c r n k hk h
  · rw [if_neg h]
    exact value_eq m c r n k hk h

/-- The array of gated values is the reference's second result of the same arguments. -/
theorem act_eq (c : Dev nD) :
    act (V m c main_v0) (V m c main_v7)
      = Cert.Reference19Ideal.Read.val_main_v11 (F := Ideal) (m ((c.tc : Thread nD τ).loc main_arg0))
        (m ((c.tc : Thread nD τ).loc main_arg1)) (m ((c.tc : Thread nD τ).loc main_arg2)) := by
  funext j
  obtain ⟨r, n, rfl⟩ : ∃ r n, j = ix2 r n := ⟨j 0, j 1, by idx_vars j⟩
  obtain ⟨k, hk⟩ : ∃ k : Fin 11264, k.val = n.val / 1408 * 2816 + n.val % 1408 := ⟨⟨_, by omega⟩, rfl⟩
  refine (act_at _ _ (ix2 r n) r k ⟨k.val + 1408, by omega⟩ rfl hk rfl).trans
    (Eq.trans ?_ (Cert.Reference19Ideal.Grad.act_at _ _ _ (ix2 r n)).symm)
  rw [gate_eq m c r k n (by omega) (by omega), value_eq m c r ⟨k.val + 1408, by omega⟩ n (by dsimp only; omega) (by dsimp only; omega)]

end Cert.Kernel19Ideal.Grad

namespace Cert.Proof

open Idealize.ShloMosaic Idealize.SL.Sem

/-- The gated up projection's call and the reference compute the same two arrays. -/
theorem gu_equal : Cert.algebraic_Kernel19Ideal_Reference19Ideal (hKernel19Ideal := Cert.Kernel19Ideal.Gen.facts)
    (hReference19Ideal := Cert.Reference19Ideal.Gen.facts) := by
  pair_intro
  · run_from Cert.Kernel19Ideal.Gen.run_main m g
    all_goals rfl
  · run_from Cert.Reference19Ideal.Value.run m' g'
    all_goals obtain ⟨h0, h1, h2⟩ := hagree c
    · rw [Cert.Kernel19Ideal.Grad.final2 m c, Cert.Kernel19Ideal.Grad.pair_eq m c, ← h0, ← h1, ← h2]
      exact Cert.Reference19Ideal.Read.val_main_v8_eq (F := Ideal) _ _ _
    · rw [Cert.Kernel19Ideal.Grad.final3 m c, Cert.Kernel19Ideal.Grad.act_eq m c, ← h0, ← h1, ← h2]
      exact Cert.Reference19Ideal.Read.val_main_v11_eq (F := Ideal) _ _ _

end Cert.Proof
end
-- ==== Proof.MergeValue.lean ====
/-
  What the backward call of the two gated branches' sum writes: the branches' gradients and the gates', the latter into
  columns 4096 to 8191 of the projections' gradient.
-/
module

public import proofs.«01_k».proof.Defs
public import proofs.«01_k».proof.Proof.GateMath
public import proofs.«01_k».proof.Proof.Words
public import proofs.«01_k».proof.Proof.Gen.Kernel20Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel20Ideal.Grad

open Cert.Kernel20Ideal Cert.Kernel20Ideal.Gen
open Idealize.ShloMosaic Idealize.ShloMosaic.TcCoe Idealize.SL.Sem
open Idealize.ShloMosaic.Pipeline (Dat)

/-! ## One block -/

theorem pay2_at (v : Vec Ideal S256x2048 .f32) (i) : k0_pay2 v i = Gate.sig (v i) := by
  pointwise [k0_pay2]
  rw [Words.half]
  exact Gate.half_tanh (v i)

theorem pay3_at (v : Vec Ideal S256x2048 .f32) (i) : k0_pay3 v i = Gate.sig (v i) := by
  pointwise [k0_pay3]
  rw [Words.half]
  exact Gate.half_tanh (v i)

/-- The gradient of a branch. -/
def branch (d g : EReal) : EReal := d * Gate.sig g

/-- The gradient of a branch's gate. -/
def gate (d y g : EReal) : EReal := d * y * (Gate.sig g * (1 - Gate.sig g))

theorem pay4_at (d g : Vec Ideal S256x2048 .f32) (i) : k0_pay4 d g i = branch (d i) (g i) := by
  unfold branch
  rw [← pay2_at]
  rfl

theorem pay5_at (d g : Vec Ideal S256x2048 .f32) (i) : k0_pay5 d g i = branch (d i) (g i) := by
  unfold branch
  rw [← pay3_at]
  rfl

theorem pay6_at (d g y : Vec Ideal S256x2048 .f32) (i) : k0_pay6 d g y i = gate (d i) (y i) (g i) := by
  unfold gate
  rw [← pay2_at]
  pointwise [k0_pay6, Ideal.ofBits_one_f32]

theorem pay1_at (d g y : Vec Ideal S256x2048 .f32) (i) : k0_pay1 (k0_pay3 g) (k0_pay7 d y) i = gate (d i) (y i) (g i) := by
  unfold gate
  rw [← pay3_at]
  pointwise [k0_pay1, k0_pay7, Ideal.ofBits_one_f32]

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![t.val, 0] ∧ win0_6.index t = ![t.val, 0]
    ∧ win0_7.index t = ![t.val, 1] :=
  (by decide +kernel : ∀ t : Fin grid0.N, _)

variable (m : (ℓ : Loc nD τ sig) → Buf (Elt Ideal) ℓ)

theorem out5_at (c : Dev nD) (t : Fin cfg0.N) (i) : (outsAt0 m c t).1 i = branch (iblk m c 0 t i) (X0_3 m c t i) := by
  unfold outsAt0
  frame_out
  rw [pay4_at]

theorem out6_at (c : Dev nD) (t : Fin cfg0.N) (i) : (outsAt0 m c t).2.1 i = branch (iblk m c 0 t i) (X0_4 m c t i) := by
  unfold outsAt0
  frame_out
  rw [pay5_at]

theorem out7_lo (c : Dev nD) (t : Fin cfg0.N) (z : S256x4096.Idx) (k : Fin 2048) (hz : (z 1).val = k.val) :
    (outsAt0 m c t).2.2 z = gate (iblk m c 0 t (ix2 (z 0) k)) (iblk m c 1 t (ix2 (z 0) k)) (X0_3 m c t (ix2 (z 0) k)) := by
  unfold outsAt0
  frame_out
  canon_tiles x hx
  case piece0 => omega
  case piece1 =>
    rw [pay6_at]
    obtain rfl : x = ix2 (z 0) k := by
      funext a
      match a with
      | ⟨0, _⟩ => exact Fin.ext (show (x 0).val = (z 0).val by omega)
      | ⟨1, _⟩ => exact Fin.ext (show (x 1).val = k.val by omega)
    rfl

theorem out7_hi (c : Dev nD) (t : Fin cfg0.N) (z : S256x4096.Idx) (k : Fin 2048) (hz : (z 1).val = 2048 + k.val) :
    (outsAt0 m c t).2.2 z = gate (iblk m c 0 t (ix2 (z 0) k)) (iblk m c 2 t (ix2 (z 0) k)) (X0_4 m c t (ix2 (z 0) k)) := by
  unfold outsAt0
  frame_out
  canon_tiles x hx
  case piece0 =>
    rw [pay1_at]
    obtain rfl : x = ix2 (z 0) k := by
      funext a
      match a with
      | ⟨0, _⟩ => exact Fin.ext (show (x 0).val = (z 0).val by omega)
      | ⟨1, _⟩ => exact Fin.ext (show (x 1).val = k.val by omega)
    rfl
  case piece1 =>
    have h : (x 1).val < 2048 := (x 1).isLt
    omega

/-! ## The blocks the call reads -/

theorem blk0 (c : Dev nD) (t : Fin cfg0.N) (p : Fin 256) (q : Fin 2048) (P : Fin 8192) (Q : Fin 2048)
    (hP : P.val = t.val * 256 + p.val) (hQ : Q.val = q.val) :
    iblk m c 0 t (ix2 p q) = (m ((c.tc : Thread nD τ).loc main_arg3) : FVec Ideal S8192x2048 .f32) (ix2 P Q) := by
  rw [← V_main_arg3 m c]
  blk_point [iblk, idx t]

theorem blk1 (c : Dev nD) (t : Fin cfg0.N) (p : Fin 256) (q : Fin 2048) (P : Fin 8192) (Q : Fin 2048)
    (hP : P.val = t.val * 256 + p.val) (hQ : Q.val = q.val) :
    iblk m c 1 t (ix2 p q) = (m ((c.tc : Thread nD τ).loc main_arg0) : FVec Ideal S8192x2048 .f32) (ix2 P Q) := by
  rw [← V_main_arg0 m c]
  blk_point [iblk, idx t]

theorem blk2 (c : Dev nD) (t : Fin cfg0.N) (p : Fin 256) (q : Fin 2048) (P : Fin 8192) (Q : Fin 2048)
    (hP : P.val = t.val * 256 + p.val) (hQ : Q.val = q.val) :
    iblk m c 2 t (ix2 p q) = (m ((c.tc : Thread nD τ).loc main_arg1) : FVec Ideal S8192x2048 .f32) (ix2 P Q) := by
  rw [← V_main_arg1 m c]
  blk_point [iblk, idx t]

theorem blk3 (c : Dev nD) (t : Fin cfg0.N) (p : Fin 256) (q : Fin 2048) (P : Fin 8192) (Q : Fin 17024)
    (hP : P.val = t.val * 256 + p.val) (hQ : Q.val = 4096 + q.val) :
    X0_3 m c t (ix2 p q) = (m ((c.tc : Thread nD τ).loc main_arg2) : FVec Ideal S8192x17024 .f32) (ix2 P Q) := by
  unfold X0_3 Pipeline.Window.fill
  rw [dif_pos (moved0_3 t _)]
  unfold iblk
  rw [View.read_apply]
  show (V m c main_arg2 : FVec Ideal S8192x17024 .f32) _ = _
  rw [show (V m c main_arg2 : FVec Ideal S8192x17024 .f32) = (m ((c.tc : Thread nD τ).loc main_arg2) : FVec Ideal S8192x17024 .f32) from V_main_arg2 m c]
  generalize (m ((c.tc : Thread nD τ).loc main_arg2) : FVec Ideal S8192x17024 .f32) = W
  refine congrArg W (funext fun a => Fin.ext ?_)
  match a with
  | ⟨0, _⟩ => show _ = P.val; blk_simp [idx t]; show t.val * 256 + p.val = P.val; omega
  | ⟨1, _⟩ => show _ = Q.val; blk_simp [idx t]; show 2 * 2048 + q.val = Q.val; omega

theorem blk4 (c : Dev nD) (t : Fin cfg0.N) (p : Fin 256) (q : Fin 2048) (P : Fin 8192) (Q : Fin 17024)
    (hP : P.val = t.val * 256 + p.val) (hQ : Q.val = 6144 + q.val) :
    X0_4 m c t (ix2 p q) = (m ((c.tc : Thread nD τ).loc main_arg2) : FVec Ideal S8192x17024 .f32) (ix2 P Q) := by
  unfold X0_4 Pipeline.Window.fill
  rw [dif_pos (moved0_4 t _)]
  unfold iblk
  rw [View.read_apply]
  show (V m c main_arg2 : FVec Ideal S8192x17024 .f32) _ = _
  rw [show (V m c main_arg2 : FVec Ideal S8192x17024 .f32) = (m ((c.tc : Thread nD τ).loc main_arg2) : FVec Ideal S8192x17024 .f32) from V_main_arg2 m c]
  generalize (m ((c.tc : Thread nD τ).loc main_arg2) : FVec Ideal S8192x17024 .f32) = W
  refine congrArg W (funext fun a => Fin.ext ?_)
  match a with
  | ⟨0, _⟩ => show _ = P.val; blk_simp [idx t]; show t.val * 256 + p.val = P.val; omega
  | ⟨1, _⟩ => show _ = Q.val; blk_simp [idx t]; show 3 * 2048 + q.val = Q.val; omega

/-! ## The whole arrays -/

/-- The gradient of the first branch, whose gate's argument is in columns 4096 to 6143 of the projections, -/
def branchS (d : FVec Ideal S8192x2048 .f32) (p : FVec Ideal S8192x17024 .f32) : FVec Ideal S8192x2048 .bf16 := fun i =>
  branch (d (ix2 (i 0) (i 1))) (p (ix2 (i 0) ⟨4096 + (i 1).val, by have : (i 1).val < 2048 := (i 1).isLt; omega⟩))

/-- and of the second, whose gate's is in columns 6144 to 8191. -/
def branchA (d : FVec Ideal S8192x2048 .f32) (p : FVec Ideal S8192x17024 .f32) : FVec Ideal S8192x2048 .bf16 := fun i =>
  branch (d (ix2 (i 0) (i 1))) (p (ix2 (i 0) ⟨6144 + (i 1).val, by have : (i 1).val < 2048 := (i 1).isLt; omega⟩))

/-- The projections' gradient with the two gates' in their columns, the others as they were. -/
def gates (d s a : FVec Ideal S8192x2048 .f32) (p : FVec Ideal S8192x17024 .f32) (W : FVec Ideal S8192x17024 .bf16) :
    FVec Ideal S8192x17024 .bf16 := fun i =>
  if h : 4096 ≤ (i 1).val ∧ (i 1).val < 6144 then
    gate (d (ix2 (i 0) ⟨(i 1).val - 4096, by omega⟩)) (s (ix2 (i 0) ⟨(i 1).val - 4096, by omega⟩)) (p (ix2 (i 0) (i 1)))
  else if h : 6144 ≤ (i 1).val ∧ (i 1).val < 8192 then
    gate (d (ix2 (i 0) ⟨(i 1).val - 6144, by omega⟩)) (a (ix2 (i 0) ⟨(i 1).val - 6144, by omega⟩)) (p (ix2 (i 0) (i 1)))
  else W i

theorem gates_s (d s a : FVec Ideal S8192x2048 .f32) (p : FVec Ideal S8192x17024 .f32) (W : FVec Ideal S8192x17024 .bf16)
    (i : S8192x17024.Idx) (k : Fin 2048) (hk : (i 1).val = 4096 + k.val) :
    gates d s a p W i = gate (d (ix2 (i 0) k)) (s (ix2 (i 0) k)) (p (ix2 (i 0) (i 1))) := by
  have hb : (i 1).val - 4096 < 2048 := by omega
  rw [show k = ⟨(i 1).val - 4096, hb⟩ from Fin.ext (by dsimp only; omega)]
  unfold gates
  exact dif_pos (by omega)

theorem gates_a (d s a : FVec Ideal S8192x2048 .f32) (p : FVec Ideal S8192x17024 .f32) (W : FVec Ideal S8192x17024 .bf16)
    (i : S8192x17024.Idx) (k : Fin 2048) (hk : (i 1).val = 6144 + k.val) :
    gates d s a p W i = gate (d (ix2 (i 0) k)) (a (ix2 (i 0) k)) (p (ix2 (i 0) (i 1))) := by
  have hb : (i 1).val - 6144 < 2048 := by omega
  rw [show k = ⟨(i 1).val - 6144, hb⟩ from Fin.ext (by dsimp only; omega)]
  unfold gates
  exact (dif_neg (by omega)).trans (dif_pos (by omega))

theorem gates_else (d s a : FVec Ideal S8192x2048 .f32) (p : FVec Ideal S8192x17024 .f32) (W : FVec Ideal S8192x17024 .bf16)
    (i : S8192x17024.Idx) (h : ¬(4096 ≤ (i 1).val ∧ (i 1).val < 8192)) : gates d s a p W i = W i := by
  unfold gates
  exact (dif_neg (by omega)).trans (dif_neg (by omega))

/-- One element of a gate's gradient. -/
theorem gate_congr {d d' y y' g g' : EReal} (hd : d = d') (hy : y = y') (hg : g = g') : gate d y g = gate d' y' g' := by
  rw [hd, hy, hg]

theorem final5 (c : Dev nD) : (dats m 0 c).arrAt 5 (cfgs 0).N
    = branchS (m ((c.tc : Thread nD τ).loc main_arg3)) (m ((c.tc : Thread nD τ).loc main_arg2)) := by
  refine (dats m 0 c).arrAt_eq_of_covers 5 _ (by decide +kernel) fun t _ y => ?_
  blk_simp
  obtain ⟨p, q, rfl⟩ : ∃ p q, y = ix2 p q := ⟨y 0, y 1, by idx_vars y⟩
  rw [after0_5, out5_at]
  have ht : t.val < 32 := lt_of_lt_of_eq t.isLt N_0
  have e0 : (((cfg0.win 5).blk t).view.emb (ix2 p q) 0).val = t.val * 256 + p.val := by blk_simp [idx t] <;> omega
  have e1 : (((cfg0.win 5).blk t).view.emb (ix2 p q) 1).val = q.val := by blk_simp [idx t] <;> omega
  unfold branchS
  exact congrArg₂ branch (blk0 m c t p q _ _ e0 e1) (blk3 m c t p q _ _ e0 (congrArg (4096 + ·) e1))

theorem final6 (c : Dev nD) : (dats m 0 c).arrAt 6 (cfgs 0).N
    = branchA (m ((c.tc : Thread nD τ).loc main_arg3)) (m ((c.tc : Thread nD τ).loc main_arg2)) := by
  refine (dats m 0 c).arrAt_eq_of_covers 6 _ (by decide +kernel) fun t _ y => ?_
  blk_simp
  obtain ⟨p, q, rfl⟩ : ∃ p q, y = ix2 p q := ⟨y 0, y 1, by idx_vars y⟩
  rw [after0_6, out6_at]
  have ht : t.val < 32 := lt_of_lt_of_eq t.isLt N_0
  have e0 : (((cfg0.win 6).blk t).view.emb (ix2 p q) 0).val = t.val * 256 + p.val := by blk_simp [idx t] <;> omega
  have e1 : (((cfg0.win 6).blk t).view.emb (ix2 p q) 1).val = q.val := by blk_simp [idx t] <;> omega
  unfold branchA
  exact congrArg₂ branch (blk0 m c t p q _ _ e0 e1) (blk4 m c t p q _ _ e0 (congrArg (6144 + ·) e1))

theorem final7 (c : Dev nD) : (dats m 0 c).arrAt 7 (cfgs 0).N
    = gates (m ((c.tc : Thread nD τ).loc main_arg3)) (m ((c.tc : Thread nD τ).loc main_arg0)) (m ((c.tc : Thread nD τ).loc main_arg1))
      (m ((c.tc : Thread nD τ).loc main_arg2)) (m ((c.tc : Thread nD τ).loc main_arg4)) := by
  refine ((dats m 0 c).arrAt_eq_of_coversWhere 7 (gates (m ((c.tc : Thread nD τ).loc main_arg3))
      (m ((c.tc : Thread nD τ).loc main_arg0)) (m ((c.tc : Thread nD τ).loc main_arg1))
      (m ((c.tc : Thread nD τ).loc main_arg2)) (m ((c.tc : Thread nD τ).loc main_arg4)))
    (P := fun i : S8192x17024.Idx => 4096 ≤ (i 1).val ∧ (i 1).val < 8192)
    (fun β => β (1 : Fin 2) = 1) (by decide +kernel) (fun t hf y => ?_) (fun j => by blk_simp [Pipeline.Window.cell_apply]; omega)).trans ?_
  · have ht : t.val < 32 := lt_of_lt_of_eq t.isLt N_0
    rw [after0_7]
    have h0 : (y 0).val < 256 := ((cfg0.win 7).xinj (cfg0.grid.coords t) y 0).isLt
    have h1 : (y 1).val < 4096 := ((cfg0.win 7).xinj (cfg0.grid.coords t) y 1).isLt
    have e0 : (((cfg0.win 7).blk t).view.emb y 0).val = t.val * 256 + (y 0).val :=
      (Pipeline.Window.rect_emb_val win0_7 t y 0 rfl).trans (congrArg (· * 256 + (y 0).val) (congrFun (idx t).2.2.2.2.2.2.2 0))
    have e1 : (((cfg0.win 7).blk t).view.emb y 1).val = 1 * 4096 + (y 1).val :=
      (Pipeline.Window.rect_emb_val win0_7 t y 1 rfl).trans (congrArg (· * 4096 + (y 1).val) (congrFun (idx t).2.2.2.2.2.2.2 1))
    by_cases h : (y 1).val < 2048
    · refine (out7_lo m c t ((cfg0.win 7).xinj (cfg0.grid.coords t) y) ⟨(y 1).val, h⟩ rfl).trans ?_
      refine Eq.trans ?_ (gates_s _ _ _ _ _ _ ⟨(y 1).val, h⟩ (by dsimp only; omega)).symm
      exact gate_congr (blk0 m c t _ _ _ _ e0 rfl) (blk1 m c t _ _ _ _ e0 rfl) (blk3 m c t _ _ _ _ e0 (by dsimp only; omega))
    · have e2 : (((cfg0.win 7).blk t).view.emb y 1).val = 6144 + ((y 1).val - 2048) := e1.trans (by omega)
      refine (out7_hi m c t ((cfg0.win 7).xinj (cfg0.grid.coords t) y) ⟨(y 1).val - 2048, by omega⟩
        (show (y 1).val = 2048 + ((y 1).val - 2048) by omega)).trans ?_
      refine Eq.trans ?_ (gates_a _ _ _ _ _ _ ⟨(y 1).val - 2048, by omega⟩ e2).symm
      exact gate_congr (blk0 m c t _ _ _ _ e0 rfl) (blk2 m c t _ _ _ _ e0 rfl) (blk4 m c t _ _ _ _ e0 e2)
  · funext i
    by_cases h : 4096 ≤ (i 1).val ∧ (i 1).val < 8192
    · exact if_pos h
    · refine (if_neg h).trans ?_
      rw [gates_else _ _ _ _ _ i h, A_eq]
      show V m c main_v0_2 i = _
      entry_read
      rfl

end Cert.Kernel20Ideal.Grad
end
-- ==== Proof.MergeClaim.lean ====
/-
  The reference's gradient of the two gated branches' sum, element by element, and the equation of the two programs.
-/
module

public import proofs.«01_k».proof.Proof.MergeValue
public import proofs.«01_k».proof.Proof.Gen.Reference20Ideal.Run
public import proofs.«01_k».proof.Proof.Gen.Reference20Ideal.Read

@[expose] public section

set_option maxRecDepth 16384

noncomputable section

namespace Cert.Reference20Ideal.Grad

open Cert.Reference20Ideal Cert.Reference20Ideal.Gen Cert.Reference20Ideal.Read
open Cert.Kernel20Ideal.Grad (branch gate branchS branchA gates gates_s gates_a gates_else)
open Idealize.ShloMosaic Idealize.ShloMosaic.TcCoe Idealize.SL.Sem

variable (s a : FVec Ideal S8192x2048 .f32) (p : FVec Ideal S8192x17024 .f32) (d : FVec Ideal S8192x2048 .f32)
  (W : FVec Ideal S8192x17024 .bf16)

/-- The first gate's argument is in columns 4096 to 6143, -/
theorem sigS_at (r : Fin 8192) (k : Fin 2048) : val_main_v7 (F := Ideal) p (ix2 r k) = Gate.sig (p (ix2 r ⟨4096 + k.val, by omega⟩)) := by
  pointwise [val_main_v7, val_main_v6, val_main_v5, val_main_v4, val_main_v3, val_main_v2, val_main_v0, val_main_cst,
    val_main_cst_0, Ideal.ofBits_one_f32, Gate.sig]

/-- the second's in columns 6144 to 8191. -/
theorem sigA_at (r : Fin 8192) (k : Fin 2048) : val_main_v17 (F := Ideal) p (ix2 r k) = Gate.sig (p (ix2 r ⟨6144 + k.val, by omega⟩)) := by
  pointwise [val_main_v17, val_main_v16, val_main_v15, val_main_v14, val_main_v13, val_main_v12, val_main_v1, val_main_cst_2,
    val_main_cst_3, Ideal.ofBits_one_f32, Gate.sig]

theorem ctS_at (i : S8192x2048.Idx) : val_main_v23 (F := Ideal) d i = d i := by
  pointwise [val_main_v23]

theorem ctA_at (i : S8192x2048.Idx) : val_main_v24 (F := Ideal) d i = d i := by
  pointwise [val_main_v24]

theorem branchS_eq : branchS d p = val_main_v35 (F := Ideal) p d := by
  funext i
  obtain ⟨r, k, rfl⟩ : ∃ r k, i = ix2 r k := ⟨i 0, i 1, by idx_vars i⟩
  refine Eq.trans (mul_comm _ _) ?_
  refine (congrArg₂ (fun x y : EReal => x * y) (sigS_at p r k) (ctS_at d (ix2 r k))).symm.trans ?_
  rfl

theorem branchA_eq : branchA d p = val_main_v36 (F := Ideal) p d := by
  funext i
  obtain ⟨r, k, rfl⟩ : ∃ r k, i = ix2 r k := ⟨i 0, i 1, by idx_vars i⟩
  refine Eq.trans (mul_comm _ _) ?_
  refine (congrArg₂ (fun x y : EReal => x * y) (sigA_at p r k) (ctA_at d (ix2 r k))).symm.trans ?_
  rfl

theorem gateS_at (r : Fin 8192) (k : Fin 2048) : val_main_v30 (F := Ideal) s p d (ix2 r k)
    = gate (d (ix2 r k)) (s (ix2 r k)) (p (ix2 r ⟨4096 + k.val, by omega⟩)) := by
  unfold gate
  rw [← sigS_at, ← ctS_at d (ix2 r k)]
  pointwise [val_main_v30, val_main_v29, val_main_v10, val_main_v9, val_main_v8, val_main_cst_1, Ideal.ofBits_one_f32]

theorem gateA_at (r : Fin 8192) (k : Fin 2048) : val_main_v27 (F := Ideal) a p d (ix2 r k)
    = gate (d (ix2 r k)) (a (ix2 r k)) (p (ix2 r ⟨6144 + k.val, by omega⟩)) := by
  unfold gate
  rw [← sigA_at, ← ctA_at d (ix2 r k)]
  pointwise [val_main_v27, val_main_v26, val_main_v20, val_main_v19, val_main_v18, val_main_cst_4, Ideal.ofBits_one_f32]

theorem gates_eq : gates d s a p W = val_main_v37 (F := Ideal) s a p d W := by
  funext i
  obtain ⟨r, n, rfl⟩ : ∃ r n, i = ix2 r n := ⟨i 0, i 1, by idx_vars i⟩
  have hS := gateS_at s p d r
  have hA := gateA_at a p d r
  unfold val_main_v37 val_main_v34 val_main_v33 val_main_v32 val_main_v31
  generalize val_main_v30 (F := Ideal) s p d = S at *
  generalize val_main_v27 (F := Ideal) a p d = A at *
  pointwise
  by_cases h1 : n.val < 4096
  · refine Eq.trans ?_ (dif_pos h1).symm
    exact gates_else d s a p W (ix2 r n) (fun h => absurd h.1 (by show ¬(4096 ≤ n.val); omega))
  · refine Eq.trans ?_ (dif_neg h1).symm
    by_cases h2 : n.val - 4096 < 2048
    · refine Eq.trans ?_ (dif_pos h2).symm
      refine (gates_s d s a p W (ix2 r n) ⟨n.val - 4096, h2⟩ (show n.val = 4096 + (n.val - 4096) by omega)).trans ?_
      refine Eq.trans ?_ (hS ⟨n.val - 4096, h2⟩).symm
      exact Cert.Kernel20Ideal.Grad.gate_congr rfl rfl (congrArg p (congrArg (ix2 r) (Fin.ext (show n.val = 4096 + (n.val - 4096) by omega))))
    · refine Eq.trans ?_ (dif_neg h2).symm
      by_cases h3 : n.val - 4096 - 2048 < 2048
      · refine Eq.trans ?_ (dif_pos h3).symm
        refine (gates_a d s a p W (ix2 r n) ⟨n.val - 4096 - 2048, h3⟩
          (show n.val = 6144 + (n.val - 4096 - 2048) by omega)).trans ?_
        refine Eq.trans ?_ (hA ⟨n.val - 4096 - 2048, h3⟩).symm
        exact Cert.Kernel20Ideal.Grad.gate_congr rfl rfl
          (congrArg p (congrArg (ix2 r) (Fin.ext (show n.val = 6144 + (n.val - 4096 - 2048) by omega))))
      · refine Eq.trans ?_ (dif_neg h3).symm
        refine (gates_else d s a p W (ix2 r n) (fun h => absurd h.2 (by show ¬(n.val < 8192); omega))).trans ?_
        exact congrArg W (congrArg (ix2 r) (Fin.ext (show n.val = 8192 + (n.val - 4096 - 2048 - 2048) by omega)))

end Cert.Reference20Ideal.Grad

namespace Cert.Proof

open Idealize.ShloMosaic Idealize.SL.Sem

/-- The gated sum's backward call and the reference compute the same three arrays. -/
theorem merge_equal : Cert.algebraic_Kernel20Ideal_Reference20Ideal (hKernel20Ideal := Cert.Kernel20Ideal.Gen.facts)
    (hReference20Ideal := Cert.Reference20Ideal.Gen.facts) := by
  pair_intro
  · run_from Cert.Kernel20Ideal.Gen.run_main m g
    all_goals rfl
  · run_from Cert.Reference20Ideal.Value.run m' g'
    all_goals obtain ⟨h0, h1, h2, h3, h4⟩ := hagree c
    · rw [Cert.Kernel20Ideal.Grad.final5 m c, Cert.Reference20Ideal.Grad.branchS_eq, ← h2, ← h3]
      exact Cert.Reference20Ideal.Read.val_main_v35_eq (F := Ideal) _ _
    · rw [Cert.Kernel20Ideal.Grad.final6 m c, Cert.Reference20Ideal.Grad.branchA_eq, ← h2, ← h3]
      exact Cert.Reference20Ideal.Read.val_main_v36_eq (F := Ideal) _ _
    · rw [Cert.Kernel20Ideal.Grad.final7 m c, Cert.Reference20Ideal.Grad.gates_eq, ← h0, ← h1, ← h2, ← h3, ← h4]
      exact Cert.Reference20Ideal.Read.val_main_v37_eq (F := Ideal) _ _ _ _ _

end Cert.Proof
end
-- ==== Proof.Adam.lean ====
/-
  The AdamW update of one element: the new first and second moments and the change of the weight.
-/
module

public import Idealize.ShloMosaic.Lib.Pipeline.ValueKit

@[expose] public section

noncomputable section

namespace Cert.Adam

open Idealize.ShloMosaic

/-- The new first moment, of the gradient and the old one. -/
def mom (g m : EReal) : EReal := Ideal.ofBits .f32 0x3F666666#32 * m + Ideal.ofBits .f32 0x3DCCCCCD#32 * g

/-- The new second moment, of the gradient and the old one. -/
def var (g v : EReal) : EReal := Ideal.ofBits .f32 0x3F7FBE77#32 * v + Ideal.ofBits .f32 0x3A83126F#32 * (g * g)

/-- The change of the weight: the corrected first moment over the root of the corrected second one, plus the decay. -/
def delta (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

theorem mom_congr {g g' m m' : EReal} (hg : g = g') (hm : m = m') : mom g m = mom g' m' := by rw [hg, hm]

theorem var_congr {g g' v v' : EReal} (hg : g = g') (hv : v = v') : var g v = var g' v' := by rw [hg, hv]

theorem delta_congr {w w' g g' m m' v v' : EReal} (hw : w = w') (hg : g = g') (hm : m = m') (hv : v = v') :
    delta w g m v = delta w' g' m' v' := by rw [hw, hg, hm, hv]

end Cert.Adam
end
-- ==== Proof.AdamGateClaim.lean ====
/-
  The AdamW call on a gate projection's shard: the four arrays it writes, the reference's, and their equation.
-/
module

public import proofs.«01_k».proof.Defs
public import proofs.«01_k».proof.Proof.Adam
public import proofs.«01_k».proof.Proof.Gen.Kernel21Ideal.Frame
public import proofs.«01_k».proof.Proof.Gen.Reference21Ideal.Run
public import proofs.«01_k».proof.Proof.Gen.Reference21Ideal.Read
public import Idealize.ShloMosaic.Lib.Pipeline.ValueKit
public import Idealize.ShloMosaic.Lib.Claim

@[expose] public section

set_option maxRecDepth 16384

noncomputable section

namespace Cert.Kernel21Ideal.Grad

open Cert.Kernel21Ideal Cert.Kernel21Ideal.Gen
open Idealize.ShloMosaic Idealize.ShloMosaic.TcCoe Idealize.SL.Sem
open Idealize.ShloMosaic.Pipeline (Dat)

theorem mom_at (g a : Vec Ideal S256x1408 .f32) (i : S256x1408.Idx) : k0_pay1 g a i = Adam.mom (g i) (a i) := rfl

theorem var_at (g b : Vec Ideal S256x1408 .f32) (i : S256x1408.Idx) : k0_pay2 g b i = Adam.var (g i) (b i) := rfl

theorem delta_at (g a b w : Vec Ideal S256x1408 .f32) (i : S256x1408.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S2048x2816 .f32) : FVec Ideal S2048x1408 .f32 :=
  fun i => g (ix2 (i 0) ⟨0 + (i 1).val, by have h : (i 1).val < 1408 := (i 1).isLt; omega⟩)

/-- The new first moments. -/
def momOf (g : FVec Ideal S2048x2816 .f32) (a : FVec Ideal S2048x1408 .f32) : FVec Ideal S2048x1408 .f32 := fun i => Adam.mom (gradOf g i) (a (ix2 (i 0) (i 1)))

/-- The new second moments. -/
def varOf (g : FVec Ideal S2048x2816 .f32) (b : FVec Ideal S2048x1408 .f32) : FVec Ideal S2048x1408 .f32 := fun i => Adam.var (gradOf g i) (b (ix2 (i 0) (i 1)))

/-- The changes of the weights. -/
def deltaOf (w : FVec Ideal S2048x1408 .f32) (g : FVec Ideal S2048x2816 .f32) (a b : FVec Ideal S2048x1408 .f32) : FVec Ideal S2048x1408 .f32 :=
  fun i => Adam.delta (w (ix2 (i 0) (i 1))) (gradOf g i) (a (ix2 (i 0) (i 1))) (b (ix2 (i 0) (i 1)))

theorem blk0 (c : Dev nD) (t : Fin cfg0.N) (p : Fin 256) (q : Fin 1408) (P : Fin 2048) (Q : Fin 1408)
    (hP : P.val = t.val * 256 + p.val) (hQ : Q.val = q.val) :
    View.ld (iblk m c 0 t) r0_0 (ix2 p q) = (V m c (Pipeline.arrRef spec0 0) : FVec Ideal S2048x1408 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 256) (q : Fin 1408) (P : Fin 2048) (Q : Fin 2816)
    (hP : P.val = t.val * 256 + p.val) (hQ : Q.val = q.val) :
    View.ld (iblk m c 1 t) r0_0 (ix2 p q) = (V m c (Pipeline.arrRef spec0 1) : FVec Ideal S2048x2816 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 256) (q : Fin 1408) (P : Fin 2048) (Q : Fin 1408)
    (hP : P.val = t.val * 256 + p.val) (hQ : Q.val = q.val) :
    View.ld (iblk m c 2 t) r0_0 (ix2 p q) = (V m c (Pipeline.arrRef spec0 2) : FVec Ideal S2048x1408 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 256) (q : Fin 1408) (P : Fin 2048) (Q : Fin 1408)
    (hP : P.val = t.val * 256 + p.val) (hQ : Q.val = q.val) :
    View.ld (iblk m c 3 t) r0_0 (ix2 p q) = (V m c (Pipeline.arrRef spec0 3) : FVec Ideal S2048x1408 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 8 := lt_of_lt_of_eq t.isLt N_0
  unfold out0_4
  canon_tiles x h
  idx_vars x
  have e0 : (((cfg0.win 4).blk t).view.emb y 0).val = t.val * 256 + x0.val := by blk_simp [idx t] <;> omega
  have e1 : (((cfg0.win 4).blk t).view.emb y 1).val = x1.val := by blk_simp [idx t] <;> omega
  exact blk1 m c t x0 x1 _ _ e0 ((Nat.zero_add _).trans e1)

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 8 := lt_of_lt_of_eq t.isLt N_0
  unfold out0_5
  canon_tiles x h
  idx_vars x
  rw [delta_at]
  have e0 : (((cfg0.win 5).blk t).view.emb y 0).val = t.val * 256 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 ((Nat.zero_add _).trans e1)) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 8 := lt_of_lt_of_eq t.isLt N_0
  unfold out0_6
  canon_tiles x h
  idx_vars x
  rw [mom_at]
  have e0 : (((cfg0.win 6).blk t).view.emb y 0).val = t.val * 256 + x0.val := by blk_simp [idx t] <;> omega
  have e1 : (((cfg0.win 6).blk t).view.emb y 1).val = x1.val := by blk_simp [idx t] <;> omega
  exact Adam.mom_congr (blk1 m c t x0 x1 _ _ e0 ((Nat.zero_add _).trans e1)) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 8 := lt_of_lt_of_eq t.isLt N_0
  unfold out0_7
  canon_tiles x h
  idx_vars x
  rw [var_at]
  have e0 : (((cfg0.win 7).blk t).view.emb y 0).val = t.val * 256 + x0.val := by blk_simp [idx t] <;> omega
  have e1 : (((cfg0.win 7).blk t).view.emb y 1).val = x1.val := by blk_simp [idx t] <;> omega
  exact Adam.var_congr (blk1 m c t x0 x1 _ _ e0 ((Nat.zero_add _).trans e1)) (blk3 m c t x0 x1 _ _ e0 e1)

end Cert.Kernel21Ideal.Grad

namespace Cert.Reference21Ideal.Grad

open Cert.Reference21Ideal Cert.Reference21Ideal.Gen Cert.Reference21Ideal.Read
open Idealize.ShloMosaic Idealize.ShloMosaic.TcCoe Idealize.SL.Sem

variable (w : FVec Ideal S2048x1408 .f32) (g : FVec Ideal S2048x2816 .f32) (a b : FVec Ideal S2048x1408 .f32)

/-- The reference's gradient is the columns of its shard. -/
theorem grad_eq : Cert.Kernel21Ideal.Grad.gradOf g = val_main_v0 (F := Ideal) g := by
  funext i
  rw [val_main_v0_apply]
  refine congrArg g (funext fun d => Fin.ext ?_)
  match d with
  | ⟨0, _⟩ => rfl
  | ⟨1, _⟩ => exact Nat.zero_add _

theorem grad_at (i : S2048x1408.Idx) : Cert.Kernel21Ideal.Grad.gradOf g i = val_main_v0 (F := Ideal) g i := congrFun (grad_eq g) i

theorem mom_eq : Cert.Kernel21Ideal.Grad.momOf g a = val_main_v5 (F := Ideal) g a := by
  funext i
  unfold Cert.Kernel21Ideal.Grad.momOf
  rw [grad_at]
  idx_vars i
  rfl

theorem var_eq : Cert.Kernel21Ideal.Grad.varOf g b = val_main_v11 (F := Ideal) g b := by
  funext i
  unfold Cert.Kernel21Ideal.Grad.varOf
  rw [grad_at]
  idx_vars i
  rfl

theorem delta_eq : Cert.Kernel21Ideal.Grad.deltaOf w g a b = val_main_v24 (F := Ideal) w g a b := by
  funext i
  unfold Cert.Kernel21Ideal.Grad.deltaOf
  rw [grad_at]
  idx_vars i
  rfl

end Cert.Reference21Ideal.Grad

namespace Cert.Proof

open Idealize.ShloMosaic Idealize.SL.Sem

/-- The AdamW call on a gate projection's shard and the reference compute the same four arrays. -/
theorem adamGate_equal : Cert.algebraic_Kernel21Ideal_Reference21Ideal (hKernel21Ideal := Cert.Kernel21Ideal.Gen.facts)
    (hReference21Ideal := Cert.Reference21Ideal.Gen.facts) := by
  pair_intro
  · run_from Cert.Kernel21Ideal.Gen.run_main m g
    all_goals rfl
  · run_from Cert.Reference21Ideal.Value.run m' g'
    all_goals obtain ⟨h0, h1, h2, h3⟩ := hagree c
    · rw [Cert.Kernel21Ideal.Grad.grad_final m c, Cert.Reference21Ideal.Grad.grad_eq, Cert.Kernel21Ideal.Gen.V_main_arg1, ← h1]
      exact Cert.Reference21Ideal.Read.val_main_v0_eq (F := Ideal) _
    · rw [Cert.Kernel21Ideal.Grad.delta_final m c, Cert.Reference21Ideal.Grad.delta_eq, Cert.Kernel21Ideal.Gen.V_main_arg0, Cert.Kernel21Ideal.Gen.V_main_arg1, Cert.Kernel21Ideal.Gen.V_main_arg2,
        Cert.Kernel21Ideal.Gen.V_main_arg3, ← h0, ← h1, ← h2, ← h3]
      exact Cert.Reference21Ideal.Read.val_main_v24_eq (F := Ideal) _ _ _ _
    · rw [Cert.Kernel21Ideal.Grad.mom_final m c, Cert.Reference21Ideal.Grad.mom_eq, Cert.Kernel21Ideal.Gen.V_main_arg1, Cert.Kernel21Ideal.Gen.V_main_arg2, ← h1, ← h2]
      exact Cert.Reference21Ideal.Read.val_main_v5_eq (F := Ideal) _ _
    · rw [Cert.Kernel21Ideal.Grad.var_final m c, Cert.Reference21Ideal.Grad.var_eq, Cert.Kernel21Ideal.Gen.V_main_arg1, Cert.Kernel21Ideal.Gen.V_main_arg3, ← h1, ← h3]
      exact Cert.Reference21Ideal.Read.val_main_v11_eq (F := Ideal) _ _

end Cert.Proof
end
-- ==== Proof.AdamUpClaim.lean ====
/-
  The AdamW call on an up projection's shard: the four arrays it writes, the reference's, and their equation.
-/
module

public import proofs.«01_k».proof.Defs
public import proofs.«01_k».proof.Proof.Adam
public import proofs.«01_k».proof.Proof.Gen.Kernel22Ideal.Frame
public import proofs.«01_k».proof.Proof.Gen.Reference22Ideal.Run
public import proofs.«01_k».proof.Proof.Gen.Reference22Ideal.Read
public import Idealize.ShloMosaic.Lib.Pipeline.ValueKit
public import Idealize.ShloMosaic.Lib.Claim

@[expose] public section

set_option maxRecDepth 16384

noncomputable section

namespace Cert.Kernel22Ideal.Grad

open Cert.Kernel22Ideal Cert.Kernel22Ideal.Gen
open Idealize.ShloMosaic Idealize.ShloMosaic.TcCoe Idealize.SL.Sem
open Idealize.ShloMosaic.Pipeline (Dat)

theorem mom_at (g a : Vec Ideal S256x1408 .f32) (i : S256x1408.Idx) : k0_pay1 g a i = Adam.mom (g i) (a i) := rfl

theorem var_at (g b : Vec Ideal S256x1408 .f32) (i : S256x1408.Idx) : k0_pay2 g b i = Adam.var (g i) (b i) := rfl

theorem delta_at (g a b w : Vec Ideal S256x1408 .f32) (i : S256x1408.Idx) :
    k0_pay3 g a b w i = Adam.delta (w i) (g i) (a i) (b i) := rfl

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S2048x2816 .f32) : FVec Ideal S2048x1408 .f32 :=
  fun i => g (ix2 (i 0) ⟨1408 + (i 1).val, by have h : (i 1).val < 1408 := (i 1).isLt; omega⟩)

/-- The new first moments. -/
def momOf (g : FVec Ideal S2048x2816 .f32) (a : FVec Ideal S2048x1408 .f32) : FVec Ideal S2048x1408 .f32 := fun i => Adam.mom (gradOf g i) (a (ix2 (i 0) (i 1)))

/-- The new second moments. -/
def varOf (g : FVec Ideal S2048x2816 .f32) (b : FVec Ideal S2048x1408 .f32) : FVec Ideal S2048x1408 .f32 := fun i => Adam.var (gradOf g i) (b (ix2 (i 0) (i 1)))

/-- The changes of the weights. -/
def deltaOf (w : FVec Ideal S2048x1408 .f32) (g : FVec Ideal S2048x2816 .f32) (a b : FVec Ideal S2048x1408 .f32) : FVec Ideal S2048x1408 .f32 :=
  fun i => Adam.delta (w (ix2 (i 0) (i 1))) (gradOf g i) (a (ix2 (i 0) (i 1))) (b (ix2 (i 0) (i 1)))

theorem blk0 (c : Dev nD) (t : Fin cfg0.N) (p : Fin 256) (q : Fin 1408) (P : Fin 2048) (Q : Fin 1408)
    (hP : P.val = t.val * 256 + p.val) (hQ : Q.val = q.val) :
    View.ld (iblk m c 0 t) r0_0 (ix2 p q) = (V m c (Pipeline.arrRef spec0 0) : FVec Ideal S2048x1408 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 256) (q : Fin 1408) (P : Fin 2048) (Q : Fin 2816)
    (hP : P.val = t.val * 256 + p.val) (hQ : Q.val = 1408 + q.val) :
    View.ld (iblk m c 1 t) r0_0 (ix2 p q) = (V m c (Pipeline.arrRef spec0 1) : FVec Ideal S2048x2816 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 256) (q : Fin 1408) (P : Fin 2048) (Q : Fin 1408)
    (hP : P.val = t.val * 256 + p.val) (hQ : Q.val = q.val) :
    View.ld (iblk m c 2 t) r0_0 (ix2 p q) = (V m c (Pipeline.arrRef spec0 2) : FVec Ideal S2048x1408 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 256) (q : Fin 1408) (P : Fin 2048) (Q : Fin 1408)
    (hP : P.val = t.val * 256 + p.val) (hQ : Q.val = q.val) :
    View.ld (iblk m c 3 t) r0_0 (ix2 p q) = (V m c (Pipeline.arrRef spec0 3) : FVec Ideal S2048x1408 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 8 := lt_of_lt_of_eq t.isLt N_0
  unfold out0_4
  canon_tiles x h
  idx_vars x
  have e0 : (((cfg0.win 4).blk t).view.emb y 0).val = t.val * 256 + x0.val := by blk_simp [idx t] <;> omega
  have e1 : (((cfg0.win 4).blk t).view.emb y 1).val = x1.val := by blk_simp [idx t] <;> omega
  exact blk1 m c t x0 x1 _ _ e0 (congrArg (1408 + ·) e1)

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 8 := lt_of_lt_of_eq t.isLt N_0
  unfold out0_5
  canon_tiles x h
  idx_vars x
  rw [delta_at]
  have e0 : (((cfg0.win 5).blk t).view.emb y 0).val = t.val * 256 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 (congrArg (1408 + ·) e1)) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 8 := lt_of_lt_of_eq t.isLt N_0
  unfold out0_6
  canon_tiles x h
  idx_vars x
  rw [mom_at]
  have e0 : (((cfg0.win 6).blk t).view.emb y 0).val = t.val * 256 + x0.val := by blk_simp [idx t] <;> omega
  have e1 : (((cfg0.win 6).blk t).view.emb y 1).val = x1.val := by blk_simp [idx t] <;> omega
  exact Adam.mom_congr (blk1 m c t x0 x1 _ _ e0 (congrArg (1408 + ·) e1)) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 8 := lt_of_lt_of_eq t.isLt N_0
  unfold out0_7
  canon_tiles x h
  idx_vars x
  rw [var_at]
  have e0 : (((cfg0.win 7).blk t).view.emb y 0).val = t.val * 256 + x0.val := by blk_simp [idx t] <;> omega
  have e1 : (((cfg0.win 7).blk t).view.emb y 1).val = x1.val := by blk_simp [idx t] <;> omega
  exact Adam.var_congr (blk1 m c t x0 x1 _ _ e0 (congrArg (1408 + ·) e1)) (blk3 m c t x0 x1 _ _ e0 e1)

end Cert.Kernel22Ideal.Grad

namespace Cert.Reference22Ideal.Grad

open Cert.Reference22Ideal Cert.Reference22Ideal.Gen Cert.Reference22Ideal.Read
open Idealize.ShloMosaic Idealize.ShloMosaic.TcCoe Idealize.SL.Sem

variable (w : FVec Ideal S2048x1408 .f32) (g : FVec Ideal S2048x2816 .f32) (a b : FVec Ideal S2048x1408 .f32)

/-- The reference's gradient is the columns of its shard. -/
theorem grad_eq : Cert.Kernel22Ideal.Grad.gradOf g = val_main_v0 (F := Ideal) g := by
  funext i
  rw [val_main_v0_apply]
  refine congrArg g (funext fun d => Fin.ext ?_)
  match d with
  | ⟨0, _⟩ => rfl
  | ⟨1, _⟩ => rfl

theorem grad_at (i : S2048x1408.Idx) : Cert.Kernel22Ideal.Grad.gradOf g i = val_main_v0 (F := Ideal) g i := congrFun (grad_eq g) i

theorem mom_eq : Cert.Kernel22Ideal.Grad.momOf g a = val_main_v5 (F := Ideal) g a := by
  funext i
  unfold Cert.Kernel22Ideal.Grad.momOf
  rw [grad_at]
  idx_vars i
  rfl

theorem var_eq : Cert.Kernel22Ideal.Grad.varOf g b = val_main_v11 (F := Ideal) g b := by
  funext i
  unfold Cert.Kernel22Ideal.Grad.varOf
  rw [grad_at]
  idx_vars i
  rfl

theorem delta_eq : Cert.Kernel22Ideal.Grad.deltaOf w g a b = val_main_v24 (F := Ideal) w g a b := by
  funext i
  unfold Cert.Kernel22Ideal.Grad.deltaOf
  rw [grad_at]
  idx_vars i
  rfl

end Cert.Reference22Ideal.Grad

namespace Cert.Proof

open Idealize.ShloMosaic Idealize.SL.Sem

/-- The AdamW call on an up projection's shard and the reference compute the same four arrays. -/
theorem adamUp_equal : Cert.algebraic_Kernel22Ideal_Reference22Ideal (hKernel22Ideal := Cert.Kernel22Ideal.Gen.facts)
    (hReference22Ideal := Cert.Reference22Ideal.Gen.facts) := by
  pair_intro
  · run_from Cert.Kernel22Ideal.Gen.run_main m g
    all_goals rfl
  · run_from Cert.Reference22Ideal.Value.run m' g'
    all_goals obtain ⟨h0, h1, h2, h3⟩ := hagree c
    · rw [Cert.Kernel22Ideal.Grad.grad_final m c, Cert.Reference22Ideal.Grad.grad_eq, Cert.Kernel22Ideal.Gen.V_main_arg1, ← h1]
      exact Cert.Reference22Ideal.Read.val_main_v0_eq (F := Ideal) _
    · rw [Cert.Kernel22Ideal.Grad.delta_final m c, Cert.Reference22Ideal.Grad.delta_eq, Cert.Kernel22Ideal.Gen.V_main_arg0, Cert.Kernel22Ideal.Gen.V_main_arg1, Cert.Kernel22Ideal.Gen.V_main_arg2,
        Cert.Kernel22Ideal.Gen.V_main_arg3, ← h0, ← h1, ← h2, ← h3]
      exact Cert.Reference22Ideal.Read.val_main_v24_eq (F := Ideal) _ _ _ _
    · rw [Cert.Kernel22Ideal.Grad.mom_final m c, Cert.Reference22Ideal.Grad.mom_eq, Cert.Kernel22Ideal.Gen.V_main_arg1, Cert.Kernel22Ideal.Gen.V_main_arg2, ← h1, ← h2]
      exact Cert.Reference22Ideal.Read.val_main_v5_eq (F := Ideal) _ _
    · rw [Cert.Kernel22Ideal.Grad.var_final m c, Cert.Reference22Ideal.Grad.var_eq, Cert.Kernel22Ideal.Gen.V_main_arg1, Cert.Kernel22Ideal.Gen.V_main_arg3, ← h1, ← h3]
      exact Cert.Reference22Ideal.Read.val_main_v11_eq (F := Ideal) _ _

end Cert.Proof
end
-- ==== Proof.AdamDownClaim.lean ====
/-
  The AdamW call on a down projection's shard: the four arrays it writes, the reference's, and their equation.
-/
module

public import proofs.«01_k».proof.Defs
public import proofs.«01_k».proof.Proof.Adam
public import proofs.«01_k».proof.Proof.Gen.Kernel23Ideal.Frame
public import proofs.«01_k».proof.Proof.Gen.Reference23Ideal.Run
public import proofs.«01_k».proof.Proof.Gen.Reference23Ideal.Read
public import Idealize.ShloMosaic.Lib.Pipeline.ValueKit
public import Idealize.ShloMosaic.Lib.Claim

@[expose] public section

set_option maxRecDepth 16384

noncomputable section

namespace Cert.Kernel23Ideal.Grad

open Cert.Kernel23Ideal Cert.Kernel23Ideal.Gen
open Idealize.ShloMosaic Idealize.ShloMosaic.TcCoe Idealize.SL.Sem
open Idealize.ShloMosaic.Pipeline (Dat)

theorem mom_at (g a : Vec Ideal S176x2048 .f32) (i : S176x2048.Idx) : k0_pay1 g a i = Adam.mom (g i) (a i) := rfl

theorem var_at (g b : Vec Ideal S176x2048 .f32) (i : S176x2048.Idx) : k0_pay2 g b i = Adam.var (g i) (b i) := rfl

theorem delta_at (g a b w : Vec Ideal S176x2048 .f32) (i : S176x2048.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S1408x2048 .f32) : FVec Ideal S1408x2048 .f32 :=
  fun i => g (ix2 (i 0) (i 1))

/-- The new first moments. -/
def momOf (g : FVec Ideal S1408x2048 .f32) (a : FVec Ideal S1408x2048 .f32) : FVec Ideal S1408x2048 .f32 := fun i => Adam.mom (gradOf g i) (a (ix2 (i 0) (i 1)))

/-- The new second moments. -/
def varOf (g : FVec Ideal S1408x2048 .f32) (b : FVec Ideal S1408x2048 .f32) : FVec Ideal S1408x2048 .f32 := fun i => Adam.var (gradOf g i) (b (ix2 (i 0) (i 1)))

/-- The changes of the weights. -/
def deltaOf (w : FVec Ideal S1408x2048 .f32) (g : FVec Ideal S1408x2048 .f32) (a b : FVec Ideal S1408x2048 .f32) : FVec Ideal S1408x2048 .f32 :=
  fun i => Adam.delta (w (ix2 (i 0) (i 1))) (gradOf g i) (a (ix2 (i 0) (i 1))) (b (ix2 (i 0) (i 1)))

theorem blk0 (c : Dev nD) (t : Fin cfg0.N) (p : Fin 176) (q : Fin 2048) (P : Fin 1408) (Q : Fin 2048)
    (hP : P.val = t.val * 176 + p.val) (hQ : Q.val = q.val) :
    View.ld (iblk m c 0 t) r0_0 (ix2 p q) = (V m c (Pipeline.arrRef spec0 0) : FVec Ideal S1408x2048 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 176) (q : Fin 2048) (P : Fin 1408) (Q : Fin 2048)
    (hP : P.val = t.val * 176 + p.val) (hQ : Q.val = q.val) :
    View.ld (iblk m c 1 t) r0_0 (ix2 p q) = (V m c (Pipeline.arrRef spec0 1) : FVec Ideal S1408x2048 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 176) (q : Fin 2048) (P : Fin 1408) (Q : Fin 2048)
    (hP : P.val = t.val * 176 + p.val) (hQ : Q.val = q.val) :
    View.ld (iblk m c 2 t) r0_0 (ix2 p q) = (V m c (Pipeline.arrRef spec0 2) : FVec Ideal S1408x2048 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 176) (q : Fin 2048) (P : Fin 1408) (Q : Fin 2048)
    (hP : P.val = t.val * 176 + p.val) (hQ : Q.val = q.val) :
    View.ld (iblk m c 3 t) r0_0 (ix2 p q) = (V m c (Pipeline.arrRef spec0 3) : FVec Ideal S1408x2048 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 8 := lt_of_lt_of_eq t.isLt N_0
  unfold out0_4
  canon_tiles x h
  idx_vars x
  have e0 : (((cfg0.win 4).blk t).view.emb y 0).val = t.val * 176 + x0.val := by blk_simp [idx t] <;> omega
  have e1 : (((cfg0.win 4).blk t).view.emb y 1).val = x1.val := by blk_simp [idx t] <;> omega
  exact blk1 m c t x0 x1 _ _ e0 e1

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 8 := lt_of_lt_of_eq t.isLt N_0
  unfold out0_5
  canon_tiles x h
  idx_vars x
  rw [delta_at]
  have e0 : (((cfg0.win 5).blk t).view.emb y 0).val = t.val * 176 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 e1) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 8 := lt_of_lt_of_eq t.isLt N_0
  unfold out0_6
  canon_tiles x h
  idx_vars x
  rw [mom_at]
  have e0 : (((cfg0.win 6).blk t).view.emb y 0).val = t.val * 176 + x0.val := by blk_simp [idx t] <;> omega
  have e1 : (((cfg0.win 6).blk t).view.emb y 1).val = x1.val := by blk_simp [idx t] <;> omega
  exact Adam.mom_congr (blk1 m c t x0 x1 _ _ e0 e1) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 8 := lt_of_lt_of_eq t.isLt N_0
  unfold out0_7
  canon_tiles x h
  idx_vars x
  rw [var_at]
  have e0 : (((cfg0.win 7).blk t).view.emb y 0).val = t.val * 176 + x0.val := by blk_simp [idx t] <;> omega
  have e1 : (((cfg0.win 7).blk t).view.emb y 1).val = x1.val := by blk_simp [idx t] <;> omega
  exact Adam.var_congr (blk1 m c t x0 x1 _ _ e0 e1) (blk3 m c t x0 x1 _ _ e0 e1)

end Cert.Kernel23Ideal.Grad

namespace Cert.Reference23Ideal.Grad

open Cert.Reference23Ideal Cert.Reference23Ideal.Gen Cert.Reference23Ideal.Read
open Idealize.ShloMosaic Idealize.ShloMosaic.TcCoe Idealize.SL.Sem

variable (w : FVec Ideal S1408x2048 .f32) (g : FVec Ideal S1408x2048 .f32) (a b : FVec Ideal S1408x2048 .f32)

theorem grad_eq : Cert.Kernel23Ideal.Grad.gradOf g = g := by
  funext i
  idx_vars i
  rfl

theorem grad_at (i : S1408x2048.Idx) : Cert.Kernel23Ideal.Grad.gradOf g i = g i := congrFun (grad_eq g) i

theorem mom_eq : Cert.Kernel23Ideal.Grad.momOf g a = val_main_v4 (F := Ideal) g a := by
  funext i
  unfold Cert.Kernel23Ideal.Grad.momOf
  rw [grad_at]
  idx_vars i
  rfl

theorem var_eq : Cert.Kernel23Ideal.Grad.varOf g b = val_main_v10 (F := Ideal) g b := by
  funext i
  unfold Cert.Kernel23Ideal.Grad.varOf
  rw [grad_at]
  idx_vars i
  rfl

theorem delta_eq : Cert.Kernel23Ideal.Grad.deltaOf w g a b = val_main_v23 (F := Ideal) w g a b := by
  funext i
  unfold Cert.Kernel23Ideal.Grad.deltaOf
  rw [grad_at]
  idx_vars i
  rfl

end Cert.Reference23Ideal.Grad

namespace Cert.Proof

open Idealize.ShloMosaic Idealize.SL.Sem

/-- The AdamW call on a down projection's shard and the reference compute the same four arrays. -/
theorem adamDown_equal : Cert.algebraic_Kernel23Ideal_Reference23Ideal (hKernel23Ideal := Cert.Kernel23Ideal.Gen.facts)
    (hReference23Ideal := Cert.Reference23Ideal.Gen.facts) := by
  pair_intro
  · run_from Cert.Kernel23Ideal.Gen.run_main m g
    all_goals rfl
  · run_from Cert.Reference23Ideal.Value.run m' g'
    all_goals obtain ⟨h0, h1, h2, h3⟩ := hagree c
    · rw [Cert.Kernel23Ideal.Grad.grad_final m c, Cert.Reference23Ideal.Grad.grad_eq, Cert.Kernel23Ideal.Gen.V_main_arg1, ← h1]
    · rw [Cert.Kernel23Ideal.Grad.delta_final m c, Cert.Reference23Ideal.Grad.delta_eq, Cert.Kernel23Ideal.Gen.V_main_arg0, Cert.Kernel23Ideal.Gen.V_main_arg1, Cert.Kernel23Ideal.Gen.V_main_arg2,
        Cert.Kernel23Ideal.Gen.V_main_arg3, ← h0, ← h1, ← h2, ← h3]
      exact Cert.Reference23Ideal.Read.val_main_v23_eq (F := Ideal) _ _ _ _
    · rw [Cert.Kernel23Ideal.Grad.mom_final m c, Cert.Reference23Ideal.Grad.mom_eq, Cert.Kernel23Ideal.Gen.V_main_arg1, Cert.Kernel23Ideal.Gen.V_main_arg2, ← h1, ← h2]
      exact Cert.Reference23Ideal.Read.val_main_v4_eq (F := Ideal) _ _
    · rw [Cert.Kernel23Ideal.Grad.var_final m c, Cert.Reference23Ideal.Grad.var_eq, Cert.Kernel23Ideal.Gen.V_main_arg1, Cert.Kernel23Ideal.Gen.V_main_arg3, ← h1, ← h3]
      exact Cert.Reference23Ideal.Read.val_main_v10_eq (F := Ideal) _ _

end Cert.Proof
end
-- ==== Proof.AdamInClaim.lean ====
/-
  The AdamW call on the input projection's shard: the four arrays it writes, the reference's, and their equation.
-/
module

public import proofs.«01_k».proof.Defs
public import proofs.«01_k».proof.Proof.Adam
public import proofs.«01_k».proof.Proof.Gen.Kernel24Ideal.Frame
public import proofs.«01_k».proof.Proof.Gen.Reference24Ideal.Run
public import proofs.«01_k».proof.Proof.Gen.Reference24Ideal.Read
public import Idealize.ShloMosaic.Lib.Pipeline.ValueKit
public import Idealize.ShloMosaic.Lib.Claim

@[expose] public section

set_option maxRecDepth 16384

noncomputable section

namespace Cert.Kernel24Ideal.Grad

open Cert.Kernel24Ideal Cert.Kernel24Ideal.Gen
open Idealize.ShloMosaic Idealize.ShloMosaic.TcCoe Idealize.SL.Sem
open Idealize.ShloMosaic.Pipeline (Dat)

theorem mom_at (g a : Vec Ideal S64x4240 .f32) (i : S64x4240.Idx) : k0_pay1 g a i = Adam.mom (g i) (a i) := rfl

theorem var_at (g b : Vec Ideal S64x4240 .f32) (i : S64x4240.Idx) : k0_pay2 g b i = Adam.var (g i) (b i) := rfl

theorem delta_at (g a b w : Vec Ideal S64x4240 .f32) (i : S64x4240.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S2048x4240 .f32) : FVec Ideal S2048x4240 .f32 :=
  fun i => g (ix2 (i 0) (i 1))

/-- The new first moments. -/
def momOf (g : FVec Ideal S2048x4240 .f32) (a : FVec Ideal S2048x4240 .f32) : FVec Ideal S2048x4240 .f32 := fun i => Adam.mom (gradOf g i) (a (ix2 (i 0) (i 1)))

/-- The new second moments. -/
def varOf (g : FVec Ideal S2048x4240 .f32) (b : FVec Ideal S2048x4240 .f32) : FVec Ideal S2048x4240 .f32 := fun i => Adam.var (gradOf g i) (b (ix2 (i 0) (i 1)))

/-- The changes of the weights. -/
def deltaOf (w : FVec Ideal S2048x4240 .f32) (g : FVec Ideal S2048x4240 .f32) (a b : FVec Ideal S2048x4240 .f32) : FVec Ideal S2048x4240 .f32 :=
  fun i => Adam.delta (w (ix2 (i 0) (i 1))) (gradOf g i) (a (ix2 (i 0) (i 1))) (b (ix2 (i 0) (i 1)))

theorem blk0 (c : Dev nD) (t : Fin cfg0.N) (p : Fin 64) (q : Fin 4240) (P : Fin 2048) (Q : Fin 4240)
    (hP : P.val = t.val * 64 + p.val) (hQ : Q.val = q.val) :
    View.ld (iblk m c 0 t) r0_0 (ix2 p q) = (V m c (Pipeline.arrRef spec0 0) : FVec Ideal S2048x4240 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 64) (q : Fin 4240) (P : Fin 2048) (Q : Fin 4240)
    (hP : P.val = t.val * 64 + p.val) (hQ : Q.val = q.val) :
    View.ld (iblk m c 1 t) r0_0 (ix2 p q) = (V m c (Pipeline.arrRef spec0 1) : FVec Ideal S2048x4240 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 64) (q : Fin 4240) (P : Fin 2048) (Q : Fin 4240)
    (hP : P.val = t.val * 64 + p.val) (hQ : Q.val = q.val) :
    View.ld (iblk m c 2 t) r0_0 (ix2 p q) = (V m c (Pipeline.arrRef spec0 2) : FVec Ideal S2048x4240 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 64) (q : Fin 4240) (P : Fin 2048) (Q : Fin 4240)
    (hP : P.val = t.val * 64 + p.val) (hQ : Q.val = q.val) :
    View.ld (iblk m c 3 t) r0_0 (ix2 p q) = (V m c (Pipeline.arrRef spec0 3) : FVec Ideal S2048x4240 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 32 := lt_of_lt_of_eq t.isLt N_0
  unfold out0_4
  canon_tiles x h
  idx_vars x
  have e0 : (((cfg0.win 4).blk t).view.emb y 0).val = t.val * 64 + x0.val := by blk_simp [idx t] <;> omega
  have e1 : (((cfg0.win 4).blk t).view.emb y 1).val = x1.val := by blk_simp [idx t] <;> omega
  exact blk1 m c t x0 x1 _ _ e0 e1

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 32 := lt_of_lt_of_eq t.isLt N_0
  unfold out0_5
  canon_tiles x h
  idx_vars x
  rw [delta_at]
  have e0 : (((cfg0.win 5).blk t).view.emb y 0).val = t.val * 64 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 e1) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 32 := lt_of_lt_of_eq t.isLt N_0
  unfold out0_6
  canon_tiles x h
  idx_vars x
  rw [mom_at]
  have e0 : (((cfg0.win 6).blk t).view.emb y 0).val = t.val * 64 + x0.val := by blk_simp [idx t] <;> omega
  have e1 : (((cfg0.win 6).blk t).view.emb y 1).val = x1.val := by blk_simp [idx t] <;> omega
  exact Adam.mom_congr (blk1 m c t x0 x1 _ _ e0 e1) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 32 := lt_of_lt_of_eq t.isLt N_0
  unfold out0_7
  canon_tiles x h
  idx_vars x
  rw [var_at]
  have e0 : (((cfg0.win 7).blk t).view.emb y 0).val = t.val * 64 + x0.val := by blk_simp [idx t] <;> omega
  have e1 : (((cfg0.win 7).blk t).view.emb y 1).val = x1.val := by blk_simp [idx t] <;> omega
  exact Adam.var_congr (blk1 m c t x0 x1 _ _ e0 e1) (blk3 m c t x0 x1 _ _ e0 e1)

end Cert.Kernel24Ideal.Grad

namespace Cert.Reference24Ideal.Grad

open Cert.Reference24Ideal Cert.Reference24Ideal.Gen Cert.Reference24Ideal.Read
open Idealize.ShloMosaic Idealize.ShloMosaic.TcCoe Idealize.SL.Sem

variable (w : FVec Ideal S2048x4240 .f32) (g : FVec Ideal S2048x4240 .f32) (a b : FVec Ideal S2048x4240 .f32)

theorem grad_eq : Cert.Kernel24Ideal.Grad.gradOf g = g := by
  funext i
  idx_vars i
  rfl

theorem grad_at (i : S2048x4240.Idx) : Cert.Kernel24Ideal.Grad.gradOf g i = g i := congrFun (grad_eq g) i

theorem mom_eq : Cert.Kernel24Ideal.Grad.momOf g a = val_main_v4 (F := Ideal) g a := by
  funext i
  unfold Cert.Kernel24Ideal.Grad.momOf
  rw [grad_at]
  idx_vars i
  rfl

theorem var_eq : Cert.Kernel24Ideal.Grad.varOf g b = val_main_v10 (F := Ideal) g b := by
  funext i
  unfold Cert.Kernel24Ideal.Grad.varOf
  rw [grad_at]
  idx_vars i
  rfl

theorem delta_eq : Cert.Kernel24Ideal.Grad.deltaOf w g a b = val_main_v23 (F := Ideal) w g a b := by
  funext i
  unfold Cert.Kernel24Ideal.Grad.deltaOf
  rw [grad_at]
  idx_vars i
  rfl

end Cert.Reference24Ideal.Grad

namespace Cert.Proof

open Idealize.ShloMosaic Idealize.SL.Sem

/-- The AdamW call on the input projection's shard and the reference compute the same four arrays. -/
theorem adamIn_equal : Cert.algebraic_Kernel24Ideal_Reference24Ideal (hKernel24Ideal := Cert.Kernel24Ideal.Gen.facts)
    (hReference24Ideal := Cert.Reference24Ideal.Gen.facts) := by
  pair_intro
  · run_from Cert.Kernel24Ideal.Gen.run_main m g
    all_goals rfl
  · run_from Cert.Reference24Ideal.Value.run m' g'
    all_goals obtain ⟨h0, h1, h2, h3⟩ := hagree c
    · rw [Cert.Kernel24Ideal.Grad.grad_final m c, Cert.Reference24Ideal.Grad.grad_eq, Cert.Kernel24Ideal.Gen.V_main_arg1, ← h1]
    · rw [Cert.Kernel24Ideal.Grad.delta_final m c, Cert.Reference24Ideal.Grad.delta_eq, Cert.Kernel24Ideal.Gen.V_main_arg0, Cert.Kernel24Ideal.Gen.V_main_arg1, Cert.Kernel24Ideal.Gen.V_main_arg2,
        Cert.Kernel24Ideal.Gen.V_main_arg3, ← h0, ← h1, ← h2, ← h3]
      exact Cert.Reference24Ideal.Read.val_main_v23_eq (F := Ideal) _ _ _ _
    · rw [Cert.Kernel24Ideal.Grad.mom_final m c, Cert.Reference24Ideal.Grad.mom_eq, Cert.Kernel24Ideal.Gen.V_main_arg1, Cert.Kernel24Ideal.Gen.V_main_arg2, ← h1, ← h2]
      exact Cert.Reference24Ideal.Read.val_main_v4_eq (F := Ideal) _ _
    · rw [Cert.Kernel24Ideal.Grad.var_final m c, Cert.Reference24Ideal.Grad.var_eq, Cert.Kernel24Ideal.Gen.V_main_arg1, Cert.Kernel24Ideal.Gen.V_main_arg3, ← h1, ← h3]
      exact Cert.Reference24Ideal.Read.val_main_v10_eq (F := Ideal) _ _

end Cert.Proof
end
-- ==== Proof.AdamSsdOutClaim.lean ====
/-
  The AdamW call on the recurrence's output projection's shard: the four arrays it writes, the reference's, and their equation.
-/
module

public import proofs.«01_k».proof.Defs
public import proofs.«01_k».proof.Proof.Adam
public import proofs.«01_k».proof.Proof.Gen.Kernel25Ideal.Frame
public import proofs.«01_k».proof.Proof.Gen.Reference25Ideal.Run
public import proofs.«01_k».proof.Proof.Gen.Reference25Ideal.Read
public import Idealize.ShloMosaic.Lib.Pipeline.ValueKit
public import Idealize.ShloMosaic.Lib.Claim

@[expose] public section

set_option maxRecDepth 16384

noncomputable section

namespace Cert.Kernel25Ideal.Grad

open Cert.Kernel25Ideal Cert.Kernel25Ideal.Gen
open Idealize.ShloMosaic Idealize.ShloMosaic.TcCoe Idealize.SL.Sem
open Idealize.ShloMosaic.Pipeline (Dat)

theorem mom_at (g a : Vec Ideal S256x2048 .f32) (i : S256x2048.Idx) : k0_pay1 g a i = Adam.mom (g i) (a i) := rfl

theorem var_at (g b : Vec Ideal S256x2048 .f32) (i : S256x2048.Idx) : k0_pay2 g b i = Adam.var (g i) (b i) := rfl

theorem delta_at (g a b w : Vec Ideal S256x2048 .f32) (i : S256x2048.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S1024x2048 .f32) : FVec Ideal S1024x2048 .f32 :=
  fun i => g (ix2 (i 0) (i 1))

/-- The new first moments. -/
def momOf (g : FVec Ideal S1024x2048 .f32) (a : FVec Ideal S1024x2048 .f32) : FVec Ideal S1024x2048 .f32 := fun i => Adam.mom (gradOf g i) (a (ix2 (i 0) (i 1)))

/-- The new second moments. -/
def varOf (g : FVec Ideal S1024x2048 .f32) (b : FVec Ideal S1024x2048 .f32) : FVec Ideal S1024x2048 .f32 := fun i => Adam.var (gradOf g i) (b (ix2 (i 0) (i 1)))

/-- The changes of the weights. -/
def deltaOf (w : FVec Ideal S1024x2048 .f32) (g : FVec Ideal S1024x2048 .f32) (a b : FVec Ideal S1024x2048 .f32) : FVec Ideal S1024x2048 .f32 :=
  fun i => Adam.delta (w (ix2 (i 0) (i 1))) (gradOf g i) (a (ix2 (i 0) (i 1))) (b (ix2 (i 0) (i 1)))

theorem blk0 (c : Dev nD) (t : Fin cfg0.N) (p : Fin 256) (q : Fin 2048) (P : Fin 1024) (Q : Fin 2048)
    (hP : P.val = t.val * 256 + p.val) (hQ : Q.val = q.val) :
    View.ld (iblk m c 0 t) r0_0 (ix2 p q) = (V m c (Pipeline.arrRef spec0 0) : FVec Ideal S1024x2048 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 256) (q : Fin 2048) (P : Fin 1024) (Q : Fin 2048)
    (hP : P.val = t.val * 256 + p.val) (hQ : Q.val = q.val) :
    View.ld (iblk m c 1 t) r0_0 (ix2 p q) = (V m c (Pipeline.arrRef spec0 1) : FVec Ideal S1024x2048 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 256) (q : Fin 2048) (P : Fin 1024) (Q : Fin 2048)
    (hP : P.val = t.val * 256 + p.val) (hQ : Q.val = q.val) :
    View.ld (iblk m c 2 t) r0_0 (ix2 p q) = (V m c (Pipeline.arrRef spec0 2) : FVec Ideal S1024x2048 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 256) (q : Fin 2048) (P : Fin 1024) (Q : Fin 2048)
    (hP : P.val = t.val * 256 + p.val) (hQ : Q.val = q.val) :
    View.ld (iblk m c 3 t) r0_0 (ix2 p q) = (V m c (Pipeline.arrRef spec0 3) : FVec Ideal S1024x2048 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 4 := lt_of_lt_of_eq t.isLt N_0
  unfold out0_4
  canon_tiles x h
  idx_vars x
  have e0 : (((cfg0.win 4).blk t).view.emb y 0).val = t.val * 256 + x0.val := by blk_simp [idx t] <;> omega
  have e1 : (((cfg0.win 4).blk t).view.emb y 1).val = x1.val := by blk_simp [idx t] <;> omega
  exact blk1 m c t x0 x1 _ _ e0 e1

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 4 := lt_of_lt_of_eq t.isLt N_0
  unfold out0_5
  canon_tiles x h
  idx_vars x
  rw [delta_at]
  have e0 : (((cfg0.win 5).blk t).view.emb y 0).val = t.val * 256 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 e1) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 4 := lt_of_lt_of_eq t.isLt N_0
  unfold out0_6
  canon_tiles x h
  idx_vars x
  rw [mom_at]
  have e0 : (((cfg0.win 6).blk t).view.emb y 0).val = t.val * 256 + x0.val := by blk_simp [idx t] <;> omega
  have e1 : (((cfg0.win 6).blk t).view.emb y 1).val = x1.val := by blk_simp [idx t] <;> omega
  exact Adam.mom_congr (blk1 m c t x0 x1 _ _ e0 e1) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 4 := lt_of_lt_of_eq t.isLt N_0
  unfold out0_7
  canon_tiles x h
  idx_vars x
  rw [var_at]
  have e0 : (((cfg0.win 7).blk t).view.emb y 0).val = t.val * 256 + x0.val := by blk_simp [idx t] <;> omega
  have e1 : (((cfg0.win 7).blk t).view.emb y 1).val = x1.val := by blk_simp [idx t] <;> omega
  exact Adam.var_congr (blk1 m c t x0 x1 _ _ e0 e1) (blk3 m c t x0 x1 _ _ e0 e1)

end Cert.Kernel25Ideal.Grad

namespace Cert.Reference25Ideal.Grad

open Cert.Reference25Ideal Cert.Reference25Ideal.Gen Cert.Reference25Ideal.Read
open Idealize.ShloMosaic Idealize.ShloMosaic.TcCoe Idealize.SL.Sem

variable (w : FVec Ideal S1024x2048 .f32) (g : FVec Ideal S1024x2048 .f32) (a b : FVec Ideal S1024x2048 .f32)

theorem grad_eq : Cert.Kernel25Ideal.Grad.gradOf g = g := by
  funext i
  idx_vars i
  rfl

theorem grad_at (i : S1024x2048.Idx) : Cert.Kernel25Ideal.Grad.gradOf g i = g i := congrFun (grad_eq g) i

theorem mom_eq : Cert.Kernel25Ideal.Grad.momOf g a = val_main_v4 (F := Ideal) g a := by
  funext i
  unfold Cert.Kernel25Ideal.Grad.momOf
  rw [grad_at]
  idx_vars i
  rfl

theorem var_eq : Cert.Kernel25Ideal.Grad.varOf g b = val_main_v10 (F := Ideal) g b := by
  funext i
  unfold Cert.Kernel25Ideal.Grad.varOf
  rw [grad_at]
  idx_vars i
  rfl

theorem delta_eq : Cert.Kernel25Ideal.Grad.deltaOf w g a b = val_main_v23 (F := Ideal) w g a b := by
  funext i
  unfold Cert.Kernel25Ideal.Grad.deltaOf
  rw [grad_at]
  idx_vars i
  rfl

end Cert.Reference25Ideal.Grad

namespace Cert.Proof

open Idealize.ShloMosaic Idealize.SL.Sem

/-- The AdamW call on the recurrence's output projection's shard and the reference compute the same four arrays. -/
theorem adamSsdOut_equal : Cert.algebraic_Kernel25Ideal_Reference25Ideal (hKernel25Ideal := Cert.Kernel25Ideal.Gen.facts)
    (hReference25Ideal := Cert.Reference25Ideal.Gen.facts) := by
  pair_intro
  · run_from Cert.Kernel25Ideal.Gen.run_main m g
    all_goals rfl
  · run_from Cert.Reference25Ideal.Value.run m' g'
    all_goals obtain ⟨h0, h1, h2, h3⟩ := hagree c
    · rw [Cert.Kernel25Ideal.Grad.grad_final m c, Cert.Reference25Ideal.Grad.grad_eq, Cert.Kernel25Ideal.Gen.V_main_arg1, ← h1]
    · rw [Cert.Kernel25Ideal.Grad.delta_final m c, Cert.Reference25Ideal.Grad.delta_eq, Cert.Kernel25Ideal.Gen.V_main_arg0, Cert.Kernel25Ideal.Gen.V_main_arg1, Cert.Kernel25Ideal.Gen.V_main_arg2,
        Cert.Kernel25Ideal.Gen.V_main_arg3, ← h0, ← h1, ← h2, ← h3]
      exact Cert.Reference25Ideal.Read.val_main_v23_eq (F := Ideal) _ _ _ _
    · rw [Cert.Kernel25Ideal.Grad.mom_final m c, Cert.Reference25Ideal.Grad.mom_eq, Cert.Kernel25Ideal.Gen.V_main_arg1, Cert.Kernel25Ideal.Gen.V_main_arg2, ← h1, ← h2]
      exact Cert.Reference25Ideal.Read.val_main_v4_eq (F := Ideal) _ _
    · rw [Cert.Kernel25Ideal.Grad.var_final m c, Cert.Reference25Ideal.Grad.var_eq, Cert.Kernel25Ideal.Gen.V_main_arg1, Cert.Kernel25Ideal.Gen.V_main_arg3, ← h1, ← h3]
      exact Cert.Reference25Ideal.Read.val_main_v10_eq (F := Ideal) _ _

end Cert.Proof
end
-- ==== Proof.AdamOutClaim.lean ====
/-
  The AdamW call on the attention's or the mixer's output projection's shard: the four arrays it writes, the reference's, and their equation.
-/
module

public import proofs.«01_k».proof.Defs
public import proofs.«01_k».proof.Proof.Adam
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pipeline.ValueKit
public import Idealize.ShloMosaic.Lib.Claim

@[expose] public section

set_option maxRecDepth 16384

noncomputable section

namespace Cert.Kernel26Ideal.Grad

open Cert.Kernel26Ideal Cert.Kernel26Ideal.Gen
open Idealize.ShloMosaic Idealize.ShloMosaic.TcCoe Idealize.SL.Sem
open Idealize.ShloMosaic.Pipeline (Dat)

theorem mom_at (g a : Vec Ideal S256x2048 .f32) (i : S256x2048.Idx) : k0_pay1 g a i = Adam.mom (g i) (a i) := rfl

theorem var_at (g b : Vec Ideal S256x2048 .f32) (i : S256x2048.Idx) : k0_pay2 g b i = Adam.var (g i) (b i) := rfl

theorem delta_at (g a b w : Vec Ideal S256x2048 .f32) (i : S256x2048.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S512x2048 .f32) : FVec Ideal S512x2048 .f32 :=
  fun i => g (ix2 (i 0) (i 1))

/-- The new first moments. -/
def momOf (g : FVec Ideal S512x2048 .f32) (a : FVec Ideal S512x2048 .f32) : FVec Ideal S512x2048 .f32 := fun i => Adam.mom (gradOf g i) (a (ix2 (i 0) (i 1)))

/-- The new second moments. -/
def varOf (g : FVec Ideal S512x2048 .f32) (b : FVec Ideal S512x2048 .f32) : FVec Ideal S512x2048 .f32 := fun i => Adam.var (gradOf g i) (b (ix2 (i 0) (i 1)))

/-- The changes of the weights. -/
def deltaOf (w : FVec Ideal S512x2048 .f32) (g : FVec Ideal S512x2048 .f32) (a b : FVec Ideal S512x2048 .f32) : FVec Ideal S512x2048 .f32 :=
  fun i => Adam.delta (w (ix2 (i 0) (i 1))) (gradOf g i) (a (ix2 (i 0) (i 1))) (b (ix2 (i 0) (i 1)))

theorem blk0 (c : Dev nD) (t : Fin cfg0.N) (p : Fin 256) (q : Fin 2048) (P : Fin 512) (Q : Fin 2048)
    (hP : P.val = t.val * 256 + p.val) (hQ : Q.val = q.val) :
    View.ld (iblk m c 0 t) r0_0 (ix2 p q) = (V m c (Pipeline.arrRef spec0 0) : FVec Ideal S512x2048 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 256) (q : Fin 2048) (P : Fin 512) (Q : Fin 2048)
    (hP : P.val = t.val * 256 + p.val) (hQ : Q.val = q.val) :
    View.ld (iblk m c 1 t) r0_0 (ix2 p q) = (V m c (Pipeline.arrRef spec0 1) : FVec Ideal S512x2048 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 256) (q : Fin 2048) (P : Fin 512) (Q : Fin 2048)
    (hP : P.val = t.val * 256 + p.val) (hQ : Q.val = q.val) :
    View.ld (iblk m c 2 t) r0_0 (ix2 p q) = (V m c (Pipeline.arrRef spec0 2) : FVec Ideal S512x2048 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 256) (q : Fin 2048) (P : Fin 512) (Q : Fin 2048)
    (hP : P.val = t.val * 256 + p.val) (hQ : Q.val = q.val) :
    View.ld (iblk m c 3 t) r0_0 (ix2 p q) = (V m c (Pipeline.arrRef spec0 3) : FVec Ideal S512x2048 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 2 := lt_of_lt_of_eq t.isLt N_0
  unfold out0_4
  canon_tiles x h
  idx_vars x
  have e0 : (((cfg0.win 4).blk t).view.emb y 0).val = t.val * 256 + x0.val := by blk_simp [idx t] <;> omega
  have e1 : (((cfg0.win 4).blk t).view.emb y 1).val = x1.val := by blk_simp [idx t] <;> omega
  exact blk1 m c t x0 x1 _ _ e0 e1

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 2 := lt_of_lt_of_eq t.isLt N_0
  unfold out0_5
  canon_tiles x h
  idx_vars x
  rw [delta_at]
  have e0 : (((cfg0.win 5).blk t).view.emb y 0).val = t.val * 256 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 e1) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 2 := lt_of_lt_of_eq t.isLt N_0
  unfold out0_6
  canon_tiles x h
  idx_vars x
  rw [mom_at]
  have e0 : (((cfg0.win 6).blk t).view.emb y 0).val = t.val * 256 + x0.val := by blk_simp [idx t] <;> omega
  have e1 : (((cfg0.win 6).blk t).view.emb y 1).val = x1.val := by blk_simp [idx t] <;> omega
  exact Adam.mom_congr (blk1 m c t x0 x1 _ _ e0 e1) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 2 := lt_of_lt_of_eq t.isLt N_0
  unfold out0_7
  canon_tiles x h
  idx_vars x
  rw [var_at]
  have e0 : (((cfg0.win 7).blk t).view.emb y 0).val = t.val * 256 + x0.val := by blk_simp [idx t] <;> omega
  have e1 : (((cfg0.win 7).blk t).view.emb y 1).val = x1.val := by blk_simp [idx t] <;> omega
  exact Adam.var_congr (blk1 m c t x0 x1 _ _ e0 e1) (blk3 m c t x0 x1 _ _ e0 e1)

end Cert.Kernel26Ideal.Grad

namespace Cert.Reference26Ideal.Grad

open Cert.Reference26Ideal Cert.Reference26Ideal.Gen Cert.Reference26Ideal.Read
open Idealize.ShloMosaic Idealize.ShloMosaic.TcCoe Idealize.SL.Sem

variable (w : FVec Ideal S512x2048 .f32) (g : FVec Ideal S512x2048 .f32) (a b : FVec Ideal S512x2048 .f32)

theorem grad_eq : Cert.Kernel26Ideal.Grad.gradOf g = g := by
  funext i
  idx_vars i
  rfl

theorem grad_at (i : S512x2048.Idx) : Cert.Kernel26Ideal.Grad.gradOf g i = g i := congrFun (grad_eq g) i

theorem mom_eq : Cert.Kernel26Ideal.Grad.momOf g a = val_main_v4 (F := Ideal) g a := by
  funext i
  unfold Cert.Kernel26Ideal.Grad.momOf
  rw [grad_at]
  idx_vars i
  rfl

theorem var_eq : Cert.Kernel26Ideal.Grad.varOf g b = val_main_v10 (F := Ideal) g b := by
  funext i
  unfold Cert.Kernel26Ideal.Grad.varOf
  rw [grad_at]
  idx_vars i
  rfl

theorem delta_eq : Cert.Kernel26Ideal.Grad.deltaOf w g a b = val_main_v23 (F := Ideal) w g a b := by
  funext i
  unfold Cert.Kernel26Ideal.Grad.deltaOf
  rw [grad_at]
  idx_vars i
  rfl

end Cert.Reference26Ideal.Grad

namespace Cert.Proof

open Idealize.ShloMosaic Idealize.SL.Sem

/-- The AdamW call on the attention's or the mixer's output projection's shard and the reference compute the same four arrays. -/
theorem adamOut_equal : Cert.algebraic_Kernel26Ideal_Reference26Ideal (hKernel26Ideal := Cert.Kernel26Ideal.Gen.facts)
    (hReference26Ideal := Cert.Reference26Ideal.Gen.facts) := by
  pair_intro
  · run_from Cert.Kernel26Ideal.Gen.run_main m g
    all_goals rfl
  · run_from Cert.Reference26Ideal.Value.run m' g'
    all_goals obtain ⟨h0, h1, h2, h3⟩ := hagree c
    · rw [Cert.Kernel26Ideal.Grad.grad_final m c, Cert.Reference26Ideal.Grad.grad_eq, Cert.Kernel26Ideal.Gen.V_main_arg1, ← h1]
    · rw [Cert.Kernel26Ideal.Grad.delta_final m c, Cert.Reference26Ideal.Grad.delta_eq, Cert.Kernel26Ideal.Gen.V_main_arg0, Cert.Kernel26Ideal.Gen.V_main_arg1, Cert.Kernel26Ideal.Gen.V_main_arg2,
        Cert.Kernel26Ideal.Gen.V_main_arg3, ← h0, ← h1, ← h2, ← h3]
      exact Cert.Reference26Ideal.Read.val_main_v23_eq (F := Ideal) _ _ _ _
    · rw [Cert.Kernel26Ideal.Grad.mom_final m c, Cert.Reference26Ideal.Grad.mom_eq, Cert.Kernel26Ideal.Gen.V_main_arg1, Cert.Kernel26Ideal.Gen.V_main_arg2, ← h1, ← h2]
      exact Cert.Reference26Ideal.Read.val_main_v4_eq (F := Ideal) _ _
    · rw [Cert.Kernel26Ideal.Grad.var_final m c, Cert.Reference26Ideal.Grad.var_eq, Cert.Kernel26Ideal.Gen.V_main_arg1, Cert.Kernel26Ideal.Gen.V_main_arg3, ← h1, ← h3]
      exact Cert.Reference26Ideal.Read.val_main_v10_eq (F := Ideal) _ _

end Cert.Proof
end
-- ==== Proof.AdamRowsClaim.lean ====
/-
  The AdamW call on the small weights, packed as rows: the four arrays it writes, the reference's, and their equation.
-/
module

public import proofs.«01_k».proof.Defs
public import proofs.«01_k».proof.Proof.Adam
public import proofs.«01_k».proof.Proof.Gen.Kernel27Ideal.Frame
public import proofs.«01_k».proof.Proof.Gen.Reference27Ideal.Run
public import proofs.«01_k».proof.Proof.Gen.Reference27Ideal.Read
public import Idealize.ShloMosaic.Lib.Pipeline.ValueKit
public import Idealize.ShloMosaic.Lib.Claim

@[expose] public section

set_option maxRecDepth 16384

noncomputable section

namespace Cert.Kernel27Ideal.Grad

open Cert.Kernel27Ideal Cert.Kernel27Ideal.Gen
open Idealize.ShloMosaic Idealize.ShloMosaic.TcCoe Idealize.SL.Sem
open Idealize.ShloMosaic.Pipeline (Dat)

theorem mom_at (g a : Vec Ideal S232x128 .f32) (i : S232x128.Idx) : k0_pay1 g a i = Adam.mom (g i) (a i) := rfl

theorem var_at (g b : Vec Ideal S232x128 .f32) (i : S232x128.Idx) : k0_pay2 g b i = Adam.var (g i) (b i) := rfl

theorem delta_at (g a b w : Vec Ideal S232x128 .f32) (i : S232x128.Idx) :
    k0_pay3 g a b w i = Adam.delta (w i) (g i) (a i) (b i) := rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, of the array that holds it. -/
def gradOf (g : FVec Ideal S232x128 .f32) : FVec Ideal S232x128 .f32 :=
  fun i => g (ix2 (i 0) (i 1))

/-- The new first moments. -/
def momOf (g : FVec Ideal S232x128 .f32) (a : FVec Ideal S232x128 .f32) : FVec Ideal S232x128 .f32 := fun i => Adam.mom (gradOf g i) (a (ix2 (i 0) (i 1)))

/-- The new second moments. -/
def varOf (g : FVec Ideal S232x128 .f32) (b : FVec Ideal S232x128 .f32) : FVec Ideal S232x128 .f32 := fun i => Adam.var (gradOf g i) (b (ix2 (i 0) (i 1)))

/-- The changes of the weights. -/
def deltaOf (w : FVec Ideal S232x128 .f32) (g : FVec Ideal S232x128 .f32) (a b : FVec Ideal S232x128 .f32) : FVec Ideal S232x128 .f32 :=
  fun i => Adam.delta (w (ix2 (i 0) (i 1))) (gradOf g i) (a (ix2 (i 0) (i 1))) (b (ix2 (i 0) (i 1)))

theorem blk0 (c : Dev nD) (t : Fin cfg0.N) (p : Fin 232) (q : Fin 128) (P : Fin 232) (Q : Fin 128)
    (hP : P.val = t.val * 232 + p.val) (hQ : Q.val = q.val) :
    View.ld (iblk m c 0 t) r0_0 (ix2 p q) = (V m c (Pipeline.arrRef spec0 0) : FVec Ideal S232x128 .f32) (ix2 P Q) := by
  unfold iblk
  generalize V m c (Pipeline.arrRef spec0 0) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 0).blk t).view.emb (r0_0.idx (ix2 p q)) 0).val = P.val := by blk_simp [idx t] <;> omega
  have e1 : (((cfg0.win 0).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk1 (c : Dev nD) (t : Fin cfg0.N) (p : Fin 232) (q : Fin 128) (P : Fin 232) (Q : Fin 128)
    (hP : P.val = t.val * 232 + p.val) (hQ : Q.val = q.val) :
    View.ld (iblk m c 1 t) r0_0 (ix2 p q) = (V m c (Pipeline.arrRef spec0 1) : FVec Ideal S232x128 .f32) (ix2 P Q) := by
  unfold iblk
  generalize V m c (Pipeline.arrRef spec0 1) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 1).blk t).view.emb (r0_0.idx (ix2 p q)) 0).val = P.val := by blk_simp [idx t] <;> omega
  have e1 : (((cfg0.win 1).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk2 (c : Dev nD) (t : Fin cfg0.N) (p : Fin 232) (q : Fin 128) (P : Fin 232) (Q : Fin 128)
    (hP : P.val = t.val * 232 + p.val) (hQ : Q.val = q.val) :
    View.ld (iblk m c 2 t) r0_0 (ix2 p q) = (V m c (Pipeline.arrRef spec0 2) : FVec Ideal S232x128 .f32) (ix2 P Q) := by
  unfold iblk
  generalize V m c (Pipeline.arrRef spec0 2) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 2).blk t).view.emb (r0_0.idx (ix2 p q)) 0).val = P.val := by blk_simp [idx t] <;> omega
  have e1 : (((cfg0.win 2).blk t).view.emb (r0_0.idx (ix2 p q)) 1).val = Q.val := by blk_simp [idx t] <;> omega
  refine congrArg W (funext fun a => Fin.ext ?_)
  match a with
  | ⟨0, _⟩ => exact e0
  | ⟨1, _⟩ => exact e1

theorem blk3 (c : Dev nD) (t : Fin cfg0.N) (p : Fin 232) (q : Fin 128) (P : Fin 232) (Q : Fin 128)
    (hP : P.val = t.val * 232 + p.val) (hQ : Q.val = q.val) :
    View.ld (iblk m c 3 t) r0_0 (ix2 p q) = (V m c (Pipeline.arrRef spec0 3) : FVec Ideal S232x128 .f32) (ix2 P Q) := by
  unfold iblk
  generalize V m c (Pipeline.arrRef spec0 3) = W
  have a0 : (r0_0.idx (ix2 p q) 0).val = p.val := (Rect.idx_unit_val _ _ _ _ _).trans (Nat.zero_add _)
  have a1 : (r0_0.idx (ix2 p q) 1).val = q.val := (Rect.idx_unit_val _ _ _ _ _).trans (Nat.zero_add _)
  have e0 : (((cfg0.win 3).blk t).view.emb (r0_0.idx (ix2 p q)) 0).val = P.val := by blk_simp [idx t] <;> omega
  have e1 : (((cfg0.win 3).blk t).view.emb (r0_0.idx (ix2 p q)) 1).val = Q.val := by blk_simp [idx t] <;> omega
  refine congrArg W (funext fun a => Fin.ext ?_)
  match a with
  | ⟨0, _⟩ => exact e0
  | ⟨1, _⟩ => exact e1

/-- The gradient, copied. -/
theorem grad_final (c : Dev nD) : (dats m 0 c).arrAt 4 (cfgs 0).N = gradOf (V m c main_arg1) := by
  refine (dats m 0 c).arrAt_eq_of_covers 4 _ (by decide +kernel) fun t _ y => ?_
  blk_simp
  rw [after0_4]
  have ht : t.val < 1 := lt_of_lt_of_eq t.isLt N_0
  unfold out0_4
  canon_tiles x h
  idx_vars x
  have e0 : (((cfg0.win 4).blk t).view.emb y 0).val = t.val * 232 + x0.val := by blk_simp [idx t] <;> omega
  have e1 : (((cfg0.win 4).blk t).view.emb y 1).val = x1.val := by blk_simp [idx t] <;> omega
  exact blk1 m c t x0 x1 _ _ e0 e1

/-- The changes of the weights. -/
theorem delta_final (c : Dev nD) : (dats m 0 c).arrAt 5 (cfgs 0).N = deltaOf (V m c main_arg0) (V m c main_arg1) (V m c main_arg2) (V m c main_arg3) := by
  refine (dats m 0 c).arrAt_eq_of_covers 5 _ (by decide +kernel) fun t _ y => ?_
  blk_simp
  rw [after0_5]
  have ht : t.val < 1 := lt_of_lt_of_eq t.isLt N_0
  unfold out0_5
  canon_tiles x h
  idx_vars x
  rw [delta_at]
  have e0 : (((cfg0.win 5).blk t).view.emb y 0).val = t.val * 232 + x0.val := by blk_simp [idx t] <;> omega
  have e1 : (((cfg0.win 5).blk t).view.emb y 1).val = x1.val := by blk_simp [idx t] <;> omega
  exact Adam.delta_congr (blk0 m c t x0 x1 _ _ e0 e1) (blk1 m c t x0 x1 _ _ e0 e1) (blk2 m c t x0 x1 _ _ e0 e1) (blk3 m c t x0 x1 _ _ e0 e1)

/-- The new first moments. -/
theorem mom_final (c : Dev nD) : (dats m 0 c).arrAt 6 (cfgs 0).N = momOf (V m c main_arg1) (V m c main_arg2) := by
  refine (dats m 0 c).arrAt_eq_of_covers 6 _ (by decide +kernel) fun t _ y => ?_
  blk_simp
  rw [after0_6]
  have ht : t.val < 1 := lt_of_lt_of_eq t.isLt N_0
  unfold out0_6
  canon_tiles x h
  idx_vars x
  rw [mom_at]
  have e0 : (((cfg0.win 6).blk t).view.emb y 0).val = t.val * 232 + x0.val := by blk_simp [idx t] <;> omega
  have e1 : (((cfg0.win 6).blk t).view.emb y 1).val = x1.val := by blk_simp [idx t] <;> omega
  exact Adam.mom_congr (blk1 m c t x0 x1 _ _ e0 e1) (blk2 m c t x0 x1 _ _ e0 e1)

/-- The new second moments. -/
theorem var_final (c : Dev nD) : (dats m 0 c).arrAt 7 (cfgs 0).N = varOf (V m c main_arg1) (V m c main_arg3) := by
  refine (dats m 0 c).arrAt_eq_of_covers 7 _ (by decide +kernel) fun t _ y => ?_
  blk_simp
  rw [after0_7]
  have ht : t.val < 1 := lt_of_lt_of_eq t.isLt N_0
  unfold out0_7
  canon_tiles x h
  idx_vars x
  rw [var_at]
  have e0 : (((cfg0.win 7).blk t).view.emb y 0).val = t.val * 232 + x0.val := by blk_simp [idx t] <;> omega
  have e1 : (((cfg0.win 7).blk t).view.emb y 1).val = x1.val := by blk_simp [idx t] <;> omega
  exact Adam.var_congr (blk1 m c t x0 x1 _ _ e0 e1) (blk3 m c t x0 x1 _ _ e0 e1)

end Cert.Kernel27Ideal.Grad

namespace Cert.Reference27Ideal.Grad

open Cert.Reference27Ideal Cert.Reference27Ideal.Gen Cert.Reference27Ideal.Read
open Idealize.ShloMosaic Idealize.ShloMosaic.TcCoe Idealize.SL.Sem

variable (w : FVec Ideal S232x128 .f32) (g : FVec Ideal S232x128 .f32) (a b : FVec Ideal S232x128 .f32)

theorem grad_eq : Cert.Kernel27Ideal.Grad.gradOf g = g := by
  funext i
  idx_vars i
  rfl

theorem grad_at (i : S232x128.Idx) : Cert.Kernel27Ideal.Grad.gradOf g i = g i := congrFun (grad_eq g) i

theorem mom_eq : Cert.Kernel27Ideal.Grad.momOf g a = val_main_v4 (F := Ideal) g a := by
  funext i
  unfold Cert.Kernel27Ideal.Grad.momOf
  rw [grad_at]
  idx_vars i
  rfl

theorem var_eq : Cert.Kernel27Ideal.Grad.varOf g b = val_main_v10 (F := Ideal) g b := by
  funext i
  unfold Cert.Kernel27Ideal.Grad.varOf
  rw [grad_at]
  idx_vars i
  rfl

theorem delta_eq : Cert.Kernel27Ideal.Grad.deltaOf w g a b = val_main_v23 (F := Ideal) w g a b := by
  funext i
  unfold Cert.Kernel27Ideal.Grad.deltaOf
  rw [grad_at]
  idx_vars i
  rfl

end Cert.Reference27Ideal.Grad

namespace Cert.Proof

open Idealize.ShloMosaic Idealize.SL.Sem

/-- The AdamW call on the small weights, packed as rows and the reference compute the same four arrays. -/
theorem adamRows_equal : Cert.algebraic_Kernel27Ideal_Reference27Ideal (hKernel27Ideal := Cert.Kernel27Ideal.Gen.facts)
    (hReference27Ideal := Cert.Reference27Ideal.Gen.facts) := by
  pair_intro
  · run_from Cert.Kernel27Ideal.Gen.run_main m g
    all_goals rfl
  · run_from Cert.Reference27Ideal.Value.run m' g'
    all_goals obtain ⟨h0, h1, h2, h3⟩ := hagree c
    · rw [Cert.Kernel27Ideal.Grad.grad_final m c, Cert.Reference27Ideal.Grad.grad_eq, Cert.Kernel27Ideal.Gen.V_main_arg1, ← h1]
    · rw [Cert.Kernel27Ideal.Grad.delta_final m c, Cert.Reference27Ideal.Grad.delta_eq, Cert.Kernel27Ideal.Gen.V_main_arg0, Cert.Kernel27Ideal.Gen.V_main_arg1, Cert.Kernel27Ideal.Gen.V_main_arg2,
        Cert.Kernel27Ideal.Gen.V_main_arg3, ← h0, ← h1, ← h2, ← h3]
      exact Cert.Reference27Ideal.Read.val_main_v23_eq (F := Ideal) _ _ _ _
    · rw [Cert.Kernel27Ideal.Grad.mom_final m c, Cert.Reference27Ideal.Grad.mom_eq, Cert.Kernel27Ideal.Gen.V_main_arg1, Cert.Kernel27Ideal.Gen.V_main_arg2, ← h1, ← h2]
      exact Cert.Reference27Ideal.Read.val_main_v4_eq (F := Ideal) _ _
    · rw [Cert.Kernel27Ideal.Grad.var_final m c, Cert.Reference27Ideal.Grad.var_eq, Cert.Kernel27Ideal.Gen.V_main_arg1, Cert.Kernel27Ideal.Gen.V_main_arg3, ← h1, ← h3]
      exact Cert.Reference27Ideal.Read.val_main_v10_eq (F := Ideal) _ _

end Cert.Proof
end
-- ==== Proof.Norm.lean ====
/-
  The normalisation of one row of 2048 values: its mean, the centred values, the reciprocal deviation and the normed values.
-/
module

public import Idealize.ShloMosaic.Lib.Pipeline.ValueKit

@[expose] public section

noncomputable section

namespace Cert.Norm

open Idealize.ShloMosaic

/-- The mean of a row. -/
def mean (f : Fin 2048 → EReal) : EReal := Ideal.div (∑ k : Fin 2048, f k) (Ideal.ofBits .f32 0x45000000#32)

/-- A row less its mean. -/
def cen (f : Fin 2048 → EReal) (k : Fin 2048) : EReal := f k - mean f

/-- The reciprocal of a row's deviation. -/
def rstd (f : Fin 2048 → EReal) : EReal :=
  Ideal.rsqrt (mean (fun k => cen f k * cen f k) + Ideal.ofBits .f32 0x3727C5AC#32)

/-- The normed row. -/
def nrm (f : Fin 2048 → EReal) (k : Fin 2048) : EReal := cen f k * rstd f

end Cert.Norm
end
-- ==== Proof.DownNormValue.lean ====
/-
  What the first block's down projection with its layer norm writes: the product, summed over four groups of 1408 in the
  carried accumulator, joins the residual, and each row of the sum is normed.
-/
module

public import proofs.«01_k».proof.Defs
public import proofs.«01_k».proof.Proof.Norm
public import proofs.«01_k».proof.Proof.Gen.Kernel28Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel28Ideal.Grad

open Cert.Kernel28Ideal Cert.Kernel28Ideal.Gen
open Idealize.ShloMosaic Idealize.ShloMosaic.TcCoe Idealize.SL.Sem
open Idealize.ShloMosaic.Pipeline (Dat)

/-! ## One block -/

/-- The partial product of one grid point. -/
theorem pay2_at (v0 : Vec Ideal S512x1408 .bf16) (v2 : Vec Ideal S1408x2048 .bf16) (r : Fin 512) (n : Fin 2048) :
    k0_pay2 v0 v2 (ix2 r n) = ∑ k : Fin 1408, v0 (ix2 r k) * v2 (ix2 k n) := by
  pointwise [k0_pay2, k0_pay1]

theorem pay3_at (v0 : Vec Ideal S512x1408 .bf16) (v2 : Vec Ideal S1408x2048 .bf16) (a : Vec Ideal S512x2048 .f32) (i) :
    k0_pay3 v0 v2 a i = a i + k0_pay2 v0 v2 i := by
  pointwise [k0_pay3, k0_pay2]

/-- A row of the sum that is normed. -/
def row (x p : Fin 2048 → EReal) (k : Fin 2048) : EReal :=
  Ideal.ofBits .f32 0x3F9837F0#32 * x k + Ideal.ofBits .f32 0x3F000000#32 * p k

variable (x p : Vec Ideal S512x2048 .f32) (g b : Vec Ideal S1x2048 .f32)

theorem pay4_at (r : Fin 512) (n : Fin 2048) :
    k0_pay4 x p (ix2 r n) = Norm.cen (row (fun k => x (ix2 r k)) fun k => p (ix2 r k)) n := by
  pointwise [k0_pay4, Norm.cen, Norm.mean, row]

theorem pay5_at (r : Fin 512) (z : Fin 1) :
    k0_pay5 x p (ix2 r z) = Norm.rstd (row (fun k => x (ix2 r k)) fun k => p (ix2 r k)) := by
  unfold Norm.rstd Norm.mean
  simp only [← pay4_at x p r]
  generalize h : k0_pay4 x p = q
  unfold k0_pay5
  rw [h]
  pointwise

theorem pay6_at (r : Fin 512) (n : Fin 2048) :
    k0_pay6 x p (ix2 r n) = Norm.nrm (row (fun k => x (ix2 r k)) fun k => p (ix2 r k)) n := by
  unfold Norm.nrm
  rw [← pay4_at x p r n, ← pay5_at x p r 0]
  unfold k0_pay6
  generalize k0_pay4 x p = q
  generalize k0_pay5 x p = s
  pointwise

theorem pay7_at (r : Fin 512) (n : Fin 2048) :
    k0_pay7 x p g b (ix2 r n)
      = Norm.nrm (row (fun k => x (ix2 r k)) fun k => p (ix2 r k)) n * g (ix2 0 n) + b (ix2 0 n) := by
  rw [← pay6_at x p r n]
  unfold k0_pay7
  generalize k0_pay6 x p = q
  pointwise

theorem pay8_at (i : S512x2048.Idx) : k0_pay8 x p g b i = k0_pay7 x p g b i := by
  unfold k0_pay8
  generalize k0_pay7 x p g b = q
  pointwise

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0]
    ∧ win0_5.index t = ![t.val / 4, 0] ∧ win0_6.index t = ![t.val / 4, 0] ∧ win0_7.index t = ![t.val / 4, 0]
    ∧ win0_8.index t = ![t.val / 4, 0] :=
  (by decide +kernel : ∀ t : Fin grid0.N, _)

variable (m : (ℓ : Loc nD τ sig) → Buf (Elt Ideal) ℓ)

/-- The partial product of grid point `t`. -/
def part (c : Dev nD) (t : Fin cfg0.N) : Vec Ideal S512x2048 .f32 := k0_pay2 (iblk m c 0 t) (iblk m c 1 t)

/-- The accumulator after point `t`. -/
def acc (c : Dev nD) (n : ℕ) (h : n < cfg0.N) : Vec Ideal S512x2048 .f32 := (outsAt0 m c n h).2.2.2.2

theorem acc_first (c : Dev nD) (t : Fin cfg0.N) (h : t.val % 4 = 0) : acc m c t.val t.isLt = part m c t := by
  unfold acc
  rw [outsAt0_A m c t h (by omega) (by omega)]
  frame_out
  rfl

theorem acc_next (c : Dev nD) (t : Fin cfg0.N) (h : ¬t.val % 4 = 0) (i) :
    acc m c t.val t.isLt i = acc m c (t.val - 1) (by omega) i + part m c t i := by
  unfold acc
  by_cases h2 : t.val % 4 = 3
  · rw [outsAt0_C m c t h (by omega) h2]
    frame_out
    rw [pay3_at, read_unread_whole]
    rfl
  · rw [outsAt0_B m c t h (by omega) h2]
    frame_out
    rw [pay3_at, read_unread_whole]
    rfl

theorem acc_sum (c : Dev nD) (t : Fin cfg0.N) (h : t.val % 4 = 3) (i) : acc m c t.val t.isLt i
    = ∑ s : Fin 4, part m c ⟨4 * (t.val / 4) + s.val, Pipeline.run_point_lt_of_flush t h s⟩ i :=
  (Pipeline.eq_sum_fin_of_reset_step_apply_of_flush (fun n h => acc m c n h) 4 (fun _ => 0) (part m c)
    (fun t h j => by rw [zero_add]; exact congrFun (acc_first m c t h) j) (fun t h j => acc_next m c t h j) t h i).trans (zero_add _)

theorem outs_last (c : Dev nD) (t : Fin cfg0.N) (h : t.val % 4 = 3) :
    (outsAt0 m c t.val t.isLt).1 = k0_pay7 (iblk m c 2 t) (acc m c t.val t.isLt) (iblk m c 3 t) (iblk m c 4 t)
    ∧ (outsAt0 m c t.val t.isLt).2.1 = k0_pay8 (iblk m c 2 t) (acc m c t.val t.isLt) (iblk m c 3 t) (iblk m c 4 t)
    ∧ (outsAt0 m c t.val t.isLt).2.2.1 = k0_pay6 (iblk m c 2 t) (acc m c t.val t.isLt)
    ∧ (outsAt0 m c t.val t.isLt).2.2.2.1 = k0_pay5 (iblk m c 2 t) (acc m c t.val t.isLt) := by
  unfold acc
  rw [outsAt0_C m c t (by omega) (by omega) h]
  frame_out
  exact ⟨trivial, trivial, trivial, trivial⟩

/-! ## The whole arrays -/

/-- The product, rows of `a` by columns of `w`. -/
def prod (a : FVec Ideal S8192x5632 .bf16) (w : FVec Ideal S5632x2048 .bf16) (r : Fin 8192) (n : Fin 2048) : EReal :=
  ∑ l : Fin 5632, a (ix2 r l) * w (ix2 l n)

/-- A row of the sum of residual and product. -/
def sumRow (x : FVec Ideal S8192x2048 .f32) (a : FVec Ideal S8192x5632 .bf16) (w : FVec Ideal S5632x2048 .bf16)
    (r : Fin 8192) : Fin 2048 → EReal := row (fun k => x (ix2 r k)) (prod a w r)

/-- The normed rows. -/
def normed (x : FVec Ideal S8192x2048 .f32) (a : FVec Ideal S8192x5632 .bf16) (w : FVec Ideal S5632x2048 .bf16) :
    FVec Ideal S8192x2048 .f32 := fun i => Norm.nrm (sumRow x a w (i 0)) (i 1)

/-- The normed rows with gain and bias. -/
def scaled (x : FVec Ideal S8192x2048 .f32) (a : FVec Ideal S8192x5632 .bf16) (w : FVec Ideal S5632x2048 .bf16)
    (g b : FVec Ideal S1x2048 .f32) : FVec Ideal S8192x2048 .f32 :=
  fun i => Norm.nrm (sumRow x a w (i 0)) (i 1) * g (ix2 0 (i 1)) + b (ix2 0 (i 1))

/-- The reciprocal deviations. -/
def devs (x : FVec Ideal S8192x2048 .f32) (a : FVec Ideal S8192x5632 .bf16) (w : FVec Ideal S5632x2048 .bf16) :
    FVec Ideal S8192x1 .f32 := fun i => Norm.rstd (sumRow x a w (i 0))

theorem lhsBlk (c : Dev nD) (t : Fin cfg0.N) (p : Fin 512) (q : Fin 1408) (P : Fin 8192) (Q : Fin 5632)
    (hP : P.val = t.val / 4 * 512 + p.val) (hQ : Q.val = t.val % 4 * 1408 + q.val) :
    (show Vec Ideal S512x1408 .bf16 from iblk m c 0 t) (ix2 p q) = (V m c main_v2 : FVec Ideal S8192x5632 .bf16) (ix2 P Q) := by
  blk_point [iblk, idx t]

theorem rhsBlk (c : Dev nD) (t : Fin cfg0.N) (p : Fin 1408) (q : Fin 2048) (P : Fin 5632) (Q : Fin 2048)
    (hP : P.val = t.val % 4 * 1408 + p.val) (hQ : Q.val = q.val) :
    (show Vec Ideal S1408x2048 .bf16 from iblk m c 1 t) (ix2 p q) = (V m c main_v3 : FVec Ideal S5632x2048 .bf16) (ix2 P Q) := by
  blk_point [iblk, idx t]

theorem xBlk (c : Dev nD) (t : Fin cfg0.N) (p : Fin 512) (q : Fin 2048) (P : Fin 8192) (Q : Fin 2048)
    (hP : P.val = t.val / 4 * 512 + p.val) (hQ : Q.val = q.val) :
    (show Vec Ideal S512x2048 .f32 from iblk m c 2 t) (ix2 p q) = (V m c main_arg3 : FVec Ideal S8192x2048 .f32) (ix2 P Q) := by
  blk_point [iblk, idx t]

theorem gBlk (c : Dev nD) (t : Fin cfg0.N) (z : Fin 1) (q Q : Fin 2048) (hQ : Q.val = q.val) :
    (show Vec Ideal S1x2048 .f32 from iblk m c 3 t) (ix2 z q) = (V m c main_arg4 : FVec Ideal S1x2048 .f32) (ix2 0 Q) := by
  blk_point [iblk, idx t]

theorem bBlk (c : Dev nD) (t : Fin cfg0.N) (z : Fin 1) (q Q : Fin 2048) (hQ : Q.val = q.val) :
    (show Vec Ideal S1x2048 .f32 from iblk m c 4 t) (ix2 z q) = (V m c main_arg5 : FVec Ideal S1x2048 .f32) (ix2 0 Q) := by
  blk_point [iblk, idx t]

/-- The accumulator holds rows of the product after a group's last point, -/
theorem acc_value (c : Dev nD) (t : Fin cfg0.N) (h : t.val % 4 = 3) (p : Fin 512) (q : Fin 2048) (P : Fin 8192)
    (hP : P.val = t.val / 4 * 512 + p.val) : acc m c t.val t.isLt (ix2 p q) = prod (V m c main_v2) (V m c main_v3) P q := by
  rw [acc_sum m c t h]
  unfold prod
  simp only [part, pay2_at]
  refine Fin.sum_mul_add_congr fun s k hl => ?_
  have hs : s.val < 4 := s.isLt
  exact congrArg₂ (fun x y : EReal => x * y)
    (lhsBlk m c ⟨4 * (t.val / 4) + s.val, Pipeline.run_point_lt_of_flush t h s⟩ p k _ _ (by dsimp only; omega) (by dsimp only; omega))
    (rhsBlk m c ⟨4 * (t.val / 4) + s.val, Pipeline.run_point_lt_of_flush t h s⟩ k q _ _ (by dsimp only; omega) rfl)

/-- and the block's sums with the residual are rows of the whole sum. -/
theorem row_value (c : Dev nD) (t : Fin cfg0.N) (h : t.val % 4 = 3) (p : Fin 512) (P : Fin 8192)
    (hP : P.val = t.val / 4 * 512 + p.val) :
    row (fun k => (show Vec Ideal S512x2048 .f32 from iblk m c 2 t) (ix2 p k)) (fun k => acc m c t.val t.isLt (ix2 p k))
      = sumRow (V m c main_arg3) (V m c main_v2) (V m c main_v3) P := by
  unfold sumRow
  refine congrArg₂ row (funext fun k => xBlk m c t p k P k hP rfl) (funext fun k => acc_value m c t h p k P hP)

theorem scaled_value (c : Dev nD) (t : Fin cfg0.N) (h : t.val % 4 = 3) (p : Fin 512) (q : Fin 2048) (P : Fin 8192) (Q : Fin 2048)
    (hP : P.val = t.val / 4 * 512 + p.val) (hQ : Q.val = q.val) :
    k0_pay7 (iblk m c 2 t) (acc m c t.val t.isLt) (iblk m c 3 t) (iblk m c 4 t) (ix2 p q)
      = scaled (V m c main_arg3) (V m c main_v2) (V m c main_v3) (V m c main_arg4) (V m c main_arg5) (ix2 P Q) := by
  obtain rfl : q = Q := Fin.ext hQ.symm
  refine (pay7_at _ _ _ _ p q).trans ?_
  exact congrArg₂ (fun x y : EReal => x + y) (congrArg₂ (fun x y : EReal => x * y)
    (congrArg (fun f => Norm.nrm f q) (row_value m c t h p P hP)) (gBlk m c t 0 q q rfl)) (bBlk m c t 0 q q rfl)

theorem final5 (c : Dev nD) : (dats m 0 c).arrAt 5 (cfgs 0).N
    = scaled (V m c main_arg3) (V m c main_v2) (V m c main_v3) (V m c main_arg4) (V m c main_arg5) := by
  refine (dats m 0 c).arrAt_eq_of_covers 5 _ (by decide +kernel) fun t hf y => ?_
  have h := (flush0_5 t).mp hf
  have ht : t.val < 64 := lt_of_lt_of_eq t.isLt N_0
  blk_simp
  obtain ⟨p, q, rfl⟩ : ∃ p q, y = ix2 p q := ⟨y 0, y 1, by idx_vars y⟩
  rw [after0_5, (outs_last m c t h).1]
  have e0 : (((cfg0.win 5).blk t).view.emb (ix2 p q) 0).val = t.val / 4 * 512 + p.val := by blk_simp [idx t] <;> omega
  have e1 : (((cfg0.win 5).blk t).view.emb (ix2 p q) 1).val = q.val := by blk_simp [idx t] <;> omega
  exact scaled_value m c t h p q _ _ e0 e1

theorem final6 (c : Dev nD) : (dats m 0 c).arrAt 6 (cfgs 0).N
    = scaled (V m c main_arg3) (V m c main_v2) (V m c main_v3) (V m c main_arg4) (V m c main_arg5) := by
  refine (dats m 0 c).arrAt_eq_of_covers 6 _ (by decide +kernel) fun t hf y => ?_
  have h := (flush0_6 t).mp hf
  have ht : t.val < 64 := lt_of_lt_of_eq t.isLt N_0
  blk_simp
  obtain ⟨p, q, rfl⟩ : ∃ p q, y = ix2 p q := ⟨y 0, y 1, by idx_vars y⟩
  rw [after0_6, (outs_last m c t h).2.1, pay8_at]
  have e0 : (((cfg0.win 6).blk t).view.emb (ix2 p q) 0).val = t.val / 4 * 512 + p.val := by blk_simp [idx t] <;> omega
  have e1 : (((cfg0.win 6).blk t).view.emb (ix2 p q) 1).val = q.val := by blk_simp [idx t] <;> omega
  exact scaled_value m c t h p q _ _ e0 e1

theorem final7 (c : Dev nD) : (dats m 0 c).arrAt 7 (cfgs 0).N
    = normed (V m c main_arg3) (V m c main_v2) (V m c main_v3) := by
  refine (dats m 0 c).arrAt_eq_of_covers 7 _ (by decide +kernel) fun t hf y => ?_
  have h := (flush0_7 t).mp hf
  have ht : t.val < 64 := lt_of_lt_of_eq t.isLt N_0
  blk_simp
  obtain ⟨p, q, rfl⟩ : ∃ p q, y = ix2 p q := ⟨y 0, y 1, by idx_vars y⟩
  rw [after0_7, (outs_last m c t h).2.2.1]
  have e0 : (((cfg0.win 7).blk t).view.emb (ix2 p q) 0).val = t.val / 4 * 512 + p.val := by blk_simp [idx t] <;> omega
  have e1 : (((cfg0.win 7).blk t).view.emb (ix2 p q) 1).val = q.val := by blk_simp [idx t] <;> omega
  refine (pay6_at _ _ p q).trans ?_
  exact congrArg₂ Norm.nrm (row_value m c t h p _ e0) (Fin.ext e1.symm)

theorem final8 (c : Dev nD) : (dats m 0 c).arrAt 8 (cfgs 0).N
    = devs (V m c main_arg3) (V m c main_v2) (V m c main_v3) := by
  refine (dats m 0 c).arrAt_eq_of_covers 8 _ (by decide +kernel) fun t hf y => ?_
  have h := (flush0_8 t).mp hf
  have ht : t.val < 64 := lt_of_lt_of_eq t.isLt N_0
  blk_simp
  obtain ⟨p, q, rfl⟩ : ∃ p q, y = ix2 p q := ⟨y 0, y 1, by idx_vars y⟩
  rw [after0_8, (outs_last m c t h).2.2.2]
  have e0 : (((cfg0.win 8).blk t).view.emb (ix2 p q) 0).val = t.val / 4 * 512 + p.val := by blk_simp [idx t] <;> omega
  refine (pay5_at _ _ p q).trans ?_
  exact congrArg Norm.rstd (row_value m c t h p _ e0)

end Cert.Kernel28Ideal.Grad
end
-- ==== Proof.DownNormClaim.lean ====
/-
  The reference's first layer norm, row by row, and its equation with what the down projection's call writes.
-/
module

public import proofs.«01_k».proof.Proof.DownNormValue
public import proofs.«01_k».proof.Proof.Gen.Reference28Ideal.Run
public import proofs.«01_k».proof.Proof.Gen.Reference28Ideal.Read

@[expose] public section

set_option maxRecDepth 16384

noncomputable section

namespace Cert.Reference28Ideal.Grad

open Cert.Reference28Ideal Cert.Reference28Ideal.Gen Cert.Reference28Ideal.Read
open Idealize.ShloMosaic Idealize.ShloMosaic.TcCoe Idealize.SL.Sem

variable (g u : FVec Ideal S8192x5632 .f32) (w : FVec Ideal S5632x2048 .f32) (x : FVec Ideal S8192x2048 .f32)
  (lg lb : FVec Ideal S1x2048 .f32)

theorem prod_at (r : Fin 8192) (n : Fin 2048) :
    val_main_v4 (F := Ideal) g u w (ix2 r n) = ∑ k : Fin 5632, val_main_v3 (F := Ideal) g u (ix2 r k) * w (ix2 k n) := by
  rw [val_main_v4_apply]
  refine Finset.sum_congr rfl fun k _ => ?_
  refine congrArg₂ (fun x y : EReal => x * y) (congrArg _ ?_) (congrArg _ ?_) <;>
    (funext a; match a with | ⟨0, _⟩ => rfl | ⟨1, _⟩ => rfl)

/-- A row of the reference's sum. -/
def sumOf (q : FVec Ideal S8192x2048 .f32) (r : Fin 8192) : Fin 2048 → EReal :=
  Kernel28Ideal.Grad.row (fun k => x (ix2 r k)) fun k => q (ix2 r k)

theorem cen_at (r : Fin 8192) (n : Fin 2048) :
    val_main_v13 (F := Ideal) g u w x (ix2 r n) = Norm.cen (sumOf x (val_main_v4 (F := Ideal) g u w) r) n := by
  unfold val_main_v13 val_main_v12 val_main_v11 val_main_v9 val_main_v8 val_main_v7 val_main_v6
  generalize val_main_v4 (F := Ideal) g u w = q
  pointwise [val_main_v5, val_main_v1, val_main_v0, val_main_cst, val_main_cst_0, val_main_cst_1, val_main_cst_2,
    val_main_v10, Norm.cen, Norm.mean, sumOf, Kernel28Ideal.Grad.row]

theorem dev_at (r : Fin 8192) (z : Fin 1) :
    val_main_v21 (F := Ideal) g u w x (ix2 r z) = Norm.rstd (sumOf x (val_main_v4 (F := Ideal) g u w) r) := by
  have h : ∀ n, val_main_v13 (F := Ideal) g u w x (ix2 r n) = _ := cen_at g u w x r
  unfold val_main_v21 val_main_v20 val_main_v18 val_main_v16 val_main_v15 val_main_v14
  generalize val_main_v13 (F := Ideal) g u w x = d at h ⊢
  pointwise [val_main_v17, val_main_v19, val_main_cst_1, val_main_cst_2, val_main_cst_3, val_main_cst_4,
    val_main_cst_5, Norm.rstd, Norm.mean, h]

theorem nrm_at (r : Fin 8192) (n : Fin 2048) :
    val_main_v23 (F := Ideal) g u w x (ix2 r n) = Norm.nrm (sumOf x (val_main_v4 (F := Ideal) g u w) r) n := by
  have h := cen_at g u w x r n
  have h' := dev_at g u w x r
  unfold val_main_v23 val_main_v22
  generalize val_main_v13 (F := Ideal) g u w x = d at h ⊢
  generalize val_main_v21 (F := Ideal) g u w x = e at h' ⊢
  pointwise [Norm.nrm, h, h']

theorem scaled_at (r : Fin 8192) (n : Fin 2048) :
    val_main_v27 (F := Ideal) g u w x lg lb (ix2 r n)
      = Norm.nrm (sumOf x (val_main_v4 (F := Ideal) g u w) r) n * lg (ix2 0 n) + lb (ix2 0 n) := by
  have h := nrm_at g u w x r n
  unfold val_main_v27 val_main_v25
  generalize val_main_v23 (F := Ideal) g u w x = d at h ⊢
  pointwise [val_main_v24, val_main_v26, h]

/-- The reference's run, its results named by their stages. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v23) = val_main_v23 (F := Ideal) (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v27_eq m c), (h c).2.1.trans (val_main_v28_eq m c),
    (h c).2.2.1.trans (val_main_v23_eq m c), (h c).2.2.2.1.trans (val_main_v21_eq _ _ _ _), (h c).2.2.2.2⟩) (Value.run m ρ)

end Cert.Reference28Ideal.Grad

namespace Cert.Kernel28Ideal.Grad

open Cert.Kernel28Ideal Cert.Kernel28Ideal.Gen
open Idealize.ShloMosaic Idealize.ShloMosaic.TcCoe Idealize.SL.Sem

variable (m : (ℓ : Loc nD τ sig) → Buf (Elt Ideal) ℓ)

/-- The activations the call reads are the reference's. -/
theorem act_at (c : Dev nD) (i) : (V m c main_v2 : FVec Ideal S8192x5632 .bf16) i
    = Cert.Reference28Ideal.Read.val_main_v3 (F := Ideal) (m ((c.tc : Thread nD τ).loc main_arg0))
        (m ((c.tc : Thread nD τ).loc main_arg1)) i := by
  entry_read
  rfl

theorem w_at (c : Dev nD) (i) : (V m c main_v3 : FVec Ideal S5632x2048 .bf16) i
    = (m ((c.tc : Thread nD τ).loc main_arg2) : FVec Ideal S5632x2048 .f32) i := by
  entry_read
  rfl

/-- The rows the call norms are the reference's. -/
theorem sumRow_eq (x : FVec Ideal S8192x2048 .f32) (c : Dev nD) (r : Fin 8192) :
    sumRow x (V m c main_v2) (V m c main_v3) r
      = Cert.Reference28Ideal.Grad.sumOf x (Cert.Reference28Ideal.Read.val_main_v4 (F := Ideal)
          (m ((c.tc : Thread nD τ).loc main_arg0)) (m ((c.tc : Thread nD τ).loc main_arg1))
          (m ((c.tc : Thread nD τ).loc main_arg2))) r := by
  unfold sumRow Cert.Reference28Ideal.Grad.sumOf
  refine congrArg (row _) (funext fun n => ?_)
  refine Eq.trans ?_ (Cert.Reference28Ideal.Grad.prod_at _ _ _ r n).symm
  unfold prod
  exact Finset.sum_congr rfl fun k _ => congrArg₂ (fun x y : EReal => x * y) (act_at m c (ix2 r k)) (w_at m c (ix2 k n))

theorem normed_eq (x : FVec Ideal S8192x2048 .f32) (c : Dev nD) : normed x (V m c main_v2) (V m c main_v3)
    = Cert.Reference28Ideal.Read.val_main_v23 (F := Ideal) (m ((c.tc : Thread nD τ).loc main_arg0))
        (m ((c.tc : Thread nD τ).loc main_arg1)) (m ((c.tc : Thread nD τ).loc main_arg2)) x := by
  funext j
  obtain ⟨r, n, rfl⟩ : ∃ r n, j = ix2 r n := ⟨j 0, j 1, by idx_vars j⟩
  refine Eq.trans ?_ (Cert.Reference28Ideal.Grad.nrm_at _ _ _ x r n).symm
  exact congrArg (fun f => Norm.nrm f n) (sumRow_eq m x c r)

theorem devs_eq (x : FVec Ideal S8192x2048 .f32) (c : Dev nD) : devs x (V m c main_v2) (V m c main_v3)
    = Cert.Reference28Ideal.Read.val_main_v21 (F := Ideal) (m ((c.tc : Thread nD τ).loc main_arg0))
        (m ((c.tc : Thread nD τ).loc main_arg1)) (m ((c.tc : Thread nD τ).loc main_arg2)) x := by
  funext j
  obtain ⟨r, z, rfl⟩ : ∃ r z, j = ix2 r z := ⟨j 0, j 1, by idx_vars j⟩
  refine Eq.trans ?_ (Cert.Reference28Ideal.Grad.dev_at _ _ _ x r z).symm
  exact congrArg Norm.rstd (sumRow_eq m x c r)

theorem scaled_eq (x : FVec Ideal S8192x2048 .f32) (lg lb : FVec Ideal S1x2048 .f32) (c : Dev nD) :
    scaled x (V m c main_v2) (V m c main_v3) lg lb
      = Cert.Reference28Ideal.Read.val_main_v27 (F := Ideal) (m ((c.tc : Thread nD τ).loc main_arg0))
        (m ((c.tc : Thread nD τ).loc main_arg1)) (m ((c.tc : Thread nD τ).loc main_arg2)) x lg lb := by
  funext j
  obtain ⟨r, n, rfl⟩ : ∃ r n, j = ix2 r n := ⟨j 0, j 1, by idx_vars j⟩
  refine Eq.trans ?_ (Cert.Reference28Ideal.Grad.scaled_at _ _ _ x lg lb r n).symm
  exact congrArg (fun f => Norm.nrm f n * lg (ix2 0 n) + lb (ix2 0 n)) (sumRow_eq m x c r)

theorem result5 (c : Dev nD) : (dats m 0 c).arrAt 5 (cfgs 0).N
    = Cert.Reference28Ideal.Read.val_main_v27 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [final5 m c, scaled_eq, V_main_arg3, V_main_arg4, V_main_arg5]

theorem result6 (c : Dev nD) : (dats m 0 c).arrAt 6 (cfgs 0).N
    = Cert.Reference28Ideal.Read.val_main_v28 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [final6 m c, scaled_eq, V_main_arg3, V_main_arg4, V_main_arg5]
  rfl

theorem result7 (c : Dev nD) : (dats m 0 c).arrAt 7 (cfgs 0).N
    = Cert.Reference28Ideal.Read.val_main_v23 (F := Ideal) (m ((c.tc : Thread nD τ).loc main_arg0)) (m ((c.tc : Thread nD τ).loc main_arg1)) (m ((c.tc : Thread nD τ).loc main_arg2))
      (m ((c.tc : Thread nD τ).loc main_arg3)) := by
  rw [final7 m c, normed_eq, V_main_arg3]

theorem result8 (c : Dev nD) : (dats m 0 c).arrAt 8 (cfgs 0).N
    = Cert.Reference28Ideal.Read.val_main_v21 (F := Ideal) (m ((c.tc : Thread nD τ).loc main_arg0)) (m ((c.tc : Thread nD τ).loc main_arg1)) (m ((c.tc : Thread nD τ).loc main_arg2))
      (m ((c.tc : Thread nD τ).loc main_arg3)) := by
  rw [final8 m c, devs_eq, V_main_arg3]

end Cert.Kernel28Ideal.Grad

namespace Cert.Proof

open Idealize.ShloMosaic Idealize.SL.Sem

/-- The down projection's call with the norm at its end and the reference compute the same arrays. -/
theorem downNorm_equal : Cert.algebraic_Kernel28Ideal_Reference28Ideal (hKernel28Ideal := Cert.Kernel28Ideal.Gen.facts)
    (hReference28Ideal := Cert.Reference28Ideal.Gen.facts) := by
  pair_intro
  · run_from Cert.Kernel28Ideal.Gen.run_main m g
    all_goals rfl
  · run_from Cert.Reference28Ideal.Grad.run_values m' g'
    · exact (Cert.Kernel28Ideal.Grad.result5 m c).symm
    · exact (Cert.Kernel28Ideal.Grad.result6 m c).symm
    · exact (Cert.Kernel28Ideal.Grad.result7 m c).symm
    · exact (Cert.Kernel28Ideal.Grad.result8 m c).symm

end Cert.Proof
end
-- ==== Proof.NormReal.lean ====
/-
  The derivative of a row's normalisation, in the two forms in which it is computed: with the reciprocal deviation
  differentiated through its square root, and with the normed values. At real values the two are equal.
-/
module

public import proofs.«01_k».proof.Proof.Norm
public import proofs.«01_k».proof.Proof.Words

@[expose] public section

noncomputable section

namespace Cert.Norm

open Idealize.ShloMosaic

theorem rowLength : Ideal.ofBits .f32 0x45000000#32 = ((2048 : ℝ) : EReal) := by
  simp [Ideal.ofBits, Ideal.ieee, -EReal.coe_mul]; norm_num

theorem negHalf : Ideal.ofBits .f32 0xBF000000#32 = ((-(1 / 2) : ℝ) : EReal) := by
  simp [Ideal.ofBits, Ideal.ieee, -EReal.coe_mul]; norm_num

theorem eps : ∃ e : ℝ, 0 < e ∧ Ideal.ofBits .f32 0x3727C5AC#32 = (e : EReal) := by
  refine ⟨_, ?_, by simp [Ideal.ofBits, Ideal.ieee, -EReal.coe_mul]; rfl⟩
  norm_num

/-- The derivative from the normed row `x`, the reciprocal deviation `s` and the cotangent `d` of the normed row. -/
def back (s : EReal) (x d : Fin 2048 → EReal) (k : Fin 2048) : EReal :=
  s * (d k - mean d - x k * mean fun j => d j * x j)

theorem back_congr {s s' : EReal} {x x' d d' : Fin 2048 → EReal} (hs : s = s') (hx : ∀ k, x k = x' k) (hd : ∀ k, d k = d' k)
    (k : Fin 2048) : back s x d k = back s' x' d' k := by
  obtain rfl := hs
  obtain rfl : x = x' := funext hx
  obtain rfl : d = d' := funext hd
  rfl

/-- The derivative with respect to each of the two equal factors of the squares in the variance. -/
def slope (f d : Fin 2048 → EReal) : EReal :=
  Ideal.div ((∑ k : Fin 2048, cen f k * d k) * (Ideal.ofBits .f32 0xBF000000#32
    * Ideal.div (rstd f) (mean (fun k => cen f k * cen f k) + Ideal.ofBits .f32 0x3727C5AC#32)))
    (Ideal.ofBits .f32 0x45000000#32)

/-- The derivative with respect to the centred row. -/
def inner (f d : Fin 2048 → EReal) (k : Fin 2048) : EReal :=
  d k * rstd f + cen f k * slope f d + slope f d * cen f k

/-- The derivative with respect to the row, step by step. -/
def steps (f d : Fin 2048 → EReal) (k : Fin 2048) : EReal :=
  inner f d k + Ideal.div (∑ j : Fin 2048, -inner f d j) (Ideal.ofBits .f32 0x45000000#32)

theorem mean_coe (f : Fin 2048 → ℝ) : mean (fun k => (f k : EReal)) = (((∑ k, f k) * (1 / 2048) : ℝ) : EReal) := by
  unfold mean
  rw [rowLength, Ideal.div_coe (by norm_num), ← Words.coe_sum, ← EReal.coe_mul]

theorem cen_coe (f : Fin 2048 → ℝ) (k : Fin 2048) :
    cen (fun k => (f k : EReal)) k = ((f k - (∑ k, f k) * (1 / 2048) : ℝ) : EReal) := by
  unfold cen
  rw [mean_coe, ← EReal.coe_sub]

/-- The identity over the real numbers: `c` is a centred row, `s` the reciprocal root of `v`. -/
theorem real_identity (c d : Fin 2048 → ℝ) (s v : ℝ) (hc : ∑ k, c k = 0) (hs : s * s = 1 / v) (k : Fin 2048) :
    (d k * s + c k * ((∑ j, c j * d j) * (-(1 / 2) * (s * (1 / v))) * (1 / 2048))
        + (∑ j, c j * d j) * (-(1 / 2) * (s * (1 / v))) * (1 / 2048) * c k)
      + (∑ j, -(d j * s + c j * ((∑ j, c j * d j) * (-(1 / 2) * (s * (1 / v))) * (1 / 2048))
        + (∑ j, c j * d j) * (-(1 / 2) * (s * (1 / v))) * (1 / 2048) * c j)) * (1 / 2048)
    = s * (d k - (∑ j, d j) * (1 / 2048) - c k * s * ((∑ j, d j * (c j * s)) * (1 / 2048))) := by
  generalize hD : (∑ j, c j * d j) * (-(1 / 2) * (s * (1 / v))) * (1 / 2048) = D
  have h1 : ∑ j, -(d j * s + c j * D + D * c j) = -((∑ j, d j) * s) := by
    rw [Finset.sum_neg_distrib, Finset.sum_add_distrib, Finset.sum_add_distrib, ← Finset.sum_mul, ← Finset.sum_mul,
      ← Finset.mul_sum, hc]
    ring
  have h2 : ∑ j, d j * (c j * s) = (∑ j, c j * d j) * s := by
    rw [Finset.sum_mul]
    exact Finset.sum_congr rfl fun j _ => by ring
  rw [h1, h2, ← hD, ← hs]
  ring

/-- The two forms agree at real values and a real cotangent. -/
theorem steps_eq_back (f d : Fin 2048 → EReal) (hf : ∀ k, ∃ r : ℝ, f k = r) (hd : ∀ k, ∃ r : ℝ, d k = r) (k : Fin 2048) :
    steps f d k = back (rstd f) (nrm f) d k := by
  choose b hb using hf
  choose e he using hd
  obtain rfl : f = fun k => (b k : EReal) := funext hb
  obtain rfl : d = fun k => (e k : EReal) := funext he
  obtain ⟨p, hp, hpe⟩ := eps
  generalize hcd : (fun k => b k - (∑ k, b k) * (1 / 2048)) = c
  have hcen : cen (fun k => (b k : EReal)) = fun k => (c k : EReal) := by
    funext j
    rw [cen_coe, ← hcd]
  have hc0 : ∑ k, c k = 0 := by
    rw [← hcd, Finset.sum_sub_distrib, Finset.sum_const, Finset.card_univ, Fintype.card_fin]
    simp only [nsmul_eq_mul]
    push_cast
    ring
  obtain ⟨v, hv, hvar⟩ : ∃ v : ℝ, 0 < v ∧ mean (fun k => cen (fun k => (b k : EReal)) k * cen (fun k => (b k : EReal)) k)
      + Ideal.ofBits .f32 0x3727C5AC#32 = (v : EReal) := by
    refine ⟨(∑ k, c k * c k) * (1 / 2048) + p, ?_, ?_⟩
    · have : 0 ≤ ∑ k, c k * c k := Finset.sum_nonneg fun j _ => mul_self_nonneg _
      positivity
    · rw [hcen, hpe]
      simp only [← EReal.coe_mul]
      rw [mean_coe (fun k => c k * c k), ← EReal.coe_add]
  have hr : rstd (fun k => (b k : EReal)) = (((Real.sqrt v)⁻¹ : ℝ) : EReal) := by
    unfold rstd
    rw [hvar, Ideal.rsqrt_coe, if_neg (not_lt.mpr hv.le), if_neg hv.ne']
  have hs : (Real.sqrt v)⁻¹ * (Real.sqrt v)⁻¹ = 1 / v := by
    rw [← mul_inv, Real.mul_self_sqrt hv.le, one_div]
  generalize (Real.sqrt v)⁻¹ = s at hr hs
  have hn : nrm (fun k => (b k : EReal)) = fun k => ((c k * s : ℝ) : EReal) := by
    funext j
    unfold nrm
    rw [hcen, hr, ← EReal.coe_mul]
  have hsl : slope (fun k => (b k : EReal)) (fun k => (e k : EReal))
      = (((∑ j, c j * e j) * (-(1 / 2) * (s * (1 / v))) * (1 / 2048) : ℝ) : EReal) := by
    unfold slope
    rw [hvar, hr, hcen, negHalf, rowLength, Ideal.div_coe hv.ne', Ideal.div_coe (by norm_num)]
    simp only [← EReal.coe_mul, ← Words.coe_sum]
  have hin : inner (fun k => (b k : EReal)) (fun k => (e k : EReal)) = fun k =>
      ((e k * s + c k * ((∑ j, c j * e j) * (-(1 / 2) * (s * (1 / v))) * (1 / 2048))
        + (∑ j, c j * e j) * (-(1 / 2) * (s * (1 / v))) * (1 / 2048) * c k : ℝ) : EReal) := by
    funext j
    unfold inner
    rw [hsl, hr, hcen]
    simp only [← EReal.coe_mul, ← EReal.coe_add]
  unfold steps back
  rw [hin, hn, hr, rowLength, Ideal.div_coe (by norm_num)]
  simp only [← EReal.coe_mul, ← EReal.coe_neg, ← Words.coe_sum, ← EReal.coe_add, mean_coe, ← EReal.coe_sub]
  exact congrArg _ (real_identity c e s v hc0 hs k)

end Cert.Norm
end
-- ==== Proof.NormBackValue.lean ====
/-
  What the layer norm's backward call writes: each row's derivative in terms of the normed row, half of it in bfloat16, and
  the gain's and bias's gradients, summed over thirty-two blocks of rows in the carried outputs.
-/
module

public import proofs.«01_k».proof.Defs
public import proofs.«01_k».proof.Proof.NormReal
public import proofs.«01_k».proof.Proof.Gen.Kernel29Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel29Ideal.Grad

open Cert.Kernel29Ideal Cert.Kernel29Ideal.Gen
open Idealize.ShloMosaic Idealize.ShloMosaic.TcCoe Idealize.SL.Sem
open Idealize.ShloMosaic.Pipeline (Dat)

/-! ## One block -/

variable (y x : Vec Ideal S256x2048 .f32) (s : Vec Ideal S256x1 .f32) (g : Vec Ideal S1x2048 .f32)

theorem pay4_at (r : Fin 256) (n : Fin 2048) : k0_pay4 y x g s (ix2 r n)
    = Norm.back (s (ix2 r 0)) (fun k => x (ix2 r k)) (fun k => y (ix2 r k) * g (ix2 0 k)) n := by
  pointwise [k0_pay4, k0_pay3, Norm.back, Norm.mean]

theorem pay5_at (i : S256x2048.Idx) : k0_pay5 y x g s i = Ideal.ofBits .f32 0x3F000000#32 * k0_pay4 y x g s i := by
  unfold k0_pay5
  generalize k0_pay4 y x g s = q
  pointwise

/-- One block's part of the gain's gradient, -/
theorem gain_at (a : Vec Ideal S1x2048 .f32) (z : Fin 1) (n : Fin 2048) : k0_pay1 (k0_pay8 a) (k0_pay9 y x) (ix2 z n)
    = a (ix2 z n) + ∑ k : Fin 256, y (ix2 k n) * x (ix2 k n) := by
  pointwise [k0_pay1, k0_pay8, k0_pay9, k0_pay3]

/-- and of the bias's. -/
theorem bias_at (a : Vec Ideal S1x2048 .f32) (z : Fin 1) (n : Fin 2048) : k0_pay2 y a (ix2 z n)
    = a (ix2 z n) + ∑ k : Fin 256, y (ix2 k n) := by
  pointwise [k0_pay2]

theorem zero6_at (i) : k0_pay6 (F := Ideal) i = 0 := by
  pointwise [k0_pay6]

theorem zero7_at (i) : k0_pay7 (F := Ideal) i = 0 := by
  pointwise [k0_pay7]

theorem idx : ∀ t : Fin cfg0.N, win0_0.index t = ![t.val, 0] ∧ win0_1.index t = ![t.val, 0]
    ∧ win0_2.index t = ![t.val, 0] ∧ win0_3.index t = ![0, 0] ∧ win0_4.index t = ![t.val, 0]
    ∧ win0_5.index t = ![t.val, 0] ∧ win0_6.index t = ![0, 0] ∧ win0_7.index t = ![0, 0] :=
  (by decide +kernel : ∀ t : Fin grid0.N, _)

variable (m : (ℓ : Loc nD τ sig) → Buf (Elt Ideal) ℓ)

theorem out4 (c : Dev nD) (t : Fin cfg0.N) :
    (outsAt0 m c t.val t.isLt).1 = k0_pay4 (iblk m c 0 t) (iblk m c 1 t) (iblk m c 3 t) (iblk m c 2 t) := by
  by_cases h : t.val % 32 = 0
  · rw [outsAt0_A m c t h]
    frame_out
  · rw [outsAt0_B m c t h]
    frame_out

theorem out5 (c : Dev nD) (t : Fin cfg0.N) :
    (outsAt0 m c t.val t.isLt).2.1 = k0_pay5 (iblk m c 0 t) (iblk m c 1 t) (iblk m c 3 t) (iblk m c 2 t) := by
  by_cases h : t.val % 32 = 0
  · rw [outsAt0_A m c t h]
    frame_out
  · rw [outsAt0_B m c t h]
    frame_out

/-- The gain's part of grid point `t`, -/
def gainPart (c : Dev nD) (t : Fin cfg0.N) : Vec Ideal S1x2048 .f32 :=
  fun i => ∑ k : Fin 256, (show Vec Ideal S256x2048 .f32 from iblk m c 0 t) (ix2 k (i 1))
    * (show Vec Ideal S256x2048 .f32 from iblk m c 1 t) (ix2 k (i 1))

/-- and the bias's. -/
def biasPart (c : Dev nD) (t : Fin cfg0.N) : Vec Ideal S1x2048 .f32 :=
  fun i => ∑ k : Fin 256, (show Vec Ideal S256x2048 .f32 from iblk m c 0 t) (ix2 k (i 1))

theorem gain_first (c : Dev nD) (t : Fin cfg0.N) (h : t.val % 32 = 0) (i) :
    (outsAt0 m c t.val t.isLt).2.2.1 i = 0 + gainPart m c t i := by
  obtain ⟨z, n, rfl⟩ : ∃ z n, i = ix2 z n := ⟨i 0, i 1, by idx_vars i⟩
  rw [outsAt0_A m c t h]
  frame_out
  rw [gain_at, zero6_at]
  rfl

theorem gain_next (c : Dev nD) (t : Fin cfg0.N) (h : ¬t.val % 32 = 0) (i) :
    (outsAt0 m c t.val t.isLt).2.2.1 i = (outsAt0 m c (t.val - 1) (by omega)).2.2.1 i + gainPart m c t i := by
  obtain ⟨z, n, rfl⟩ : ∃ z n, i = ix2 z n := ⟨i 0, i 1, by idx_vars i⟩
  rw [outsAt0_B m c t h]
  frame_out
  rw [gain_at]
  rfl

theorem bias_first (c : Dev nD) (t : Fin cfg0.N) (h : t.val % 32 = 0) (i) :
    (outsAt0 m c t.val t.isLt).2.2.2 i = 0 + biasPart m c t i := by
  obtain ⟨z, n, rfl⟩ : ∃ z n, i = ix2 z n := ⟨i 0, i 1, by idx_vars i⟩
  rw [outsAt0_A m c t h]
  frame_out
  rw [bias_at, zero7_at]
  rfl

theorem bias_next (c : Dev nD) (t : Fin cfg0.N) (h : ¬t.val % 32 = 0) (i) :
    (outsAt0 m c t.val t.isLt).2.2.2 i = (outsAt0 m c (t.val - 1) (by omega)).2.2.2 i + biasPart m c t i := by
  obtain ⟨z, n, rfl⟩ : ∃ z n, i = ix2 z n := ⟨i 0, i 1, by idx_vars i⟩
  rw [outsAt0_B m c t h]
  frame_out
  rw [bias_at]
  rfl

theorem gain_sum (c : Dev nD) (t : Fin cfg0.N) (h : t.val % 32 = 31) (i) : (outsAt0 m c t.val t.isLt).2.2.1 i
    = ∑ s : Fin 32, gainPart m c ⟨32 * (t.val / 32) + s.val, Pipeline.run_point_lt_of_flush t h s⟩ i :=
  (Pipeline.eq_sum_fin_of_reset_step_apply_of_flush (fun n h => (outsAt0 m c n h).2.2.1) 32 (fun _ => 0) (gainPart m c)
    (fun t h j => gain_first m c t h j) (fun t h j => gain_next m c t h j) t h i).trans (zero_add _)

theorem bias_sum (c : Dev nD) (t : Fin cfg0.N) (h : t.val % 32 = 31) (i) : (outsAt0 m c t.val t.isLt).2.2.2 i
    = ∑ s : Fin 32, biasPart m c ⟨32 * (t.val / 32) + s.val, Pipeline.run_point_lt_of_flush t h s⟩ i :=
  (Pipeline.eq_sum_fin_of_reset_step_apply_of_flush (fun n h => (outsAt0 m c n h).2.2.2) 32 (fun _ => 0) (biasPart m c)
    (fun t h j => bias_first m c t h j) (fun t h j => bias_next m c t h j) t h i).trans (zero_add _)

/-! ## The whole arrays -/

/-- The rows' derivatives. -/
def back (y x : FVec Ideal S8192x2048 .f32) (s : FVec Ideal S8192x1 .f32) (g : FVec Ideal S1x2048 .f32) :
    FVec Ideal S8192x2048 .f32 := fun i => Norm.back (s (ix2 (i 0) 0)) (fun k => x (ix2 (i 0) k))
      (fun k => y (ix2 (i 0) k) * g (ix2 0 k)) (i 1)

theorem back_at (y x : FVec Ideal S8192x2048 .f32) (s : FVec Ideal S8192x1 .f32) (g : FVec Ideal S1x2048 .f32)
    (r : Fin 8192) (n : Fin 2048) : back y x s g (ix2 r n)
      = Norm.back (s (ix2 r 0)) (fun k => x (ix2 r k)) (fun k => y (ix2 r k) * g (ix2 0 k)) n := rfl

/-- Half of them. -/
def halfBack (y x : FVec Ideal S8192x2048 .f32) (s : FVec Ideal S8192x1 .f32) (g : FVec Ideal S1x2048 .f32) :
    FVec Ideal S8192x2048 .bf16 := fun i => Ideal.ofBits .f32 0x3F000000#32 * back y x s g i

/-- The gain's gradient. -/
def gain (y x : FVec Ideal S8192x2048 .f32) : FVec Ideal S1x2048 .f32 :=
  fun i => ∑ l : Fin 8192, y (ix2 l (i 1)) * x (ix2 l (i 1))

/-- The bias's gradient. -/
def bias (y : FVec Ideal S8192x2048 .f32) : FVec Ideal S1x2048 .f32 := fun i => ∑ l : Fin 8192, y (ix2 l (i 1))

theorem yBlk (c : Dev nD) (t : Fin cfg0.N) (p : Fin 256) (q : Fin 2048) (P : Fin 8192) (Q : Fin 2048)
    (hP : P.val = t.val * 256 + p.val) (hQ : Q.val = q.val) :
    (show Vec Ideal S256x2048 .f32 from iblk m c 0 t) (ix2 p q) = (V m c main_arg4 : FVec Ideal S8192x2048 .f32) (ix2 P Q) := by
  blk_point [iblk, idx t]

theorem xBlk (c : Dev nD) (t : Fin cfg0.N) (p : Fin 256) (q : Fin 2048) (P : Fin 8192) (Q : Fin 2048)
    (hP : P.val = t.val * 256 + p.val) (hQ : Q.val = q.val) :
    (show Vec Ideal S256x2048 .f32 from iblk m c 1 t) (ix2 p q) = (V m c main_v18 : FVec Ideal S8192x2048 .f32) (ix2 P Q) := by
  blk_point [iblk, idx t]

theorem sBlk (c : Dev nD) (t : Fin cfg0.N) (p : Fin 256) (z : Fin 1) (P : Fin 8192)
    (hP : P.val = t.val * 256 + p.val) :
    (show Vec Ideal S256x1 .f32 from iblk m c 2 t) (ix2 p z) = (V m c main_v16 : FVec Ideal S8192x1 .f32) (ix2 P 0) := by
  blk_point [iblk, idx t]

theorem gBlk (c : Dev nD) (t : Fin cfg0.N) (z : Fin 1) (q Q : Fin 2048) (hQ : Q.val = q.val) :
    (show Vec Ideal S1x2048 .f32 from iblk m c 3 t) (ix2 z q) = (V m c main_arg2 : FVec Ideal S1x2048 .f32) (ix2 0 Q) := by
  blk_point [iblk, idx t]

theorem back_value (c : Dev nD) (t : Fin cfg0.N) (p : Fin 256) (q : Fin 2048) (P : Fin 8192) (Q : Fin 2048)
    (hP : P.val = t.val * 256 + p.val) (hQ : Q.val = q.val) :
    k0_pay4 (iblk m c 0 t) (iblk m c 1 t) (iblk m c 3 t) (iblk m c 2 t) (ix2 p q)
      = back (V m c main_arg4) (V m c main_v18) (V m c main_v16) (V m c main_arg2) (ix2 P Q) := by
  obtain rfl : q = Q := Fin.ext hQ.symm
  refine (pay4_at _ _ _ _ p q).trans ?_
  refine Eq.trans ?_ (back_at _ _ _ _ P q).symm
  exact Norm.back_congr (sBlk m c t p 0 P hP) (fun k => xBlk m c t p k P k hP rfl)
    (fun k => congrArg₂ (fun x y : EReal => x * y) (yBlk m c t p k P k hP rfl) (gBlk m c t 0 k k rfl)) q

theorem final4 (c : Dev nD) : (dats m 0 c).arrAt 4 (cfgs 0).N
    = back (V m c main_arg4) (V m c main_v18) (V m c main_v16) (V m c main_arg2) := by
  refine (dats m 0 c).arrAt_eq_of_covers 4 _ (by decide +kernel) fun t hf y => ?_
  have ht : t.val < 32 := lt_of_lt_of_eq t.isLt N_0
  blk_simp
  obtain ⟨p, q, rfl⟩ : ∃ p q, y = ix2 p q := ⟨y 0, y 1, by idx_vars y⟩
  rw [after0_4, out4]
  have e0 : (((cfg0.win 4).blk t).view.emb (ix2 p q) 0).val = t.val * 256 + p.val := by blk_simp [idx t] <;> omega
  have e1 : (((cfg0.win 4).blk t).view.emb (ix2 p q) 1).val = q.val := by blk_simp [idx t] <;> omega
  exact back_value m c t p q _ _ e0 e1

theorem final5 (c : Dev nD) : (dats m 0 c).arrAt 5 (cfgs 0).N
    = halfBack (V m c main_arg4) (V m c main_v18) (V m c main_v16) (V m c main_arg2) := by
  refine (dats m 0 c).arrAt_eq_of_covers 5 _ (by decide +kernel) fun t hf y => ?_
  have ht : t.val < 32 := lt_of_lt_of_eq t.isLt N_0
  blk_simp
  obtain ⟨p, q, rfl⟩ : ∃ p q, y = ix2 p q := ⟨y 0, y 1, by idx_vars y⟩
  rw [after0_5, out5, pay5_at]
  have e0 : (((cfg0.win 5).blk t).view.emb (ix2 p q) 0).val = t.val * 256 + p.val := by blk_simp [idx t] <;> omega
  have e1 : (((cfg0.win 5).blk t).view.emb (ix2 p q) 1).val = q.val := by blk_simp [idx t] <;> omega
  exact congrArg (fun x : EReal => Ideal.ofBits .f32 0x3F000000#32 * x) (back_value m c t p q _ _ e0 e1)

theorem final6 (c : Dev nD) : (dats m 0 c).arrAt 6 (cfgs 0).N = gain (V m c main_arg4) (V m c main_v18) := by
  refine (dats m 0 c).arrAt_eq_of_covers 6 _ (by decide +kernel) fun t hf y => ?_
  have h := (flush0_6 t).mp hf
  have ht : t.val < 32 := lt_of_lt_of_eq t.isLt N_0
  blk_simp
  obtain ⟨p, q, rfl⟩ : ∃ p q, y = ix2 p q := ⟨y 0, y 1, by idx_vars y⟩
  rw [after0_6, gain_sum m c t h]
  unfold gain gainPart
  refine Fin.sum_mul_add_congr fun s k hl => ?_
  have hs : s.val < 32 := s.isLt
  have e1 : (((cfg0.win 6).blk t).view.emb (ix2 p q) 1).val = q.val := by blk_simp [idx t] <;> omega
  exact congrArg₂ (fun x y : EReal => x * y)
    (yBlk m c ⟨32 * (t.val / 32) + s.val, Pipeline.run_point_lt_of_flush t h s⟩ k q _ _ (by dsimp only; omega) e1)
    (xBlk m c ⟨32 * (t.val / 32) + s.val, Pipeline.run_point_lt_of_flush t h s⟩ k q _ _ (by dsimp only; omega) e1)

theorem final7 (c : Dev nD) : (dats m 0 c).arrAt 7 (cfgs 0).N = bias (V m c main_arg4) := by
  refine (dats m 0 c).arrAt_eq_of_covers 7 _ (by decide +kernel) fun t hf y => ?_
  have h := (flush0_7 t).mp hf
  have ht : t.val < 32 := lt_of_lt_of_eq t.isLt N_0
  blk_simp
  obtain ⟨p, q, rfl⟩ : ∃ p q, y = ix2 p q := ⟨y 0, y 1, by idx_vars y⟩
  rw [after0_7, bias_sum m c t h]
  unfold bias biasPart
  refine Fin.sum_mul_add_congr fun s k hl => ?_
  have hs : s.val < 32 := s.isLt
  have e1 : (((cfg0.win 7).blk t).view.emb (ix2 p q) 1).val = q.val := by blk_simp [idx t] <;> omega
  exact yBlk m c ⟨32 * (t.val / 32) + s.val, Pipeline.run_point_lt_of_flush t h s⟩ k q _ _ (by dsimp only; omega) e1

end Cert.Kernel29Ideal.Grad
end
-- ==== Proof.NormBackClaim.lean ====
/-
  The reference's derivative of the layer norm, element by element, and its equation with what the backward call writes:
  at real values the derivative through the square root is the derivative in terms of the normed row.
-/
module

public import proofs.«01_k».proof.Proof.NormBackValue
public import proofs.«01_k».proof.Proof.Gen.Pre_finite29
public import proofs.«01_k».proof.Proof.Gen.Reference29Ideal.Run
public import proofs.«01_k».proof.Proof.Gen.Reference29Ideal.Read

@[expose] public section

set_option maxRecDepth 16384

noncomputable section

namespace Cert.Reference29Ideal.Grad

open Cert.Reference29Ideal Cert.Reference29Ideal.Gen Cert.Reference29Ideal.Read
open Idealize.ShloMosaic Idealize.ShloMosaic.TcCoe Idealize.SL.Sem

variable (a f : FVec Ideal S8192x2048 .f32) (lg : FVec Ideal S1x2048 .f32) (ct : FVec Ideal S8192x2048 .f32)

/-- A row of the normed sum. -/
def row (r : Fin 8192) (k : Fin 2048) : EReal := a (ix2 r k) + Ideal.ofBits .f32 0x3F000000#32 * f (ix2 r k)

/-- A row of the normed row's cotangent. -/
def cot (r : Fin 8192) (k : Fin 2048) : EReal := ct (ix2 r k) * lg (ix2 0 k)

theorem cen_at (r : Fin 8192) (n : Fin 2048) : val_main_v8 (F := Ideal) a f (ix2 r n) = Norm.cen (row a f r) n := by
  pointwise [val_main_v8, val_main_v7, val_main_v6, val_main_v5, val_main_v4, val_main_v3, val_main_v2, val_main_v1,
    val_main_v0, val_main_cst, val_main_cst_0, val_main_cst_1, Norm.cen, Norm.mean, row]

theorem var_at (r : Fin 8192) (z : Fin 1) : val_main_v15 (F := Ideal) a f (ix2 r z)
    = Norm.mean (fun k => Norm.cen (row a f r) k * Norm.cen (row a f r) k) + Ideal.ofBits .f32 0x3727C5AC#32 := by
  have h : ∀ n, val_main_v8 (F := Ideal) a f (ix2 r n) = _ := cen_at a f r
  unfold val_main_v15 val_main_v13 val_main_v11 val_main_v10 val_main_v9
  generalize val_main_v8 (F := Ideal) a f = d at h ⊢
  pointwise [val_main_v12, val_main_v14, val_main_cst_2, val_main_cst_3, val_main_cst_4, Norm.mean, h]

theorem dev_at (r : Fin 8192) (z : Fin 1) : val_main_v16 (F := Ideal) a f (ix2 r z) = Norm.rstd (row a f r) := by
  have h := var_at a f r z
  unfold val_main_v16
  generalize val_main_v15 (F := Ideal) a f = d at h ⊢
  pointwise [Norm.rstd, h]

theorem nrm_at (r : Fin 8192) (n : Fin 2048) : val_main_v21 (F := Ideal) a f (ix2 r n) = Norm.nrm (row a f r) n := by
  have h := cen_at a f r n
  have h' : ∀ z, val_main_v16 (F := Ideal) a f (ix2 r z) = _ := dev_at a f r
  unfold val_main_v21 val_main_v20
  generalize val_main_v8 (F := Ideal) a f = d at h ⊢
  generalize val_main_v16 (F := Ideal) a f = e at h' ⊢
  pointwise [Norm.nrm, h, h']

theorem cot_at (r : Fin 8192) (n : Fin 2048) : val_main_v33 (F := Ideal) lg ct (ix2 r n) = cot lg ct r n := by
  pointwise [val_main_v33, val_main_v26, val_main_v32, cot]

theorem slope_at (r : Fin 8192) (n : Fin 2048) :
    val_main_v43 (F := Ideal) a f lg ct (ix2 r n) = Norm.slope (row a f r) (cot lg ct r) := by
  have h8 : ∀ n, val_main_v8 (F := Ideal) a f (ix2 r n) = _ := cen_at a f r
  have h15 : ∀ z, val_main_v15 (F := Ideal) a f (ix2 r z) = _ := var_at a f r
  have h16 : ∀ z, val_main_v16 (F := Ideal) a f (ix2 r z) = _ := dev_at a f r
  have h33 : ∀ n, val_main_v33 (F := Ideal) lg ct (ix2 r n) = _ := cot_at lg ct r
  unfold val_main_v43 val_main_v42 val_main_v41 val_main_v39 val_main_v36 val_main_v35 val_main_v34 val_main_v19 val_main_v17
  generalize val_main_v8 (F := Ideal) a f = d8 at h8 ⊢
  generalize val_main_v15 (F := Ideal) a f = d15 at h15 ⊢
  generalize val_main_v16 (F := Ideal) a f = d16 at h16 ⊢
  generalize val_main_v33 (F := Ideal) lg ct = d33 at h33 ⊢
  unfold Norm.slope
  rw [← h15 0, ← h16 0]
  simp only [← h8, ← h33]
  pointwise [val_main_v18, val_main_v40, val_main_cst_5, val_main_cst_8, val_main_cst_9, val_main_cst_10]
  exact Fin.sum_univ_one _

theorem inner_at (r : Fin 8192) (n : Fin 2048) :
    val_main_v47 (F := Ideal) a f lg ct (ix2 r n) = Norm.inner (row a f r) (cot lg ct r) n := by
  unfold Norm.inner
  rw [← slope_at a f lg ct r n, ← cen_at, ← dev_at a f r 0, ← cot_at]
  unfold val_main_v47 val_main_v46 val_main_v45 val_main_v44 val_main_v38 val_main_v37
  generalize val_main_v8 (F := Ideal) a f = d8
  generalize val_main_v16 (F := Ideal) a f = d16
  generalize val_main_v33 (F := Ideal) lg ct = d33
  generalize val_main_v43 (F := Ideal) a f lg ct = d43
  pointwise

theorem steps_at (r : Fin 8192) (n : Fin 2048) :
    val_main_v55 (F := Ideal) a f lg ct (ix2 r n) = Norm.steps (row a f r) (cot lg ct r) n := by
  unfold Norm.steps
  simp only [← inner_at a f lg ct r]
  unfold val_main_v55 val_main_v54 val_main_v53 val_main_v52 val_main_v50 val_main_v49 val_main_v48
  generalize val_main_v47 (F := Ideal) a f lg ct = d
  pointwise [val_main_v51, val_main_cst_11, val_main_cst_12, val_main_cst_13]
  exact congrArg (d (ix2 r n) + ·) (Fin.sum_univ_one _)

theorem half_at (i) : val_main_v58 (F := Ideal) a f lg ct i
    = Ideal.ofBits .f32 0x3F000000#32 * val_main_v55 (F := Ideal) a f lg ct i := by
  unfold val_main_v58 val_main_v57
  generalize val_main_v55 (F := Ideal) a f lg ct = d
  pointwise [val_main_v56, val_main_cst_14]

theorem gain_at (z : Fin 1) (n : Fin 2048) : val_main_v31 (F := Ideal) a f ct (ix2 z n)
    = ∑ l : Fin 8192, val_main_v21 (F := Ideal) a f (ix2 l n) * ct (ix2 l n) := by
  unfold val_main_v31 val_main_v30 val_main_v29
  generalize val_main_v21 (F := Ideal) a f = d
  pointwise [val_main_v26, val_main_cst_7]

theorem bias_at (z : Fin 1) (n : Fin 2048) : val_main_v28 (F := Ideal) ct (ix2 z n) = ∑ l : Fin 8192, ct (ix2 l n) := by
  pointwise [val_main_v28, val_main_v27, val_main_cst_6]

open Cert.Kernel29Ideal.Grad in
/-- At real values the reference's derivative is what the call writes. -/
theorem back_eq (ha : ∀ i, ∃ r : ℝ, a i = r) (hf : ∀ i, ∃ r : ℝ, f i = r) (hg : ∀ i, ∃ r : ℝ, lg i = r)
    (hc : ∀ i, ∃ r : ℝ, ct i = r) : val_main_v55 (F := Ideal) a f lg ct
      = back ct (val_main_v21 (F := Ideal) a f) (val_main_v16 (F := Ideal) a f) lg := by
  funext j
  obtain ⟨r, n, rfl⟩ : ∃ r n, j = ix2 r n := ⟨j 0, j 1, by idx_vars j⟩
  rw [steps_at, Norm.steps_eq_back]
  · unfold back
    show _ = Norm.back (val_main_v16 (F := Ideal) a f (ix2 r 0)) (fun k => val_main_v21 (F := Ideal) a f (ix2 r k))
      (fun k => ct (ix2 r k) * lg (ix2 0 k)) n
    rw [dev_at]
    simp only [nrm_at]
    rfl
  · intro k
    obtain ⟨p, hp⟩ := ha (ix2 r k)
    obtain ⟨q, hq⟩ := hf (ix2 r k)
    exact ⟨p + 1 / 2 * q, by unfold row; rw [hp, hq, Words.half, EReal.coe_add, EReal.coe_mul]⟩
  · intro k
    obtain ⟨p, hp⟩ := hc (ix2 r k)
    obtain ⟨q, hq⟩ := hg (ix2 0 k)
    exact ⟨p * q, by unfold cot; rw [hp, hq, EReal.coe_mul]⟩

/-- The reference's run, its results named by their stages. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = val_main_v55 (F := Ideal) (m ((c.tc : Thread nD τ).loc main_arg0))
          (m ((c.tc : Thread nD τ).loc main_arg1)) (m ((c.tc : Thread nD τ).loc main_arg2)) (m ((c.tc : Thread nD τ).loc main_arg4))
      ∧ r.2.mem ((c.tc : Thread nD τ).loc main_v58) = val_main_v58 (F := Ideal) (m ((c.tc : Thread nD τ).loc main_arg0))
          (m ((c.tc : Thread nD τ).loc main_arg1)) (m ((c.tc : Thread nD τ).loc main_arg2)) (m ((c.tc : Thread nD τ).loc main_arg4))
      ∧ r.2.mem ((c.tc : Thread nD τ).loc main_v31) = val_main_v31 (F := Ideal) (m ((c.tc : Thread nD τ).loc main_arg0))
          (m ((c.tc : Thread nD τ).loc main_arg1)) (m ((c.tc : Thread nD τ).loc main_arg4))
      ∧ r.2.mem ((c.tc : Thread nD τ).loc main_v28) = val_main_v28 (F := Ideal) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v55_eq m c), (h c).2.1.trans (val_main_v58_eq m c),
    (h c).2.2.1.trans (val_main_v31_eq _ _ _), (h c).2.2.2.1.trans (val_main_v28_eq _), (h c).2.2.2.2⟩) (Value.run m ρ)

end Cert.Reference29Ideal.Grad

namespace Cert.Kernel29Ideal.Grad

open Cert.Kernel29Ideal Cert.Kernel29Ideal.Gen
open Idealize.ShloMosaic Idealize.ShloMosaic.TcCoe Idealize.SL.Sem

variable (m : (ℓ : Loc nD τ sig) → Buf (Elt Ideal) ℓ)

/-- The normed rows and reciprocal deviations that the call reads are the reference's. -/
theorem x_eq (c : Dev nD) : (V m c main_v18 : FVec Ideal S8192x2048 .f32)
    = Cert.Reference29Ideal.Read.val_main_v21 (F := Ideal) (m ((c.tc : Thread nD τ).loc main_arg0))
        (m ((c.tc : Thread nD τ).loc main_arg1)) := by
  entry_read
  rfl

theorem s_eq (c : Dev nD) : (V m c main_v16 : FVec Ideal S8192x1 .f32)
    = Cert.Reference29Ideal.Read.val_main_v16 (F := Ideal) (m ((c.tc : Thread nD τ).loc main_arg0))
        (m ((c.tc : Thread nD τ).loc main_arg1)) := by
  entry_read
  rfl

/-- The precondition: the residual, the block's output, the gain and the cotangent are real numbers. -/
theorem finite29 (hpre : Cert.Pre_Kernel29Ideal_finite29 (hPre_finite29 := Cert.Pre_finite29.Gen.facts) m) (c : Dev nD) :
    Words.AllReal (s := S8192x2048) (m ((c.tc : Thread nD τ).loc main_arg0))
    ∧ Words.AllReal (s := S8192x2048) (m ((c.tc : Thread nD τ).loc main_arg1))
    ∧ Words.AllReal (s := S1x2048) (m ((c.tc : Thread nD τ).loc main_arg2))
    ∧ Words.AllReal (s := S8192x2048) (m ((c.tc : Thread nD τ).loc main_arg4)) := by
  obtain ⟨h1, h2, h3, h4⟩ := hpre c
  refine ⟨fun i => ?_, fun i => ?_, fun i => ?_, fun i => ?_⟩
  · exact Words.real_of_cmp (congrFun h1 i)
  · exact Words.real_of_cmp (congrFun h2 i)
  · exact Words.real_of_cmp (congrFun h3 i)
  · exact Words.real_of_cmp (congrFun h4 i)

theorem result4 (hpre : Cert.Pre_Kernel29Ideal_finite29 (hPre_finite29 := Cert.Pre_finite29.Gen.facts) m) (c : Dev nD) :
    (dats m 0 c).arrAt 4 (cfgs 0).N
      = Cert.Reference29Ideal.Read.val_main_v55 (F := Ideal) (m ((c.tc : Thread nD τ).loc main_arg0))
        (m ((c.tc : Thread nD τ).loc main_arg1)) (m ((c.tc : Thread nD τ).loc main_arg2)) (m ((c.tc : Thread nD τ).loc main_arg4)) := by
  obtain ⟨ha, hf, hg, hc⟩ := finite29 m hpre c
  rw [final4 m c, x_eq, s_eq, V_main_arg2, V_main_arg4]
  exact (Cert.Reference29Ideal.Grad.back_eq _ _ _ _ ha hf hg hc).symm

theorem result5 (hpre : Cert.Pre_Kernel29Ideal_finite29 (hPre_finite29 := Cert.Pre_finite29.Gen.facts) m) (c : Dev nD) :
    (dats m 0 c).arrAt 5 (cfgs 0).N
      = Cert.Reference29Ideal.Read.val_main_v58 (F := Ideal) (m ((c.tc : Thread nD τ).loc main_arg0))
        (m ((c.tc : Thread nD τ).loc main_arg1)) (m ((c.tc : Thread nD τ).loc main_arg2)) (m ((c.tc : Thread nD τ).loc main_arg4)) := by
  obtain ⟨ha, hf, hg, hc⟩ := finite29 m hpre c
  rw [final5 m c, x_eq, s_eq, V_main_arg2, V_main_arg4]
  funext i
  refine Eq.trans ?_ (Cert.Reference29Ideal.Grad.half_at _ _ _ _ i).symm
  rw [Cert.Reference29Ideal.Grad.back_eq _ _ _ _ ha hf hg hc]
  rfl

theorem result6 (c : Dev nD) : (dats m 0 c).arrAt 6 (cfgs 0).N
    = Cert.Reference29Ideal.Read.val_main_v31 (F := Ideal) (m ((c.tc : Thread nD τ).loc main_arg0))
        (m ((c.tc : Thread nD τ).loc main_arg1)) (m ((c.tc : Thread nD τ).loc main_arg4)) := by
  rw [final6 m c, x_eq, V_main_arg4]
  funext j
  obtain ⟨z, n, rfl⟩ : ∃ z n, j = ix2 z n := ⟨j 0, j 1, by idx_vars j⟩
  refine Eq.trans ?_ (Cert.Reference29Ideal.Grad.gain_at _ _ _ z n).symm
  exact Finset.sum_congr rfl fun l _ => mul_comm _ _

theorem result7 (c : Dev nD) : (dats m 0 c).arrAt 7 (cfgs 0).N
    = Cert.Reference29Ideal.Read.val_main_v28 (F := Ideal) (m ((c.tc : Thread nD τ).loc main_arg4)) := by
  rw [final7 m c, V_main_arg4]
  funext j
  obtain ⟨z, n, rfl⟩ : ∃ z n, j = ix2 z n := ⟨j 0, j 1, by idx_vars j⟩
  exact (Cert.Reference29Ideal.Grad.bias_at _ z n).symm

/-- The call's run: the arrays it writes, the arguments unchanged. -/
theorem run_arrays (g : Dev nD → PrngReg) :
    θ_run defs (onTc (τ := τ) (main (F := Ideal))) ⟨m, fun _ => 0, g⟩ fun r => ∀ c : Dev nD,
      r.2.mem ((c.tc : Thread nD τ).loc main_v19_0) = (dats m 0 c).arrAt 4 (cfgs 0).N
      ∧ r.2.mem ((c.tc : Thread nD τ).loc main_v19_1) = (dats m 0 c).arrAt 5 (cfgs 0).N
      ∧ r.2.mem ((c.tc : Thread nD τ).loc main_v19_2) = (dats m 0 c).arrAt 6 (cfgs 0).N
      ∧ r.2.mem ((c.tc : Thread nD τ).loc main_v19_3) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m g) (unchanged m g)) fun r h c =>
    ⟨(h.1 c).1 4, (h.1 c).1 5, (h.1 c).1 6, (h.1 c).1 7, h.2 c⟩

end Cert.Kernel29Ideal.Grad

namespace Cert.Proof

open Idealize.ShloMosaic Idealize.SL.Sem

/-- The layer norm's backward call and the reference compute the same gradients. -/
theorem normBack_equal : Cert.algebraic_Kernel29Ideal_Reference29Ideal_pre_finite29
    (hKernel29Ideal := Cert.Kernel29Ideal.Gen.facts) (hReference29Ideal := Cert.Reference29Ideal.Gen.facts)
    (hPre_finite29 := Cert.Pre_finite29.Gen.facts) := by
  intro m g m' g' hpre hagree
  refine ⟨_, _, _, _, Cert.Kernel29Ideal.Grad.run_arrays m g,
    θ_run_mono (Cert.Reference29Ideal.Grad.run_values m' g') fun r h c => ?_⟩
  obtain ⟨a0, a1, a2, a3, a4⟩ := hagree c
  have h := h c
  rw [a0, a1, a2, a4] at h
  exact ⟨h.1.trans (Cert.Kernel29Ideal.Grad.result4 m hpre c).symm, h.2.1.trans (Cert.Kernel29Ideal.Grad.result5 m hpre c).symm,
    h.2.2.1.trans (Cert.Kernel29Ideal.Grad.result6 m c).symm, h.2.2.2.1.trans (Cert.Kernel29Ideal.Grad.result7 m c).symm,
    by rw [a0, a1, a2, a4]; exact h.2.2.2.2⟩

end Cert.Proof
end
-- ==== Proof.lean ====
module

public import proofs.«01_k».proof.Defs
public import proofs.«01_k».proof.Proof.AttnRun
public import proofs.«01_k».proof.Proof.AttnRunBits
public import proofs.«01_k».proof.Proof.GateClaim
public import proofs.«01_k».proof.Proof.AttnClaim
public import proofs.«01_k».proof.Proof.DownDwClaim
public import proofs.«01_k».proof.Proof.GuDxClaim
public import proofs.«01_k».proof.Proof.GuDwClaim
public import proofs.«01_k».proof.Proof.ProjDxClaim
public import proofs.«01_k».proof.Proof.ProjDwClaim
public import proofs.«01_k».proof.Proof.SsdOutDwClaim
public import proofs.«01_k».proof.Proof.AttnOutDwClaim
public import proofs.«01_k».proof.Proof.MixOutDwClaim
public import proofs.«01_k».proof.Proof.SsdOutDxClaim
public import proofs.«01_k».proof.Proof.AttnOutDxClaim
public import proofs.«01_k».proof.Proof.MixOutDxClaim
public import proofs.«01_k».proof.Proof.ProjClaim
public import proofs.«01_k».proof.Proof.SsdOutClaim
public import proofs.«01_k».proof.Proof.AttnOutClaim
public import proofs.«01_k».proof.Proof.MixOutClaim
public import proofs.«01_k».proof.Proof.DownClaim
public import proofs.«01_k».proof.Proof.GuClaim
public import proofs.«01_k».proof.Proof.MergeClaim
public import proofs.«01_k».proof.Proof.AdamGateClaim
public import proofs.«01_k».proof.Proof.AdamUpClaim
public import proofs.«01_k».proof.Proof.AdamDownClaim
public import proofs.«01_k».proof.Proof.AdamInClaim
public import proofs.«01_k».proof.Proof.AdamSsdOutClaim
public import proofs.«01_k».proof.Proof.AdamOutClaim
public import proofs.«01_k».proof.Proof.AdamRowsClaim
public import proofs.«01_k».proof.Proof.DownNormClaim
public import proofs.«01_k».proof.Proof.NormBackClaim
public import proofs.«01_k».proof.Proof.Gen.Pre_finite29
public import proofs.«01_k».proof.Proof.Gen.Pre_finite2
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Reference29Ideal.Read
public import Idealize.ShloMosaic.Lib.Claim

@[expose] public section

noncomputable section

namespace Cert.Proof

open Idealize.ShloMosaic Idealize.SL.Sem Cert.Kernel

/-- The attention reference runs, leaves its arguments unchanged and every semaphore at zero (it declares none). -/
theorem reference_frame : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run m g)

/-- The gate's reference runs, leaves its arguments unchanged and every semaphore at zero (it declares none). -/
theorem reference2_frame : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run m g)

/-! So do the references of the products. -/

theorem reference3_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

theorem reference4_frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

theorem reference5_frame : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

theorem reference6_frame : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run m g)

theorem reference7_frame : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run m g)

theorem reference8_frame : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run m g)

theorem reference9_frame : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run m g)

theorem reference10_frame : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run m g)

theorem reference11_frame : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run m g)

theorem reference12_frame : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

theorem reference13_frame : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run m g)

theorem reference14_frame : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩)
    (Cert.Reference14Ideal.Value.run m g)

theorem reference15_frame : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run m g)

theorem reference16_frame : Cert.quiescent_Reference16Ideal (hReference16Ideal := Cert.Reference16Ideal.Gen.facts) := fun m g _ =>
  (θ_run Cert.Reference16Ideal.defs _ _).mono (fun r h => ⟨fun c => (h c).2, sem_eq_zero_of_no_sems (by decide) r.2⟩)
    (Cert.Reference16Ideal.Value.run m g)

theorem reference17_frame : Cert.quiescent_Reference17Ideal (hReference17Ideal := Cert.Reference17Ideal.Gen.facts) := fun m g _ =>
  (θ_run Cert.Reference17Ideal.defs _ _).mono (fun r h => ⟨fun c => (h c).2, sem_eq_zero_of_no_sems (by decide) r.2⟩)
    (Cert.Reference17Ideal.Value.run m g)

theorem reference18_frame : Cert.quiescent_Reference18Ideal (hReference18Ideal := Cert.Reference18Ideal.Gen.facts) := fun m g _ =>
  (θ_run Cert.Reference18Ideal.defs _ _).mono (fun r h => ⟨fun c => (h c).2, sem_eq_zero_of_no_sems (by decide) r.2⟩)
    (Cert.Reference18Ideal.Value.run m g)

theorem reference19_frame : Cert.quiescent_Reference19Ideal (hReference19Ideal := Cert.Reference19Ideal.Gen.facts) := fun m g _ =>
  (θ_run Cert.Reference19Ideal.defs _ _).mono (fun r h => ⟨fun c => (h c).2.2, sem_eq_zero_of_no_sems (by decide) r.2⟩)
    (Cert.Reference19Ideal.Value.run m g)

theorem reference20_frame : Cert.quiescent_Reference20Ideal (hReference20Ideal := Cert.Reference20Ideal.Gen.facts) := fun m g _ =>
  (θ_run Cert.Reference20Ideal.defs _ _).mono (fun r h => ⟨fun c => (h c).2.2.2, sem_eq_zero_of_no_sems (by decide) r.2⟩)
    (Cert.Reference20Ideal.Value.run m g)

theorem reference21_frame : Cert.quiescent_Reference21Ideal (hReference21Ideal := Cert.Reference21Ideal.Gen.facts) := fun m g _ =>
  (θ_run Cert.Reference21Ideal.defs _ _).mono (fun r h => ⟨fun c => (h c).2.2.2.2, sem_eq_zero_of_no_sems (by decide) r.2⟩)
    (Cert.Reference21Ideal.Value.run m g)

theorem reference22_frame : Cert.quiescent_Reference22Ideal (hReference22Ideal := Cert.Reference22Ideal.Gen.facts) := fun m g _ =>
  (θ_run Cert.Reference22Ideal.defs _ _).mono (fun r h => ⟨fun c => (h c).2.2.2.2, sem_eq_zero_of_no_sems (by decide) r.2⟩)
    (Cert.Reference22Ideal.Value.run m g)

theorem reference23_frame : Cert.quiescent_Reference23Ideal (hReference23Ideal := Cert.Reference23Ideal.Gen.facts) := fun m g _ =>
  (θ_run Cert.Reference23Ideal.defs _ _).mono (fun r h => ⟨fun c => (h c).2.2.2.2, sem_eq_zero_of_no_sems (by decide) r.2⟩)
    (Cert.Reference23Ideal.Value.run m g)

theorem reference24_frame : Cert.quiescent_Reference24Ideal (hReference24Ideal := Cert.Reference24Ideal.Gen.facts) := fun m g _ =>
  (θ_run Cert.Reference24Ideal.defs _ _).mono (fun r h => ⟨fun c => (h c).2.2.2.2, sem_eq_zero_of_no_sems (by decide) r.2⟩)
    (Cert.Reference24Ideal.Value.run m g)

theorem reference25_frame : Cert.quiescent_Reference25Ideal (hReference25Ideal := Cert.Reference25Ideal.Gen.facts) := fun m g _ =>
  (θ_run Cert.Reference25Ideal.defs _ _).mono (fun r h => ⟨fun c => (h c).2.2.2.2, sem_eq_zero_of_no_sems (by decide) r.2⟩)
    (Cert.Reference25Ideal.Value.run m g)

theorem reference26_frame : Cert.quiescent_Reference26Ideal (hReference26Ideal := Cert.Reference26Ideal.Gen.facts) := fun m g _ =>
  (θ_run Cert.Reference26Ideal.defs _ _).mono (fun r h => ⟨fun c => (h c).2.2.2.2, sem_eq_zero_of_no_sems (by decide) r.2⟩)
    (Cert.Reference26Ideal.Value.run m g)

theorem reference27_frame : Cert.quiescent_Reference27Ideal (hReference27Ideal := Cert.Reference27Ideal.Gen.facts) := fun m g _ =>
  (θ_run Cert.Reference27Ideal.defs _ _).mono (fun r h => ⟨fun c => (h c).2.2.2.2, sem_eq_zero_of_no_sems (by decide) r.2⟩)
    (Cert.Reference27Ideal.Value.run m g)

theorem reference28_frame : Cert.quiescent_Reference28Ideal (hReference28Ideal := Cert.Reference28Ideal.Gen.facts) := fun m g _ =>
  (θ_run Cert.Reference28Ideal.defs _ _).mono (fun r h => ⟨fun c => (h c).2.2.2.2, sem_eq_zero_of_no_sems (by decide) r.2⟩)
    (Cert.Reference28Ideal.Value.run m g)

theorem reference29_frame : Cert.quiescent_Reference29Ideal (hReference29Ideal := Cert.Reference29Ideal.Gen.facts) := fun m g _ =>
  (θ_run Cert.Reference29Ideal.defs _ _).mono (fun r h => ⟨fun c => (h c).2.2.2.2, sem_eq_zero_of_no_sems (by decide) r.2⟩)
    (Cert.Reference29Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Pre_finite.Gen.facts, Cert.Pre_finite2.Gen.facts, Cert.Pre_finite29.Gen.facts,
  fun m g _ => Cert.Kernel.Attn.frame_holds m g, fun m g _ => Cert.KernelIdeal.Attn.frame_holds m g,
  fun m g _ => Cert.KernelIdeal.Attn.frame_holds m g,
  reference_frame, fun m g _ => reference_frame m g trivial,
  fun m g _ => Cert.Kernel2.Gen.frame m g, fun m g _ => Cert.Kernel2Ideal.Gen.frame m g, fun m g _ => Cert.Kernel2Ideal.Gen.frame m g,
  reference2_frame, fun m g _ => reference2_frame m g trivial,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  fun m g _ => Cert.Kernel8.Gen.frame m g, fun m g _ => Cert.Kernel8Ideal.Gen.frame m g, reference8_frame,
  fun m g _ => Cert.Kernel9.Gen.frame m g, fun m g _ => Cert.Kernel9Ideal.Gen.frame m g, reference9_frame,
  fun m g _ => Cert.Kernel10.Gen.frame m g, fun m g _ => Cert.Kernel10Ideal.Gen.frame m g, reference10_frame,
  fun m g _ => Cert.Kernel11.Gen.frame m g, fun m g _ => Cert.Kernel11Ideal.Gen.frame m g, reference11_frame,
  fun m g _ => Cert.Kernel12.Gen.frame m g, fun m g _ => Cert.Kernel12Ideal.Gen.frame m g, reference12_frame,
  fun m g _ => Cert.Kernel13.Gen.frame m g, fun m g _ => Cert.Kernel13Ideal.Gen.frame m g, reference13_frame,
  fun m g _ => Cert.Kernel14.Gen.frame m g, fun m g _ => Cert.Kernel14Ideal.Gen.frame m g, reference14_frame,
  fun m g _ => Cert.Kernel15.Gen.frame m g, fun m g _ => Cert.Kernel15Ideal.Gen.frame m g, reference15_frame,
  fun m g _ => Cert.Kernel16.Gen.frame m g, fun m g _ => Cert.Kernel16Ideal.Gen.frame m g, reference16_frame,
  fun m g _ => Cert.Kernel17.Gen.frame m g, fun m g _ => Cert.Kernel17Ideal.Gen.frame m g, reference17_frame,
  fun m g _ => Cert.Kernel18.Gen.frame m g, fun m g _ => Cert.Kernel18Ideal.Gen.frame m g, reference18_frame,
  fun m g _ => Cert.Kernel19.Gen.frame m g, fun m g _ => Cert.Kernel19Ideal.Gen.frame m g, reference19_frame,
  fun m g _ => Cert.Kernel20.Gen.frame m g, fun m g _ => Cert.Kernel20Ideal.Gen.frame m g, reference20_frame,
  fun m g _ => Cert.Kernel21.Gen.frame m g, fun m g _ => Cert.Kernel21Ideal.Gen.frame m g, reference21_frame,
  fun m g _ => Cert.Kernel22.Gen.frame m g, fun m g _ => Cert.Kernel22Ideal.Gen.frame m g, reference22_frame,
  fun m g _ => Cert.Kernel23.Gen.frame m g, fun m g _ => Cert.Kernel23Ideal.Gen.frame m g, reference23_frame,
  fun m g _ => Cert.Kernel24.Gen.frame m g, fun m g _ => Cert.Kernel24Ideal.Gen.frame m g, reference24_frame,
  fun m g _ => Cert.Kernel25.Gen.frame m g, fun m g _ => Cert.Kernel25Ideal.Gen.frame m g, reference25_frame,
  fun m g _ => Cert.Kernel26.Gen.frame m g, fun m g _ => Cert.Kernel26Ideal.Gen.frame m g, reference26_frame,
  fun m g _ => Cert.Kernel27.Gen.frame m g, fun m g _ => Cert.Kernel27Ideal.Gen.frame m g, reference27_frame,
  fun m g _ => Cert.Kernel28.Gen.frame m g, fun m g _ => Cert.Kernel28Ideal.Gen.frame m g, reference28_frame,
  fun m g _ => Cert.Kernel29.Gen.frame m g, fun m g _ => Cert.Kernel29Ideal.Gen.frame m g,
  fun m g _ => Cert.Kernel29Ideal.Gen.frame m g, reference29_frame, fun m g _ => reference29_frame m g trivial,
  trivial, attn_equal, trivial, gate_equal, trivial, downDw_equal, trivial, guDx_equal, trivial, guDw_equal, trivial, projDx_equal, trivial, projDw_equal, trivial, ssdOutDw_equal, trivial, attnOutDw_equal, trivial, mixOutDw_equal, trivial, ssdOutDx_equal, trivial, attnOutDx_equal, trivial, mixOutDx_equal, trivial, proj_equal, trivial, ssdOut_equal, trivial, attnOut_equal, trivial, mixOut_equal, trivial, down_equal, trivial, gu_equal, trivial, merge_equal, trivial, adamGate_equal, trivial, adamUp_equal, trivial, adamDown_equal, trivial, adamIn_equal, trivial, adamSsdOut_equal, trivial, adamOut_equal, trivial, adamRows_equal, trivial, downNorm_equal, trivial, normBack_equal⟩

end Cert.Proof

end
